-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x64 : Shape := ⟨2, ![1024, 64]⟩
abbrev S16x64x1024 : Shape := ⟨3, ![16, 64, 1024]⟩
abbrev S32 : Shape := ⟨1, ![32]⟩
abbrev S4 : Shape := ⟨1, ![4]⟩
abbrev S2 : Shape := ⟨1, ![2]⟩
abbrev S_ : Shape := ⟨0, ![]⟩
abbrev S1x64x1024 : Shape := ⟨3, ![1, 64, 1024]⟩
abbrev S1 : Shape := ⟨1, ![1]⟩
abbrev S4x64x1024 : Shape := ⟨3, ![4, 64, 1024]⟩
abbrev S256x1024 : Shape := ⟨2, ![256, 1024]⟩
abbrev S256x64 : Shape := ⟨2, ![256, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .bf16⟩
  | .hbm, ⟨1, _⟩ => ⟨S1024x64, .bf16⟩
  | .hbm, ⟨2, _⟩ => ⟨S1024x64, .f32⟩
  | .local _ .vmem, ⟨0, _⟩ => ⟨S64x1024, .bf16⟩
  | .local _ .vmem, ⟨1, _⟩ => ⟨S1024x64, .bf16⟩
  | .local _ .vmem, ⟨2, _⟩ => ⟨S1024x64, .f32⟩
  | .local _ .vmem, ⟨3, _⟩ => ⟨S16x64x1024, .bf16⟩
  | .local _ .vmem, ⟨4, _⟩ => ⟨S64x1024, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_20 : BitVec 32 := 1#32
  let v44 : BitVec 32 := Scalar.muli v32 c1_i32_20
  let v45 : BitVec 32 := Scalar.addi c0_i32_21 v44
  v45.toNat
def k0_dev2 (d0 : Dev nD) : Nat :=
  let c0_i32_24 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_23 : BitVec 32 := 1#32
  let v46 : BitVec 32 := Scalar.muli v35 c1_i32_23
  let v47 : BitVec 32 := Scalar.addi c0_i32_24 v46
  v47.toNat
def k0_dev3 (d0 : Dev nD) : Nat :=
  let c0_i32_28 : BitVec 32 := 0#32
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v48 : BitVec 32 := Scalar.addi c0_i32_25 v29
  let c1_i32_27 : BitVec 32 := 1#32
  let v49 : BitVec 32 := Scalar.muli v48 c1_i32_27
  let v50 : BitVec 32 := Scalar.addi c0_i32_28 v49
  v50.toNat
def k0_dev4 (d0 : Dev nD) : Nat :=
  let c0_i32_32 : BitVec 32 := 0#32
  let c4_i32_29 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v51 : BitVec 32 := Scalar.addi c4_i32_29 v29
  let c1_i32_31 : BitVec 32 := 1#32
  let v52 : BitVec 32 := Scalar.muli v51 c1_i32_31
  let v53 : BitVec 32 := Scalar.addi c0_i32_32 v52
  v53.toNat
def k0_dev5 (d0 : Dev nD) : Nat :=
  let c0_i32_35 : BitVec 32 := 0#32
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v54 : BitVec 32 := Scalar.addi c8_i32 v29
  let c1_i32_34 : BitVec 32 := 1#32
  let v55 : BitVec 32 := Scalar.muli v54 c1_i32_34
  let v56 : BitVec 32 := Scalar.addi c0_i32_35 v55
  v56.toNat
def k0_dev6 (d0 : Dev nD) : Nat :=
  let c0_i32_38 : BitVec 32 := 0#32
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v57 : BitVec 32 := Scalar.addi c12_i32 v29
  let c1_i32_37 : BitVec 32 := 1#32
  let v58 : BitVec 32 := Scalar.muli v57 c1_i32_37
  let v59 : BitVec 32 := Scalar.addi c0_i32_38 v58
  v59.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_39 : BitVec 32 := 0#32
  let c0_i32_40 : BitVec 32 := 0#32
  ![v2.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_64 : BitVec 32 := 0#32
  let v107 : BitVec 1 := Scalar.cmpi .ne v19 c0_i32_64
  let v108 : BitVec 32 := Scalar.extui v107
  let c0_i32_66 : BitVec 32 := 0#32
  let v109 : BitVec 1 := Scalar.cmpi .ne v108 c0_i32_66
  v109

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let c0_i32_646 : BitVec 32 := 0#32
  ![v2.toNat, 0, 0]
def k0_dev7 (d0 : Dev nD) : Nat :=
  let c0_i32_644 : BitVec 32 := 0#32
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v106 : BitVec 32 := Scalar.addi c0_i32_63 v29
  let c1_i32_643 : BitVec 32 := 1#32
  let v973 : BitVec 32 := Scalar.muli v106 c1_i32_643
  let v974 : BitVec 32 := Scalar.addi c0_i32_644 v973
  v974.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_68 : BitVec 32 := 1#32
  let v111 : BitVec 1 := Scalar.cmpi .ne v19 c1_i32_68
  let v112 : BitVec 32 := Scalar.extui v111
  let c0_i32_70 : BitVec 32 := 0#32
  let v113 : BitVec 1 := Scalar.cmpi .ne v112 c0_i32_70
  v113

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let c0_i32_646 : BitVec 32 := 0#32
  ![v2.toNat, 0, 0]
def k0_dev8 (d0 : Dev nD) : Nat :=
  let c0_i32_644 : BitVec 32 := 0#32
  let c4_i32_67 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v110 : BitVec 32 := Scalar.addi c4_i32_67 v29
  let c1_i32_643 : BitVec 32 := 1#32
  let v973 : BitVec 32 := Scalar.muli v110 c1_i32_643
  let v974 : BitVec 32 := Scalar.addi c0_i32_644 v973
  v974.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_72 : BitVec 32 := 2#32
  let v115 : BitVec 1 := Scalar.cmpi .ne v19 c2_i32_72
  let v116 : BitVec 32 := Scalar.extui v115
  let c0_i32_74 : BitVec 32 := 0#32
  let v117 : BitVec 1 := Scalar.cmpi .ne v116 c0_i32_74
  v117

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let c0_i32_646 : BitVec 32 := 0#32
  ![v2.toNat, 0, 0]
def k0_dev9 (d0 : Dev nD) : Nat :=
  let c0_i32_644 : BitVec 32 := 0#32
  let c8_i32_71 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v114 : BitVec 32 := Scalar.addi c8_i32_71 v29
  let c1_i32_643 : BitVec 32 := 1#32
  let v973 : BitVec 32 := Scalar.muli v114 c1_i32_643
  let v974 : BitVec 32 := Scalar.addi c0_i32_644 v973
  v974.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_76 : BitVec 32 := 3#32
  let v119 : BitVec 1 := Scalar.cmpi .ne v19 c3_i32_76
  let v120 : BitVec 32 := Scalar.extui v119
  let c0_i32_78 : BitVec 32 := 0#32
  let v121 : BitVec 1 := Scalar.cmpi .ne v120 c0_i32_78
  v121

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let c0_i32_646 : BitVec 32 := 0#32
  ![v2.toNat, 0, 0]
def k0_dev10 (d0 : Dev nD) : Nat :=
  let c0_i32_644 : BitVec 32 := 0#32
  let c12_i32_75 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v118 : BitVec 32 := Scalar.addi c12_i32_75 v29
  let c1_i32_643 : BitVec 32 := 1#32
  let v973 : BitVec 32 := Scalar.muli v118 c1_i32_643
  let v974 : BitVec 32 := Scalar.addi c0_i32_644 v973
  v974.toNat
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_dev11 (d0 : Dev nD) : Nat :=
  let c0_i32_81 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_80 : BitVec 32 := 1#32
  let v122 : BitVec 32 := Scalar.muli v32 c1_i32_80
  let v123 : BitVec 32 := Scalar.addi c0_i32_81 v122
  v123.toNat
def k0_dev12 (d0 : Dev nD) : Nat :=
  let c0_i32_87 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_86 : BitVec 32 := 1#32
  let v132 : BitVec 32 := Scalar.muli v35 c1_i32_86
  let v133 : BitVec 32 := Scalar.addi c0_i32_87 v132
  v133.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v147 : BitVec 32 := Scalar.extui v73
  let c0_i32_97 : BitVec 32 := 0#32
  let v148 : BitVec 1 := Scalar.cmpi .ne v147 c0_i32_97
  v148

def k0_off11 (d0 : Dev nD) : Fin 1 → Nat :=
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  ![v144.toNat]
def k0_off12 (d0 : Dev nD) : Fin 3 → Nat :=
  let c4_i32_95 : BitVec 32 := 4#32
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  let v145 : BitVec 32 := Scalar.muli c4_i32_95 v144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi v145 v29
  let c0_i32_645 : BitVec 32 := 0#32
  let c0_i32_646 : BitVec 32 := 0#32
  ![v146.toNat, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v149 : BitVec 32 := Scalar.extui v73
  let c0_i32_99 : BitVec 32 := 0#32
  let v150 : BitVec 1 := Scalar.cmpi .ne v149 c0_i32_99
  v150

def k0_off13 (d0 : Dev nD) : Fin 1 → Nat :=
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  ![v144.toNat]
def k0_off14 (d0 : Dev nD) : Fin 3 → Nat :=
  let c4_i32_95 : BitVec 32 := 4#32
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  let v145 : BitVec 32 := Scalar.muli c4_i32_95 v144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi v145 v29
  let c0_i32_645 : BitVec 32 := 0#32
  let c0_i32_646 : BitVec 32 := 0#32
  ![v146.toNat, 0, 0]
def k0_dev13 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v151 : BitVec 32 := Scalar.extui v73
  let c0_i32_100 : BitVec 32 := 0#32
  let v152 : BitVec 1 := Scalar.cmpi .ne v151 c0_i32_100
  v152

def k0_off15 (d0 : Dev nD) : Fin 1 → Nat :=
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  ![v144.toNat]
def k0_off16 (d0 : Dev nD) : Fin 3 → Nat :=
  let c4_i32_95 : BitVec 32 := 4#32
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  let v145 : BitVec 32 := Scalar.muli c4_i32_95 v144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi v145 v29
  let c0_i32_645 : BitVec 32 := 0#32
  let c0_i32_646 : BitVec 32 := 0#32
  ![v146.toNat, 0, 0]
def k0_dev14 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v158 : BitVec 32 := Scalar.extui v79
  let c0_i32_106 : BitVec 32 := 0#32
  let v159 : BitVec 1 := Scalar.cmpi .ne v158 c0_i32_106
  v159

def k0_off17 (d0 : Dev nD) : Fin 1 → Nat :=
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  ![v155.toNat]
def k0_off18 (d0 : Dev nD) : Fin 3 → Nat :=
  let c4_i32_104 : BitVec 32 := 4#32
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  let v156 : BitVec 32 := Scalar.muli c4_i32_104 v155
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v157 : BitVec 32 := Scalar.addi v156 v29
  let c0_i32_645 : BitVec 32 := 0#32
  let c0_i32_646 : BitVec 32 := 0#32
  ![v157.toNat, 0, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v160 : BitVec 32 := Scalar.extui v79
  let c0_i32_108 : BitVec 32 := 0#32
  let v161 : BitVec 1 := Scalar.cmpi .ne v160 c0_i32_108
  v161

def k0_off19 (d0 : Dev nD) : Fin 1 → Nat :=
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  ![v155.toNat]
def k0_off20 (d0 : Dev nD) : Fin 3 → Nat :=
  let c4_i32_104 : BitVec 32 := 4#32
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  let v156 : BitVec 32 := Scalar.muli c4_i32_104 v155
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v157 : BitVec 32 := Scalar.addi v156 v29
  let c0_i32_645 : BitVec 32 := 0#32
  let c0_i32_646 : BitVec 32 := 0#32
  ![v157.toNat, 0, 0]
def k0_dev15 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v162 : BitVec 32 := Scalar.extui v79
  let c0_i32_109 : BitVec 32 := 0#32
  let v163 : BitVec 1 := Scalar.cmpi .ne v162 c0_i32_109
  v163

def k0_off21 (d0 : Dev nD) : Fin 1 → Nat :=
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  ![v155.toNat]
def k0_off22 (d0 : Dev nD) : Fin 3 → Nat :=
  let c4_i32_104 : BitVec 32 := 4#32
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  let v156 : BitVec 32 := Scalar.muli c4_i32_104 v155
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v157 : BitVec 32 := Scalar.addi v156 v29
  let c0_i32_645 : BitVec 32 := 0#32
  let c0_i32_646 : BitVec 32 := 0#32
  ![v157.toNat, 0, 0]
def k0_dev16 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v169 : BitVec 32 := Scalar.extui v85
  let c0_i32_115 : BitVec 32 := 0#32
  let v170 : BitVec 1 := Scalar.cmpi .ne v169 c0_i32_115
  v170

def k0_off23 (d0 : Dev nD) : Fin 1 → Nat :=
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  ![v166.toNat]
def k0_off24 (d0 : Dev nD) : Fin 3 → Nat :=
  let c4_i32_113 : BitVec 32 := 4#32
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  let v167 : BitVec 32 := Scalar.muli c4_i32_113 v166
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v168 : BitVec 32 := Scalar.addi v167 v29
  let c0_i32_645 : BitVec 32 := 0#32
  let c0_i32_646 : BitVec 32 := 0#32
  ![v168.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v171 : BitVec 32 := Scalar.extui v85
  let c0_i32_116 : BitVec 32 := 0#32
  let v172 : BitVec 1 := Scalar.cmpi .ne v171 c0_i32_116
  v172

def k0_off25 (d0 : Dev nD) : Fin 1 → Nat :=
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  ![v166.toNat]
def k0_off26 (d0 : Dev nD) : Fin 3 → Nat :=
  let c4_i32_113 : BitVec 32 := 4#32
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  let v167 : BitVec 32 := Scalar.muli c4_i32_113 v166
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v168 : BitVec 32 := Scalar.addi v167 v29
  let c0_i32_645 : BitVec 32 := 0#32
  let c0_i32_646 : BitVec 32 := 0#32
  ![v168.toNat, 0, 0]
def k0_dev17 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v173 : BitVec 32 := Scalar.extui v85
  let c0_i32_117 : BitVec 32 := 0#32
  let v174 : BitVec 1 := Scalar.cmpi .ne v173 c0_i32_117
  v174

def k0_off27 (d0 : Dev nD) : Fin 1 → Nat :=
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  ![v166.toNat]
def k0_off28 (d0 : Dev nD) : Fin 3 → Nat :=
  let c4_i32_113 : BitVec 32 := 4#32
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  let v167 : BitVec 32 := Scalar.muli c4_i32_113 v166
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v168 : BitVec 32 := Scalar.addi v167 v29
  let c0_i32_645 : BitVec 32 := 0#32
  let c0_i32_646 : BitVec 32 := 0#32
  ![v168.toNat, 0, 0]
def k0_dev18 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v180 : BitVec 32 := Scalar.extui v91
  let c0_i32_123 : BitVec 32 := 0#32
  let v181 : BitVec 1 := Scalar.cmpi .ne v180 c0_i32_123
  v181

def k0_off29 (d0 : Dev nD) : Fin 1 → Nat :=
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  ![v177.toNat]
def k0_off30 (d0 : Dev nD) : Fin 3 → Nat :=
  let c4_i32_121 : BitVec 32 := 4#32
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  let v178 : BitVec 32 := Scalar.muli c4_i32_121 v177
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v179 : BitVec 32 := Scalar.addi v178 v29
  let c0_i32_645 : BitVec 32 := 0#32
  let c0_i32_646 : BitVec 32 := 0#32
  ![v179.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v182 : BitVec 32 := Scalar.extui v91
  let c0_i32_125 : BitVec 32 := 0#32
  let v183 : BitVec 1 := Scalar.cmpi .ne v182 c0_i32_125
  v183

def k0_off31 (d0 : Dev nD) : Fin 1 → Nat :=
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  ![v177.toNat]
def k0_off32 (d0 : Dev nD) : Fin 3 → Nat :=
  let c4_i32_121 : BitVec 32 := 4#32
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  let v178 : BitVec 32 := Scalar.muli c4_i32_121 v177
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v179 : BitVec 32 := Scalar.addi v178 v29
  let c0_i32_645 : BitVec 32 := 0#32
  let c0_i32_646 : BitVec 32 := 0#32
  ![v179.toNat, 0, 0]
def k0_dev19 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v184 : BitVec 32 := Scalar.extui v91
  let c0_i32_126 : BitVec 32 := 0#32
  let v185 : BitVec 1 := Scalar.cmpi .ne v184 c0_i32_126
  v185

def k0_off33 (d0 : Dev nD) : Fin 1 → Nat :=
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  ![v177.toNat]
def k0_off34 (d0 : Dev nD) : Fin 3 → Nat :=
  let c4_i32_121 : BitVec 32 := 4#32
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  let v178 : BitVec 32 := Scalar.muli c4_i32_121 v177
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v179 : BitVec 32 := Scalar.addi v178 v29
  let c0_i32_645 : BitVec 32 := 0#32
  let c0_i32_646 : BitVec 32 := 0#32
  ![v179.toNat, 0, 0]
def k0_dev20 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v191 : BitVec 32 := Scalar.extui v97
  let c0_i32_132 : BitVec 32 := 0#32
  let v192 : BitVec 1 := Scalar.cmpi .ne v191 c0_i32_132
  v192

def k0_off35 (d0 : Dev nD) : Fin 1 → Nat :=
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  ![v188.toNat]
def k0_off36 (d0 : Dev nD) : Fin 3 → Nat :=
  let c4_i32_130 : BitVec 32 := 4#32
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  let v189 : BitVec 32 := Scalar.muli c4_i32_130 v188
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v190 : BitVec 32 := Scalar.addi v189 v29
  let c0_i32_645 : BitVec 32 := 0#32
  let c0_i32_646 : BitVec 32 := 0#32
  ![v190.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v193 : BitVec 32 := Scalar.extui v97
  let c0_i32_133 : BitVec 32 := 0#32
  let v194 : BitVec 1 := Scalar.cmpi .ne v193 c0_i32_133
  v194

def k0_off37 (d0 : Dev nD) : Fin 1 → Nat :=
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  ![v188.toNat]
def k0_off38 (d0 : Dev nD) : Fin 3 → Nat :=
  let c4_i32_130 : BitVec 32 := 4#32
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  let v189 : BitVec 32 := Scalar.muli c4_i32_130 v188
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v190 : BitVec 32 := Scalar.addi v189 v29
  let c0_i32_645 : BitVec 32 := 0#32
  let c0_i32_646 : BitVec 32 := 0#32
  ![v190.toNat, 0, 0]
def k0_dev21 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v195 : BitVec 32 := Scalar.extui v97
  let c0_i32_134 : BitVec 32 := 0#32
  let v196 : BitVec 1 := Scalar.cmpi .ne v195 c0_i32_134
  v196

def k0_off39 (d0 : Dev nD) : Fin 1 → Nat :=
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  ![v188.toNat]
def k0_off40 (d0 : Dev nD) : Fin 3 → Nat :=
  let c4_i32_130 : BitVec 32 := 4#32
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  let v189 : BitVec 32 := Scalar.muli c4_i32_130 v188
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v190 : BitVec 32 := Scalar.addi v189 v29
  let c0_i32_645 : BitVec 32 := 0#32
  let c0_i32_646 : BitVec 32 := 0#32
  ![v190.toNat, 0, 0]
def k0_dev22 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v202 : BitVec 32 := Scalar.extui v103
  let c0_i32_140 : BitVec 32 := 0#32
  let v203 : BitVec 1 := Scalar.cmpi .ne v202 c0_i32_140
  v203

def k0_off41 (d0 : Dev nD) : Fin 1 → Nat :=
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  ![v199.toNat]
def k0_off42 (d0 : Dev nD) : Fin 3 → Nat :=
  let c4_i32_138 : BitVec 32 := 4#32
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  let v200 : BitVec 32 := Scalar.muli c4_i32_138 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c0_i32_645 : BitVec 32 := 0#32
  let c0_i32_646 : BitVec 32 := 0#32
  ![v201.toNat, 0, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v204 : BitVec 32 := Scalar.extui v103
  let c0_i32_142 : BitVec 32 := 0#32
  let v205 : BitVec 1 := Scalar.cmpi .ne v204 c0_i32_142
  v205

def k0_off43 (d0 : Dev nD) : Fin 1 → Nat :=
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  ![v199.toNat]
def k0_off44 (d0 : Dev nD) : Fin 3 → Nat :=
  let c4_i32_138 : BitVec 32 := 4#32
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  let v200 : BitVec 32 := Scalar.muli c4_i32_138 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c0_i32_645 : BitVec 32 := 0#32
  let c0_i32_646 : BitVec 32 := 0#32
  ![v201.toNat, 0, 0]
def k0_dev23 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v206 : BitVec 32 := Scalar.extui v103
  let c0_i32_143 : BitVec 32 := 0#32
  let v207 : BitVec 1 := Scalar.cmpi .ne v206 c0_i32_143
  v207

def k0_off45 (d0 : Dev nD) : Fin 1 → Nat :=
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  ![v199.toNat]
def k0_off46 (d0 : Dev nD) : Fin 3 → Nat :=
  let c4_i32_138 : BitVec 32 := 4#32
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  let v200 : BitVec 32 := Scalar.muli c4_i32_138 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c0_i32_645 : BitVec 32 := 0#32
  let c0_i32_646 : BitVec 32 := 0#32
  ![v201.toNat, 0, 0]
def k0_dev24 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v246 : BitVec 32 := Scalar.extui v67
  let c0_i32_168 : BitVec 32 := 0#32
  let v247 : BitVec 1 := Scalar.cmpi .ne v246 c0_i32_168
  v247

def k0_off47 (d0 : Dev nD) : Fin 1 → Nat :=
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  ![v242.toNat]
def k0_off48 (d0 : Dev nD) : Fin 3 → Nat :=
  let c4_i32_165 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v243 : BitVec 32 := Scalar.muli c4_i32_165 v242
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_166 : BitVec 32 := 1#32
  let v244 : BitVec 32 := Scalar.xori v29 c1_i32_166
  let v245 : BitVec 32 := Scalar.addi v243 v244
  let c0_i32_645 : BitVec 32 := 0#32
  let c0_i32_646 : BitVec 32 := 0#32
  ![v245.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_145 : BitVec 32 := 3#32
  let c0_i32_144 : BitVec 32 := 0#32
  let c_m1_i32 : BitVec 32 := 4294967295#32
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c2_i32_146 : BitVec 32 := 2#32
  let c0_i32_147 : BitVec 32 := 0#32
  let v210 : BitVec 1 := Scalar.cmpi .eq c2_i32_146 c0_i32_147
  let c1_i32_148 : BitVec 32 := 1#32
  let v211 : BitVec 32 := Scalar.select v210 c1_i32_148 c2_i32_146
  let v212 : BitVec 32 := Scalar.remsi v209 v211
  let c0_i32_150 : BitVec 32 := 0#32
  let v214 : BitVec 1 := Scalar.cmpi .slt v212 c0_i32_150
  let c0_i32_151 : BitVec 32 := 0#32
  let v215 : BitVec 1 := Scalar.cmpi .slt v211 c0_i32_151
  let v216 : BitVec 1 := Scalar.xori v214 v215
  let c0_i32_149 : BitVec 32 := 0#32
  let v213 : BitVec 1 := Scalar.cmpi .ne v212 c0_i32_149
  let v217 : BitVec 1 := Scalar.andi v216 v213
  let v218 : BitVec 32 := Scalar.addi v212 v211
  let v219 : BitVec 32 := Scalar.select v217 v218 v212
  let c0_i32_152 : BitVec 32 := 0#32
  let v220 : BitVec 1 := Scalar.cmpi .eq v219 c0_i32_152
  let v248 : BitVec 1 := Scalar.andi v67 v220
  let v249 : BitVec 32 := Scalar.extui v248
  let c0_i32_169 : BitVec 32 := 0#32
  let v250 : BitVec 1 := Scalar.cmpi .ne v249 c0_i32_169
  v250

def k0_off49 (d0 : Dev nD) : Fin 1 → Nat :=
  let c1_i32_161 : BitVec 32 := 1#32
  let c0_i32_160 : BitVec 32 := 0#32
  let c3_i32_145 : BitVec 32 := 3#32
  let c0_i32_144 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c0_i32_154 : BitVec 32 := 0#32
  let v222 : BitVec 1 := Scalar.cmpi .sgt v209 c0_i32_154
  let v223 : BitVec 32 := Scalar.extui v222
  let c0_i32_155 : BitVec 32 := 0#32
  let v224 : BitVec 1 := Scalar.cmpi .slt v209 c0_i32_155
  let v225 : BitVec 32 := Scalar.extui v224
  let v226 : BitVec 32 := Scalar.subi v223 v225
  let c2_i32_153 : BitVec 32 := 2#32
  let c0_i32_156 : BitVec 32 := 0#32
  let v227 : BitVec 1 := Scalar.cmpi .sgt c2_i32_153 c0_i32_156
  let v228 : BitVec 32 := Scalar.extui v227
  let c0_i32_157 : BitVec 32 := 0#32
  let v229 : BitVec 1 := Scalar.cmpi .slt c2_i32_153 c0_i32_157
  let v230 : BitVec 32 := Scalar.extui v229
  let v231 : BitVec 32 := Scalar.subi v228 v230
  let v232 : BitVec 1 := Scalar.cmpi .ne v226 v231
  let v233 : BitVec 32 := Scalar.remsi v209 c2_i32_153
  let c0_i32_158 : BitVec 32 := 0#32
  let v234 : BitVec 1 := Scalar.cmpi .ne v233 c0_i32_158
  let v235 : BitVec 1 := Scalar.andi v232 v234
  let v221 : BitVec 32 := Scalar.divsi v209 c2_i32_153
  let c1_i32_159 : BitVec 32 := 1#32
  let v236 : BitVec 32 := Scalar.subi v221 c1_i32_159
  let v237 : BitVec 32 := Scalar.select v235 v236 v221
  let v238 : BitVec 32 := Scalar.maxsi c0_i32_160 v237
  let v239 : BitVec 32 := Scalar.minsi c1_i32_161 v238
  ![v239.toNat]
def k0_off50 (d0 : Dev nD) : Fin 3 → Nat :=
  let c4_i32_165 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v243 : BitVec 32 := Scalar.muli c4_i32_165 v242
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_166 : BitVec 32 := 1#32
  let v244 : BitVec 32 := Scalar.xori v29 c1_i32_166
  let v245 : BitVec 32 := Scalar.addi v243 v244
  let c0_i32_645 : BitVec 32 := 0#32
  let c0_i32_646 : BitVec 32 := 0#32
  ![v245.toNat, 0, 0]
def k0_dev25 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v254 : BitVec 32 := Scalar.extui v67
  let c0_i32_173 : BitVec 32 := 0#32
  let v255 : BitVec 1 := Scalar.cmpi .ne v254 c0_i32_173
  v255

def k0_off51 (d0 : Dev nD) : Fin 1 → Nat :=
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  ![v242.toNat]
def k0_off52 (d0 : Dev nD) : Fin 3 → Nat :=
  let c4_i32_170 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v251 : BitVec 32 := Scalar.muli c4_i32_170 v242
  let c3_i32_171 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v252 : BitVec 32 := Scalar.subi c3_i32_171 v29
  let v253 : BitVec 32 := Scalar.addi v251 v252
  let c0_i32_645 : BitVec 32 := 0#32
  let c0_i32_646 : BitVec 32 := 0#32
  ![v253.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_145 : BitVec 32 := 3#32
  let c0_i32_144 : BitVec 32 := 0#32
  let c_m1_i32 : BitVec 32 := 4294967295#32
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c2_i32_146 : BitVec 32 := 2#32
  let c0_i32_147 : BitVec 32 := 0#32
  let v210 : BitVec 1 := Scalar.cmpi .eq c2_i32_146 c0_i32_147
  let c1_i32_148 : BitVec 32 := 1#32
  let v211 : BitVec 32 := Scalar.select v210 c1_i32_148 c2_i32_146
  let v212 : BitVec 32 := Scalar.remsi v209 v211
  let c0_i32_150 : BitVec 32 := 0#32
  let v214 : BitVec 1 := Scalar.cmpi .slt v212 c0_i32_150
  let c0_i32_151 : BitVec 32 := 0#32
  let v215 : BitVec 1 := Scalar.cmpi .slt v211 c0_i32_151
  let v216 : BitVec 1 := Scalar.xori v214 v215
  let c0_i32_149 : BitVec 32 := 0#32
  let v213 : BitVec 1 := Scalar.cmpi .ne v212 c0_i32_149
  let v217 : BitVec 1 := Scalar.andi v216 v213
  let v218 : BitVec 32 := Scalar.addi v212 v211
  let v219 : BitVec 32 := Scalar.select v217 v218 v212
  let c0_i32_152 : BitVec 32 := 0#32
  let v220 : BitVec 1 := Scalar.cmpi .eq v219 c0_i32_152
  let true_174 : BitVec 1 := 1#1
  let v256 : BitVec 1 := Scalar.xori v220 true_174
  let v257 : BitVec 1 := Scalar.andi v67 v256
  let v258 : BitVec 32 := Scalar.extui v257
  let c0_i32_175 : BitVec 32 := 0#32
  let v259 : BitVec 1 := Scalar.cmpi .ne v258 c0_i32_175
  v259

def k0_off53 (d0 : Dev nD) : Fin 1 → Nat :=
  let c1_i32_161 : BitVec 32 := 1#32
  let c0_i32_160 : BitVec 32 := 0#32
  let c3_i32_145 : BitVec 32 := 3#32
  let c0_i32_144 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c0_i32_154 : BitVec 32 := 0#32
  let v222 : BitVec 1 := Scalar.cmpi .sgt v209 c0_i32_154
  let v223 : BitVec 32 := Scalar.extui v222
  let c0_i32_155 : BitVec 32 := 0#32
  let v224 : BitVec 1 := Scalar.cmpi .slt v209 c0_i32_155
  let v225 : BitVec 32 := Scalar.extui v224
  let v226 : BitVec 32 := Scalar.subi v223 v225
  let c2_i32_153 : BitVec 32 := 2#32
  let c0_i32_156 : BitVec 32 := 0#32
  let v227 : BitVec 1 := Scalar.cmpi .sgt c2_i32_153 c0_i32_156
  let v228 : BitVec 32 := Scalar.extui v227
  let c0_i32_157 : BitVec 32 := 0#32
  let v229 : BitVec 1 := Scalar.cmpi .slt c2_i32_153 c0_i32_157
  let v230 : BitVec 32 := Scalar.extui v229
  let v231 : BitVec 32 := Scalar.subi v228 v230
  let v232 : BitVec 1 := Scalar.cmpi .ne v226 v231
  let v233 : BitVec 32 := Scalar.remsi v209 c2_i32_153
  let c0_i32_158 : BitVec 32 := 0#32
  let v234 : BitVec 1 := Scalar.cmpi .ne v233 c0_i32_158
  let v235 : BitVec 1 := Scalar.andi v232 v234
  let v221 : BitVec 32 := Scalar.divsi v209 c2_i32_153
  let c1_i32_159 : BitVec 32 := 1#32
  let v236 : BitVec 32 := Scalar.subi v221 c1_i32_159
  let v237 : BitVec 32 := Scalar.select v235 v236 v221
  let v238 : BitVec 32 := Scalar.maxsi c0_i32_160 v237
  let v239 : BitVec 32 := Scalar.minsi c1_i32_161 v238
  ![v239.toNat]
def k0_off54 (d0 : Dev nD) : Fin 3 → Nat :=
  let c4_i32_170 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v251 : BitVec 32 := Scalar.muli c4_i32_170 v242
  let c3_i32_171 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v252 : BitVec 32 := Scalar.subi c3_i32_171 v29
  let v253 : BitVec 32 := Scalar.addi v251 v252
  let c0_i32_645 : BitVec 32 := 0#32
  let c0_i32_646 : BitVec 32 := 0#32
  ![v253.toNat, 0, 0]
def k0_dev26 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v298 : BitVec 32 := Scalar.extui v73
  let c0_i32_200 : BitVec 32 := 0#32
  let v299 : BitVec 1 := Scalar.cmpi .ne v298 c0_i32_200
  v299

def k0_off55 (d0 : Dev nD) : Fin 1 → Nat :=
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  ![v294.toNat]
def k0_off56 (d0 : Dev nD) : Fin 3 → Nat :=
  let c4_i32_197 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v295 : BitVec 32 := Scalar.muli c4_i32_197 v294
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v296 : BitVec 32 := Scalar.xori v29 c1_i32_198
  let v297 : BitVec 32 := Scalar.addi v295 v296
  let c0_i32_645 : BitVec 32 := 0#32
  let c0_i32_646 : BitVec 32 := 0#32
  ![v297.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_177 : BitVec 32 := 3#32
  let c0_i32_176 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v260 : BitVec 32 := Scalar.maxsi c0_i32_176 v75
  let v261 : BitVec 32 := Scalar.minsi c3_i32_177 v260
  let c2_i32_178 : BitVec 32 := 2#32
  let c0_i32_179 : BitVec 32 := 0#32
  let v262 : BitVec 1 := Scalar.cmpi .eq c2_i32_178 c0_i32_179
  let c1_i32_180 : BitVec 32 := 1#32
  let v263 : BitVec 32 := Scalar.select v262 c1_i32_180 c2_i32_178
  let v264 : BitVec 32 := Scalar.remsi v261 v263
  let c0_i32_182 : BitVec 32 := 0#32
  let v266 : BitVec 1 := Scalar.cmpi .slt v264 c0_i32_182
  let c0_i32_183 : BitVec 32 := 0#32
  let v267 : BitVec 1 := Scalar.cmpi .slt v263 c0_i32_183
  let v268 : BitVec 1 := Scalar.xori v266 v267
  let c0_i32_181 : BitVec 32 := 0#32
  let v265 : BitVec 1 := Scalar.cmpi .ne v264 c0_i32_181
  let v269 : BitVec 1 := Scalar.andi v268 v265
  let v270 : BitVec 32 := Scalar.addi v264 v263
  let v271 : BitVec 32 := Scalar.select v269 v270 v264
  let c0_i32_184 : BitVec 32 := 0#32
  let v272 : BitVec 1 := Scalar.cmpi .eq v271 c0_i32_184
  let v300 : BitVec 1 := Scalar.andi v73 v272
  let v301 : BitVec 32 := Scalar.extui v300
  let c0_i32_201 : BitVec 32 := 0#32
  let v302 : BitVec 1 := Scalar.cmpi .ne v301 c0_i32_201
  v302

def k0_off57 (d0 : Dev nD) : Fin 1 → Nat :=
  let c1_i32_193 : BitVec 32 := 1#32
  let c0_i32_192 : BitVec 32 := 0#32
  let c3_i32_177 : BitVec 32 := 3#32
  let c0_i32_176 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v260 : BitVec 32 := Scalar.maxsi c0_i32_176 v75
  let v261 : BitVec 32 := Scalar.minsi c3_i32_177 v260
  let c0_i32_186 : BitVec 32 := 0#32
  let v274 : BitVec 1 := Scalar.cmpi .sgt v261 c0_i32_186
  let v275 : BitVec 32 := Scalar.extui v274
  let c0_i32_187 : BitVec 32 := 0#32
  let v276 : BitVec 1 := Scalar.cmpi .slt v261 c0_i32_187
  let v277 : BitVec 32 := Scalar.extui v276
  let v278 : BitVec 32 := Scalar.subi v275 v277
  let c2_i32_185 : BitVec 32 := 2#32
  let c0_i32_188 : BitVec 32 := 0#32
  let v279 : BitVec 1 := Scalar.cmpi .sgt c2_i32_185 c0_i32_188
  let v280 : BitVec 32 := Scalar.extui v279
  let c0_i32_189 : BitVec 32 := 0#32
  let v281 : BitVec 1 := Scalar.cmpi .slt c2_i32_185 c0_i32_189
  let v282 : BitVec 32 := Scalar.extui v281
  let v283 : BitVec 32 := Scalar.subi v280 v282
  let v284 : BitVec 1 := Scalar.cmpi .ne v278 v283
  let v285 : BitVec 32 := Scalar.remsi v261 c2_i32_185
  let c0_i32_190 : BitVec 32 := 0#32
  let v286 : BitVec 1 := Scalar.cmpi .ne v285 c0_i32_190
  let v287 : BitVec 1 := Scalar.andi v284 v286
  let v273 : BitVec 32 := Scalar.divsi v261 c2_i32_185
  let c1_i32_191 : BitVec 32 := 1#32
  let v288 : BitVec 32 := Scalar.subi v273 c1_i32_191
  let v289 : BitVec 32 := Scalar.select v287 v288 v273
  let v290 : BitVec 32 := Scalar.maxsi c0_i32_192 v289
  let v291 : BitVec 32 := Scalar.minsi c1_i32_193 v290
  ![v291.toNat]
def k0_off58 (d0 : Dev nD) : Fin 3 → Nat :=
  let c4_i32_197 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v295 : BitVec 32 := Scalar.muli c4_i32_197 v294
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v296 : BitVec 32 := Scalar.xori v29 c1_i32_198
  let v297 : BitVec 32 := Scalar.addi v295 v296
  let c0_i32_645 : BitVec 32 := 0#32
  let c0_i32_646 : BitVec 32 := 0#32
  ![v297.toNat, 0, 0]
def k0_dev27 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v306 : BitVec 32 := Scalar.extui v73
  let c0_i32_205 : BitVec 32 := 0#32
  let v307 : BitVec 1 := Scalar.cmpi .ne v306 c0_i32_205
  v307

def k0_off59 (d0 : Dev nD) : Fin 1 → Nat :=
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  ![v294.toNat]
def k0_off60 (d0 : Dev nD) : Fin 3 → Nat :=
  let c4_i32_202 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v303 : BitVec 32 := Scalar.muli c4_i32_202 v294
  let c3_i32_203 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v304 : BitVec 32 := Scalar.subi c3_i32_203 v29
  let v305 : BitVec 32 := Scalar.addi v303 v304
  let c0_i32_645 : BitVec 32 := 0#32
  let c0_i32_646 : BitVec 32 := 0#32
  ![v305.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_177 : BitVec 32 := 3#32
  let c0_i32_176 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v260 : BitVec 32 := Scalar.maxsi c0_i32_176 v75
  let v261 : BitVec 32 := Scalar.minsi c3_i32_177 v260
  let c2_i32_178 : BitVec 32 := 2#32
  let c0_i32_179 : BitVec 32 := 0#32
  let v262 : BitVec 1 := Scalar.cmpi .eq c2_i32_178 c0_i32_179
  let c1_i32_180 : BitVec 32 := 1#32
  let v263 : BitVec 32 := Scalar.select v262 c1_i32_180 c2_i32_178
  let v264 : BitVec 32 := Scalar.remsi v261 v263
  let c0_i32_182 : BitVec 32 := 0#32
  let v266 : BitVec 1 := Scalar.cmpi .slt v264 c0_i32_182
  let c0_i32_183 : BitVec 32 := 0#32
  let v267 : BitVec 1 := Scalar.cmpi .slt v263 c0_i32_183
  let v268 : BitVec 1 := Scalar.xori v266 v267
  let c0_i32_181 : BitVec 32 := 0#32
  let v265 : BitVec 1 := Scalar.cmpi .ne v264 c0_i32_181
  let v269 : BitVec 1 := Scalar.andi v268 v265
  let v270 : BitVec 32 := Scalar.addi v264 v263
  let v271 : BitVec 32 := Scalar.select v269 v270 v264
  let c0_i32_184 : BitVec 32 := 0#32
  let v272 : BitVec 1 := Scalar.cmpi .eq v271 c0_i32_184
  let true_206 : BitVec 1 := 1#1
  let v308 : BitVec 1 := Scalar.xori v272 true_206
  let v309 : BitVec 1 := Scalar.andi v73 v308
  let v310 : BitVec 32 := Scalar.extui v309
  let c0_i32_207 : BitVec 32 := 0#32
  let v311 : BitVec 1 := Scalar.cmpi .ne v310 c0_i32_207
  v311

def k0_off61 (d0 : Dev nD) : Fin 1 → Nat :=
  let c1_i32_193 : BitVec 32 := 1#32
  let c0_i32_192 : BitVec 32 := 0#32
  let c3_i32_177 : BitVec 32 := 3#32
  let c0_i32_176 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v260 : BitVec 32 := Scalar.maxsi c0_i32_176 v75
  let v261 : BitVec 32 := Scalar.minsi c3_i32_177 v260
  let c0_i32_186 : BitVec 32 := 0#32
  let v274 : BitVec 1 := Scalar.cmpi .sgt v261 c0_i32_186
  let v275 : BitVec 32 := Scalar.extui v274
  let c0_i32_187 : BitVec 32 := 0#32
  let v276 : BitVec 1 := Scalar.cmpi .slt v261 c0_i32_187
  let v277 : BitVec 32 := Scalar.extui v276
  let v278 : BitVec 32 := Scalar.subi v275 v277
  let c2_i32_185 : BitVec 32 := 2#32
  let c0_i32_188 : BitVec 32 := 0#32
  let v279 : BitVec 1 := Scalar.cmpi .sgt c2_i32_185 c0_i32_188
  let v280 : BitVec 32 := Scalar.extui v279
  let c0_i32_189 : BitVec 32 := 0#32
  let v281 : BitVec 1 := Scalar.cmpi .slt c2_i32_185 c0_i32_189
  let v282 : BitVec 32 := Scalar.extui v281
  let v283 : BitVec 32 := Scalar.subi v280 v282
  let v284 : BitVec 1 := Scalar.cmpi .ne v278 v283
  let v285 : BitVec 32 := Scalar.remsi v261 c2_i32_185
  let c0_i32_190 : BitVec 32 := 0#32
  let v286 : BitVec 1 := Scalar.cmpi .ne v285 c0_i32_190
  let v287 : BitVec 1 := Scalar.andi v284 v286
  let v273 : BitVec 32 := Scalar.divsi v261 c2_i32_185
  let c1_i32_191 : BitVec 32 := 1#32
  let v288 : BitVec 32 := Scalar.subi v273 c1_i32_191
  let v289 : BitVec 32 := Scalar.select v287 v288 v273
  let v290 : BitVec 32 := Scalar.maxsi c0_i32_192 v289
  let v291 : BitVec 32 := Scalar.minsi c1_i32_193 v290
  ![v291.toNat]
def k0_off62 (d0 : Dev nD) : Fin 3 → Nat :=
  let c4_i32_202 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v303 : BitVec 32 := Scalar.muli c4_i32_202 v294
  let c3_i32_203 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v304 : BitVec 32 := Scalar.subi c3_i32_203 v29
  let v305 : BitVec 32 := Scalar.addi v303 v304
  let c0_i32_645 : BitVec 32 := 0#32
  let c0_i32_646 : BitVec 32 := 0#32
  ![v305.toNat, 0, 0]
def k0_dev28 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v350 : BitVec 32 := Scalar.extui v79
  let c0_i32_232 : BitVec 32 := 0#32
  let v351 : BitVec 1 := Scalar.cmpi .ne v350 c0_i32_232
  v351

def k0_off63 (d0 : Dev nD) : Fin 1 → Nat :=
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  ![v346.toNat]
def k0_off64 (d0 : Dev nD) : Fin 3 → Nat :=
  let c4_i32_229 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v347 : BitVec 32 := Scalar.muli c4_i32_229 v346
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v348 : BitVec 32 := Scalar.xori v29 c1_i32_230
  let v349 : BitVec 32 := Scalar.addi v347 v348
  let c0_i32_645 : BitVec 32 := 0#32
  let c0_i32_646 : BitVec 32 := 0#32
  ![v349.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_209 : BitVec 32 := 3#32
  let c0_i32_208 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v312 : BitVec 32 := Scalar.maxsi c0_i32_208 v81
  let v313 : BitVec 32 := Scalar.minsi c3_i32_209 v312
  let c2_i32_210 : BitVec 32 := 2#32
  let c0_i32_211 : BitVec 32 := 0#32
  let v314 : BitVec 1 := Scalar.cmpi .eq c2_i32_210 c0_i32_211
  let c1_i32_212 : BitVec 32 := 1#32
  let v315 : BitVec 32 := Scalar.select v314 c1_i32_212 c2_i32_210
  let v316 : BitVec 32 := Scalar.remsi v313 v315
  let c0_i32_214 : BitVec 32 := 0#32
  let v318 : BitVec 1 := Scalar.cmpi .slt v316 c0_i32_214
  let c0_i32_215 : BitVec 32 := 0#32
  let v319 : BitVec 1 := Scalar.cmpi .slt v315 c0_i32_215
  let v320 : BitVec 1 := Scalar.xori v318 v319
  let c0_i32_213 : BitVec 32 := 0#32
  let v317 : BitVec 1 := Scalar.cmpi .ne v316 c0_i32_213
  let v321 : BitVec 1 := Scalar.andi v320 v317
  let v322 : BitVec 32 := Scalar.addi v316 v315
  let v323 : BitVec 32 := Scalar.select v321 v322 v316
  let c0_i32_216 : BitVec 32 := 0#32
  let v324 : BitVec 1 := Scalar.cmpi .eq v323 c0_i32_216
  let v352 : BitVec 1 := Scalar.andi v79 v324
  let v353 : BitVec 32 := Scalar.extui v352
  let c0_i32_233 : BitVec 32 := 0#32
  let v354 : BitVec 1 := Scalar.cmpi .ne v353 c0_i32_233
  v354

def k0_off65 (d0 : Dev nD) : Fin 1 → Nat :=
  let c1_i32_225 : BitVec 32 := 1#32
  let c0_i32_224 : BitVec 32 := 0#32
  let c3_i32_209 : BitVec 32 := 3#32
  let c0_i32_208 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v312 : BitVec 32 := Scalar.maxsi c0_i32_208 v81
  let v313 : BitVec 32 := Scalar.minsi c3_i32_209 v312
  let c0_i32_218 : BitVec 32 := 0#32
  let v326 : BitVec 1 := Scalar.cmpi .sgt v313 c0_i32_218
  let v327 : BitVec 32 := Scalar.extui v326
  let c0_i32_219 : BitVec 32 := 0#32
  let v328 : BitVec 1 := Scalar.cmpi .slt v313 c0_i32_219
  let v329 : BitVec 32 := Scalar.extui v328
  let v330 : BitVec 32 := Scalar.subi v327 v329
  let c2_i32_217 : BitVec 32 := 2#32
  let c0_i32_220 : BitVec 32 := 0#32
  let v331 : BitVec 1 := Scalar.cmpi .sgt c2_i32_217 c0_i32_220
  let v332 : BitVec 32 := Scalar.extui v331
  let c0_i32_221 : BitVec 32 := 0#32
  let v333 : BitVec 1 := Scalar.cmpi .slt c2_i32_217 c0_i32_221
  let v334 : BitVec 32 := Scalar.extui v333
  let v335 : BitVec 32 := Scalar.subi v332 v334
  let v336 : BitVec 1 := Scalar.cmpi .ne v330 v335
  let v337 : BitVec 32 := Scalar.remsi v313 c2_i32_217
  let c0_i32_222 : BitVec 32 := 0#32
  let v338 : BitVec 1 := Scalar.cmpi .ne v337 c0_i32_222
  let v339 : BitVec 1 := Scalar.andi v336 v338
  let v325 : BitVec 32 := Scalar.divsi v313 c2_i32_217
  let c1_i32_223 : BitVec 32 := 1#32
  let v340 : BitVec 32 := Scalar.subi v325 c1_i32_223
  let v341 : BitVec 32 := Scalar.select v339 v340 v325
  let v342 : BitVec 32 := Scalar.maxsi c0_i32_224 v341
  let v343 : BitVec 32 := Scalar.minsi c1_i32_225 v342
  ![v343.toNat]
def k0_off66 (d0 : Dev nD) : Fin 3 → Nat :=
  let c4_i32_229 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v347 : BitVec 32 := Scalar.muli c4_i32_229 v346
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v348 : BitVec 32 := Scalar.xori v29 c1_i32_230
  let v349 : BitVec 32 := Scalar.addi v347 v348
  let c0_i32_645 : BitVec 32 := 0#32
  let c0_i32_646 : BitVec 32 := 0#32
  ![v349.toNat, 0, 0]
def k0_dev29 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v358 : BitVec 32 := Scalar.extui v79
  let c0_i32_237 : BitVec 32 := 0#32
  let v359 : BitVec 1 := Scalar.cmpi .ne v358 c0_i32_237
  v359

def k0_off67 (d0 : Dev nD) : Fin 1 → Nat :=
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  ![v346.toNat]
def k0_off68 (d0 : Dev nD) : Fin 3 → Nat :=
  let c4_i32_234 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v355 : BitVec 32 := Scalar.muli c4_i32_234 v346
  let c3_i32_235 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v356 : BitVec 32 := Scalar.subi c3_i32_235 v29
  let v357 : BitVec 32 := Scalar.addi v355 v356
  let c0_i32_645 : BitVec 32 := 0#32
  let c0_i32_646 : BitVec 32 := 0#32
  ![v357.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_209 : BitVec 32 := 3#32
  let c0_i32_208 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v312 : BitVec 32 := Scalar.maxsi c0_i32_208 v81
  let v313 : BitVec 32 := Scalar.minsi c3_i32_209 v312
  let c2_i32_210 : BitVec 32 := 2#32
  let c0_i32_211 : BitVec 32 := 0#32
  let v314 : BitVec 1 := Scalar.cmpi .eq c2_i32_210 c0_i32_211
  let c1_i32_212 : BitVec 32 := 1#32
  let v315 : BitVec 32 := Scalar.select v314 c1_i32_212 c2_i32_210
  let v316 : BitVec 32 := Scalar.remsi v313 v315
  let c0_i32_214 : BitVec 32 := 0#32
  let v318 : BitVec 1 := Scalar.cmpi .slt v316 c0_i32_214
  let c0_i32_215 : BitVec 32 := 0#32
  let v319 : BitVec 1 := Scalar.cmpi .slt v315 c0_i32_215
  let v320 : BitVec 1 := Scalar.xori v318 v319
  let c0_i32_213 : BitVec 32 := 0#32
  let v317 : BitVec 1 := Scalar.cmpi .ne v316 c0_i32_213
  let v321 : BitVec 1 := Scalar.andi v320 v317
  let v322 : BitVec 32 := Scalar.addi v316 v315
  let v323 : BitVec 32 := Scalar.select v321 v322 v316
  let c0_i32_216 : BitVec 32 := 0#32
  let v324 : BitVec 1 := Scalar.cmpi .eq v323 c0_i32_216
  let true_238 : BitVec 1 := 1#1
  let v360 : BitVec 1 := Scalar.xori v324 true_238
  let v361 : BitVec 1 := Scalar.andi v79 v360
  let v362 : BitVec 32 := Scalar.extui v361
  let c0_i32_239 : BitVec 32 := 0#32
  let v363 : BitVec 1 := Scalar.cmpi .ne v362 c0_i32_239
  v363

def k0_off69 (d0 : Dev nD) : Fin 1 → Nat :=
  let c1_i32_225 : BitVec 32 := 1#32
  let c0_i32_224 : BitVec 32 := 0#32
  let c3_i32_209 : BitVec 32 := 3#32
  let c0_i32_208 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v312 : BitVec 32 := Scalar.maxsi c0_i32_208 v81
  let v313 : BitVec 32 := Scalar.minsi c3_i32_209 v312
  let c0_i32_218 : BitVec 32 := 0#32
  let v326 : BitVec 1 := Scalar.cmpi .sgt v313 c0_i32_218
  let v327 : BitVec 32 := Scalar.extui v326
  let c0_i32_219 : BitVec 32 := 0#32
  let v328 : BitVec 1 := Scalar.cmpi .slt v313 c0_i32_219
  let v329 : BitVec 32 := Scalar.extui v328
  let v330 : BitVec 32 := Scalar.subi v327 v329
  let c2_i32_217 : BitVec 32 := 2#32
  let c0_i32_220 : BitVec 32 := 0#32
  let v331 : BitVec 1 := Scalar.cmpi .sgt c2_i32_217 c0_i32_220
  let v332 : BitVec 32 := Scalar.extui v331
  let c0_i32_221 : BitVec 32 := 0#32
  let v333 : BitVec 1 := Scalar.cmpi .slt c2_i32_217 c0_i32_221
  let v334 : BitVec 32 := Scalar.extui v333
  let v335 : BitVec 32 := Scalar.subi v332 v334
  let v336 : BitVec 1 := Scalar.cmpi .ne v330 v335
  let v337 : BitVec 32 := Scalar.remsi v313 c2_i32_217
  let c0_i32_222 : BitVec 32 := 0#32
  let v338 : BitVec 1 := Scalar.cmpi .ne v337 c0_i32_222
  let v339 : BitVec 1 := Scalar.andi v336 v338
  let v325 : BitVec 32 := Scalar.divsi v313 c2_i32_217
  let c1_i32_223 : BitVec 32 := 1#32
  let v340 : BitVec 32 := Scalar.subi v325 c1_i32_223
  let v341 : BitVec 32 := Scalar.select v339 v340 v325
  let v342 : BitVec 32 := Scalar.maxsi c0_i32_224 v341
  let v343 : BitVec 32 := Scalar.minsi c1_i32_225 v342
  ![v343.toNat]
def k0_off70 (d0 : Dev nD) : Fin 3 → Nat :=
  let c4_i32_234 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v355 : BitVec 32 := Scalar.muli c4_i32_234 v346
  let c3_i32_235 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v356 : BitVec 32 := Scalar.subi c3_i32_235 v29
  let v357 : BitVec 32 := Scalar.addi v355 v356
  let c0_i32_645 : BitVec 32 := 0#32
  let c0_i32_646 : BitVec 32 := 0#32
  ![v357.toNat, 0, 0]
def k0_dev30 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v402 : BitVec 32 := Scalar.extui v85
  let c0_i32_264 : BitVec 32 := 0#32
  let v403 : BitVec 1 := Scalar.cmpi .ne v402 c0_i32_264
  v403

def k0_off71 (d0 : Dev nD) : Fin 1 → Nat :=
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  ![v398.toNat]
def k0_off72 (d0 : Dev nD) : Fin 3 → Nat :=
  let c4_i32_261 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v399 : BitVec 32 := Scalar.muli c4_i32_261 v398
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_262 : BitVec 32 := 1#32
  let v400 : BitVec 32 := Scalar.xori v29 c1_i32_262
  let v401 : BitVec 32 := Scalar.addi v399 v400
  let c0_i32_645 : BitVec 32 := 0#32
  let c0_i32_646 : BitVec 32 := 0#32
  ![v401.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_241 : BitVec 32 := 3#32
  let c0_i32_240 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v364 : BitVec 32 := Scalar.maxsi c0_i32_240 v87
  let v365 : BitVec 32 := Scalar.minsi c3_i32_241 v364
  let c2_i32_242 : BitVec 32 := 2#32
  let c0_i32_243 : BitVec 32 := 0#32
  let v366 : BitVec 1 := Scalar.cmpi .eq c2_i32_242 c0_i32_243
  let c1_i32_244 : BitVec 32 := 1#32
  let v367 : BitVec 32 := Scalar.select v366 c1_i32_244 c2_i32_242
  let v368 : BitVec 32 := Scalar.remsi v365 v367
  let c0_i32_246 : BitVec 32 := 0#32
  let v370 : BitVec 1 := Scalar.cmpi .slt v368 c0_i32_246
  let c0_i32_247 : BitVec 32 := 0#32
  let v371 : BitVec 1 := Scalar.cmpi .slt v367 c0_i32_247
  let v372 : BitVec 1 := Scalar.xori v370 v371
  let c0_i32_245 : BitVec 32 := 0#32
  let v369 : BitVec 1 := Scalar.cmpi .ne v368 c0_i32_245
  let v373 : BitVec 1 := Scalar.andi v372 v369
  let v374 : BitVec 32 := Scalar.addi v368 v367
  let v375 : BitVec 32 := Scalar.select v373 v374 v368
  let c0_i32_248 : BitVec 32 := 0#32
  let v376 : BitVec 1 := Scalar.cmpi .eq v375 c0_i32_248
  let v404 : BitVec 1 := Scalar.andi v85 v376
  let v405 : BitVec 32 := Scalar.extui v404
  let c0_i32_265 : BitVec 32 := 0#32
  let v406 : BitVec 1 := Scalar.cmpi .ne v405 c0_i32_265
  v406

def k0_off73 (d0 : Dev nD) : Fin 1 → Nat :=
  let c1_i32_257 : BitVec 32 := 1#32
  let c0_i32_256 : BitVec 32 := 0#32
  let c3_i32_241 : BitVec 32 := 3#32
  let c0_i32_240 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v364 : BitVec 32 := Scalar.maxsi c0_i32_240 v87
  let v365 : BitVec 32 := Scalar.minsi c3_i32_241 v364
  let c0_i32_250 : BitVec 32 := 0#32
  let v378 : BitVec 1 := Scalar.cmpi .sgt v365 c0_i32_250
  let v379 : BitVec 32 := Scalar.extui v378
  let c0_i32_251 : BitVec 32 := 0#32
  let v380 : BitVec 1 := Scalar.cmpi .slt v365 c0_i32_251
  let v381 : BitVec 32 := Scalar.extui v380
  let v382 : BitVec 32 := Scalar.subi v379 v381
  let c2_i32_249 : BitVec 32 := 2#32
  let c0_i32_252 : BitVec 32 := 0#32
  let v383 : BitVec 1 := Scalar.cmpi .sgt c2_i32_249 c0_i32_252
  let v384 : BitVec 32 := Scalar.extui v383
  let c0_i32_253 : BitVec 32 := 0#32
  let v385 : BitVec 1 := Scalar.cmpi .slt c2_i32_249 c0_i32_253
  let v386 : BitVec 32 := Scalar.extui v385
  let v387 : BitVec 32 := Scalar.subi v384 v386
  let v388 : BitVec 1 := Scalar.cmpi .ne v382 v387
  let v389 : BitVec 32 := Scalar.remsi v365 c2_i32_249
  let c0_i32_254 : BitVec 32 := 0#32
  let v390 : BitVec 1 := Scalar.cmpi .ne v389 c0_i32_254
  let v391 : BitVec 1 := Scalar.andi v388 v390
  let v377 : BitVec 32 := Scalar.divsi v365 c2_i32_249
  let c1_i32_255 : BitVec 32 := 1#32
  let v392 : BitVec 32 := Scalar.subi v377 c1_i32_255
  let v393 : BitVec 32 := Scalar.select v391 v392 v377
  let v394 : BitVec 32 := Scalar.maxsi c0_i32_256 v393
  let v395 : BitVec 32 := Scalar.minsi c1_i32_257 v394
  ![v395.toNat]
def k0_off74 (d0 : Dev nD) : Fin 3 → Nat :=
  let c4_i32_261 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v399 : BitVec 32 := Scalar.muli c4_i32_261 v398
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_262 : BitVec 32 := 1#32
  let v400 : BitVec 32 := Scalar.xori v29 c1_i32_262
  let v401 : BitVec 32 := Scalar.addi v399 v400
  let c0_i32_645 : BitVec 32 := 0#32
  let c0_i32_646 : BitVec 32 := 0#32
  ![v401.toNat, 0, 0]
def k0_dev31 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v410 : BitVec 32 := Scalar.extui v85
  let c0_i32_269 : BitVec 32 := 0#32
  let v411 : BitVec 1 := Scalar.cmpi .ne v410 c0_i32_269
  v411

def k0_off75 (d0 : Dev nD) : Fin 1 → Nat :=
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  ![v398.toNat]
def k0_off76 (d0 : Dev nD) : Fin 3 → Nat :=
  let c4_i32_266 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v407 : BitVec 32 := Scalar.muli c4_i32_266 v398
  let c3_i32_267 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v408 : BitVec 32 := Scalar.subi c3_i32_267 v29
  let v409 : BitVec 32 := Scalar.addi v407 v408
  let c0_i32_645 : BitVec 32 := 0#32
  let c0_i32_646 : BitVec 32 := 0#32
  ![v409.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_241 : BitVec 32 := 3#32
  let c0_i32_240 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v364 : BitVec 32 := Scalar.maxsi c0_i32_240 v87
  let v365 : BitVec 32 := Scalar.minsi c3_i32_241 v364
  let c2_i32_242 : BitVec 32 := 2#32
  let c0_i32_243 : BitVec 32 := 0#32
  let v366 : BitVec 1 := Scalar.cmpi .eq c2_i32_242 c0_i32_243
  let c1_i32_244 : BitVec 32 := 1#32
  let v367 : BitVec 32 := Scalar.select v366 c1_i32_244 c2_i32_242
  let v368 : BitVec 32 := Scalar.remsi v365 v367
  let c0_i32_246 : BitVec 32 := 0#32
  let v370 : BitVec 1 := Scalar.cmpi .slt v368 c0_i32_246
  let c0_i32_247 : BitVec 32 := 0#32
  let v371 : BitVec 1 := Scalar.cmpi .slt v367 c0_i32_247
  let v372 : BitVec 1 := Scalar.xori v370 v371
  let c0_i32_245 : BitVec 32 := 0#32
  let v369 : BitVec 1 := Scalar.cmpi .ne v368 c0_i32_245
  let v373 : BitVec 1 := Scalar.andi v372 v369
  let v374 : BitVec 32 := Scalar.addi v368 v367
  let v375 : BitVec 32 := Scalar.select v373 v374 v368
  let c0_i32_248 : BitVec 32 := 0#32
  let v376 : BitVec 1 := Scalar.cmpi .eq v375 c0_i32_248
  let true_270 : BitVec 1 := 1#1
  let v412 : BitVec 1 := Scalar.xori v376 true_270
  let v413 : BitVec 1 := Scalar.andi v85 v412
  let v414 : BitVec 32 := Scalar.extui v413
  let c0_i32_271 : BitVec 32 := 0#32
  let v415 : BitVec 1 := Scalar.cmpi .ne v414 c0_i32_271
  v415

def k0_off77 (d0 : Dev nD) : Fin 1 → Nat :=
  let c1_i32_257 : BitVec 32 := 1#32
  let c0_i32_256 : BitVec 32 := 0#32
  let c3_i32_241 : BitVec 32 := 3#32
  let c0_i32_240 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v364 : BitVec 32 := Scalar.maxsi c0_i32_240 v87
  let v365 : BitVec 32 := Scalar.minsi c3_i32_241 v364
  let c0_i32_250 : BitVec 32 := 0#32
  let v378 : BitVec 1 := Scalar.cmpi .sgt v365 c0_i32_250
  let v379 : BitVec 32 := Scalar.extui v378
  let c0_i32_251 : BitVec 32 := 0#32
  let v380 : BitVec 1 := Scalar.cmpi .slt v365 c0_i32_251
  let v381 : BitVec 32 := Scalar.extui v380
  let v382 : BitVec 32 := Scalar.subi v379 v381
  let c2_i32_249 : BitVec 32 := 2#32
  let c0_i32_252 : BitVec 32 := 0#32
  let v383 : BitVec 1 := Scalar.cmpi .sgt c2_i32_249 c0_i32_252
  let v384 : BitVec 32 := Scalar.extui v383
  let c0_i32_253 : BitVec 32 := 0#32
  let v385 : BitVec 1 := Scalar.cmpi .slt c2_i32_249 c0_i32_253
  let v386 : BitVec 32 := Scalar.extui v385
  let v387 : BitVec 32 := Scalar.subi v384 v386
  let v388 : BitVec 1 := Scalar.cmpi .ne v382 v387
  let v389 : BitVec 32 := Scalar.remsi v365 c2_i32_249
  let c0_i32_254 : BitVec 32 := 0#32
  let v390 : BitVec 1 := Scalar.cmpi .ne v389 c0_i32_254
  let v391 : BitVec 1 := Scalar.andi v388 v390
  let v377 : BitVec 32 := Scalar.divsi v365 c2_i32_249
  let c1_i32_255 : BitVec 32 := 1#32
  let v392 : BitVec 32 := Scalar.subi v377 c1_i32_255
  let v393 : BitVec 32 := Scalar.select v391 v392 v377
  let v394 : BitVec 32 := Scalar.maxsi c0_i32_256 v393
  let v395 : BitVec 32 := Scalar.minsi c1_i32_257 v394
  ![v395.toNat]
def k0_off78 (d0 : Dev nD) : Fin 3 → Nat :=
  let c4_i32_266 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v407 : BitVec 32 := Scalar.muli c4_i32_266 v398
  let c3_i32_267 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v408 : BitVec 32 := Scalar.subi c3_i32_267 v29
  let v409 : BitVec 32 := Scalar.addi v407 v408
  let c0_i32_645 : BitVec 32 := 0#32
  let c0_i32_646 : BitVec 32 := 0#32
  ![v409.toNat, 0, 0]
def k0_dev32 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v454 : BitVec 32 := Scalar.extui v91
  let c0_i32_296 : BitVec 32 := 0#32
  let v455 : BitVec 1 := Scalar.cmpi .ne v454 c0_i32_296
  v455

def k0_off79 (d0 : Dev nD) : Fin 1 → Nat :=
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  ![v450.toNat]
def k0_off80 (d0 : Dev nD) : Fin 3 → Nat :=
  let c4_i32_293 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v451 : BitVec 32 := Scalar.muli c4_i32_293 v450
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_294 : BitVec 32 := 1#32
  let v452 : BitVec 32 := Scalar.xori v29 c1_i32_294
  let v453 : BitVec 32 := Scalar.addi v451 v452
  let c0_i32_645 : BitVec 32 := 0#32
  let c0_i32_646 : BitVec 32 := 0#32
  ![v453.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_273 : BitVec 32 := 3#32
  let c0_i32_272 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v416 : BitVec 32 := Scalar.maxsi c0_i32_272 v93
  let v417 : BitVec 32 := Scalar.minsi c3_i32_273 v416
  let c2_i32_274 : BitVec 32 := 2#32
  let c0_i32_275 : BitVec 32 := 0#32
  let v418 : BitVec 1 := Scalar.cmpi .eq c2_i32_274 c0_i32_275
  let c1_i32_276 : BitVec 32 := 1#32
  let v419 : BitVec 32 := Scalar.select v418 c1_i32_276 c2_i32_274
  let v420 : BitVec 32 := Scalar.remsi v417 v419
  let c0_i32_278 : BitVec 32 := 0#32
  let v422 : BitVec 1 := Scalar.cmpi .slt v420 c0_i32_278
  let c0_i32_279 : BitVec 32 := 0#32
  let v423 : BitVec 1 := Scalar.cmpi .slt v419 c0_i32_279
  let v424 : BitVec 1 := Scalar.xori v422 v423
  let c0_i32_277 : BitVec 32 := 0#32
  let v421 : BitVec 1 := Scalar.cmpi .ne v420 c0_i32_277
  let v425 : BitVec 1 := Scalar.andi v424 v421
  let v426 : BitVec 32 := Scalar.addi v420 v419
  let v427 : BitVec 32 := Scalar.select v425 v426 v420
  let c0_i32_280 : BitVec 32 := 0#32
  let v428 : BitVec 1 := Scalar.cmpi .eq v427 c0_i32_280
  let v456 : BitVec 1 := Scalar.andi v91 v428
  let v457 : BitVec 32 := Scalar.extui v456
  let c0_i32_297 : BitVec 32 := 0#32
  let v458 : BitVec 1 := Scalar.cmpi .ne v457 c0_i32_297
  v458

def k0_off81 (d0 : Dev nD) : Fin 1 → Nat :=
  let c1_i32_289 : BitVec 32 := 1#32
  let c0_i32_288 : BitVec 32 := 0#32
  let c3_i32_273 : BitVec 32 := 3#32
  let c0_i32_272 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v416 : BitVec 32 := Scalar.maxsi c0_i32_272 v93
  let v417 : BitVec 32 := Scalar.minsi c3_i32_273 v416
  let c0_i32_282 : BitVec 32 := 0#32
  let v430 : BitVec 1 := Scalar.cmpi .sgt v417 c0_i32_282
  let v431 : BitVec 32 := Scalar.extui v430
  let c0_i32_283 : BitVec 32 := 0#32
  let v432 : BitVec 1 := Scalar.cmpi .slt v417 c0_i32_283
  let v433 : BitVec 32 := Scalar.extui v432
  let v434 : BitVec 32 := Scalar.subi v431 v433
  let c2_i32_281 : BitVec 32 := 2#32
  let c0_i32_284 : BitVec 32 := 0#32
  let v435 : BitVec 1 := Scalar.cmpi .sgt c2_i32_281 c0_i32_284
  let v436 : BitVec 32 := Scalar.extui v435
  let c0_i32_285 : BitVec 32 := 0#32
  let v437 : BitVec 1 := Scalar.cmpi .slt c2_i32_281 c0_i32_285
  let v438 : BitVec 32 := Scalar.extui v437
  let v439 : BitVec 32 := Scalar.subi v436 v438
  let v440 : BitVec 1 := Scalar.cmpi .ne v434 v439
  let v441 : BitVec 32 := Scalar.remsi v417 c2_i32_281
  let c0_i32_286 : BitVec 32 := 0#32
  let v442 : BitVec 1 := Scalar.cmpi .ne v441 c0_i32_286
  let v443 : BitVec 1 := Scalar.andi v440 v442
  let v429 : BitVec 32 := Scalar.divsi v417 c2_i32_281
  let c1_i32_287 : BitVec 32 := 1#32
  let v444 : BitVec 32 := Scalar.subi v429 c1_i32_287
  let v445 : BitVec 32 := Scalar.select v443 v444 v429
  let v446 : BitVec 32 := Scalar.maxsi c0_i32_288 v445
  let v447 : BitVec 32 := Scalar.minsi c1_i32_289 v446
  ![v447.toNat]
def k0_off82 (d0 : Dev nD) : Fin 3 → Nat :=
  let c4_i32_293 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v451 : BitVec 32 := Scalar.muli c4_i32_293 v450
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_294 : BitVec 32 := 1#32
  let v452 : BitVec 32 := Scalar.xori v29 c1_i32_294
  let v453 : BitVec 32 := Scalar.addi v451 v452
  let c0_i32_645 : BitVec 32 := 0#32
  let c0_i32_646 : BitVec 32 := 0#32
  ![v453.toNat, 0, 0]
def k0_dev33 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v462 : BitVec 32 := Scalar.extui v91
  let c0_i32_301 : BitVec 32 := 0#32
  let v463 : BitVec 1 := Scalar.cmpi .ne v462 c0_i32_301
  v463

def k0_off83 (d0 : Dev nD) : Fin 1 → Nat :=
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  ![v450.toNat]
def k0_off84 (d0 : Dev nD) : Fin 3 → Nat :=
  let c4_i32_298 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v459 : BitVec 32 := Scalar.muli c4_i32_298 v450
  let c3_i32_299 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v460 : BitVec 32 := Scalar.subi c3_i32_299 v29
  let v461 : BitVec 32 := Scalar.addi v459 v460
  let c0_i32_645 : BitVec 32 := 0#32
  let c0_i32_646 : BitVec 32 := 0#32
  ![v461.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_273 : BitVec 32 := 3#32
  let c0_i32_272 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v416 : BitVec 32 := Scalar.maxsi c0_i32_272 v93
  let v417 : BitVec 32 := Scalar.minsi c3_i32_273 v416
  let c2_i32_274 : BitVec 32 := 2#32
  let c0_i32_275 : BitVec 32 := 0#32
  let v418 : BitVec 1 := Scalar.cmpi .eq c2_i32_274 c0_i32_275
  let c1_i32_276 : BitVec 32 := 1#32
  let v419 : BitVec 32 := Scalar.select v418 c1_i32_276 c2_i32_274
  let v420 : BitVec 32 := Scalar.remsi v417 v419
  let c0_i32_278 : BitVec 32 := 0#32
  let v422 : BitVec 1 := Scalar.cmpi .slt v420 c0_i32_278
  let c0_i32_279 : BitVec 32 := 0#32
  let v423 : BitVec 1 := Scalar.cmpi .slt v419 c0_i32_279
  let v424 : BitVec 1 := Scalar.xori v422 v423
  let c0_i32_277 : BitVec 32 := 0#32
  let v421 : BitVec 1 := Scalar.cmpi .ne v420 c0_i32_277
  let v425 : BitVec 1 := Scalar.andi v424 v421
  let v426 : BitVec 32 := Scalar.addi v420 v419
  let v427 : BitVec 32 := Scalar.select v425 v426 v420
  let c0_i32_280 : BitVec 32 := 0#32
  let v428 : BitVec 1 := Scalar.cmpi .eq v427 c0_i32_280
  let true_302 : BitVec 1 := 1#1
  let v464 : BitVec 1 := Scalar.xori v428 true_302
  let v465 : BitVec 1 := Scalar.andi v91 v464
  let v466 : BitVec 32 := Scalar.extui v465
  let c0_i32_303 : BitVec 32 := 0#32
  let v467 : BitVec 1 := Scalar.cmpi .ne v466 c0_i32_303
  v467

def k0_off85 (d0 : Dev nD) : Fin 1 → Nat :=
  let c1_i32_289 : BitVec 32 := 1#32
  let c0_i32_288 : BitVec 32 := 0#32
  let c3_i32_273 : BitVec 32 := 3#32
  let c0_i32_272 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v416 : BitVec 32 := Scalar.maxsi c0_i32_272 v93
  let v417 : BitVec 32 := Scalar.minsi c3_i32_273 v416
  let c0_i32_282 : BitVec 32 := 0#32
  let v430 : BitVec 1 := Scalar.cmpi .sgt v417 c0_i32_282
  let v431 : BitVec 32 := Scalar.extui v430
  let c0_i32_283 : BitVec 32 := 0#32
  let v432 : BitVec 1 := Scalar.cmpi .slt v417 c0_i32_283
  let v433 : BitVec 32 := Scalar.extui v432
  let v434 : BitVec 32 := Scalar.subi v431 v433
  let c2_i32_281 : BitVec 32 := 2#32
  let c0_i32_284 : BitVec 32 := 0#32
  let v435 : BitVec 1 := Scalar.cmpi .sgt c2_i32_281 c0_i32_284
  let v436 : BitVec 32 := Scalar.extui v435
  let c0_i32_285 : BitVec 32 := 0#32
  let v437 : BitVec 1 := Scalar.cmpi .slt c2_i32_281 c0_i32_285
  let v438 : BitVec 32 := Scalar.extui v437
  let v439 : BitVec 32 := Scalar.subi v436 v438
  let v440 : BitVec 1 := Scalar.cmpi .ne v434 v439
  let v441 : BitVec 32 := Scalar.remsi v417 c2_i32_281
  let c0_i32_286 : BitVec 32 := 0#32
  let v442 : BitVec 1 := Scalar.cmpi .ne v441 c0_i32_286
  let v443 : BitVec 1 := Scalar.andi v440 v442
  let v429 : BitVec 32 := Scalar.divsi v417 c2_i32_281
  let c1_i32_287 : BitVec 32 := 1#32
  let v444 : BitVec 32 := Scalar.subi v429 c1_i32_287
  let v445 : BitVec 32 := Scalar.select v443 v444 v429
  let v446 : BitVec 32 := Scalar.maxsi c0_i32_288 v445
  let v447 : BitVec 32 := Scalar.minsi c1_i32_289 v446
  ![v447.toNat]
def k0_off86 (d0 : Dev nD) : Fin 3 → Nat :=
  let c4_i32_298 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v459 : BitVec 32 := Scalar.muli c4_i32_298 v450
  let c3_i32_299 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v460 : BitVec 32 := Scalar.subi c3_i32_299 v29
  let v461 : BitVec 32 := Scalar.addi v459 v460
  let c0_i32_645 : BitVec 32 := 0#32
  let c0_i32_646 : BitVec 32 := 0#32
  ![v461.toNat, 0, 0]
def k0_dev34 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v506 : BitVec 32 := Scalar.extui v97
  let c0_i32_328 : BitVec 32 := 0#32
  let v507 : BitVec 1 := Scalar.cmpi .ne v506 c0_i32_328
  v507

def k0_off87 (d0 : Dev nD) : Fin 1 → Nat :=
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  ![v502.toNat]
def k0_off88 (d0 : Dev nD) : Fin 3 → Nat :=
  let c4_i32_325 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v503 : BitVec 32 := Scalar.muli c4_i32_325 v502
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_326 : BitVec 32 := 1#32
  let v504 : BitVec 32 := Scalar.xori v29 c1_i32_326
  let v505 : BitVec 32 := Scalar.addi v503 v504
  let c0_i32_645 : BitVec 32 := 0#32
  let c0_i32_646 : BitVec 32 := 0#32
  ![v505.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_305 : BitVec 32 := 3#32
  let c0_i32_304 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v468 : BitVec 32 := Scalar.maxsi c0_i32_304 v99
  let v469 : BitVec 32 := Scalar.minsi c3_i32_305 v468
  let c2_i32_306 : BitVec 32 := 2#32
  let c0_i32_307 : BitVec 32 := 0#32
  let v470 : BitVec 1 := Scalar.cmpi .eq c2_i32_306 c0_i32_307
  let c1_i32_308 : BitVec 32 := 1#32
  let v471 : BitVec 32 := Scalar.select v470 c1_i32_308 c2_i32_306
  let v472 : BitVec 32 := Scalar.remsi v469 v471
  let c0_i32_310 : BitVec 32 := 0#32
  let v474 : BitVec 1 := Scalar.cmpi .slt v472 c0_i32_310
  let c0_i32_311 : BitVec 32 := 0#32
  let v475 : BitVec 1 := Scalar.cmpi .slt v471 c0_i32_311
  let v476 : BitVec 1 := Scalar.xori v474 v475
  let c0_i32_309 : BitVec 32 := 0#32
  let v473 : BitVec 1 := Scalar.cmpi .ne v472 c0_i32_309
  let v477 : BitVec 1 := Scalar.andi v476 v473
  let v478 : BitVec 32 := Scalar.addi v472 v471
  let v479 : BitVec 32 := Scalar.select v477 v478 v472
  let c0_i32_312 : BitVec 32 := 0#32
  let v480 : BitVec 1 := Scalar.cmpi .eq v479 c0_i32_312
  let v508 : BitVec 1 := Scalar.andi v97 v480
  let v509 : BitVec 32 := Scalar.extui v508
  let c0_i32_329 : BitVec 32 := 0#32
  let v510 : BitVec 1 := Scalar.cmpi .ne v509 c0_i32_329
  v510

def k0_off89 (d0 : Dev nD) : Fin 1 → Nat :=
  let c1_i32_321 : BitVec 32 := 1#32
  let c0_i32_320 : BitVec 32 := 0#32
  let c3_i32_305 : BitVec 32 := 3#32
  let c0_i32_304 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v468 : BitVec 32 := Scalar.maxsi c0_i32_304 v99
  let v469 : BitVec 32 := Scalar.minsi c3_i32_305 v468
  let c0_i32_314 : BitVec 32 := 0#32
  let v482 : BitVec 1 := Scalar.cmpi .sgt v469 c0_i32_314
  let v483 : BitVec 32 := Scalar.extui v482
  let c0_i32_315 : BitVec 32 := 0#32
  let v484 : BitVec 1 := Scalar.cmpi .slt v469 c0_i32_315
  let v485 : BitVec 32 := Scalar.extui v484
  let v486 : BitVec 32 := Scalar.subi v483 v485
  let c2_i32_313 : BitVec 32 := 2#32
  let c0_i32_316 : BitVec 32 := 0#32
  let v487 : BitVec 1 := Scalar.cmpi .sgt c2_i32_313 c0_i32_316
  let v488 : BitVec 32 := Scalar.extui v487
  let c0_i32_317 : BitVec 32 := 0#32
  let v489 : BitVec 1 := Scalar.cmpi .slt c2_i32_313 c0_i32_317
  let v490 : BitVec 32 := Scalar.extui v489
  let v491 : BitVec 32 := Scalar.subi v488 v490
  let v492 : BitVec 1 := Scalar.cmpi .ne v486 v491
  let v493 : BitVec 32 := Scalar.remsi v469 c2_i32_313
  let c0_i32_318 : BitVec 32 := 0#32
  let v494 : BitVec 1 := Scalar.cmpi .ne v493 c0_i32_318
  let v495 : BitVec 1 := Scalar.andi v492 v494
  let v481 : BitVec 32 := Scalar.divsi v469 c2_i32_313
  let c1_i32_319 : BitVec 32 := 1#32
  let v496 : BitVec 32 := Scalar.subi v481 c1_i32_319
  let v497 : BitVec 32 := Scalar.select v495 v496 v481
  let v498 : BitVec 32 := Scalar.maxsi c0_i32_320 v497
  let v499 : BitVec 32 := Scalar.minsi c1_i32_321 v498
  ![v499.toNat]
def k0_off90 (d0 : Dev nD) : Fin 3 → Nat :=
  let c4_i32_325 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v503 : BitVec 32 := Scalar.muli c4_i32_325 v502
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_326 : BitVec 32 := 1#32
  let v504 : BitVec 32 := Scalar.xori v29 c1_i32_326
  let v505 : BitVec 32 := Scalar.addi v503 v504
  let c0_i32_645 : BitVec 32 := 0#32
  let c0_i32_646 : BitVec 32 := 0#32
  ![v505.toNat, 0, 0]
def k0_dev35 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v514 : BitVec 32 := Scalar.extui v97
  let c0_i32_333 : BitVec 32 := 0#32
  let v515 : BitVec 1 := Scalar.cmpi .ne v514 c0_i32_333
  v515

def k0_off91 (d0 : Dev nD) : Fin 1 → Nat :=
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  ![v502.toNat]
def k0_off92 (d0 : Dev nD) : Fin 3 → Nat :=
  let c4_i32_330 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v511 : BitVec 32 := Scalar.muli c4_i32_330 v502
  let c3_i32_331 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v512 : BitVec 32 := Scalar.subi c3_i32_331 v29
  let v513 : BitVec 32 := Scalar.addi v511 v512
  let c0_i32_645 : BitVec 32 := 0#32
  let c0_i32_646 : BitVec 32 := 0#32
  ![v513.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_305 : BitVec 32 := 3#32
  let c0_i32_304 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v468 : BitVec 32 := Scalar.maxsi c0_i32_304 v99
  let v469 : BitVec 32 := Scalar.minsi c3_i32_305 v468
  let c2_i32_306 : BitVec 32 := 2#32
  let c0_i32_307 : BitVec 32 := 0#32
  let v470 : BitVec 1 := Scalar.cmpi .eq c2_i32_306 c0_i32_307
  let c1_i32_308 : BitVec 32 := 1#32
  let v471 : BitVec 32 := Scalar.select v470 c1_i32_308 c2_i32_306
  let v472 : BitVec 32 := Scalar.remsi v469 v471
  let c0_i32_310 : BitVec 32 := 0#32
  let v474 : BitVec 1 := Scalar.cmpi .slt v472 c0_i32_310
  let c0_i32_311 : BitVec 32 := 0#32
  let v475 : BitVec 1 := Scalar.cmpi .slt v471 c0_i32_311
  let v476 : BitVec 1 := Scalar.xori v474 v475
  let c0_i32_309 : BitVec 32 := 0#32
  let v473 : BitVec 1 := Scalar.cmpi .ne v472 c0_i32_309
  let v477 : BitVec 1 := Scalar.andi v476 v473
  let v478 : BitVec 32 := Scalar.addi v472 v471
  let v479 : BitVec 32 := Scalar.select v477 v478 v472
  let c0_i32_312 : BitVec 32 := 0#32
  let v480 : BitVec 1 := Scalar.cmpi .eq v479 c0_i32_312
  let true_334 : BitVec 1 := 1#1
  let v516 : BitVec 1 := Scalar.xori v480 true_334
  let v517 : BitVec 1 := Scalar.andi v97 v516
  let v518 : BitVec 32 := Scalar.extui v517
  let c0_i32_335 : BitVec 32 := 0#32
  let v519 : BitVec 1 := Scalar.cmpi .ne v518 c0_i32_335
  v519

def k0_off93 (d0 : Dev nD) : Fin 1 → Nat :=
  let c1_i32_321 : BitVec 32 := 1#32
  let c0_i32_320 : BitVec 32 := 0#32
  let c3_i32_305 : BitVec 32 := 3#32
  let c0_i32_304 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v468 : BitVec 32 := Scalar.maxsi c0_i32_304 v99
  let v469 : BitVec 32 := Scalar.minsi c3_i32_305 v468
  let c0_i32_314 : BitVec 32 := 0#32
  let v482 : BitVec 1 := Scalar.cmpi .sgt v469 c0_i32_314
  let v483 : BitVec 32 := Scalar.extui v482
  let c0_i32_315 : BitVec 32 := 0#32
  let v484 : BitVec 1 := Scalar.cmpi .slt v469 c0_i32_315
  let v485 : BitVec 32 := Scalar.extui v484
  let v486 : BitVec 32 := Scalar.subi v483 v485
  let c2_i32_313 : BitVec 32 := 2#32
  let c0_i32_316 : BitVec 32 := 0#32
  let v487 : BitVec 1 := Scalar.cmpi .sgt c2_i32_313 c0_i32_316
  let v488 : BitVec 32 := Scalar.extui v487
  let c0_i32_317 : BitVec 32 := 0#32
  let v489 : BitVec 1 := Scalar.cmpi .slt c2_i32_313 c0_i32_317
  let v490 : BitVec 32 := Scalar.extui v489
  let v491 : BitVec 32 := Scalar.subi v488 v490
  let v492 : BitVec 1 := Scalar.cmpi .ne v486 v491
  let v493 : BitVec 32 := Scalar.remsi v469 c2_i32_313
  let c0_i32_318 : BitVec 32 := 0#32
  let v494 : BitVec 1 := Scalar.cmpi .ne v493 c0_i32_318
  let v495 : BitVec 1 := Scalar.andi v492 v494
  let v481 : BitVec 32 := Scalar.divsi v469 c2_i32_313
  let c1_i32_319 : BitVec 32 := 1#32
  let v496 : BitVec 32 := Scalar.subi v481 c1_i32_319
  let v497 : BitVec 32 := Scalar.select v495 v496 v481
  let v498 : BitVec 32 := Scalar.maxsi c0_i32_320 v497
  let v499 : BitVec 32 := Scalar.minsi c1_i32_321 v498
  ![v499.toNat]
def k0_off94 (d0 : Dev nD) : Fin 3 → Nat :=
  let c4_i32_330 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v511 : BitVec 32 := Scalar.muli c4_i32_330 v502
  let c3_i32_331 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v512 : BitVec 32 := Scalar.subi c3_i32_331 v29
  let v513 : BitVec 32 := Scalar.addi v511 v512
  let c0_i32_645 : BitVec 32 := 0#32
  let c0_i32_646 : BitVec 32 := 0#32
  ![v513.toNat, 0, 0]
def k0_dev36 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v558 : BitVec 32 := Scalar.extui v103
  let c0_i32_360 : BitVec 32 := 0#32
  let v559 : BitVec 1 := Scalar.cmpi .ne v558 c0_i32_360
  v559

def k0_off95 (d0 : Dev nD) : Fin 1 → Nat :=
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  ![v554.toNat]
def k0_off96 (d0 : Dev nD) : Fin 3 → Nat :=
  let c4_i32_357 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v555 : BitVec 32 := Scalar.muli c4_i32_357 v554
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_358 : BitVec 32 := 1#32
  let v556 : BitVec 32 := Scalar.xori v29 c1_i32_358
  let v557 : BitVec 32 := Scalar.addi v555 v556
  let c0_i32_645 : BitVec 32 := 0#32
  let c0_i32_646 : BitVec 32 := 0#32
  ![v557.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_337 : BitVec 32 := 3#32
  let c0_i32_336 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v520 : BitVec 32 := Scalar.maxsi c0_i32_336 v105
  let v521 : BitVec 32 := Scalar.minsi c3_i32_337 v520
  let c2_i32_338 : BitVec 32 := 2#32
  let c0_i32_339 : BitVec 32 := 0#32
  let v522 : BitVec 1 := Scalar.cmpi .eq c2_i32_338 c0_i32_339
  let c1_i32_340 : BitVec 32 := 1#32
  let v523 : BitVec 32 := Scalar.select v522 c1_i32_340 c2_i32_338
  let v524 : BitVec 32 := Scalar.remsi v521 v523
  let c0_i32_342 : BitVec 32 := 0#32
  let v526 : BitVec 1 := Scalar.cmpi .slt v524 c0_i32_342
  let c0_i32_343 : BitVec 32 := 0#32
  let v527 : BitVec 1 := Scalar.cmpi .slt v523 c0_i32_343
  let v528 : BitVec 1 := Scalar.xori v526 v527
  let c0_i32_341 : BitVec 32 := 0#32
  let v525 : BitVec 1 := Scalar.cmpi .ne v524 c0_i32_341
  let v529 : BitVec 1 := Scalar.andi v528 v525
  let v530 : BitVec 32 := Scalar.addi v524 v523
  let v531 : BitVec 32 := Scalar.select v529 v530 v524
  let c0_i32_344 : BitVec 32 := 0#32
  let v532 : BitVec 1 := Scalar.cmpi .eq v531 c0_i32_344
  let v560 : BitVec 1 := Scalar.andi v103 v532
  let v561 : BitVec 32 := Scalar.extui v560
  let c0_i32_361 : BitVec 32 := 0#32
  let v562 : BitVec 1 := Scalar.cmpi .ne v561 c0_i32_361
  v562

def k0_off97 (d0 : Dev nD) : Fin 1 → Nat :=
  let c1_i32_353 : BitVec 32 := 1#32
  let c0_i32_352 : BitVec 32 := 0#32
  let c3_i32_337 : BitVec 32 := 3#32
  let c0_i32_336 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v104 : BitVec 32 := Scalar.extui v103
  let v105 : BitVec 32 := Scalar.addi v99 v104
  let v520 : BitVec 32 := Scalar.maxsi c0_i32_336 v105
  let v521 : BitVec 32 := Scalar.minsi c3_i32_337 v520
  let c0_i32_346 : BitVec 32 := 0#32
  let v534 : BitVec 1 := Scalar.cmpi .sgt v521 c0_i32_346
  let v535 : BitVec 32 := Scalar.extui v534
  let c0_i32_347 : BitVec 32 := 0#32
  let v536 : BitVec 1 := Scalar.cmpi .slt v521 c0_i32_347
  let v537 : BitVec 32 := Scalar.extui v536
  let v538 : BitVec 32 := Scalar.subi v535 v537
  let c2_i32_345 : BitVec 32 := 2#32
  let c0_i32_348 : BitVec 32 := 0#32
  let v539 : BitVec 1 := Scalar.cmpi .sgt c2_i32_345 c0_i32_348
  let v540 : BitVec 32 := Scalar.extui v539
  let c0_i32_349 : BitVec 32 := 0#32
  let v541 : BitVec 1 := Scalar.cmpi .slt c2_i32_345 c0_i32_349
  let v542 : BitVec 32 := Scalar.extui v541
  let v543 : BitVec 32 := Scalar.subi v540 v542
  let v544 : BitVec 1 := Scalar.cmpi .ne v538 v543
  let v545 : BitVec 32 := Scalar.remsi v521 c2_i32_345
  let c0_i32_350 : BitVec 32 := 0#32
  let v546 : BitVec 1 := Scalar.cmpi .ne v545 c0_i32_350
  let v547 : BitVec 1 := Scalar.andi v544 v546
  let v533 : BitVec 32 := Scalar.divsi v521 c2_i32_345
  let c1_i32_351 : BitVec 32 := 1#32
  let v548 : BitVec 32 := Scalar.subi v533 c1_i32_351
  let v549 : BitVec 32 := Scalar.select v547 v548 v533
  let v550 : BitVec 32 := Scalar.maxsi c0_i32_352 v549
  let v551 : BitVec 32 := Scalar.minsi c1_i32_353 v550
  ![v551.toNat]
def k0_off98 (d0 : Dev nD) : Fin 3 → Nat :=
  let c4_i32_357 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v555 : BitVec 32 := Scalar.muli c4_i32_357 v554
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_358 : BitVec 32 := 1#32
  let v556 : BitVec 32 := Scalar.xori v29 c1_i32_358
  let v557 : BitVec 32 := Scalar.addi v555 v556
  let c0_i32_645 : BitVec 32 := 0#32
  let c0_i32_646 : BitVec 32 := 0#32
  ![v557.toNat, 0, 0]
def k0_dev37 (d0 : Dev nD) : Nat :=
  let c0_i32_644 : BitVec 32 := 0#32
  let c4_i32_13 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v33 : BitVec 32 := Scalar.muli c4_i32_13 v19
  let c3_i32 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v34 : BitVec 32 := Scalar.subi c3_i32 v29
  let v35 : BitVec 32 := Scalar.addi v33 v34
  let c1_i32_643 : BitVec 32 := 1#32
  let v973 : BitVec 32 := Scalar.muli v35 c1_i32_643
  let v974 : BitVec 32 := Scalar.addi c0_i32_644 v973
  v974.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v566 : BitVec 32 := Scalar.extui v103
  let c0_i32_365 : BitVec 32 := 0#32
  let v567 : BitVec 1 := Scalar.cmpi .ne v566 c0_i32_365
  v567

def k0_off99 (d0 : Dev nD) : Fin 1 → Nat :=
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  ![v554.toNat]
def k0_off100 (d0 : Dev nD) : Fin 3 → Nat :=
  let c4_i32_362 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v563 : BitVec 32 := Scalar.muli c4_i32_362 v554
  let c3_i32_363 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v564 : BitVec 32 := Scalar.subi c3_i32_363 v29
  let v565 : BitVec 32 := Scalar.addi v563 v564
  let c0_i32_645 : BitVec 32 := 0#32
  let c0_i32_646 : BitVec 32 := 0#32
  ![v565.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_337 : BitVec 32 := 3#32
  let c0_i32_336 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v520 : BitVec 32 := Scalar.maxsi c0_i32_336 v105
  let v521 : BitVec 32 := Scalar.minsi c3_i32_337 v520
  let c2_i32_338 : BitVec 32 := 2#32
  let c0_i32_339 : BitVec 32 := 0#32
  let v522 : BitVec 1 := Scalar.cmpi .eq c2_i32_338 c0_i32_339
  let c1_i32_340 : BitVec 32 := 1#32
  let v523 : BitVec 32 := Scalar.select v522 c1_i32_340 c2_i32_338
  let v524 : BitVec 32 := Scalar.remsi v521 v523
  let c0_i32_342 : BitVec 32 := 0#32
  let v526 : BitVec 1 := Scalar.cmpi .slt v524 c0_i32_342
  let c0_i32_343 : BitVec 32 := 0#32
  let v527 : BitVec 1 := Scalar.cmpi .slt v523 c0_i32_343
  let v528 : BitVec 1 := Scalar.xori v526 v527
  let c0_i32_341 : BitVec 32 := 0#32
  let v525 : BitVec 1 := Scalar.cmpi .ne v524 c0_i32_341
  let v529 : BitVec 1 := Scalar.andi v528 v525
  let v530 : BitVec 32 := Scalar.addi v524 v523
  let v531 : BitVec 32 := Scalar.select v529 v530 v524
  let c0_i32_344 : BitVec 32 := 0#32
  let v532 : BitVec 1 := Scalar.cmpi .eq v531 c0_i32_344
  let true_366 : BitVec 1 := 1#1
  let v568 : BitVec 1 := Scalar.xori v532 true_366
  let v569 : BitVec 1 := Scalar.andi v103 v568
  let v570 : BitVec 32 := Scalar.extui v569
  let c0_i32_367 : BitVec 32 := 0#32
  let v571 : BitVec 1 := Scalar.cmpi .ne v570 c0_i32_367
  v571

def k0_off101 (d0 : Dev nD) : Fin 1 → Nat :=
  let c1_i32_353 : BitVec 32 := 1#32
  let c0_i32_352 : BitVec 32 := 0#32
  let c3_i32_337 : BitVec 32 := 3#32
  let c0_i32_336 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v104 : BitVec 32 := Scalar.extui v103
  let v105 : BitVec 32 := Scalar.addi v99 v104
  let v520 : BitVec 32 := Scalar.maxsi c0_i32_336 v105
  let v521 : BitVec 32 := Scalar.minsi c3_i32_337 v520
  let c0_i32_346 : BitVec 32 := 0#32
  let v534 : BitVec 1 := Scalar.cmpi .sgt v521 c0_i32_346
  let v535 : BitVec 32 := Scalar.extui v534
  let c0_i32_347 : BitVec 32 := 0#32
  let v536 : BitVec 1 := Scalar.cmpi .slt v521 c0_i32_347
  let v537 : BitVec 32 := Scalar.extui v536
  let v538 : BitVec 32 := Scalar.subi v535 v537
  let c2_i32_345 : BitVec 32 := 2#32
  let c0_i32_348 : BitVec 32 := 0#32
  let v539 : BitVec 1 := Scalar.cmpi .sgt c2_i32_345 c0_i32_348
  let v540 : BitVec 32 := Scalar.extui v539
  let c0_i32_349 : BitVec 32 := 0#32
  let v541 : BitVec 1 := Scalar.cmpi .slt c2_i32_345 c0_i32_349
  let v542 : BitVec 32 := Scalar.extui v541
  let v543 : BitVec 32 := Scalar.subi v540 v542
  let v544 : BitVec 1 := Scalar.cmpi .ne v538 v543
  let v545 : BitVec 32 := Scalar.remsi v521 c2_i32_345
  let c0_i32_350 : BitVec 32 := 0#32
  let v546 : BitVec 1 := Scalar.cmpi .ne v545 c0_i32_350
  let v547 : BitVec 1 := Scalar.andi v544 v546
  let v533 : BitVec 32 := Scalar.divsi v521 c2_i32_345
  let c1_i32_351 : BitVec 32 := 1#32
  let v548 : BitVec 32 := Scalar.subi v533 c1_i32_351
  let v549 : BitVec 32 := Scalar.select v547 v548 v533
  let v550 : BitVec 32 := Scalar.maxsi c0_i32_352 v549
  let v551 : BitVec 32 := Scalar.minsi c1_i32_353 v550
  ![v551.toNat]
def k0_off102 (d0 : Dev nD) : Fin 3 → Nat :=
  let c4_i32_362 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v563 : BitVec 32 := Scalar.muli c4_i32_362 v554
  let c3_i32_363 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v564 : BitVec 32 := Scalar.subi c3_i32_363 v29
  let v565 : BitVec 32 := Scalar.addi v563 v564
  let c0_i32_645 : BitVec 32 := 0#32
  let c0_i32_646 : BitVec 32 := 0#32
  ![v565.toNat, 0, 0]
def k0_dev38 (d0 : Dev nD) : Nat :=
  let c0_i32_644 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.xori v29 c1_i32_12
  let v32 : BitVec 32 := Scalar.addi v30 v31
  let c1_i32_643 : BitVec 32 := 1#32
  let v973 : BitVec 32 := Scalar.muli v32 c1_i32_643
  let v974 : BitVec 32 := Scalar.addi c0_i32_644 v973
  v974.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_369 : BitVec 32 := 3#32
  let c0_i32_368 : BitVec 32 := 0#32
  let c_m1_i32 : BitVec 32 := 4294967295#32
  let v68 : BitVec 32 := Scalar.extui v67
  let v69 : BitVec 32 := Scalar.addi c_m1_i32 v68
  let v572 : BitVec 32 := Scalar.maxsi c0_i32_368 v69
  let v573 : BitVec 32 := Scalar.minsi c3_i32_369 v572
  let c2_i32_370 : BitVec 32 := 2#32
  let c0_i32_371 : BitVec 32 := 0#32
  let v574 : BitVec 1 := Scalar.cmpi .eq c2_i32_370 c0_i32_371
  let c1_i32_372 : BitVec 32 := 1#32
  let v575 : BitVec 32 := Scalar.select v574 c1_i32_372 c2_i32_370
  let v576 : BitVec 32 := Scalar.remsi v573 v575
  let c0_i32_374 : BitVec 32 := 0#32
  let v578 : BitVec 1 := Scalar.cmpi .slt v576 c0_i32_374
  let c0_i32_375 : BitVec 32 := 0#32
  let v579 : BitVec 1 := Scalar.cmpi .slt v575 c0_i32_375
  let v580 : BitVec 1 := Scalar.xori v578 v579
  let c0_i32_373 : BitVec 32 := 0#32
  let v577 : BitVec 1 := Scalar.cmpi .ne v576 c0_i32_373
  let v581 : BitVec 1 := Scalar.andi v580 v577
  let v582 : BitVec 32 := Scalar.addi v576 v575
  let v583 : BitVec 32 := Scalar.select v581 v582 v576
  let c0_i32_376 : BitVec 32 := 0#32
  let v584 : BitVec 1 := Scalar.cmpi .eq v583 c0_i32_376
  let v610 : BitVec 1 := Scalar.andi v67 v584
  let v611 : BitVec 32 := Scalar.extui v610
  let c0_i32_392 : BitVec 32 := 0#32
  let v612 : BitVec 1 := Scalar.cmpi .ne v611 c0_i32_392
  v612

def k0_off103 (d0 : Dev nD) : Fin 1 → Nat :=
  let c1_i32_385 : BitVec 32 := 1#32
  let c0_i32_384 : BitVec 32 := 0#32
  let c3_i32_369 : BitVec 32 := 3#32
  let c0_i32_368 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v572 : BitVec 32 := Scalar.maxsi c0_i32_368 v69
  let v573 : BitVec 32 := Scalar.minsi c3_i32_369 v572
  let c0_i32_378 : BitVec 32 := 0#32
  let v586 : BitVec 1 := Scalar.cmpi .sgt v573 c0_i32_378
  let v587 : BitVec 32 := Scalar.extui v586
  let c0_i32_379 : BitVec 32 := 0#32
  let v588 : BitVec 1 := Scalar.cmpi .slt v573 c0_i32_379
  let v589 : BitVec 32 := Scalar.extui v588
  let v590 : BitVec 32 := Scalar.subi v587 v589
  let c2_i32_377 : BitVec 32 := 2#32
  let c0_i32_380 : BitVec 32 := 0#32
  let v591 : BitVec 1 := Scalar.cmpi .sgt c2_i32_377 c0_i32_380
  let v592 : BitVec 32 := Scalar.extui v591
  let c0_i32_381 : BitVec 32 := 0#32
  let v593 : BitVec 1 := Scalar.cmpi .slt c2_i32_377 c0_i32_381
  let v594 : BitVec 32 := Scalar.extui v593
  let v595 : BitVec 32 := Scalar.subi v592 v594
  let v596 : BitVec 1 := Scalar.cmpi .ne v590 v595
  let v597 : BitVec 32 := Scalar.remsi v573 c2_i32_377
  let c0_i32_382 : BitVec 32 := 0#32
  let v598 : BitVec 1 := Scalar.cmpi .ne v597 c0_i32_382
  let v599 : BitVec 1 := Scalar.andi v596 v598
  let v585 : BitVec 32 := Scalar.divsi v573 c2_i32_377
  let c1_i32_383 : BitVec 32 := 1#32
  let v600 : BitVec 32 := Scalar.subi v585 c1_i32_383
  let v601 : BitVec 32 := Scalar.select v599 v600 v585
  let v602 : BitVec 32 := Scalar.maxsi c0_i32_384 v601
  let v603 : BitVec 32 := Scalar.minsi c1_i32_385 v602
  ![v603.toNat]
def k0_off104 (d0 : Dev nD) : Fin 3 → Nat :=
  let c4_i32_389 : BitVec 32 := 4#32
  let c3_i32_388 : BitVec 32 := 3#32
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_386 : BitVec 32 := 0#32
  let v604 : BitVec 32 := Scalar.addi v19 c0_i32_386
  let v605 : BitVec 32 := Scalar.maxsi c0_i32_387 v604
  let v606 : BitVec 32 := Scalar.minsi c3_i32_388 v605
  let v607 : BitVec 32 := Scalar.muli c4_i32_389 v606
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_390 : BitVec 32 := 2#32
  let v608 : BitVec 32 := Scalar.xori v29 c2_i32_390
  let v609 : BitVec 32 := Scalar.addi v607 v608
  let c0_i32_645 : BitVec 32 := 0#32
  let c0_i32_646 : BitVec 32 := 0#32
  ![v609.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_369 : BitVec 32 := 3#32
  let c0_i32_368 : BitVec 32 := 0#32
  let c_m1_i32 : BitVec 32 := 4294967295#32
  let v68 : BitVec 32 := Scalar.extui v67
  let v69 : BitVec 32 := Scalar.addi c_m1_i32 v68
  let v572 : BitVec 32 := Scalar.maxsi c0_i32_368 v69
  let v573 : BitVec 32 := Scalar.minsi c3_i32_369 v572
  let c2_i32_370 : BitVec 32 := 2#32
  let c0_i32_371 : BitVec 32 := 0#32
  let v574 : BitVec 1 := Scalar.cmpi .eq c2_i32_370 c0_i32_371
  let c1_i32_372 : BitVec 32 := 1#32
  let v575 : BitVec 32 := Scalar.select v574 c1_i32_372 c2_i32_370
  let v576 : BitVec 32 := Scalar.remsi v573 v575
  let c0_i32_374 : BitVec 32 := 0#32
  let v578 : BitVec 1 := Scalar.cmpi .slt v576 c0_i32_374
  let c0_i32_375 : BitVec 32 := 0#32
  let v579 : BitVec 1 := Scalar.cmpi .slt v575 c0_i32_375
  let v580 : BitVec 1 := Scalar.xori v578 v579
  let c0_i32_373 : BitVec 32 := 0#32
  let v577 : BitVec 1 := Scalar.cmpi .ne v576 c0_i32_373
  let v581 : BitVec 1 := Scalar.andi v580 v577
  let v582 : BitVec 32 := Scalar.addi v576 v575
  let v583 : BitVec 32 := Scalar.select v581 v582 v576
  let c0_i32_376 : BitVec 32 := 0#32
  let v584 : BitVec 1 := Scalar.cmpi .eq v583 c0_i32_376
  let true_393 : BitVec 1 := 1#1
  let v613 : BitVec 1 := Scalar.xori v584 true_393
  let v614 : BitVec 1 := Scalar.andi v67 v613
  let v615 : BitVec 32 := Scalar.extui v614
  let c0_i32_395 : BitVec 32 := 0#32
  let v616 : BitVec 1 := Scalar.cmpi .ne v615 c0_i32_395
  v616

def k0_off105 (d0 : Dev nD) : Fin 1 → Nat :=
  let c1_i32_385 : BitVec 32 := 1#32
  let c0_i32_384 : BitVec 32 := 0#32
  let c3_i32_369 : BitVec 32 := 3#32
  let c0_i32_368 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v572 : BitVec 32 := Scalar.maxsi c0_i32_368 v69
  let v573 : BitVec 32 := Scalar.minsi c3_i32_369 v572
  let c0_i32_378 : BitVec 32 := 0#32
  let v586 : BitVec 1 := Scalar.cmpi .sgt v573 c0_i32_378
  let v587 : BitVec 32 := Scalar.extui v586
  let c0_i32_379 : BitVec 32 := 0#32
  let v588 : BitVec 1 := Scalar.cmpi .slt v573 c0_i32_379
  let v589 : BitVec 32 := Scalar.extui v588
  let v590 : BitVec 32 := Scalar.subi v587 v589
  let c2_i32_377 : BitVec 32 := 2#32
  let c0_i32_380 : BitVec 32 := 0#32
  let v591 : BitVec 1 := Scalar.cmpi .sgt c2_i32_377 c0_i32_380
  let v592 : BitVec 32 := Scalar.extui v591
  let c0_i32_381 : BitVec 32 := 0#32
  let v593 : BitVec 1 := Scalar.cmpi .slt c2_i32_377 c0_i32_381
  let v594 : BitVec 32 := Scalar.extui v593
  let v595 : BitVec 32 := Scalar.subi v592 v594
  let v596 : BitVec 1 := Scalar.cmpi .ne v590 v595
  let v597 : BitVec 32 := Scalar.remsi v573 c2_i32_377
  let c0_i32_382 : BitVec 32 := 0#32
  let v598 : BitVec 1 := Scalar.cmpi .ne v597 c0_i32_382
  let v599 : BitVec 1 := Scalar.andi v596 v598
  let v585 : BitVec 32 := Scalar.divsi v573 c2_i32_377
  let c1_i32_383 : BitVec 32 := 1#32
  let v600 : BitVec 32 := Scalar.subi v585 c1_i32_383
  let v601 : BitVec 32 := Scalar.select v599 v600 v585
  let v602 : BitVec 32 := Scalar.maxsi c0_i32_384 v601
  let v603 : BitVec 32 := Scalar.minsi c1_i32_385 v602
  ![v603.toNat]
def k0_off106 (d0 : Dev nD) : Fin 3 → Nat :=
  let c4_i32_389 : BitVec 32 := 4#32
  let c3_i32_388 : BitVec 32 := 3#32
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_386 : BitVec 32 := 0#32
  let v604 : BitVec 32 := Scalar.addi v19 c0_i32_386
  let v605 : BitVec 32 := Scalar.maxsi c0_i32_387 v604
  let v606 : BitVec 32 := Scalar.minsi c3_i32_388 v605
  let v607 : BitVec 32 := Scalar.muli c4_i32_389 v606
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_390 : BitVec 32 := 2#32
  let v608 : BitVec 32 := Scalar.xori v29 c2_i32_390
  let v609 : BitVec 32 := Scalar.addi v607 v608
  let c0_i32_645 : BitVec 32 := 0#32
  let c0_i32_646 : BitVec 32 := 0#32
  ![v609.toNat, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v617 : BitVec 32 := Scalar.extui v67
  let c0_i32_396 : BitVec 32 := 0#32
  let v618 : BitVec 1 := Scalar.cmpi .ne v617 c0_i32_396
  v618

def k0_off107 (d0 : Dev nD) : Fin 3 → Nat :=
  let c4_i32_643 : BitVec 32 := 4#32
  let c3_i32_388 : BitVec 32 := 3#32
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_386 : BitVec 32 := 0#32
  let v604 : BitVec 32 := Scalar.addi v19 c0_i32_386
  let v605 : BitVec 32 := Scalar.maxsi c0_i32_387 v604
  let v606 : BitVec 32 := Scalar.minsi c3_i32_388 v605
  let v973 : BitVec 32 := Scalar.muli c4_i32_643 v606
  let v974 : Index := Scalar.indexCast v973
  let c0_644 : Index := 0#32
  let c0_645 : Index := 0#32
  ![v974.toNat, 0, 0]
def k0_off108 (d0 : Dev nD) : Fin 2 → Nat :=
  let c3_i32_388 : BitVec 32 := 3#32
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_386 : BitVec 32 := 0#32
  let v604 : BitVec 32 := Scalar.addi v19 c0_i32_386
  let v605 : BitVec 32 := Scalar.maxsi c0_i32_387 v604
  let v606 : BitVec 32 := Scalar.minsi c3_i32_388 v605
  let c4_i32_646 : BitVec 32 := 4#32
  let v978 : BitVec 32 := Scalar.muli v606 c4_i32_646
  let c64_i32 : BitVec 32 := 64#32
  let v979 : BitVec 32 := Scalar.muli v978 c64_i32
  let v980 : Index := Scalar.indexCast v979
  let c0_647 : Index := 0#32
  ![v980.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_398 : BitVec 32 := 3#32
  let c0_i32_397 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v619 : BitVec 32 := Scalar.maxsi c0_i32_397 v75
  let v620 : BitVec 32 := Scalar.minsi c3_i32_398 v619
  let c2_i32_399 : BitVec 32 := 2#32
  let c0_i32_400 : BitVec 32 := 0#32
  let v621 : BitVec 1 := Scalar.cmpi .eq c2_i32_399 c0_i32_400
  let c1_i32_401 : BitVec 32 := 1#32
  let v622 : BitVec 32 := Scalar.select v621 c1_i32_401 c2_i32_399
  let v623 : BitVec 32 := Scalar.remsi v620 v622
  let c0_i32_403 : BitVec 32 := 0#32
  let v625 : BitVec 1 := Scalar.cmpi .slt v623 c0_i32_403
  let c0_i32_404 : BitVec 32 := 0#32
  let v626 : BitVec 1 := Scalar.cmpi .slt v622 c0_i32_404
  let v627 : BitVec 1 := Scalar.xori v625 v626
  let c0_i32_402 : BitVec 32 := 0#32
  let v624 : BitVec 1 := Scalar.cmpi .ne v623 c0_i32_402
  let v628 : BitVec 1 := Scalar.andi v627 v624
  let v629 : BitVec 32 := Scalar.addi v623 v622
  let v630 : BitVec 32 := Scalar.select v628 v629 v623
  let c0_i32_405 : BitVec 32 := 0#32
  let v631 : BitVec 1 := Scalar.cmpi .eq v630 c0_i32_405
  let v657 : BitVec 1 := Scalar.andi v73 v631
  let v658 : BitVec 32 := Scalar.extui v657
  let c0_i32_421 : BitVec 32 := 0#32
  let v659 : BitVec 1 := Scalar.cmpi .ne v658 c0_i32_421
  v659

def k0_off109 (d0 : Dev nD) : Fin 1 → Nat :=
  let c1_i32_414 : BitVec 32 := 1#32
  let c0_i32_413 : BitVec 32 := 0#32
  let c3_i32_398 : BitVec 32 := 3#32
  let c0_i32_397 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v619 : BitVec 32 := Scalar.maxsi c0_i32_397 v75
  let v620 : BitVec 32 := Scalar.minsi c3_i32_398 v619
  let c0_i32_407 : BitVec 32 := 0#32
  let v633 : BitVec 1 := Scalar.cmpi .sgt v620 c0_i32_407
  let v634 : BitVec 32 := Scalar.extui v633
  let c0_i32_408 : BitVec 32 := 0#32
  let v635 : BitVec 1 := Scalar.cmpi .slt v620 c0_i32_408
  let v636 : BitVec 32 := Scalar.extui v635
  let v637 : BitVec 32 := Scalar.subi v634 v636
  let c2_i32_406 : BitVec 32 := 2#32
  let c0_i32_409 : BitVec 32 := 0#32
  let v638 : BitVec 1 := Scalar.cmpi .sgt c2_i32_406 c0_i32_409
  let v639 : BitVec 32 := Scalar.extui v638
  let c0_i32_410 : BitVec 32 := 0#32
  let v640 : BitVec 1 := Scalar.cmpi .slt c2_i32_406 c0_i32_410
  let v641 : BitVec 32 := Scalar.extui v640
  let v642 : BitVec 32 := Scalar.subi v639 v641
  let v643 : BitVec 1 := Scalar.cmpi .ne v637 v642
  let v644 : BitVec 32 := Scalar.remsi v620 c2_i32_406
  let c0_i32_411 : BitVec 32 := 0#32
  let v645 : BitVec 1 := Scalar.cmpi .ne v644 c0_i32_411
  let v646 : BitVec 1 := Scalar.andi v643 v645
  let v632 : BitVec 32 := Scalar.divsi v620 c2_i32_406
  let c1_i32_412 : BitVec 32 := 1#32
  let v647 : BitVec 32 := Scalar.subi v632 c1_i32_412
  let v648 : BitVec 32 := Scalar.select v646 v647 v632
  let v649 : BitVec 32 := Scalar.maxsi c0_i32_413 v648
  let v650 : BitVec 32 := Scalar.minsi c1_i32_414 v649
  ![v650.toNat]
def k0_off110 (d0 : Dev nD) : Fin 3 → Nat :=
  let c4_i32_418 : BitVec 32 := 4#32
  let c3_i32_417 : BitVec 32 := 3#32
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_415 : BitVec 32 := 1#32
  let v651 : BitVec 32 := Scalar.subi v19 c1_i32_415
  let v652 : BitVec 32 := Scalar.maxsi c0_i32_416 v651
  let v653 : BitVec 32 := Scalar.minsi c3_i32_417 v652
  let v654 : BitVec 32 := Scalar.muli c4_i32_418 v653
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_419 : BitVec 32 := 2#32
  let v655 : BitVec 32 := Scalar.xori v29 c2_i32_419
  let v656 : BitVec 32 := Scalar.addi v654 v655
  let c0_i32_645 : BitVec 32 := 0#32
  let c0_i32_646 : BitVec 32 := 0#32
  ![v656.toNat, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_398 : BitVec 32 := 3#32
  let c0_i32_397 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v619 : BitVec 32 := Scalar.maxsi c0_i32_397 v75
  let v620 : BitVec 32 := Scalar.minsi c3_i32_398 v619
  let c2_i32_399 : BitVec 32 := 2#32
  let c0_i32_400 : BitVec 32 := 0#32
  let v621 : BitVec 1 := Scalar.cmpi .eq c2_i32_399 c0_i32_400
  let c1_i32_401 : BitVec 32 := 1#32
  let v622 : BitVec 32 := Scalar.select v621 c1_i32_401 c2_i32_399
  let v623 : BitVec 32 := Scalar.remsi v620 v622
  let c0_i32_403 : BitVec 32 := 0#32
  let v625 : BitVec 1 := Scalar.cmpi .slt v623 c0_i32_403
  let c0_i32_404 : BitVec 32 := 0#32
  let v626 : BitVec 1 := Scalar.cmpi .slt v622 c0_i32_404
  let v627 : BitVec 1 := Scalar.xori v625 v626
  let c0_i32_402 : BitVec 32 := 0#32
  let v624 : BitVec 1 := Scalar.cmpi .ne v623 c0_i32_402
  let v628 : BitVec 1 := Scalar.andi v627 v624
  let v629 : BitVec 32 := Scalar.addi v623 v622
  let v630 : BitVec 32 := Scalar.select v628 v629 v623
  let c0_i32_405 : BitVec 32 := 0#32
  let v631 : BitVec 1 := Scalar.cmpi .eq v630 c0_i32_405
  let true_422 : BitVec 1 := 1#1
  let v660 : BitVec 1 := Scalar.xori v631 true_422
  let v661 : BitVec 1 := Scalar.andi v73 v660
  let v662 : BitVec 32 := Scalar.extui v661
  let c0_i32_424 : BitVec 32 := 0#32
  let v663 : BitVec 1 := Scalar.cmpi .ne v662 c0_i32_424
  v663

def k0_off111 (d0 : Dev nD) : Fin 1 → Nat :=
  let c1_i32_414 : BitVec 32 := 1#32
  let c0_i32_413 : BitVec 32 := 0#32
  let c3_i32_398 : BitVec 32 := 3#32
  let c0_i32_397 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v619 : BitVec 32 := Scalar.maxsi c0_i32_397 v75
  let v620 : BitVec 32 := Scalar.minsi c3_i32_398 v619
  let c0_i32_407 : BitVec 32 := 0#32
  let v633 : BitVec 1 := Scalar.cmpi .sgt v620 c0_i32_407
  let v634 : BitVec 32 := Scalar.extui v633
  let c0_i32_408 : BitVec 32 := 0#32
  let v635 : BitVec 1 := Scalar.cmpi .slt v620 c0_i32_408
  let v636 : BitVec 32 := Scalar.extui v635
  let v637 : BitVec 32 := Scalar.subi v634 v636
  let c2_i32_406 : BitVec 32 := 2#32
  let c0_i32_409 : BitVec 32 := 0#32
  let v638 : BitVec 1 := Scalar.cmpi .sgt c2_i32_406 c0_i32_409
  let v639 : BitVec 32 := Scalar.extui v638
  let c0_i32_410 : BitVec 32 := 0#32
  let v640 : BitVec 1 := Scalar.cmpi .slt c2_i32_406 c0_i32_410
  let v641 : BitVec 32 := Scalar.extui v640
  let v642 : BitVec 32 := Scalar.subi v639 v641
  let v643 : BitVec 1 := Scalar.cmpi .ne v637 v642
  let v644 : BitVec 32 := Scalar.remsi v620 c2_i32_406
  let c0_i32_411 : BitVec 32 := 0#32
  let v645 : BitVec 1 := Scalar.cmpi .ne v644 c0_i32_411
  let v646 : BitVec 1 := Scalar.andi v643 v645
  let v632 : BitVec 32 := Scalar.divsi v620 c2_i32_406
  let c1_i32_412 : BitVec 32 := 1#32
  let v647 : BitVec 32 := Scalar.subi v632 c1_i32_412
  let v648 : BitVec 32 := Scalar.select v646 v647 v632
  let v649 : BitVec 32 := Scalar.maxsi c0_i32_413 v648
  let v650 : BitVec 32 := Scalar.minsi c1_i32_414 v649
  ![v650.toNat]
def k0_off112 (d0 : Dev nD) : Fin 3 → Nat :=
  let c4_i32_418 : BitVec 32 := 4#32
  let c3_i32_417 : BitVec 32 := 3#32
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_415 : BitVec 32 := 1#32
  let v651 : BitVec 32 := Scalar.subi v19 c1_i32_415
  let v652 : BitVec 32 := Scalar.maxsi c0_i32_416 v651
  let v653 : BitVec 32 := Scalar.minsi c3_i32_417 v652
  let v654 : BitVec 32 := Scalar.muli c4_i32_418 v653
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_419 : BitVec 32 := 2#32
  let v655 : BitVec 32 := Scalar.xori v29 c2_i32_419
  let v656 : BitVec 32 := Scalar.addi v654 v655
  let c0_i32_645 : BitVec 32 := 0#32
  let c0_i32_646 : BitVec 32 := 0#32
  ![v656.toNat, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v664 : BitVec 32 := Scalar.extui v73
  let c0_i32_425 : BitVec 32 := 0#32
  let v665 : BitVec 1 := Scalar.cmpi .ne v664 c0_i32_425
  v665

def k0_off113 (d0 : Dev nD) : Fin 3 → Nat :=
  let c4_i32_643 : BitVec 32 := 4#32
  let c3_i32_417 : BitVec 32 := 3#32
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_415 : BitVec 32 := 1#32
  let v651 : BitVec 32 := Scalar.subi v19 c1_i32_415
  let v652 : BitVec 32 := Scalar.maxsi c0_i32_416 v651
  let v653 : BitVec 32 := Scalar.minsi c3_i32_417 v652
  let v973 : BitVec 32 := Scalar.muli c4_i32_643 v653
  let v974 : Index := Scalar.indexCast v973
  let c0_644 : Index := 0#32
  let c0_645 : Index := 0#32
  ![v974.toNat, 0, 0]
def k0_off114 (d0 : Dev nD) : Fin 2 → Nat :=
  let c3_i32_417 : BitVec 32 := 3#32
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_415 : BitVec 32 := 1#32
  let v651 : BitVec 32 := Scalar.subi v19 c1_i32_415
  let v652 : BitVec 32 := Scalar.maxsi c0_i32_416 v651
  let v653 : BitVec 32 := Scalar.minsi c3_i32_417 v652
  let c4_i32_646 : BitVec 32 := 4#32
  let v978 : BitVec 32 := Scalar.muli v653 c4_i32_646
  let c64_i32 : BitVec 32 := 64#32
  let v979 : BitVec 32 := Scalar.muli v978 c64_i32
  let v980 : Index := Scalar.indexCast v979
  let c0_647 : Index := 0#32
  ![v980.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_427 : BitVec 32 := 3#32
  let c0_i32_426 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v666 : BitVec 32 := Scalar.maxsi c0_i32_426 v81
  let v667 : BitVec 32 := Scalar.minsi c3_i32_427 v666
  let c2_i32_428 : BitVec 32 := 2#32
  let c0_i32_429 : BitVec 32 := 0#32
  let v668 : BitVec 1 := Scalar.cmpi .eq c2_i32_428 c0_i32_429
  let c1_i32_430 : BitVec 32 := 1#32
  let v669 : BitVec 32 := Scalar.select v668 c1_i32_430 c2_i32_428
  let v670 : BitVec 32 := Scalar.remsi v667 v669
  let c0_i32_432 : BitVec 32 := 0#32
  let v672 : BitVec 1 := Scalar.cmpi .slt v670 c0_i32_432
  let c0_i32_433 : BitVec 32 := 0#32
  let v673 : BitVec 1 := Scalar.cmpi .slt v669 c0_i32_433
  let v674 : BitVec 1 := Scalar.xori v672 v673
  let c0_i32_431 : BitVec 32 := 0#32
  let v671 : BitVec 1 := Scalar.cmpi .ne v670 c0_i32_431
  let v675 : BitVec 1 := Scalar.andi v674 v671
  let v676 : BitVec 32 := Scalar.addi v670 v669
  let v677 : BitVec 32 := Scalar.select v675 v676 v670
  let c0_i32_434 : BitVec 32 := 0#32
  let v678 : BitVec 1 := Scalar.cmpi .eq v677 c0_i32_434
  let v704 : BitVec 1 := Scalar.andi v79 v678
  let v705 : BitVec 32 := Scalar.extui v704
  let c0_i32_450 : BitVec 32 := 0#32
  let v706 : BitVec 1 := Scalar.cmpi .ne v705 c0_i32_450
  v706

def k0_off115 (d0 : Dev nD) : Fin 1 → Nat :=
  let c1_i32_443 : BitVec 32 := 1#32
  let c0_i32_442 : BitVec 32 := 0#32
  let c3_i32_427 : BitVec 32 := 3#32
  let c0_i32_426 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v666 : BitVec 32 := Scalar.maxsi c0_i32_426 v81
  let v667 : BitVec 32 := Scalar.minsi c3_i32_427 v666
  let c0_i32_436 : BitVec 32 := 0#32
  let v680 : BitVec 1 := Scalar.cmpi .sgt v667 c0_i32_436
  let v681 : BitVec 32 := Scalar.extui v680
  let c0_i32_437 : BitVec 32 := 0#32
  let v682 : BitVec 1 := Scalar.cmpi .slt v667 c0_i32_437
  let v683 : BitVec 32 := Scalar.extui v682
  let v684 : BitVec 32 := Scalar.subi v681 v683
  let c2_i32_435 : BitVec 32 := 2#32
  let c0_i32_438 : BitVec 32 := 0#32
  let v685 : BitVec 1 := Scalar.cmpi .sgt c2_i32_435 c0_i32_438
  let v686 : BitVec 32 := Scalar.extui v685
  let c0_i32_439 : BitVec 32 := 0#32
  let v687 : BitVec 1 := Scalar.cmpi .slt c2_i32_435 c0_i32_439
  let v688 : BitVec 32 := Scalar.extui v687
  let v689 : BitVec 32 := Scalar.subi v686 v688
  let v690 : BitVec 1 := Scalar.cmpi .ne v684 v689
  let v691 : BitVec 32 := Scalar.remsi v667 c2_i32_435
  let c0_i32_440 : BitVec 32 := 0#32
  let v692 : BitVec 1 := Scalar.cmpi .ne v691 c0_i32_440
  let v693 : BitVec 1 := Scalar.andi v690 v692
  let v679 : BitVec 32 := Scalar.divsi v667 c2_i32_435
  let c1_i32_441 : BitVec 32 := 1#32
  let v694 : BitVec 32 := Scalar.subi v679 c1_i32_441
  let v695 : BitVec 32 := Scalar.select v693 v694 v679
  let v696 : BitVec 32 := Scalar.maxsi c0_i32_442 v695
  let v697 : BitVec 32 := Scalar.minsi c1_i32_443 v696
  ![v697.toNat]
def k0_off116 (d0 : Dev nD) : Fin 3 → Nat :=
  let c4_i32_447 : BitVec 32 := 4#32
  let c3_i32_446 : BitVec 32 := 3#32
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_444 : BitVec 32 := 1#32
  let v698 : BitVec 32 := Scalar.addi v19 c1_i32_444
  let v699 : BitVec 32 := Scalar.maxsi c0_i32_445 v698
  let v700 : BitVec 32 := Scalar.minsi c3_i32_446 v699
  let v701 : BitVec 32 := Scalar.muli c4_i32_447 v700
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_448 : BitVec 32 := 2#32
  let v702 : BitVec 32 := Scalar.xori v29 c2_i32_448
  let v703 : BitVec 32 := Scalar.addi v701 v702
  let c0_i32_645 : BitVec 32 := 0#32
  let c0_i32_646 : BitVec 32 := 0#32
  ![v703.toNat, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_427 : BitVec 32 := 3#32
  let c0_i32_426 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v666 : BitVec 32 := Scalar.maxsi c0_i32_426 v81
  let v667 : BitVec 32 := Scalar.minsi c3_i32_427 v666
  let c2_i32_428 : BitVec 32 := 2#32
  let c0_i32_429 : BitVec 32 := 0#32
  let v668 : BitVec 1 := Scalar.cmpi .eq c2_i32_428 c0_i32_429
  let c1_i32_430 : BitVec 32 := 1#32
  let v669 : BitVec 32 := Scalar.select v668 c1_i32_430 c2_i32_428
  let v670 : BitVec 32 := Scalar.remsi v667 v669
  let c0_i32_432 : BitVec 32 := 0#32
  let v672 : BitVec 1 := Scalar.cmpi .slt v670 c0_i32_432
  let c0_i32_433 : BitVec 32 := 0#32
  let v673 : BitVec 1 := Scalar.cmpi .slt v669 c0_i32_433
  let v674 : BitVec 1 := Scalar.xori v672 v673
  let c0_i32_431 : BitVec 32 := 0#32
  let v671 : BitVec 1 := Scalar.cmpi .ne v670 c0_i32_431
  let v675 : BitVec 1 := Scalar.andi v674 v671
  let v676 : BitVec 32 := Scalar.addi v670 v669
  let v677 : BitVec 32 := Scalar.select v675 v676 v670
  let c0_i32_434 : BitVec 32 := 0#32
  let v678 : BitVec 1 := Scalar.cmpi .eq v677 c0_i32_434
  let true_451 : BitVec 1 := 1#1
  let v707 : BitVec 1 := Scalar.xori v678 true_451
  let v708 : BitVec 1 := Scalar.andi v79 v707
  let v709 : BitVec 32 := Scalar.extui v708
  let c0_i32_453 : BitVec 32 := 0#32
  let v710 : BitVec 1 := Scalar.cmpi .ne v709 c0_i32_453
  v710

def k0_off117 (d0 : Dev nD) : Fin 1 → Nat :=
  let c1_i32_443 : BitVec 32 := 1#32
  let c0_i32_442 : BitVec 32 := 0#32
  let c3_i32_427 : BitVec 32 := 3#32
  let c0_i32_426 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v666 : BitVec 32 := Scalar.maxsi c0_i32_426 v81
  let v667 : BitVec 32 := Scalar.minsi c3_i32_427 v666
  let c0_i32_436 : BitVec 32 := 0#32
  let v680 : BitVec 1 := Scalar.cmpi .sgt v667 c0_i32_436
  let v681 : BitVec 32 := Scalar.extui v680
  let c0_i32_437 : BitVec 32 := 0#32
  let v682 : BitVec 1 := Scalar.cmpi .slt v667 c0_i32_437
  let v683 : BitVec 32 := Scalar.extui v682
  let v684 : BitVec 32 := Scalar.subi v681 v683
  let c2_i32_435 : BitVec 32 := 2#32
  let c0_i32_438 : BitVec 32 := 0#32
  let v685 : BitVec 1 := Scalar.cmpi .sgt c2_i32_435 c0_i32_438
  let v686 : BitVec 32 := Scalar.extui v685
  let c0_i32_439 : BitVec 32 := 0#32
  let v687 : BitVec 1 := Scalar.cmpi .slt c2_i32_435 c0_i32_439
  let v688 : BitVec 32 := Scalar.extui v687
  let v689 : BitVec 32 := Scalar.subi v686 v688
  let v690 : BitVec 1 := Scalar.cmpi .ne v684 v689
  let v691 : BitVec 32 := Scalar.remsi v667 c2_i32_435
  let c0_i32_440 : BitVec 32 := 0#32
  let v692 : BitVec 1 := Scalar.cmpi .ne v691 c0_i32_440
  let v693 : BitVec 1 := Scalar.andi v690 v692
  let v679 : BitVec 32 := Scalar.divsi v667 c2_i32_435
  let c1_i32_441 : BitVec 32 := 1#32
  let v694 : BitVec 32 := Scalar.subi v679 c1_i32_441
  let v695 : BitVec 32 := Scalar.select v693 v694 v679
  let v696 : BitVec 32 := Scalar.maxsi c0_i32_442 v695
  let v697 : BitVec 32 := Scalar.minsi c1_i32_443 v696
  ![v697.toNat]
def k0_off118 (d0 : Dev nD) : Fin 3 → Nat :=
  let c4_i32_447 : BitVec 32 := 4#32
  let c3_i32_446 : BitVec 32 := 3#32
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_444 : BitVec 32 := 1#32
  let v698 : BitVec 32 := Scalar.addi v19 c1_i32_444
  let v699 : BitVec 32 := Scalar.maxsi c0_i32_445 v698
  let v700 : BitVec 32 := Scalar.minsi c3_i32_446 v699
  let v701 : BitVec 32 := Scalar.muli c4_i32_447 v700
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_448 : BitVec 32 := 2#32
  let v702 : BitVec 32 := Scalar.xori v29 c2_i32_448
  let v703 : BitVec 32 := Scalar.addi v701 v702
  let c0_i32_645 : BitVec 32 := 0#32
  let c0_i32_646 : BitVec 32 := 0#32
  ![v703.toNat, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v711 : BitVec 32 := Scalar.extui v79
  let c0_i32_454 : BitVec 32 := 0#32
  let v712 : BitVec 1 := Scalar.cmpi .ne v711 c0_i32_454
  v712

def k0_off119 (d0 : Dev nD) : Fin 3 → Nat :=
  let c4_i32_643 : BitVec 32 := 4#32
  let c3_i32_446 : BitVec 32 := 3#32
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_444 : BitVec 32 := 1#32
  let v698 : BitVec 32 := Scalar.addi v19 c1_i32_444
  let v699 : BitVec 32 := Scalar.maxsi c0_i32_445 v698
  let v700 : BitVec 32 := Scalar.minsi c3_i32_446 v699
  let v973 : BitVec 32 := Scalar.muli c4_i32_643 v700
  let v974 : Index := Scalar.indexCast v973
  let c0_644 : Index := 0#32
  let c0_645 : Index := 0#32
  ![v974.toNat, 0, 0]
def k0_off120 (d0 : Dev nD) : Fin 2 → Nat :=
  let c3_i32_446 : BitVec 32 := 3#32
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_444 : BitVec 32 := 1#32
  let v698 : BitVec 32 := Scalar.addi v19 c1_i32_444
  let v699 : BitVec 32 := Scalar.maxsi c0_i32_445 v698
  let v700 : BitVec 32 := Scalar.minsi c3_i32_446 v699
  let c4_i32_646 : BitVec 32 := 4#32
  let v978 : BitVec 32 := Scalar.muli v700 c4_i32_646
  let c64_i32 : BitVec 32 := 64#32
  let v979 : BitVec 32 := Scalar.muli v978 c64_i32
  let v980 : Index := Scalar.indexCast v979
  let c0_647 : Index := 0#32
  ![v980.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_456 : BitVec 32 := 3#32
  let c0_i32_455 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v713 : BitVec 32 := Scalar.maxsi c0_i32_455 v87
  let v714 : BitVec 32 := Scalar.minsi c3_i32_456 v713
  let c2_i32_457 : BitVec 32 := 2#32
  let c0_i32_458 : BitVec 32 := 0#32
  let v715 : BitVec 1 := Scalar.cmpi .eq c2_i32_457 c0_i32_458
  let c1_i32_459 : BitVec 32 := 1#32
  let v716 : BitVec 32 := Scalar.select v715 c1_i32_459 c2_i32_457
  let v717 : BitVec 32 := Scalar.remsi v714 v716
  let c0_i32_461 : BitVec 32 := 0#32
  let v719 : BitVec 1 := Scalar.cmpi .slt v717 c0_i32_461
  let c0_i32_462 : BitVec 32 := 0#32
  let v720 : BitVec 1 := Scalar.cmpi .slt v716 c0_i32_462
  let v721 : BitVec 1 := Scalar.xori v719 v720
  let c0_i32_460 : BitVec 32 := 0#32
  let v718 : BitVec 1 := Scalar.cmpi .ne v717 c0_i32_460
  let v722 : BitVec 1 := Scalar.andi v721 v718
  let v723 : BitVec 32 := Scalar.addi v717 v716
  let v724 : BitVec 32 := Scalar.select v722 v723 v717
  let c0_i32_463 : BitVec 32 := 0#32
  let v725 : BitVec 1 := Scalar.cmpi .eq v724 c0_i32_463
  let v751 : BitVec 1 := Scalar.andi v85 v725
  let v752 : BitVec 32 := Scalar.extui v751
  let c0_i32_479 : BitVec 32 := 0#32
  let v753 : BitVec 1 := Scalar.cmpi .ne v752 c0_i32_479
  v753

def k0_off121 (d0 : Dev nD) : Fin 1 → Nat :=
  let c1_i32_472 : BitVec 32 := 1#32
  let c0_i32_471 : BitVec 32 := 0#32
  let c3_i32_456 : BitVec 32 := 3#32
  let c0_i32_455 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v713 : BitVec 32 := Scalar.maxsi c0_i32_455 v87
  let v714 : BitVec 32 := Scalar.minsi c3_i32_456 v713
  let c0_i32_465 : BitVec 32 := 0#32
  let v727 : BitVec 1 := Scalar.cmpi .sgt v714 c0_i32_465
  let v728 : BitVec 32 := Scalar.extui v727
  let c0_i32_466 : BitVec 32 := 0#32
  let v729 : BitVec 1 := Scalar.cmpi .slt v714 c0_i32_466
  let v730 : BitVec 32 := Scalar.extui v729
  let v731 : BitVec 32 := Scalar.subi v728 v730
  let c2_i32_464 : BitVec 32 := 2#32
  let c0_i32_467 : BitVec 32 := 0#32
  let v732 : BitVec 1 := Scalar.cmpi .sgt c2_i32_464 c0_i32_467
  let v733 : BitVec 32 := Scalar.extui v732
  let c0_i32_468 : BitVec 32 := 0#32
  let v734 : BitVec 1 := Scalar.cmpi .slt c2_i32_464 c0_i32_468
  let v735 : BitVec 32 := Scalar.extui v734
  let v736 : BitVec 32 := Scalar.subi v733 v735
  let v737 : BitVec 1 := Scalar.cmpi .ne v731 v736
  let v738 : BitVec 32 := Scalar.remsi v714 c2_i32_464
  let c0_i32_469 : BitVec 32 := 0#32
  let v739 : BitVec 1 := Scalar.cmpi .ne v738 c0_i32_469
  let v740 : BitVec 1 := Scalar.andi v737 v739
  let v726 : BitVec 32 := Scalar.divsi v714 c2_i32_464
  let c1_i32_470 : BitVec 32 := 1#32
  let v741 : BitVec 32 := Scalar.subi v726 c1_i32_470
  let v742 : BitVec 32 := Scalar.select v740 v741 v726
  let v743 : BitVec 32 := Scalar.maxsi c0_i32_471 v742
  let v744 : BitVec 32 := Scalar.minsi c1_i32_472 v743
  ![v744.toNat]
def k0_off122 (d0 : Dev nD) : Fin 3 → Nat :=
  let c4_i32_476 : BitVec 32 := 4#32
  let c3_i32_475 : BitVec 32 := 3#32
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_473 : BitVec 32 := 2#32
  let v745 : BitVec 32 := Scalar.subi v19 c2_i32_473
  let v746 : BitVec 32 := Scalar.maxsi c0_i32_474 v745
  let v747 : BitVec 32 := Scalar.minsi c3_i32_475 v746
  let v748 : BitVec 32 := Scalar.muli c4_i32_476 v747
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_477 : BitVec 32 := 2#32
  let v749 : BitVec 32 := Scalar.xori v29 c2_i32_477
  let v750 : BitVec 32 := Scalar.addi v748 v749
  let c0_i32_645 : BitVec 32 := 0#32
  let c0_i32_646 : BitVec 32 := 0#32
  ![v750.toNat, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_456 : BitVec 32 := 3#32
  let c0_i32_455 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v713 : BitVec 32 := Scalar.maxsi c0_i32_455 v87
  let v714 : BitVec 32 := Scalar.minsi c3_i32_456 v713
  let c2_i32_457 : BitVec 32 := 2#32
  let c0_i32_458 : BitVec 32 := 0#32
  let v715 : BitVec 1 := Scalar.cmpi .eq c2_i32_457 c0_i32_458
  let c1_i32_459 : BitVec 32 := 1#32
  let v716 : BitVec 32 := Scalar.select v715 c1_i32_459 c2_i32_457
  let v717 : BitVec 32 := Scalar.remsi v714 v716
  let c0_i32_461 : BitVec 32 := 0#32
  let v719 : BitVec 1 := Scalar.cmpi .slt v717 c0_i32_461
  let c0_i32_462 : BitVec 32 := 0#32
  let v720 : BitVec 1 := Scalar.cmpi .slt v716 c0_i32_462
  let v721 : BitVec 1 := Scalar.xori v719 v720
  let c0_i32_460 : BitVec 32 := 0#32
  let v718 : BitVec 1 := Scalar.cmpi .ne v717 c0_i32_460
  let v722 : BitVec 1 := Scalar.andi v721 v718
  let v723 : BitVec 32 := Scalar.addi v717 v716
  let v724 : BitVec 32 := Scalar.select v722 v723 v717
  let c0_i32_463 : BitVec 32 := 0#32
  let v725 : BitVec 1 := Scalar.cmpi .eq v724 c0_i32_463
  let true_480 : BitVec 1 := 1#1
  let v754 : BitVec 1 := Scalar.xori v725 true_480
  let v755 : BitVec 1 := Scalar.andi v85 v754
  let v756 : BitVec 32 := Scalar.extui v755
  let c0_i32_482 : BitVec 32 := 0#32
  let v757 : BitVec 1 := Scalar.cmpi .ne v756 c0_i32_482
  v757

def k0_off123 (d0 : Dev nD) : Fin 1 → Nat :=
  let c1_i32_472 : BitVec 32 := 1#32
  let c0_i32_471 : BitVec 32 := 0#32
  let c3_i32_456 : BitVec 32 := 3#32
  let c0_i32_455 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v713 : BitVec 32 := Scalar.maxsi c0_i32_455 v87
  let v714 : BitVec 32 := Scalar.minsi c3_i32_456 v713
  let c0_i32_465 : BitVec 32 := 0#32
  let v727 : BitVec 1 := Scalar.cmpi .sgt v714 c0_i32_465
  let v728 : BitVec 32 := Scalar.extui v727
  let c0_i32_466 : BitVec 32 := 0#32
  let v729 : BitVec 1 := Scalar.cmpi .slt v714 c0_i32_466
  let v730 : BitVec 32 := Scalar.extui v729
  let v731 : BitVec 32 := Scalar.subi v728 v730
  let c2_i32_464 : BitVec 32 := 2#32
  let c0_i32_467 : BitVec 32 := 0#32
  let v732 : BitVec 1 := Scalar.cmpi .sgt c2_i32_464 c0_i32_467
  let v733 : BitVec 32 := Scalar.extui v732
  let c0_i32_468 : BitVec 32 := 0#32
  let v734 : BitVec 1 := Scalar.cmpi .slt c2_i32_464 c0_i32_468
  let v735 : BitVec 32 := Scalar.extui v734
  let v736 : BitVec 32 := Scalar.subi v733 v735
  let v737 : BitVec 1 := Scalar.cmpi .ne v731 v736
  let v738 : BitVec 32 := Scalar.remsi v714 c2_i32_464
  let c0_i32_469 : BitVec 32 := 0#32
  let v739 : BitVec 1 := Scalar.cmpi .ne v738 c0_i32_469
  let v740 : BitVec 1 := Scalar.andi v737 v739
  let v726 : BitVec 32 := Scalar.divsi v714 c2_i32_464
  let c1_i32_470 : BitVec 32 := 1#32
  let v741 : BitVec 32 := Scalar.subi v726 c1_i32_470
  let v742 : BitVec 32 := Scalar.select v740 v741 v726
  let v743 : BitVec 32 := Scalar.maxsi c0_i32_471 v742
  let v744 : BitVec 32 := Scalar.minsi c1_i32_472 v743
  ![v744.toNat]
def k0_off124 (d0 : Dev nD) : Fin 3 → Nat :=
  let c4_i32_476 : BitVec 32 := 4#32
  let c3_i32_475 : BitVec 32 := 3#32
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_473 : BitVec 32 := 2#32
  let v745 : BitVec 32 := Scalar.subi v19 c2_i32_473
  let v746 : BitVec 32 := Scalar.maxsi c0_i32_474 v745
  let v747 : BitVec 32 := Scalar.minsi c3_i32_475 v746
  let v748 : BitVec 32 := Scalar.muli c4_i32_476 v747
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_477 : BitVec 32 := 2#32
  let v749 : BitVec 32 := Scalar.xori v29 c2_i32_477
  let v750 : BitVec 32 := Scalar.addi v748 v749
  let c0_i32_645 : BitVec 32 := 0#32
  let c0_i32_646 : BitVec 32 := 0#32
  ![v750.toNat, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v758 : BitVec 32 := Scalar.extui v85
  let c0_i32_483 : BitVec 32 := 0#32
  let v759 : BitVec 1 := Scalar.cmpi .ne v758 c0_i32_483
  v759

def k0_off125 (d0 : Dev nD) : Fin 3 → Nat :=
  let c4_i32_643 : BitVec 32 := 4#32
  let c3_i32_475 : BitVec 32 := 3#32
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_473 : BitVec 32 := 2#32
  let v745 : BitVec 32 := Scalar.subi v19 c2_i32_473
  let v746 : BitVec 32 := Scalar.maxsi c0_i32_474 v745
  let v747 : BitVec 32 := Scalar.minsi c3_i32_475 v746
  let v973 : BitVec 32 := Scalar.muli c4_i32_643 v747
  let v974 : Index := Scalar.indexCast v973
  let c0_644 : Index := 0#32
  let c0_645 : Index := 0#32
  ![v974.toNat, 0, 0]
def k0_off126 (d0 : Dev nD) : Fin 2 → Nat :=
  let c3_i32_475 : BitVec 32 := 3#32
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_473 : BitVec 32 := 2#32
  let v745 : BitVec 32 := Scalar.subi v19 c2_i32_473
  let v746 : BitVec 32 := Scalar.maxsi c0_i32_474 v745
  let v747 : BitVec 32 := Scalar.minsi c3_i32_475 v746
  let c4_i32_646 : BitVec 32 := 4#32
  let v978 : BitVec 32 := Scalar.muli v747 c4_i32_646
  let c64_i32 : BitVec 32 := 64#32
  let v979 : BitVec 32 := Scalar.muli v978 c64_i32
  let v980 : Index := Scalar.indexCast v979
  let c0_647 : Index := 0#32
  ![v980.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_485 : BitVec 32 := 3#32
  let c0_i32_484 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v760 : BitVec 32 := Scalar.maxsi c0_i32_484 v93
  let v761 : BitVec 32 := Scalar.minsi c3_i32_485 v760
  let c2_i32_486 : BitVec 32 := 2#32
  let c0_i32_487 : BitVec 32 := 0#32
  let v762 : BitVec 1 := Scalar.cmpi .eq c2_i32_486 c0_i32_487
  let c1_i32_488 : BitVec 32 := 1#32
  let v763 : BitVec 32 := Scalar.select v762 c1_i32_488 c2_i32_486
  let v764 : BitVec 32 := Scalar.remsi v761 v763
  let c0_i32_490 : BitVec 32 := 0#32
  let v766 : BitVec 1 := Scalar.cmpi .slt v764 c0_i32_490
  let c0_i32_491 : BitVec 32 := 0#32
  let v767 : BitVec 1 := Scalar.cmpi .slt v763 c0_i32_491
  let v768 : BitVec 1 := Scalar.xori v766 v767
  let c0_i32_489 : BitVec 32 := 0#32
  let v765 : BitVec 1 := Scalar.cmpi .ne v764 c0_i32_489
  let v769 : BitVec 1 := Scalar.andi v768 v765
  let v770 : BitVec 32 := Scalar.addi v764 v763
  let v771 : BitVec 32 := Scalar.select v769 v770 v764
  let c0_i32_492 : BitVec 32 := 0#32
  let v772 : BitVec 1 := Scalar.cmpi .eq v771 c0_i32_492
  let v798 : BitVec 1 := Scalar.andi v91 v772
  let v799 : BitVec 32 := Scalar.extui v798
  let c0_i32_508 : BitVec 32 := 0#32
  let v800 : BitVec 1 := Scalar.cmpi .ne v799 c0_i32_508
  v800

def k0_off127 (d0 : Dev nD) : Fin 1 → Nat :=
  let c1_i32_501 : BitVec 32 := 1#32
  let c0_i32_500 : BitVec 32 := 0#32
  let c3_i32_485 : BitVec 32 := 3#32
  let c0_i32_484 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v760 : BitVec 32 := Scalar.maxsi c0_i32_484 v93
  let v761 : BitVec 32 := Scalar.minsi c3_i32_485 v760
  let c0_i32_494 : BitVec 32 := 0#32
  let v774 : BitVec 1 := Scalar.cmpi .sgt v761 c0_i32_494
  let v775 : BitVec 32 := Scalar.extui v774
  let c0_i32_495 : BitVec 32 := 0#32
  let v776 : BitVec 1 := Scalar.cmpi .slt v761 c0_i32_495
  let v777 : BitVec 32 := Scalar.extui v776
  let v778 : BitVec 32 := Scalar.subi v775 v777
  let c2_i32_493 : BitVec 32 := 2#32
  let c0_i32_496 : BitVec 32 := 0#32
  let v779 : BitVec 1 := Scalar.cmpi .sgt c2_i32_493 c0_i32_496
  let v780 : BitVec 32 := Scalar.extui v779
  let c0_i32_497 : BitVec 32 := 0#32
  let v781 : BitVec 1 := Scalar.cmpi .slt c2_i32_493 c0_i32_497
  let v782 : BitVec 32 := Scalar.extui v781
  let v783 : BitVec 32 := Scalar.subi v780 v782
  let v784 : BitVec 1 := Scalar.cmpi .ne v778 v783
  let v785 : BitVec 32 := Scalar.remsi v761 c2_i32_493
  let c0_i32_498 : BitVec 32 := 0#32
  let v786 : BitVec 1 := Scalar.cmpi .ne v785 c0_i32_498
  let v787 : BitVec 1 := Scalar.andi v784 v786
  let v773 : BitVec 32 := Scalar.divsi v761 c2_i32_493
  let c1_i32_499 : BitVec 32 := 1#32
  let v788 : BitVec 32 := Scalar.subi v773 c1_i32_499
  let v789 : BitVec 32 := Scalar.select v787 v788 v773
  let v790 : BitVec 32 := Scalar.maxsi c0_i32_500 v789
  let v791 : BitVec 32 := Scalar.minsi c1_i32_501 v790
  ![v791.toNat]
def k0_off128 (d0 : Dev nD) : Fin 3 → Nat :=
  let c4_i32_505 : BitVec 32 := 4#32
  let c3_i32_504 : BitVec 32 := 3#32
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_502 : BitVec 32 := 2#32
  let v792 : BitVec 32 := Scalar.addi v19 c2_i32_502
  let v793 : BitVec 32 := Scalar.maxsi c0_i32_503 v792
  let v794 : BitVec 32 := Scalar.minsi c3_i32_504 v793
  let v795 : BitVec 32 := Scalar.muli c4_i32_505 v794
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_506 : BitVec 32 := 2#32
  let v796 : BitVec 32 := Scalar.xori v29 c2_i32_506
  let v797 : BitVec 32 := Scalar.addi v795 v796
  let c0_i32_645 : BitVec 32 := 0#32
  let c0_i32_646 : BitVec 32 := 0#32
  ![v797.toNat, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_485 : BitVec 32 := 3#32
  let c0_i32_484 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v760 : BitVec 32 := Scalar.maxsi c0_i32_484 v93
  let v761 : BitVec 32 := Scalar.minsi c3_i32_485 v760
  let c2_i32_486 : BitVec 32 := 2#32
  let c0_i32_487 : BitVec 32 := 0#32
  let v762 : BitVec 1 := Scalar.cmpi .eq c2_i32_486 c0_i32_487
  let c1_i32_488 : BitVec 32 := 1#32
  let v763 : BitVec 32 := Scalar.select v762 c1_i32_488 c2_i32_486
  let v764 : BitVec 32 := Scalar.remsi v761 v763
  let c0_i32_490 : BitVec 32 := 0#32
  let v766 : BitVec 1 := Scalar.cmpi .slt v764 c0_i32_490
  let c0_i32_491 : BitVec 32 := 0#32
  let v767 : BitVec 1 := Scalar.cmpi .slt v763 c0_i32_491
  let v768 : BitVec 1 := Scalar.xori v766 v767
  let c0_i32_489 : BitVec 32 := 0#32
  let v765 : BitVec 1 := Scalar.cmpi .ne v764 c0_i32_489
  let v769 : BitVec 1 := Scalar.andi v768 v765
  let v770 : BitVec 32 := Scalar.addi v764 v763
  let v771 : BitVec 32 := Scalar.select v769 v770 v764
  let c0_i32_492 : BitVec 32 := 0#32
  let v772 : BitVec 1 := Scalar.cmpi .eq v771 c0_i32_492
  let true_509 : BitVec 1 := 1#1
  let v801 : BitVec 1 := Scalar.xori v772 true_509
  let v802 : BitVec 1 := Scalar.andi v91 v801
  let v803 : BitVec 32 := Scalar.extui v802
  let c0_i32_511 : BitVec 32 := 0#32
  let v804 : BitVec 1 := Scalar.cmpi .ne v803 c0_i32_511
  v804

def k0_off129 (d0 : Dev nD) : Fin 1 → Nat :=
  let c1_i32_501 : BitVec 32 := 1#32
  let c0_i32_500 : BitVec 32 := 0#32
  let c3_i32_485 : BitVec 32 := 3#32
  let c0_i32_484 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v760 : BitVec 32 := Scalar.maxsi c0_i32_484 v93
  let v761 : BitVec 32 := Scalar.minsi c3_i32_485 v760
  let c0_i32_494 : BitVec 32 := 0#32
  let v774 : BitVec 1 := Scalar.cmpi .sgt v761 c0_i32_494
  let v775 : BitVec 32 := Scalar.extui v774
  let c0_i32_495 : BitVec 32 := 0#32
  let v776 : BitVec 1 := Scalar.cmpi .slt v761 c0_i32_495
  let v777 : BitVec 32 := Scalar.extui v776
  let v778 : BitVec 32 := Scalar.subi v775 v777
  let c2_i32_493 : BitVec 32 := 2#32
  let c0_i32_496 : BitVec 32 := 0#32
  let v779 : BitVec 1 := Scalar.cmpi .sgt c2_i32_493 c0_i32_496
  let v780 : BitVec 32 := Scalar.extui v779
  let c0_i32_497 : BitVec 32 := 0#32
  let v781 : BitVec 1 := Scalar.cmpi .slt c2_i32_493 c0_i32_497
  let v782 : BitVec 32 := Scalar.extui v781
  let v783 : BitVec 32 := Scalar.subi v780 v782
  let v784 : BitVec 1 := Scalar.cmpi .ne v778 v783
  let v785 : BitVec 32 := Scalar.remsi v761 c2_i32_493
  let c0_i32_498 : BitVec 32 := 0#32
  let v786 : BitVec 1 := Scalar.cmpi .ne v785 c0_i32_498
  let v787 : BitVec 1 := Scalar.andi v784 v786
  let v773 : BitVec 32 := Scalar.divsi v761 c2_i32_493
  let c1_i32_499 : BitVec 32 := 1#32
  let v788 : BitVec 32 := Scalar.subi v773 c1_i32_499
  let v789 : BitVec 32 := Scalar.select v787 v788 v773
  let v790 : BitVec 32 := Scalar.maxsi c0_i32_500 v789
  let v791 : BitVec 32 := Scalar.minsi c1_i32_501 v790
  ![v791.toNat]
def k0_off130 (d0 : Dev nD) : Fin 3 → Nat :=
  let c4_i32_505 : BitVec 32 := 4#32
  let c3_i32_504 : BitVec 32 := 3#32
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_502 : BitVec 32 := 2#32
  let v792 : BitVec 32 := Scalar.addi v19 c2_i32_502
  let v793 : BitVec 32 := Scalar.maxsi c0_i32_503 v792
  let v794 : BitVec 32 := Scalar.minsi c3_i32_504 v793
  let v795 : BitVec 32 := Scalar.muli c4_i32_505 v794
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_506 : BitVec 32 := 2#32
  let v796 : BitVec 32 := Scalar.xori v29 c2_i32_506
  let v797 : BitVec 32 := Scalar.addi v795 v796
  let c0_i32_645 : BitVec 32 := 0#32
  let c0_i32_646 : BitVec 32 := 0#32
  ![v797.toNat, 0, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v805 : BitVec 32 := Scalar.extui v91
  let c0_i32_512 : BitVec 32 := 0#32
  let v806 : BitVec 1 := Scalar.cmpi .ne v805 c0_i32_512
  v806

def k0_off131 (d0 : Dev nD) : Fin 3 → Nat :=
  let c4_i32_643 : BitVec 32 := 4#32
  let c3_i32_504 : BitVec 32 := 3#32
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_502 : BitVec 32 := 2#32
  let v792 : BitVec 32 := Scalar.addi v19 c2_i32_502
  let v793 : BitVec 32 := Scalar.maxsi c0_i32_503 v792
  let v794 : BitVec 32 := Scalar.minsi c3_i32_504 v793
  let v973 : BitVec 32 := Scalar.muli c4_i32_643 v794
  let v974 : Index := Scalar.indexCast v973
  let c0_644 : Index := 0#32
  let c0_645 : Index := 0#32
  ![v974.toNat, 0, 0]
def k0_off132 (d0 : Dev nD) : Fin 2 → Nat :=
  let c3_i32_504 : BitVec 32 := 3#32
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_502 : BitVec 32 := 2#32
  let v792 : BitVec 32 := Scalar.addi v19 c2_i32_502
  let v793 : BitVec 32 := Scalar.maxsi c0_i32_503 v792
  let v794 : BitVec 32 := Scalar.minsi c3_i32_504 v793
  let c4_i32_646 : BitVec 32 := 4#32
  let v978 : BitVec 32 := Scalar.muli v794 c4_i32_646
  let c64_i32 : BitVec 32 := 64#32
  let v979 : BitVec 32 := Scalar.muli v978 c64_i32
  let v980 : Index := Scalar.indexCast v979
  let c0_647 : Index := 0#32
  ![v980.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_514 : BitVec 32 := 3#32
  let c0_i32_513 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v807 : BitVec 32 := Scalar.maxsi c0_i32_513 v99
  let v808 : BitVec 32 := Scalar.minsi c3_i32_514 v807
  let c2_i32_515 : BitVec 32 := 2#32
  let c0_i32_516 : BitVec 32 := 0#32
  let v809 : BitVec 1 := Scalar.cmpi .eq c2_i32_515 c0_i32_516
  let c1_i32_517 : BitVec 32 := 1#32
  let v810 : BitVec 32 := Scalar.select v809 c1_i32_517 c2_i32_515
  let v811 : BitVec 32 := Scalar.remsi v808 v810
  let c0_i32_519 : BitVec 32 := 0#32
  let v813 : BitVec 1 := Scalar.cmpi .slt v811 c0_i32_519
  let c0_i32_520 : BitVec 32 := 0#32
  let v814 : BitVec 1 := Scalar.cmpi .slt v810 c0_i32_520
  let v815 : BitVec 1 := Scalar.xori v813 v814
  let c0_i32_518 : BitVec 32 := 0#32
  let v812 : BitVec 1 := Scalar.cmpi .ne v811 c0_i32_518
  let v816 : BitVec 1 := Scalar.andi v815 v812
  let v817 : BitVec 32 := Scalar.addi v811 v810
  let v818 : BitVec 32 := Scalar.select v816 v817 v811
  let c0_i32_521 : BitVec 32 := 0#32
  let v819 : BitVec 1 := Scalar.cmpi .eq v818 c0_i32_521
  let v845 : BitVec 1 := Scalar.andi v97 v819
  let v846 : BitVec 32 := Scalar.extui v845
  let c0_i32_537 : BitVec 32 := 0#32
  let v847 : BitVec 1 := Scalar.cmpi .ne v846 c0_i32_537
  v847

def k0_off133 (d0 : Dev nD) : Fin 1 → Nat :=
  let c1_i32_530 : BitVec 32 := 1#32
  let c0_i32_529 : BitVec 32 := 0#32
  let c3_i32_514 : BitVec 32 := 3#32
  let c0_i32_513 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v807 : BitVec 32 := Scalar.maxsi c0_i32_513 v99
  let v808 : BitVec 32 := Scalar.minsi c3_i32_514 v807
  let c0_i32_523 : BitVec 32 := 0#32
  let v821 : BitVec 1 := Scalar.cmpi .sgt v808 c0_i32_523
  let v822 : BitVec 32 := Scalar.extui v821
  let c0_i32_524 : BitVec 32 := 0#32
  let v823 : BitVec 1 := Scalar.cmpi .slt v808 c0_i32_524
  let v824 : BitVec 32 := Scalar.extui v823
  let v825 : BitVec 32 := Scalar.subi v822 v824
  let c2_i32_522 : BitVec 32 := 2#32
  let c0_i32_525 : BitVec 32 := 0#32
  let v826 : BitVec 1 := Scalar.cmpi .sgt c2_i32_522 c0_i32_525
  let v827 : BitVec 32 := Scalar.extui v826
  let c0_i32_526 : BitVec 32 := 0#32
  let v828 : BitVec 1 := Scalar.cmpi .slt c2_i32_522 c0_i32_526
  let v829 : BitVec 32 := Scalar.extui v828
  let v830 : BitVec 32 := Scalar.subi v827 v829
  let v831 : BitVec 1 := Scalar.cmpi .ne v825 v830
  let v832 : BitVec 32 := Scalar.remsi v808 c2_i32_522
  let c0_i32_527 : BitVec 32 := 0#32
  let v833 : BitVec 1 := Scalar.cmpi .ne v832 c0_i32_527
  let v834 : BitVec 1 := Scalar.andi v831 v833
  let v820 : BitVec 32 := Scalar.divsi v808 c2_i32_522
  let c1_i32_528 : BitVec 32 := 1#32
  let v835 : BitVec 32 := Scalar.subi v820 c1_i32_528
  let v836 : BitVec 32 := Scalar.select v834 v835 v820
  let v837 : BitVec 32 := Scalar.maxsi c0_i32_529 v836
  let v838 : BitVec 32 := Scalar.minsi c1_i32_530 v837
  ![v838.toNat]
def k0_off134 (d0 : Dev nD) : Fin 3 → Nat :=
  let c4_i32_534 : BitVec 32 := 4#32
  let c3_i32_533 : BitVec 32 := 3#32
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_531 : BitVec 32 := 3#32
  let v839 : BitVec 32 := Scalar.subi v19 c3_i32_531
  let v840 : BitVec 32 := Scalar.maxsi c0_i32_532 v839
  let v841 : BitVec 32 := Scalar.minsi c3_i32_533 v840
  let v842 : BitVec 32 := Scalar.muli c4_i32_534 v841
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_535 : BitVec 32 := 2#32
  let v843 : BitVec 32 := Scalar.xori v29 c2_i32_535
  let v844 : BitVec 32 := Scalar.addi v842 v843
  let c0_i32_645 : BitVec 32 := 0#32
  let c0_i32_646 : BitVec 32 := 0#32
  ![v844.toNat, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_514 : BitVec 32 := 3#32
  let c0_i32_513 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v807 : BitVec 32 := Scalar.maxsi c0_i32_513 v99
  let v808 : BitVec 32 := Scalar.minsi c3_i32_514 v807
  let c2_i32_515 : BitVec 32 := 2#32
  let c0_i32_516 : BitVec 32 := 0#32
  let v809 : BitVec 1 := Scalar.cmpi .eq c2_i32_515 c0_i32_516
  let c1_i32_517 : BitVec 32 := 1#32
  let v810 : BitVec 32 := Scalar.select v809 c1_i32_517 c2_i32_515
  let v811 : BitVec 32 := Scalar.remsi v808 v810
  let c0_i32_519 : BitVec 32 := 0#32
  let v813 : BitVec 1 := Scalar.cmpi .slt v811 c0_i32_519
  let c0_i32_520 : BitVec 32 := 0#32
  let v814 : BitVec 1 := Scalar.cmpi .slt v810 c0_i32_520
  let v815 : BitVec 1 := Scalar.xori v813 v814
  let c0_i32_518 : BitVec 32 := 0#32
  let v812 : BitVec 1 := Scalar.cmpi .ne v811 c0_i32_518
  let v816 : BitVec 1 := Scalar.andi v815 v812
  let v817 : BitVec 32 := Scalar.addi v811 v810
  let v818 : BitVec 32 := Scalar.select v816 v817 v811
  let c0_i32_521 : BitVec 32 := 0#32
  let v819 : BitVec 1 := Scalar.cmpi .eq v818 c0_i32_521
  let true_538 : BitVec 1 := 1#1
  let v848 : BitVec 1 := Scalar.xori v819 true_538
  let v849 : BitVec 1 := Scalar.andi v97 v848
  let v850 : BitVec 32 := Scalar.extui v849
  let c0_i32_540 : BitVec 32 := 0#32
  let v851 : BitVec 1 := Scalar.cmpi .ne v850 c0_i32_540
  v851

def k0_off135 (d0 : Dev nD) : Fin 1 → Nat :=
  let c1_i32_530 : BitVec 32 := 1#32
  let c0_i32_529 : BitVec 32 := 0#32
  let c3_i32_514 : BitVec 32 := 3#32
  let c0_i32_513 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v807 : BitVec 32 := Scalar.maxsi c0_i32_513 v99
  let v808 : BitVec 32 := Scalar.minsi c3_i32_514 v807
  let c0_i32_523 : BitVec 32 := 0#32
  let v821 : BitVec 1 := Scalar.cmpi .sgt v808 c0_i32_523
  let v822 : BitVec 32 := Scalar.extui v821
  let c0_i32_524 : BitVec 32 := 0#32
  let v823 : BitVec 1 := Scalar.cmpi .slt v808 c0_i32_524
  let v824 : BitVec 32 := Scalar.extui v823
  let v825 : BitVec 32 := Scalar.subi v822 v824
  let c2_i32_522 : BitVec 32 := 2#32
  let c0_i32_525 : BitVec 32 := 0#32
  let v826 : BitVec 1 := Scalar.cmpi .sgt c2_i32_522 c0_i32_525
  let v827 : BitVec 32 := Scalar.extui v826
  let c0_i32_526 : BitVec 32 := 0#32
  let v828 : BitVec 1 := Scalar.cmpi .slt c2_i32_522 c0_i32_526
  let v829 : BitVec 32 := Scalar.extui v828
  let v830 : BitVec 32 := Scalar.subi v827 v829
  let v831 : BitVec 1 := Scalar.cmpi .ne v825 v830
  let v832 : BitVec 32 := Scalar.remsi v808 c2_i32_522
  let c0_i32_527 : BitVec 32 := 0#32
  let v833 : BitVec 1 := Scalar.cmpi .ne v832 c0_i32_527
  let v834 : BitVec 1 := Scalar.andi v831 v833
  let v820 : BitVec 32 := Scalar.divsi v808 c2_i32_522
  let c1_i32_528 : BitVec 32 := 1#32
  let v835 : BitVec 32 := Scalar.subi v820 c1_i32_528
  let v836 : BitVec 32 := Scalar.select v834 v835 v820
  let v837 : BitVec 32 := Scalar.maxsi c0_i32_529 v836
  let v838 : BitVec 32 := Scalar.minsi c1_i32_530 v837
  ![v838.toNat]
def k0_off136 (d0 : Dev nD) : Fin 3 → Nat :=
  let c4_i32_534 : BitVec 32 := 4#32
  let c3_i32_533 : BitVec 32 := 3#32
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_531 : BitVec 32 := 3#32
  let v839 : BitVec 32 := Scalar.subi v19 c3_i32_531
  let v840 : BitVec 32 := Scalar.maxsi c0_i32_532 v839
  let v841 : BitVec 32 := Scalar.minsi c3_i32_533 v840
  let v842 : BitVec 32 := Scalar.muli c4_i32_534 v841
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_535 : BitVec 32 := 2#32
  let v843 : BitVec 32 := Scalar.xori v29 c2_i32_535
  let v844 : BitVec 32 := Scalar.addi v842 v843
  let c0_i32_645 : BitVec 32 := 0#32
  let c0_i32_646 : BitVec 32 := 0#32
  ![v844.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v852 : BitVec 32 := Scalar.extui v97
  let c0_i32_541 : BitVec 32 := 0#32
  let v853 : BitVec 1 := Scalar.cmpi .ne v852 c0_i32_541
  v853

def k0_off137 (d0 : Dev nD) : Fin 3 → Nat :=
  let c4_i32_643 : BitVec 32 := 4#32
  let c3_i32_533 : BitVec 32 := 3#32
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_531 : BitVec 32 := 3#32
  let v839 : BitVec 32 := Scalar.subi v19 c3_i32_531
  let v840 : BitVec 32 := Scalar.maxsi c0_i32_532 v839
  let v841 : BitVec 32 := Scalar.minsi c3_i32_533 v840
  let v973 : BitVec 32 := Scalar.muli c4_i32_643 v841
  let v974 : Index := Scalar.indexCast v973
  let c0_644 : Index := 0#32
  let c0_645 : Index := 0#32
  ![v974.toNat, 0, 0]
def k0_off138 (d0 : Dev nD) : Fin 2 → Nat :=
  let c3_i32_533 : BitVec 32 := 3#32
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_531 : BitVec 32 := 3#32
  let v839 : BitVec 32 := Scalar.subi v19 c3_i32_531
  let v840 : BitVec 32 := Scalar.maxsi c0_i32_532 v839
  let v841 : BitVec 32 := Scalar.minsi c3_i32_533 v840
  let c4_i32_646 : BitVec 32 := 4#32
  let v978 : BitVec 32 := Scalar.muli v841 c4_i32_646
  let c64_i32 : BitVec 32 := 64#32
  let v979 : BitVec 32 := Scalar.muli v978 c64_i32
  let v980 : Index := Scalar.indexCast v979
  let c0_647 : Index := 0#32
  ![v980.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_543 : BitVec 32 := 3#32
  let c0_i32_542 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v854 : BitVec 32 := Scalar.maxsi c0_i32_542 v105
  let v855 : BitVec 32 := Scalar.minsi c3_i32_543 v854
  let c2_i32_544 : BitVec 32 := 2#32
  let c0_i32_545 : BitVec 32 := 0#32
  let v856 : BitVec 1 := Scalar.cmpi .eq c2_i32_544 c0_i32_545
  let c1_i32_546 : BitVec 32 := 1#32
  let v857 : BitVec 32 := Scalar.select v856 c1_i32_546 c2_i32_544
  let v858 : BitVec 32 := Scalar.remsi v855 v857
  let c0_i32_548 : BitVec 32 := 0#32
  let v860 : BitVec 1 := Scalar.cmpi .slt v858 c0_i32_548
  let c0_i32_549 : BitVec 32 := 0#32
  let v861 : BitVec 1 := Scalar.cmpi .slt v857 c0_i32_549
  let v862 : BitVec 1 := Scalar.xori v860 v861
  let c0_i32_547 : BitVec 32 := 0#32
  let v859 : BitVec 1 := Scalar.cmpi .ne v858 c0_i32_547
  let v863 : BitVec 1 := Scalar.andi v862 v859
  let v864 : BitVec 32 := Scalar.addi v858 v857
  let v865 : BitVec 32 := Scalar.select v863 v864 v858
  let c0_i32_550 : BitVec 32 := 0#32
  let v866 : BitVec 1 := Scalar.cmpi .eq v865 c0_i32_550
  let v892 : BitVec 1 := Scalar.andi v103 v866
  let v893 : BitVec 32 := Scalar.extui v892
  let c0_i32_566 : BitVec 32 := 0#32
  let v894 : BitVec 1 := Scalar.cmpi .ne v893 c0_i32_566
  v894

def k0_off139 (d0 : Dev nD) : Fin 1 → Nat :=
  let c1_i32_559 : BitVec 32 := 1#32
  let c0_i32_558 : BitVec 32 := 0#32
  let c3_i32_543 : BitVec 32 := 3#32
  let c0_i32_542 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v104 : BitVec 32 := Scalar.extui v103
  let v105 : BitVec 32 := Scalar.addi v99 v104
  let v854 : BitVec 32 := Scalar.maxsi c0_i32_542 v105
  let v855 : BitVec 32 := Scalar.minsi c3_i32_543 v854
  let c0_i32_552 : BitVec 32 := 0#32
  let v868 : BitVec 1 := Scalar.cmpi .sgt v855 c0_i32_552
  let v869 : BitVec 32 := Scalar.extui v868
  let c0_i32_553 : BitVec 32 := 0#32
  let v870 : BitVec 1 := Scalar.cmpi .slt v855 c0_i32_553
  let v871 : BitVec 32 := Scalar.extui v870
  let v872 : BitVec 32 := Scalar.subi v869 v871
  let c2_i32_551 : BitVec 32 := 2#32
  let c0_i32_554 : BitVec 32 := 0#32
  let v873 : BitVec 1 := Scalar.cmpi .sgt c2_i32_551 c0_i32_554
  let v874 : BitVec 32 := Scalar.extui v873
  let c0_i32_555 : BitVec 32 := 0#32
  let v875 : BitVec 1 := Scalar.cmpi .slt c2_i32_551 c0_i32_555
  let v876 : BitVec 32 := Scalar.extui v875
  let v877 : BitVec 32 := Scalar.subi v874 v876
  let v878 : BitVec 1 := Scalar.cmpi .ne v872 v877
  let v879 : BitVec 32 := Scalar.remsi v855 c2_i32_551
  let c0_i32_556 : BitVec 32 := 0#32
  let v880 : BitVec 1 := Scalar.cmpi .ne v879 c0_i32_556
  let v881 : BitVec 1 := Scalar.andi v878 v880
  let v867 : BitVec 32 := Scalar.divsi v855 c2_i32_551
  let c1_i32_557 : BitVec 32 := 1#32
  let v882 : BitVec 32 := Scalar.subi v867 c1_i32_557
  let v883 : BitVec 32 := Scalar.select v881 v882 v867
  let v884 : BitVec 32 := Scalar.maxsi c0_i32_558 v883
  let v885 : BitVec 32 := Scalar.minsi c1_i32_559 v884
  ![v885.toNat]
def k0_off140 (d0 : Dev nD) : Fin 3 → Nat :=
  let c4_i32_563 : BitVec 32 := 4#32
  let c3_i32_562 : BitVec 32 := 3#32
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_560 : BitVec 32 := 3#32
  let v886 : BitVec 32 := Scalar.addi v19 c3_i32_560
  let v887 : BitVec 32 := Scalar.maxsi c0_i32_561 v886
  let v888 : BitVec 32 := Scalar.minsi c3_i32_562 v887
  let v889 : BitVec 32 := Scalar.muli c4_i32_563 v888
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_564 : BitVec 32 := 2#32
  let v890 : BitVec 32 := Scalar.xori v29 c2_i32_564
  let v891 : BitVec 32 := Scalar.addi v889 v890
  let c0_i32_645 : BitVec 32 := 0#32
  let c0_i32_646 : BitVec 32 := 0#32
  ![v891.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_543 : BitVec 32 := 3#32
  let c0_i32_542 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v854 : BitVec 32 := Scalar.maxsi c0_i32_542 v105
  let v855 : BitVec 32 := Scalar.minsi c3_i32_543 v854
  let c2_i32_544 : BitVec 32 := 2#32
  let c0_i32_545 : BitVec 32 := 0#32
  let v856 : BitVec 1 := Scalar.cmpi .eq c2_i32_544 c0_i32_545
  let c1_i32_546 : BitVec 32 := 1#32
  let v857 : BitVec 32 := Scalar.select v856 c1_i32_546 c2_i32_544
  let v858 : BitVec 32 := Scalar.remsi v855 v857
  let c0_i32_548 : BitVec 32 := 0#32
  let v860 : BitVec 1 := Scalar.cmpi .slt v858 c0_i32_548
  let c0_i32_549 : BitVec 32 := 0#32
  let v861 : BitVec 1 := Scalar.cmpi .slt v857 c0_i32_549
  let v862 : BitVec 1 := Scalar.xori v860 v861
  let c0_i32_547 : BitVec 32 := 0#32
  let v859 : BitVec 1 := Scalar.cmpi .ne v858 c0_i32_547
  let v863 : BitVec 1 := Scalar.andi v862 v859
  let v864 : BitVec 32 := Scalar.addi v858 v857
  let v865 : BitVec 32 := Scalar.select v863 v864 v858
  let c0_i32_550 : BitVec 32 := 0#32
  let v866 : BitVec 1 := Scalar.cmpi .eq v865 c0_i32_550
  let true_567 : BitVec 1 := 1#1
  let v895 : BitVec 1 := Scalar.xori v866 true_567
  let v896 : BitVec 1 := Scalar.andi v103 v895
  let v897 : BitVec 32 := Scalar.extui v896
  let c0_i32_569 : BitVec 32 := 0#32
  let v898 : BitVec 1 := Scalar.cmpi .ne v897 c0_i32_569
  v898

def k0_off141 (d0 : Dev nD) : Fin 1 → Nat :=
  let c1_i32_559 : BitVec 32 := 1#32
  let c0_i32_558 : BitVec 32 := 0#32
  let c3_i32_543 : BitVec 32 := 3#32
  let c0_i32_542 : BitVec 32 := 0#32
  let c_m1_i32 : BitVec 32 := 4294967295#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v104 : BitVec 32 := Scalar.extui v103
  let v105 : BitVec 32 := Scalar.addi v99 v104
  let v854 : BitVec 32 := Scalar.maxsi c0_i32_542 v105
  let v855 : BitVec 32 := Scalar.minsi c3_i32_543 v854
  let c0_i32_552 : BitVec 32 := 0#32
  let v868 : BitVec 1 := Scalar.cmpi .sgt v855 c0_i32_552
  let v869 : BitVec 32 := Scalar.extui v868
  let c0_i32_553 : BitVec 32 := 0#32
  let v870 : BitVec 1 := Scalar.cmpi .slt v855 c0_i32_553
  let v871 : BitVec 32 := Scalar.extui v870
  let v872 : BitVec 32 := Scalar.subi v869 v871
  let c2_i32_551 : BitVec 32 := 2#32
  let c0_i32_554 : BitVec 32 := 0#32
  let v873 : BitVec 1 := Scalar.cmpi .sgt c2_i32_551 c0_i32_554
  let v874 : BitVec 32 := Scalar.extui v873
  let c0_i32_555 : BitVec 32 := 0#32
  let v875 : BitVec 1 := Scalar.cmpi .slt c2_i32_551 c0_i32_555
  let v876 : BitVec 32 := Scalar.extui v875
  let v877 : BitVec 32 := Scalar.subi v874 v876
  let v878 : BitVec 1 := Scalar.cmpi .ne v872 v877
  let v879 : BitVec 32 := Scalar.remsi v855 c2_i32_551
  let c0_i32_556 : BitVec 32 := 0#32
  let v880 : BitVec 1 := Scalar.cmpi .ne v879 c0_i32_556
  let v881 : BitVec 1 := Scalar.andi v878 v880
  let v867 : BitVec 32 := Scalar.divsi v855 c2_i32_551
  let c1_i32_557 : BitVec 32 := 1#32
  let v882 : BitVec 32 := Scalar.subi v867 c1_i32_557
  let v883 : BitVec 32 := Scalar.select v881 v882 v867
  let v884 : BitVec 32 := Scalar.maxsi c0_i32_558 v883
  let v885 : BitVec 32 := Scalar.minsi c1_i32_559 v884
  ![v885.toNat]
def k0_off142 (d0 : Dev nD) : Fin 3 → Nat :=
  let c4_i32_563 : BitVec 32 := 4#32
  let c3_i32_562 : BitVec 32 := 3#32
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_560 : BitVec 32 := 3#32
  let v886 : BitVec 32 := Scalar.addi v19 c3_i32_560
  let v887 : BitVec 32 := Scalar.maxsi c0_i32_561 v886
  let v888 : BitVec 32 := Scalar.minsi c3_i32_562 v887
  let v889 : BitVec 32 := Scalar.muli c4_i32_563 v888
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_564 : BitVec 32 := 2#32
  let v890 : BitVec 32 := Scalar.xori v29 c2_i32_564
  let v891 : BitVec 32 := Scalar.addi v889 v890
  let c0_i32_645 : BitVec 32 := 0#32
  let c0_i32_646 : BitVec 32 := 0#32
  ![v891.toNat, 0, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v899 : BitVec 32 := Scalar.extui v103
  let c0_i32_570 : BitVec 32 := 0#32
  let v900 : BitVec 1 := Scalar.cmpi .ne v899 c0_i32_570
  v900

def k0_off143 (d0 : Dev nD) : Fin 3 → Nat :=
  let c4_i32_643 : BitVec 32 := 4#32
  let c3_i32_562 : BitVec 32 := 3#32
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_560 : BitVec 32 := 3#32
  let v886 : BitVec 32 := Scalar.addi v19 c3_i32_560
  let v887 : BitVec 32 := Scalar.maxsi c0_i32_561 v886
  let v888 : BitVec 32 := Scalar.minsi c3_i32_562 v887
  let v973 : BitVec 32 := Scalar.muli c4_i32_643 v888
  let v974 : Index := Scalar.indexCast v973
  let c0_644 : Index := 0#32
  let c0_645 : Index := 0#32
  ![v974.toNat, 0, 0]
def k0_off144 (d0 : Dev nD) : Fin 2 → Nat :=
  let c3_i32_562 : BitVec 32 := 3#32
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_560 : BitVec 32 := 3#32
  let v886 : BitVec 32 := Scalar.addi v19 c3_i32_560
  let v887 : BitVec 32 := Scalar.maxsi c0_i32_561 v886
  let v888 : BitVec 32 := Scalar.minsi c3_i32_562 v887
  let c4_i32_646 : BitVec 32 := 4#32
  let v978 : BitVec 32 := Scalar.muli v888 c4_i32_646
  let c64_i32 : BitVec 32 := 64#32
  let v979 : BitVec 32 := Scalar.muli v978 c64_i32
  let v980 : Index := Scalar.indexCast v979
  let c0_647 : Index := 0#32
  ![v980.toNat, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_64 : BitVec 32 := 0#32
  let v107 : BitVec 1 := Scalar.cmpi .ne v19 c0_i32_64
  let v901 : BitVec 32 := Scalar.extui v107
  let c0_i32_572 : BitVec 32 := 0#32
  let v902 : BitVec 1 := Scalar.cmpi .ne v901 c0_i32_572
  v902

def k0_off145 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let c0_i32_645 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_68 : BitVec 32 := 1#32
  let v111 : BitVec 1 := Scalar.cmpi .ne v19 c1_i32_68
  let v903 : BitVec 32 := Scalar.extui v111
  let c0_i32_574 : BitVec 32 := 0#32
  let v904 : BitVec 1 := Scalar.cmpi .ne v903 c0_i32_574
  v904

def k0_off146 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let c0_i32_645 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_72 : BitVec 32 := 2#32
  let v115 : BitVec 1 := Scalar.cmpi .ne v19 c2_i32_72
  let v905 : BitVec 32 := Scalar.extui v115
  let c0_i32_576 : BitVec 32 := 0#32
  let v906 : BitVec 1 := Scalar.cmpi .ne v905 c0_i32_576
  v906

def k0_off147 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let c0_i32_645 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_76 : BitVec 32 := 3#32
  let v119 : BitVec 1 := Scalar.cmpi .ne v19 c3_i32_76
  let v907 : BitVec 32 := Scalar.extui v119
  let c0_i32_578 : BitVec 32 := 0#32
  let v908 : BitVec 1 := Scalar.cmpi .ne v907 c0_i32_578
  v908

def k0_off148 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_644 : BitVec 32 := 0#32
  let c0_i32_645 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v921 : BitVec 32 := Scalar.extui v73
  let c0_i32_592 : BitVec 32 := 0#32
  let v922 : BitVec 1 := Scalar.cmpi .ne v921 c0_i32_592
  v922

def k0_off149 (d0 : Dev nD) : Fin 3 → Nat :=
  let c4_i32_95 : BitVec 32 := 4#32
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  let v145 : BitVec 32 := Scalar.muli c4_i32_95 v144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi v145 v29
  let c0_i32_644 : BitVec 32 := 0#32
  let c0_i32_645 : BitVec 32 := 0#32
  ![v146.toNat, 0, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v923 : BitVec 32 := Scalar.extui v73
  let c0_i32_594 : BitVec 32 := 0#32
  let v924 : BitVec 1 := Scalar.cmpi .ne v923 c0_i32_594
  v924

def k0_off150 (d0 : Dev nD) : Fin 3 → Nat :=
  let c4_i32_95 : BitVec 32 := 4#32
  let c3_i32_94 : BitVec 32 := 3#32
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_92 : BitVec 32 := 1#32
  let v142 : BitVec 32 := Scalar.subi v19 c1_i32_92
  let v143 : BitVec 32 := Scalar.maxsi c0_i32_93 v142
  let v144 : BitVec 32 := Scalar.minsi c3_i32_94 v143
  let v145 : BitVec 32 := Scalar.muli c4_i32_95 v144
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v146 : BitVec 32 := Scalar.addi v145 v29
  let c0_i32_644 : BitVec 32 := 0#32
  let c0_i32_645 : BitVec 32 := 0#32
  ![v146.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v925 : BitVec 32 := Scalar.extui v79
  let c0_i32_596 : BitVec 32 := 0#32
  let v926 : BitVec 1 := Scalar.cmpi .ne v925 c0_i32_596
  v926

def k0_off151 (d0 : Dev nD) : Fin 3 → Nat :=
  let c4_i32_104 : BitVec 32 := 4#32
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  let v156 : BitVec 32 := Scalar.muli c4_i32_104 v155
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v157 : BitVec 32 := Scalar.addi v156 v29
  let c0_i32_644 : BitVec 32 := 0#32
  let c0_i32_645 : BitVec 32 := 0#32
  ![v157.toNat, 0, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v927 : BitVec 32 := Scalar.extui v79
  let c0_i32_598 : BitVec 32 := 0#32
  let v928 : BitVec 1 := Scalar.cmpi .ne v927 c0_i32_598
  v928

def k0_off152 (d0 : Dev nD) : Fin 3 → Nat :=
  let c4_i32_104 : BitVec 32 := 4#32
  let c3_i32_103 : BitVec 32 := 3#32
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_101 : BitVec 32 := 1#32
  let v153 : BitVec 32 := Scalar.addi v19 c1_i32_101
  let v154 : BitVec 32 := Scalar.maxsi c0_i32_102 v153
  let v155 : BitVec 32 := Scalar.minsi c3_i32_103 v154
  let v156 : BitVec 32 := Scalar.muli c4_i32_104 v155
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v157 : BitVec 32 := Scalar.addi v156 v29
  let c0_i32_644 : BitVec 32 := 0#32
  let c0_i32_645 : BitVec 32 := 0#32
  ![v157.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v929 : BitVec 32 := Scalar.extui v85
  let c0_i32_600 : BitVec 32 := 0#32
  let v930 : BitVec 1 := Scalar.cmpi .ne v929 c0_i32_600
  v930

def k0_off153 (d0 : Dev nD) : Fin 3 → Nat :=
  let c4_i32_113 : BitVec 32 := 4#32
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  let v167 : BitVec 32 := Scalar.muli c4_i32_113 v166
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v168 : BitVec 32 := Scalar.addi v167 v29
  let c0_i32_644 : BitVec 32 := 0#32
  let c0_i32_645 : BitVec 32 := 0#32
  ![v168.toNat, 0, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v931 : BitVec 32 := Scalar.extui v85
  let c0_i32_602 : BitVec 32 := 0#32
  let v932 : BitVec 1 := Scalar.cmpi .ne v931 c0_i32_602
  v932

def k0_off154 (d0 : Dev nD) : Fin 3 → Nat :=
  let c4_i32_113 : BitVec 32 := 4#32
  let c3_i32_112 : BitVec 32 := 3#32
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_110 : BitVec 32 := 2#32
  let v164 : BitVec 32 := Scalar.subi v19 c2_i32_110
  let v165 : BitVec 32 := Scalar.maxsi c0_i32_111 v164
  let v166 : BitVec 32 := Scalar.minsi c3_i32_112 v165
  let v167 : BitVec 32 := Scalar.muli c4_i32_113 v166
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v168 : BitVec 32 := Scalar.addi v167 v29
  let c0_i32_644 : BitVec 32 := 0#32
  let c0_i32_645 : BitVec 32 := 0#32
  ![v168.toNat, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v933 : BitVec 32 := Scalar.extui v91
  let c0_i32_604 : BitVec 32 := 0#32
  let v934 : BitVec 1 := Scalar.cmpi .ne v933 c0_i32_604
  v934

def k0_off155 (d0 : Dev nD) : Fin 3 → Nat :=
  let c4_i32_121 : BitVec 32 := 4#32
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  let v178 : BitVec 32 := Scalar.muli c4_i32_121 v177
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v179 : BitVec 32 := Scalar.addi v178 v29
  let c0_i32_644 : BitVec 32 := 0#32
  let c0_i32_645 : BitVec 32 := 0#32
  ![v179.toNat, 0, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v935 : BitVec 32 := Scalar.extui v91
  let c0_i32_606 : BitVec 32 := 0#32
  let v936 : BitVec 1 := Scalar.cmpi .ne v935 c0_i32_606
  v936

def k0_off156 (d0 : Dev nD) : Fin 3 → Nat :=
  let c4_i32_121 : BitVec 32 := 4#32
  let c3_i32_120 : BitVec 32 := 3#32
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_118 : BitVec 32 := 2#32
  let v175 : BitVec 32 := Scalar.addi v19 c2_i32_118
  let v176 : BitVec 32 := Scalar.maxsi c0_i32_119 v175
  let v177 : BitVec 32 := Scalar.minsi c3_i32_120 v176
  let v178 : BitVec 32 := Scalar.muli c4_i32_121 v177
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v179 : BitVec 32 := Scalar.addi v178 v29
  let c0_i32_644 : BitVec 32 := 0#32
  let c0_i32_645 : BitVec 32 := 0#32
  ![v179.toNat, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v937 : BitVec 32 := Scalar.extui v97
  let c0_i32_608 : BitVec 32 := 0#32
  let v938 : BitVec 1 := Scalar.cmpi .ne v937 c0_i32_608
  v938

def k0_off157 (d0 : Dev nD) : Fin 3 → Nat :=
  let c4_i32_130 : BitVec 32 := 4#32
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  let v189 : BitVec 32 := Scalar.muli c4_i32_130 v188
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v190 : BitVec 32 := Scalar.addi v189 v29
  let c0_i32_644 : BitVec 32 := 0#32
  let c0_i32_645 : BitVec 32 := 0#32
  ![v190.toNat, 0, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v939 : BitVec 32 := Scalar.extui v97
  let c0_i32_610 : BitVec 32 := 0#32
  let v940 : BitVec 1 := Scalar.cmpi .ne v939 c0_i32_610
  v940

def k0_off158 (d0 : Dev nD) : Fin 3 → Nat :=
  let c4_i32_130 : BitVec 32 := 4#32
  let c3_i32_129 : BitVec 32 := 3#32
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_127 : BitVec 32 := 3#32
  let v186 : BitVec 32 := Scalar.subi v19 c3_i32_127
  let v187 : BitVec 32 := Scalar.maxsi c0_i32_128 v186
  let v188 : BitVec 32 := Scalar.minsi c3_i32_129 v187
  let v189 : BitVec 32 := Scalar.muli c4_i32_130 v188
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v190 : BitVec 32 := Scalar.addi v189 v29
  let c0_i32_644 : BitVec 32 := 0#32
  let c0_i32_645 : BitVec 32 := 0#32
  ![v190.toNat, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v941 : BitVec 32 := Scalar.extui v103
  let c0_i32_612 : BitVec 32 := 0#32
  let v942 : BitVec 1 := Scalar.cmpi .ne v941 c0_i32_612
  v942

def k0_off159 (d0 : Dev nD) : Fin 3 → Nat :=
  let c4_i32_138 : BitVec 32 := 4#32
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  let v200 : BitVec 32 := Scalar.muli c4_i32_138 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c0_i32_644 : BitVec 32 := 0#32
  let c0_i32_645 : BitVec 32 := 0#32
  ![v201.toNat, 0, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let v943 : BitVec 32 := Scalar.extui v103
  let c0_i32_614 : BitVec 32 := 0#32
  let v944 : BitVec 1 := Scalar.cmpi .ne v943 c0_i32_614
  v944

def k0_off160 (d0 : Dev nD) : Fin 3 → Nat :=
  let c4_i32_138 : BitVec 32 := 4#32
  let c3_i32_137 : BitVec 32 := 3#32
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_135 : BitVec 32 := 3#32
  let v197 : BitVec 32 := Scalar.addi v19 c3_i32_135
  let v198 : BitVec 32 := Scalar.maxsi c0_i32_136 v197
  let v199 : BitVec 32 := Scalar.minsi c3_i32_137 v198
  let v200 : BitVec 32 := Scalar.muli c4_i32_138 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c0_i32_644 : BitVec 32 := 0#32
  let c0_i32_645 : BitVec 32 := 0#32
  ![v201.toNat, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_145 : BitVec 32 := 3#32
  let c0_i32_144 : BitVec 32 := 0#32
  let c_m1_i32 : BitVec 32 := 4294967295#32
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c2_i32_146 : BitVec 32 := 2#32
  let c0_i32_147 : BitVec 32 := 0#32
  let v210 : BitVec 1 := Scalar.cmpi .eq c2_i32_146 c0_i32_147
  let c1_i32_148 : BitVec 32 := 1#32
  let v211 : BitVec 32 := Scalar.select v210 c1_i32_148 c2_i32_146
  let v212 : BitVec 32 := Scalar.remsi v209 v211
  let c0_i32_150 : BitVec 32 := 0#32
  let v214 : BitVec 1 := Scalar.cmpi .slt v212 c0_i32_150
  let c0_i32_151 : BitVec 32 := 0#32
  let v215 : BitVec 1 := Scalar.cmpi .slt v211 c0_i32_151
  let v216 : BitVec 1 := Scalar.xori v214 v215
  let c0_i32_149 : BitVec 32 := 0#32
  let v213 : BitVec 1 := Scalar.cmpi .ne v212 c0_i32_149
  let v217 : BitVec 1 := Scalar.andi v216 v213
  let v218 : BitVec 32 := Scalar.addi v212 v211
  let v219 : BitVec 32 := Scalar.select v217 v218 v212
  let c0_i32_152 : BitVec 32 := 0#32
  let v220 : BitVec 1 := Scalar.cmpi .eq v219 c0_i32_152
  let v248 : BitVec 1 := Scalar.andi v67 v220
  let v945 : BitVec 32 := Scalar.extui v248
  let c0_i32_616 : BitVec 32 := 0#32
  let v946 : BitVec 1 := Scalar.cmpi .ne v945 c0_i32_616
  v946

def k0_off161 (d0 : Dev nD) : Fin 3 → Nat :=
  let c4_i32_165 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v243 : BitVec 32 := Scalar.muli c4_i32_165 v242
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_166 : BitVec 32 := 1#32
  let v244 : BitVec 32 := Scalar.xori v29 c1_i32_166
  let v245 : BitVec 32 := Scalar.addi v243 v244
  let c0_i32_644 : BitVec 32 := 0#32
  let c0_i32_645 : BitVec 32 := 0#32
  ![v245.toNat, 0, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let c3_i32_145 : BitVec 32 := 3#32
  let c0_i32_144 : BitVec 32 := 0#32
  let c_m1_i32 : BitVec 32 := 4294967295#32
  let v68 : BitVec 32 := Scalar.extui v67
  let v69 : BitVec 32 := Scalar.addi c_m1_i32 v68
  let v208 : BitVec 32 := Scalar.maxsi c0_i32_144 v69
  let v209 : BitVec 32 := Scalar.minsi c3_i32_145 v208
  let c2_i32_146 : BitVec 32 := 2#32
  let c0_i32_147 : BitVec 32 := 0#32
  let v210 : BitVec 1 := Scalar.cmpi .eq c2_i32_146 c0_i32_147
  let c1_i32_148 : BitVec 32 := 1#32
  let v211 : BitVec 32 := Scalar.select v210 c1_i32_148 c2_i32_146
  let v212 : BitVec 32 := Scalar.remsi v209 v211
  let c0_i32_150 : BitVec 32 := 0#32
  let v214 : BitVec 1 := Scalar.cmpi .slt v212 c0_i32_150
  let c0_i32_151 : BitVec 32 := 0#32
  let v215 : BitVec 1 := Scalar.cmpi .slt v211 c0_i32_151
  let v216 : BitVec 1 := Scalar.xori v214 v215
  let c0_i32_149 : BitVec 32 := 0#32
  let v213 : BitVec 1 := Scalar.cmpi .ne v212 c0_i32_149
  let v217 : BitVec 1 := Scalar.andi v216 v213
  let v218 : BitVec 32 := Scalar.addi v212 v211
  let v219 : BitVec 32 := Scalar.select v217 v218 v212
  let c0_i32_152 : BitVec 32 := 0#32
  let v220 : BitVec 1 := Scalar.cmpi .eq v219 c0_i32_152
  let true_174 : BitVec 1 := 1#1
  let v256 : BitVec 1 := Scalar.xori v220 true_174
  let v257 : BitVec 1 := Scalar.andi v67 v256
  let v947 : BitVec 32 := Scalar.extui v257
  let c0_i32_618 : BitVec 32 := 0#32
  let v948 : BitVec 1 := Scalar.cmpi .ne v947 c0_i32_618
  v948

def k0_off162 (d0 : Dev nD) : Fin 3 → Nat :=
  let c4_i32_170 : BitVec 32 := 4#32
  let c3_i32_164 : BitVec 32 := 3#32
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_162 : BitVec 32 := 0#32
  let v240 : BitVec 32 := Scalar.addi v19 c0_i32_162
  let v241 : BitVec 32 := Scalar.maxsi c0_i32_163 v240
  let v242 : BitVec 32 := Scalar.minsi c3_i32_164 v241
  let v251 : BitVec 32 := Scalar.muli c4_i32_170 v242
  let c3_i32_171 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v252 : BitVec 32 := Scalar.subi c3_i32_171 v29
  let v253 : BitVec 32 := Scalar.addi v251 v252
  let c0_i32_644 : BitVec 32 := 0#32
  let c0_i32_645 : BitVec 32 := 0#32
  ![v253.toNat, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_177 : BitVec 32 := 3#32
  let c0_i32_176 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v260 : BitVec 32 := Scalar.maxsi c0_i32_176 v75
  let v261 : BitVec 32 := Scalar.minsi c3_i32_177 v260
  let c2_i32_178 : BitVec 32 := 2#32
  let c0_i32_179 : BitVec 32 := 0#32
  let v262 : BitVec 1 := Scalar.cmpi .eq c2_i32_178 c0_i32_179
  let c1_i32_180 : BitVec 32 := 1#32
  let v263 : BitVec 32 := Scalar.select v262 c1_i32_180 c2_i32_178
  let v264 : BitVec 32 := Scalar.remsi v261 v263
  let c0_i32_182 : BitVec 32 := 0#32
  let v266 : BitVec 1 := Scalar.cmpi .slt v264 c0_i32_182
  let c0_i32_183 : BitVec 32 := 0#32
  let v267 : BitVec 1 := Scalar.cmpi .slt v263 c0_i32_183
  let v268 : BitVec 1 := Scalar.xori v266 v267
  let c0_i32_181 : BitVec 32 := 0#32
  let v265 : BitVec 1 := Scalar.cmpi .ne v264 c0_i32_181
  let v269 : BitVec 1 := Scalar.andi v268 v265
  let v270 : BitVec 32 := Scalar.addi v264 v263
  let v271 : BitVec 32 := Scalar.select v269 v270 v264
  let c0_i32_184 : BitVec 32 := 0#32
  let v272 : BitVec 1 := Scalar.cmpi .eq v271 c0_i32_184
  let v300 : BitVec 1 := Scalar.andi v73 v272
  let v949 : BitVec 32 := Scalar.extui v300
  let c0_i32_620 : BitVec 32 := 0#32
  let v950 : BitVec 1 := Scalar.cmpi .ne v949 c0_i32_620
  v950

def k0_off163 (d0 : Dev nD) : Fin 3 → Nat :=
  let c4_i32_197 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v295 : BitVec 32 := Scalar.muli c4_i32_197 v294
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v296 : BitVec 32 := Scalar.xori v29 c1_i32_198
  let v297 : BitVec 32 := Scalar.addi v295 v296
  let c0_i32_644 : BitVec 32 := 0#32
  let c0_i32_645 : BitVec 32 := 0#32
  ![v297.toNat, 0, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let c3_i32_177 : BitVec 32 := 3#32
  let c0_i32_176 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let v74 : BitVec 32 := Scalar.extui v73
  let v75 : BitVec 32 := Scalar.addi v69 v74
  let v260 : BitVec 32 := Scalar.maxsi c0_i32_176 v75
  let v261 : BitVec 32 := Scalar.minsi c3_i32_177 v260
  let c2_i32_178 : BitVec 32 := 2#32
  let c0_i32_179 : BitVec 32 := 0#32
  let v262 : BitVec 1 := Scalar.cmpi .eq c2_i32_178 c0_i32_179
  let c1_i32_180 : BitVec 32 := 1#32
  let v263 : BitVec 32 := Scalar.select v262 c1_i32_180 c2_i32_178
  let v264 : BitVec 32 := Scalar.remsi v261 v263
  let c0_i32_182 : BitVec 32 := 0#32
  let v266 : BitVec 1 := Scalar.cmpi .slt v264 c0_i32_182
  let c0_i32_183 : BitVec 32 := 0#32
  let v267 : BitVec 1 := Scalar.cmpi .slt v263 c0_i32_183
  let v268 : BitVec 1 := Scalar.xori v266 v267
  let c0_i32_181 : BitVec 32 := 0#32
  let v265 : BitVec 1 := Scalar.cmpi .ne v264 c0_i32_181
  let v269 : BitVec 1 := Scalar.andi v268 v265
  let v270 : BitVec 32 := Scalar.addi v264 v263
  let v271 : BitVec 32 := Scalar.select v269 v270 v264
  let c0_i32_184 : BitVec 32 := 0#32
  let v272 : BitVec 1 := Scalar.cmpi .eq v271 c0_i32_184
  let true_206 : BitVec 1 := 1#1
  let v308 : BitVec 1 := Scalar.xori v272 true_206
  let v309 : BitVec 1 := Scalar.andi v73 v308
  let v951 : BitVec 32 := Scalar.extui v309
  let c0_i32_622 : BitVec 32 := 0#32
  let v952 : BitVec 1 := Scalar.cmpi .ne v951 c0_i32_622
  v952

def k0_off164 (d0 : Dev nD) : Fin 3 → Nat :=
  let c4_i32_202 : BitVec 32 := 4#32
  let c3_i32_196 : BitVec 32 := 3#32
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_194 : BitVec 32 := 1#32
  let v292 : BitVec 32 := Scalar.subi v19 c1_i32_194
  let v293 : BitVec 32 := Scalar.maxsi c0_i32_195 v292
  let v294 : BitVec 32 := Scalar.minsi c3_i32_196 v293
  let v303 : BitVec 32 := Scalar.muli c4_i32_202 v294
  let c3_i32_203 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v304 : BitVec 32 := Scalar.subi c3_i32_203 v29
  let v305 : BitVec 32 := Scalar.addi v303 v304
  let c0_i32_644 : BitVec 32 := 0#32
  let c0_i32_645 : BitVec 32 := 0#32
  ![v305.toNat, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_209 : BitVec 32 := 3#32
  let c0_i32_208 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v312 : BitVec 32 := Scalar.maxsi c0_i32_208 v81
  let v313 : BitVec 32 := Scalar.minsi c3_i32_209 v312
  let c2_i32_210 : BitVec 32 := 2#32
  let c0_i32_211 : BitVec 32 := 0#32
  let v314 : BitVec 1 := Scalar.cmpi .eq c2_i32_210 c0_i32_211
  let c1_i32_212 : BitVec 32 := 1#32
  let v315 : BitVec 32 := Scalar.select v314 c1_i32_212 c2_i32_210
  let v316 : BitVec 32 := Scalar.remsi v313 v315
  let c0_i32_214 : BitVec 32 := 0#32
  let v318 : BitVec 1 := Scalar.cmpi .slt v316 c0_i32_214
  let c0_i32_215 : BitVec 32 := 0#32
  let v319 : BitVec 1 := Scalar.cmpi .slt v315 c0_i32_215
  let v320 : BitVec 1 := Scalar.xori v318 v319
  let c0_i32_213 : BitVec 32 := 0#32
  let v317 : BitVec 1 := Scalar.cmpi .ne v316 c0_i32_213
  let v321 : BitVec 1 := Scalar.andi v320 v317
  let v322 : BitVec 32 := Scalar.addi v316 v315
  let v323 : BitVec 32 := Scalar.select v321 v322 v316
  let c0_i32_216 : BitVec 32 := 0#32
  let v324 : BitVec 1 := Scalar.cmpi .eq v323 c0_i32_216
  let v352 : BitVec 1 := Scalar.andi v79 v324
  let v953 : BitVec 32 := Scalar.extui v352
  let c0_i32_624 : BitVec 32 := 0#32
  let v954 : BitVec 1 := Scalar.cmpi .ne v953 c0_i32_624
  v954

def k0_off165 (d0 : Dev nD) : Fin 3 → Nat :=
  let c4_i32_229 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v347 : BitVec 32 := Scalar.muli c4_i32_229 v346
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v348 : BitVec 32 := Scalar.xori v29 c1_i32_230
  let v349 : BitVec 32 := Scalar.addi v347 v348
  let c0_i32_644 : BitVec 32 := 0#32
  let c0_i32_645 : BitVec 32 := 0#32
  ![v349.toNat, 0, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let c3_i32_209 : BitVec 32 := 3#32
  let c0_i32_208 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let v80 : BitVec 32 := Scalar.extui v79
  let v81 : BitVec 32 := Scalar.addi v75 v80
  let v312 : BitVec 32 := Scalar.maxsi c0_i32_208 v81
  let v313 : BitVec 32 := Scalar.minsi c3_i32_209 v312
  let c2_i32_210 : BitVec 32 := 2#32
  let c0_i32_211 : BitVec 32 := 0#32
  let v314 : BitVec 1 := Scalar.cmpi .eq c2_i32_210 c0_i32_211
  let c1_i32_212 : BitVec 32 := 1#32
  let v315 : BitVec 32 := Scalar.select v314 c1_i32_212 c2_i32_210
  let v316 : BitVec 32 := Scalar.remsi v313 v315
  let c0_i32_214 : BitVec 32 := 0#32
  let v318 : BitVec 1 := Scalar.cmpi .slt v316 c0_i32_214
  let c0_i32_215 : BitVec 32 := 0#32
  let v319 : BitVec 1 := Scalar.cmpi .slt v315 c0_i32_215
  let v320 : BitVec 1 := Scalar.xori v318 v319
  let c0_i32_213 : BitVec 32 := 0#32
  let v317 : BitVec 1 := Scalar.cmpi .ne v316 c0_i32_213
  let v321 : BitVec 1 := Scalar.andi v320 v317
  let v322 : BitVec 32 := Scalar.addi v316 v315
  let v323 : BitVec 32 := Scalar.select v321 v322 v316
  let c0_i32_216 : BitVec 32 := 0#32
  let v324 : BitVec 1 := Scalar.cmpi .eq v323 c0_i32_216
  let true_238 : BitVec 1 := 1#1
  let v360 : BitVec 1 := Scalar.xori v324 true_238
  let v361 : BitVec 1 := Scalar.andi v79 v360
  let v955 : BitVec 32 := Scalar.extui v361
  let c0_i32_626 : BitVec 32 := 0#32
  let v956 : BitVec 1 := Scalar.cmpi .ne v955 c0_i32_626
  v956

def k0_off166 (d0 : Dev nD) : Fin 3 → Nat :=
  let c4_i32_234 : BitVec 32 := 4#32
  let c3_i32_228 : BitVec 32 := 3#32
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_226 : BitVec 32 := 1#32
  let v344 : BitVec 32 := Scalar.addi v19 c1_i32_226
  let v345 : BitVec 32 := Scalar.maxsi c0_i32_227 v344
  let v346 : BitVec 32 := Scalar.minsi c3_i32_228 v345
  let v355 : BitVec 32 := Scalar.muli c4_i32_234 v346
  let c3_i32_235 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v356 : BitVec 32 := Scalar.subi c3_i32_235 v29
  let v357 : BitVec 32 := Scalar.addi v355 v356
  let c0_i32_644 : BitVec 32 := 0#32
  let c0_i32_645 : BitVec 32 := 0#32
  ![v357.toNat, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_241 : BitVec 32 := 3#32
  let c0_i32_240 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v364 : BitVec 32 := Scalar.maxsi c0_i32_240 v87
  let v365 : BitVec 32 := Scalar.minsi c3_i32_241 v364
  let c2_i32_242 : BitVec 32 := 2#32
  let c0_i32_243 : BitVec 32 := 0#32
  let v366 : BitVec 1 := Scalar.cmpi .eq c2_i32_242 c0_i32_243
  let c1_i32_244 : BitVec 32 := 1#32
  let v367 : BitVec 32 := Scalar.select v366 c1_i32_244 c2_i32_242
  let v368 : BitVec 32 := Scalar.remsi v365 v367
  let c0_i32_246 : BitVec 32 := 0#32
  let v370 : BitVec 1 := Scalar.cmpi .slt v368 c0_i32_246
  let c0_i32_247 : BitVec 32 := 0#32
  let v371 : BitVec 1 := Scalar.cmpi .slt v367 c0_i32_247
  let v372 : BitVec 1 := Scalar.xori v370 v371
  let c0_i32_245 : BitVec 32 := 0#32
  let v369 : BitVec 1 := Scalar.cmpi .ne v368 c0_i32_245
  let v373 : BitVec 1 := Scalar.andi v372 v369
  let v374 : BitVec 32 := Scalar.addi v368 v367
  let v375 : BitVec 32 := Scalar.select v373 v374 v368
  let c0_i32_248 : BitVec 32 := 0#32
  let v376 : BitVec 1 := Scalar.cmpi .eq v375 c0_i32_248
  let v404 : BitVec 1 := Scalar.andi v85 v376
  let v957 : BitVec 32 := Scalar.extui v404
  let c0_i32_628 : BitVec 32 := 0#32
  let v958 : BitVec 1 := Scalar.cmpi .ne v957 c0_i32_628
  v958

def k0_off167 (d0 : Dev nD) : Fin 3 → Nat :=
  let c4_i32_261 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v399 : BitVec 32 := Scalar.muli c4_i32_261 v398
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_262 : BitVec 32 := 1#32
  let v400 : BitVec 32 := Scalar.xori v29 c1_i32_262
  let v401 : BitVec 32 := Scalar.addi v399 v400
  let c0_i32_644 : BitVec 32 := 0#32
  let c0_i32_645 : BitVec 32 := 0#32
  ![v401.toNat, 0, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let c3_i32_241 : BitVec 32 := 3#32
  let c0_i32_240 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let v86 : BitVec 32 := Scalar.extui v85
  let v87 : BitVec 32 := Scalar.addi v81 v86
  let v364 : BitVec 32 := Scalar.maxsi c0_i32_240 v87
  let v365 : BitVec 32 := Scalar.minsi c3_i32_241 v364
  let c2_i32_242 : BitVec 32 := 2#32
  let c0_i32_243 : BitVec 32 := 0#32
  let v366 : BitVec 1 := Scalar.cmpi .eq c2_i32_242 c0_i32_243
  let c1_i32_244 : BitVec 32 := 1#32
  let v367 : BitVec 32 := Scalar.select v366 c1_i32_244 c2_i32_242
  let v368 : BitVec 32 := Scalar.remsi v365 v367
  let c0_i32_246 : BitVec 32 := 0#32
  let v370 : BitVec 1 := Scalar.cmpi .slt v368 c0_i32_246
  let c0_i32_247 : BitVec 32 := 0#32
  let v371 : BitVec 1 := Scalar.cmpi .slt v367 c0_i32_247
  let v372 : BitVec 1 := Scalar.xori v370 v371
  let c0_i32_245 : BitVec 32 := 0#32
  let v369 : BitVec 1 := Scalar.cmpi .ne v368 c0_i32_245
  let v373 : BitVec 1 := Scalar.andi v372 v369
  let v374 : BitVec 32 := Scalar.addi v368 v367
  let v375 : BitVec 32 := Scalar.select v373 v374 v368
  let c0_i32_248 : BitVec 32 := 0#32
  let v376 : BitVec 1 := Scalar.cmpi .eq v375 c0_i32_248
  let true_270 : BitVec 1 := 1#1
  let v412 : BitVec 1 := Scalar.xori v376 true_270
  let v413 : BitVec 1 := Scalar.andi v85 v412
  let v959 : BitVec 32 := Scalar.extui v413
  let c0_i32_630 : BitVec 32 := 0#32
  let v960 : BitVec 1 := Scalar.cmpi .ne v959 c0_i32_630
  v960

def k0_off168 (d0 : Dev nD) : Fin 3 → Nat :=
  let c4_i32_266 : BitVec 32 := 4#32
  let c3_i32_260 : BitVec 32 := 3#32
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_258 : BitVec 32 := 2#32
  let v396 : BitVec 32 := Scalar.subi v19 c2_i32_258
  let v397 : BitVec 32 := Scalar.maxsi c0_i32_259 v396
  let v398 : BitVec 32 := Scalar.minsi c3_i32_260 v397
  let v407 : BitVec 32 := Scalar.muli c4_i32_266 v398
  let c3_i32_267 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v408 : BitVec 32 := Scalar.subi c3_i32_267 v29
  let v409 : BitVec 32 := Scalar.addi v407 v408
  let c0_i32_644 : BitVec 32 := 0#32
  let c0_i32_645 : BitVec 32 := 0#32
  ![v409.toNat, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_273 : BitVec 32 := 3#32
  let c0_i32_272 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v416 : BitVec 32 := Scalar.maxsi c0_i32_272 v93
  let v417 : BitVec 32 := Scalar.minsi c3_i32_273 v416
  let c2_i32_274 : BitVec 32 := 2#32
  let c0_i32_275 : BitVec 32 := 0#32
  let v418 : BitVec 1 := Scalar.cmpi .eq c2_i32_274 c0_i32_275
  let c1_i32_276 : BitVec 32 := 1#32
  let v419 : BitVec 32 := Scalar.select v418 c1_i32_276 c2_i32_274
  let v420 : BitVec 32 := Scalar.remsi v417 v419
  let c0_i32_278 : BitVec 32 := 0#32
  let v422 : BitVec 1 := Scalar.cmpi .slt v420 c0_i32_278
  let c0_i32_279 : BitVec 32 := 0#32
  let v423 : BitVec 1 := Scalar.cmpi .slt v419 c0_i32_279
  let v424 : BitVec 1 := Scalar.xori v422 v423
  let c0_i32_277 : BitVec 32 := 0#32
  let v421 : BitVec 1 := Scalar.cmpi .ne v420 c0_i32_277
  let v425 : BitVec 1 := Scalar.andi v424 v421
  let v426 : BitVec 32 := Scalar.addi v420 v419
  let v427 : BitVec 32 := Scalar.select v425 v426 v420
  let c0_i32_280 : BitVec 32 := 0#32
  let v428 : BitVec 1 := Scalar.cmpi .eq v427 c0_i32_280
  let v456 : BitVec 1 := Scalar.andi v91 v428
  let v961 : BitVec 32 := Scalar.extui v456
  let c0_i32_632 : BitVec 32 := 0#32
  let v962 : BitVec 1 := Scalar.cmpi .ne v961 c0_i32_632
  v962

def k0_off169 (d0 : Dev nD) : Fin 3 → Nat :=
  let c4_i32_293 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v451 : BitVec 32 := Scalar.muli c4_i32_293 v450
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_294 : BitVec 32 := 1#32
  let v452 : BitVec 32 := Scalar.xori v29 c1_i32_294
  let v453 : BitVec 32 := Scalar.addi v451 v452
  let c0_i32_644 : BitVec 32 := 0#32
  let c0_i32_645 : BitVec 32 := 0#32
  ![v453.toNat, 0, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let c3_i32_273 : BitVec 32 := 3#32
  let c0_i32_272 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let v92 : BitVec 32 := Scalar.extui v91
  let v93 : BitVec 32 := Scalar.addi v87 v92
  let v416 : BitVec 32 := Scalar.maxsi c0_i32_272 v93
  let v417 : BitVec 32 := Scalar.minsi c3_i32_273 v416
  let c2_i32_274 : BitVec 32 := 2#32
  let c0_i32_275 : BitVec 32 := 0#32
  let v418 : BitVec 1 := Scalar.cmpi .eq c2_i32_274 c0_i32_275
  let c1_i32_276 : BitVec 32 := 1#32
  let v419 : BitVec 32 := Scalar.select v418 c1_i32_276 c2_i32_274
  let v420 : BitVec 32 := Scalar.remsi v417 v419
  let c0_i32_278 : BitVec 32 := 0#32
  let v422 : BitVec 1 := Scalar.cmpi .slt v420 c0_i32_278
  let c0_i32_279 : BitVec 32 := 0#32
  let v423 : BitVec 1 := Scalar.cmpi .slt v419 c0_i32_279
  let v424 : BitVec 1 := Scalar.xori v422 v423
  let c0_i32_277 : BitVec 32 := 0#32
  let v421 : BitVec 1 := Scalar.cmpi .ne v420 c0_i32_277
  let v425 : BitVec 1 := Scalar.andi v424 v421
  let v426 : BitVec 32 := Scalar.addi v420 v419
  let v427 : BitVec 32 := Scalar.select v425 v426 v420
  let c0_i32_280 : BitVec 32 := 0#32
  let v428 : BitVec 1 := Scalar.cmpi .eq v427 c0_i32_280
  let true_302 : BitVec 1 := 1#1
  let v464 : BitVec 1 := Scalar.xori v428 true_302
  let v465 : BitVec 1 := Scalar.andi v91 v464
  let v963 : BitVec 32 := Scalar.extui v465
  let c0_i32_634 : BitVec 32 := 0#32
  let v964 : BitVec 1 := Scalar.cmpi .ne v963 c0_i32_634
  v964

def k0_off170 (d0 : Dev nD) : Fin 3 → Nat :=
  let c4_i32_298 : BitVec 32 := 4#32
  let c3_i32_292 : BitVec 32 := 3#32
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_290 : BitVec 32 := 2#32
  let v448 : BitVec 32 := Scalar.addi v19 c2_i32_290
  let v449 : BitVec 32 := Scalar.maxsi c0_i32_291 v448
  let v450 : BitVec 32 := Scalar.minsi c3_i32_292 v449
  let v459 : BitVec 32 := Scalar.muli c4_i32_298 v450
  let c3_i32_299 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v460 : BitVec 32 := Scalar.subi c3_i32_299 v29
  let v461 : BitVec 32 := Scalar.addi v459 v460
  let c0_i32_644 : BitVec 32 := 0#32
  let c0_i32_645 : BitVec 32 := 0#32
  ![v461.toNat, 0, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_305 : BitVec 32 := 3#32
  let c0_i32_304 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v468 : BitVec 32 := Scalar.maxsi c0_i32_304 v99
  let v469 : BitVec 32 := Scalar.minsi c3_i32_305 v468
  let c2_i32_306 : BitVec 32 := 2#32
  let c0_i32_307 : BitVec 32 := 0#32
  let v470 : BitVec 1 := Scalar.cmpi .eq c2_i32_306 c0_i32_307
  let c1_i32_308 : BitVec 32 := 1#32
  let v471 : BitVec 32 := Scalar.select v470 c1_i32_308 c2_i32_306
  let v472 : BitVec 32 := Scalar.remsi v469 v471
  let c0_i32_310 : BitVec 32 := 0#32
  let v474 : BitVec 1 := Scalar.cmpi .slt v472 c0_i32_310
  let c0_i32_311 : BitVec 32 := 0#32
  let v475 : BitVec 1 := Scalar.cmpi .slt v471 c0_i32_311
  let v476 : BitVec 1 := Scalar.xori v474 v475
  let c0_i32_309 : BitVec 32 := 0#32
  let v473 : BitVec 1 := Scalar.cmpi .ne v472 c0_i32_309
  let v477 : BitVec 1 := Scalar.andi v476 v473
  let v478 : BitVec 32 := Scalar.addi v472 v471
  let v479 : BitVec 32 := Scalar.select v477 v478 v472
  let c0_i32_312 : BitVec 32 := 0#32
  let v480 : BitVec 1 := Scalar.cmpi .eq v479 c0_i32_312
  let v508 : BitVec 1 := Scalar.andi v97 v480
  let v965 : BitVec 32 := Scalar.extui v508
  let c0_i32_636 : BitVec 32 := 0#32
  let v966 : BitVec 1 := Scalar.cmpi .ne v965 c0_i32_636
  v966

def k0_off171 (d0 : Dev nD) : Fin 3 → Nat :=
  let c4_i32_325 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v503 : BitVec 32 := Scalar.muli c4_i32_325 v502
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_326 : BitVec 32 := 1#32
  let v504 : BitVec 32 := Scalar.xori v29 c1_i32_326
  let v505 : BitVec 32 := Scalar.addi v503 v504
  let c0_i32_644 : BitVec 32 := 0#32
  let c0_i32_645 : BitVec 32 := 0#32
  ![v505.toNat, 0, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let c3_i32_305 : BitVec 32 := 3#32
  let c0_i32_304 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let v98 : BitVec 32 := Scalar.extui v97
  let v99 : BitVec 32 := Scalar.addi v93 v98
  let v468 : BitVec 32 := Scalar.maxsi c0_i32_304 v99
  let v469 : BitVec 32 := Scalar.minsi c3_i32_305 v468
  let c2_i32_306 : BitVec 32 := 2#32
  let c0_i32_307 : BitVec 32 := 0#32
  let v470 : BitVec 1 := Scalar.cmpi .eq c2_i32_306 c0_i32_307
  let c1_i32_308 : BitVec 32 := 1#32
  let v471 : BitVec 32 := Scalar.select v470 c1_i32_308 c2_i32_306
  let v472 : BitVec 32 := Scalar.remsi v469 v471
  let c0_i32_310 : BitVec 32 := 0#32
  let v474 : BitVec 1 := Scalar.cmpi .slt v472 c0_i32_310
  let c0_i32_311 : BitVec 32 := 0#32
  let v475 : BitVec 1 := Scalar.cmpi .slt v471 c0_i32_311
  let v476 : BitVec 1 := Scalar.xori v474 v475
  let c0_i32_309 : BitVec 32 := 0#32
  let v473 : BitVec 1 := Scalar.cmpi .ne v472 c0_i32_309
  let v477 : BitVec 1 := Scalar.andi v476 v473
  let v478 : BitVec 32 := Scalar.addi v472 v471
  let v479 : BitVec 32 := Scalar.select v477 v478 v472
  let c0_i32_312 : BitVec 32 := 0#32
  let v480 : BitVec 1 := Scalar.cmpi .eq v479 c0_i32_312
  let true_334 : BitVec 1 := 1#1
  let v516 : BitVec 1 := Scalar.xori v480 true_334
  let v517 : BitVec 1 := Scalar.andi v97 v516
  let v967 : BitVec 32 := Scalar.extui v517
  let c0_i32_638 : BitVec 32 := 0#32
  let v968 : BitVec 1 := Scalar.cmpi .ne v967 c0_i32_638
  v968

def k0_off172 (d0 : Dev nD) : Fin 3 → Nat :=
  let c4_i32_330 : BitVec 32 := 4#32
  let c3_i32_324 : BitVec 32 := 3#32
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_322 : BitVec 32 := 3#32
  let v500 : BitVec 32 := Scalar.subi v19 c3_i32_322
  let v501 : BitVec 32 := Scalar.maxsi c0_i32_323 v500
  let v502 : BitVec 32 := Scalar.minsi c3_i32_324 v501
  let v511 : BitVec 32 := Scalar.muli c4_i32_330 v502
  let c3_i32_331 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v512 : BitVec 32 := Scalar.subi c3_i32_331 v29
  let v513 : BitVec 32 := Scalar.addi v511 v512
  let c0_i32_644 : BitVec 32 := 0#32
  let c0_i32_645 : BitVec 32 := 0#32
  ![v513.toNat, 0, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_337 : BitVec 32 := 3#32
  let c0_i32_336 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v520 : BitVec 32 := Scalar.maxsi c0_i32_336 v105
  let v521 : BitVec 32 := Scalar.minsi c3_i32_337 v520
  let c2_i32_338 : BitVec 32 := 2#32
  let c0_i32_339 : BitVec 32 := 0#32
  let v522 : BitVec 1 := Scalar.cmpi .eq c2_i32_338 c0_i32_339
  let c1_i32_340 : BitVec 32 := 1#32
  let v523 : BitVec 32 := Scalar.select v522 c1_i32_340 c2_i32_338
  let v524 : BitVec 32 := Scalar.remsi v521 v523
  let c0_i32_342 : BitVec 32 := 0#32
  let v526 : BitVec 1 := Scalar.cmpi .slt v524 c0_i32_342
  let c0_i32_343 : BitVec 32 := 0#32
  let v527 : BitVec 1 := Scalar.cmpi .slt v523 c0_i32_343
  let v528 : BitVec 1 := Scalar.xori v526 v527
  let c0_i32_341 : BitVec 32 := 0#32
  let v525 : BitVec 1 := Scalar.cmpi .ne v524 c0_i32_341
  let v529 : BitVec 1 := Scalar.andi v528 v525
  let v530 : BitVec 32 := Scalar.addi v524 v523
  let v531 : BitVec 32 := Scalar.select v529 v530 v524
  let c0_i32_344 : BitVec 32 := 0#32
  let v532 : BitVec 1 := Scalar.cmpi .eq v531 c0_i32_344
  let v560 : BitVec 1 := Scalar.andi v103 v532
  let v969 : BitVec 32 := Scalar.extui v560
  let c0_i32_640 : BitVec 32 := 0#32
  let v970 : BitVec 1 := Scalar.cmpi .ne v969 c0_i32_640
  v970

def k0_off173 (d0 : Dev nD) : Fin 3 → Nat :=
  let c4_i32_357 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v555 : BitVec 32 := Scalar.muli c4_i32_357 v554
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_358 : BitVec 32 := 1#32
  let v556 : BitVec 32 := Scalar.xori v29 c1_i32_358
  let v557 : BitVec 32 := Scalar.addi v555 v556
  let c0_i32_644 : BitVec 32 := 0#32
  let c0_i32_645 : BitVec 32 := 0#32
  ![v557.toNat, 0, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_60 : BitVec 32 := 3#32
  let v100 : BitVec 32 := Scalar.addi v19 c3_i32_60
  let c0_i32_61 : BitVec 32 := 0#32
  let v101 : BitVec 1 := Scalar.cmpi .sge v100 c0_i32_61
  let c3_i32_62 : BitVec 32 := 3#32
  let v102 : BitVec 1 := Scalar.cmpi .sle v100 c3_i32_62
  let v103 : BitVec 1 := Scalar.andi v101 v102
  let c3_i32_337 : BitVec 32 := 3#32
  let c0_i32_336 : BitVec 32 := 0#32
  let c_m1_i32 : BitVec 32 := 4294967295#32
  let c0_i32_43 : BitVec 32 := 0#32
  let v64 : BitVec 32 := Scalar.addi v19 c0_i32_43
  let c0_i32_44 : BitVec 32 := 0#32
  let v65 : BitVec 1 := Scalar.cmpi .sge v64 c0_i32_44
  let c3_i32_45 : BitVec 32 := 3#32
  let v66 : BitVec 1 := Scalar.cmpi .sle v64 c3_i32_45
  let v67 : BitVec 1 := Scalar.andi v65 v66
  let v68 : BitVec 32 := Scalar.extui v67
  let v69 : BitVec 32 := Scalar.addi c_m1_i32 v68
  let c1_i32_46 : BitVec 32 := 1#32
  let v70 : BitVec 32 := Scalar.subi v19 c1_i32_46
  let c0_i32_47 : BitVec 32 := 0#32
  let v71 : BitVec 1 := Scalar.cmpi .sge v70 c0_i32_47
  let c3_i32_48 : BitVec 32 := 3#32
  let v72 : BitVec 1 := Scalar.cmpi .sle v70 c3_i32_48
  let v73 : BitVec 1 := Scalar.andi v71 v72
  let v74 : BitVec 32 := Scalar.extui v73
  let v75 : BitVec 32 := Scalar.addi v69 v74
  let c1_i32_49 : BitVec 32 := 1#32
  let v76 : BitVec 32 := Scalar.addi v19 c1_i32_49
  let c0_i32_50 : BitVec 32 := 0#32
  let v77 : BitVec 1 := Scalar.cmpi .sge v76 c0_i32_50
  let c3_i32_51 : BitVec 32 := 3#32
  let v78 : BitVec 1 := Scalar.cmpi .sle v76 c3_i32_51
  let v79 : BitVec 1 := Scalar.andi v77 v78
  let v80 : BitVec 32 := Scalar.extui v79
  let v81 : BitVec 32 := Scalar.addi v75 v80
  let c2_i32 : BitVec 32 := 2#32
  let v82 : BitVec 32 := Scalar.subi v19 c2_i32
  let c0_i32_52 : BitVec 32 := 0#32
  let v83 : BitVec 1 := Scalar.cmpi .sge v82 c0_i32_52
  let c3_i32_53 : BitVec 32 := 3#32
  let v84 : BitVec 1 := Scalar.cmpi .sle v82 c3_i32_53
  let v85 : BitVec 1 := Scalar.andi v83 v84
  let v86 : BitVec 32 := Scalar.extui v85
  let v87 : BitVec 32 := Scalar.addi v81 v86
  let c2_i32_54 : BitVec 32 := 2#32
  let v88 : BitVec 32 := Scalar.addi v19 c2_i32_54
  let c0_i32_55 : BitVec 32 := 0#32
  let v89 : BitVec 1 := Scalar.cmpi .sge v88 c0_i32_55
  let c3_i32_56 : BitVec 32 := 3#32
  let v90 : BitVec 1 := Scalar.cmpi .sle v88 c3_i32_56
  let v91 : BitVec 1 := Scalar.andi v89 v90
  let v92 : BitVec 32 := Scalar.extui v91
  let v93 : BitVec 32 := Scalar.addi v87 v92
  let c3_i32_57 : BitVec 32 := 3#32
  let v94 : BitVec 32 := Scalar.subi v19 c3_i32_57
  let c0_i32_58 : BitVec 32 := 0#32
  let v95 : BitVec 1 := Scalar.cmpi .sge v94 c0_i32_58
  let c3_i32_59 : BitVec 32 := 3#32
  let v96 : BitVec 1 := Scalar.cmpi .sle v94 c3_i32_59
  let v97 : BitVec 1 := Scalar.andi v95 v96
  let v98 : BitVec 32 := Scalar.extui v97
  let v99 : BitVec 32 := Scalar.addi v93 v98
  let v104 : BitVec 32 := Scalar.extui v103
  let v105 : BitVec 32 := Scalar.addi v99 v104
  let v520 : BitVec 32 := Scalar.maxsi c0_i32_336 v105
  let v521 : BitVec 32 := Scalar.minsi c3_i32_337 v520
  let c2_i32_338 : BitVec 32 := 2#32
  let c0_i32_339 : BitVec 32 := 0#32
  let v522 : BitVec 1 := Scalar.cmpi .eq c2_i32_338 c0_i32_339
  let c1_i32_340 : BitVec 32 := 1#32
  let v523 : BitVec 32 := Scalar.select v522 c1_i32_340 c2_i32_338
  let v524 : BitVec 32 := Scalar.remsi v521 v523
  let c0_i32_342 : BitVec 32 := 0#32
  let v526 : BitVec 1 := Scalar.cmpi .slt v524 c0_i32_342
  let c0_i32_343 : BitVec 32 := 0#32
  let v527 : BitVec 1 := Scalar.cmpi .slt v523 c0_i32_343
  let v528 : BitVec 1 := Scalar.xori v526 v527
  let c0_i32_341 : BitVec 32 := 0#32
  let v525 : BitVec 1 := Scalar.cmpi .ne v524 c0_i32_341
  let v529 : BitVec 1 := Scalar.andi v528 v525
  let v530 : BitVec 32 := Scalar.addi v524 v523
  let v531 : BitVec 32 := Scalar.select v529 v530 v524
  let c0_i32_344 : BitVec 32 := 0#32
  let v532 : BitVec 1 := Scalar.cmpi .eq v531 c0_i32_344
  let true_366 : BitVec 1 := 1#1
  let v568 : BitVec 1 := Scalar.xori v532 true_366
  let v569 : BitVec 1 := Scalar.andi v103 v568
  let v971 : BitVec 32 := Scalar.extui v569
  let c0_i32_642 : BitVec 32 := 0#32
  let v972 : BitVec 1 := Scalar.cmpi .ne v971 c0_i32_642
  v972

def k0_off174 (d0 : Dev nD) : Fin 3 → Nat :=
  let c4_i32_362 : BitVec 32 := 4#32
  let c3_i32_356 : BitVec 32 := 3#32
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_354 : BitVec 32 := 3#32
  let v552 : BitVec 32 := Scalar.addi v19 c3_i32_354
  let v553 : BitVec 32 := Scalar.maxsi c0_i32_355 v552
  let v554 : BitVec 32 := Scalar.minsi c3_i32_356 v553
  let v563 : BitVec 32 := Scalar.muli c4_i32_362 v554
  let c3_i32_363 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v564 : BitVec 32 := Scalar.subi c3_i32_363 v29
  let v565 : BitVec 32 := Scalar.addi v563 v564
  let c0_i32_644 : BitVec 32 := 0#32
  let c0_i32_645 : BitVec 32 := 0#32
  ![v565.toNat, 0, 0]
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Same.lean ====
/-
# Same: the two printed kernels are one program

The kernel and its idealization are printed with the same text. Read over bits, their bodies, their body tables and their
whole tables are therefore equal, and a run of the one is a run of the other.
-/
module

public import proofs.«01_k».proof.Defs
public import proofs.«01_k».proof.Proof.Gen.Kernel
public import proofs.«01_k».proof.Proof.Gen.KernelIdeal

@[expose] public section

noncomputable section

open Idealize.ShloMosaic

namespace Cert.AllGather

set_option maxRecDepth 100000

/-- The two bodies agree. -/
theorem body_same : Cert.Kernel.cc0_body (F := Bits) = Cert.KernelIdeal.cc0_body (F := Bits) := rfl

/-- The two kernels' body tables agree. -/
theorem defs₀_same : Cert.Kernel.defs₀ (F := Bits) = Cert.KernelIdeal.defs₀ (F := Bits) := by
  unfold Cert.Kernel.defs₀ Cert.KernelIdeal.defs₀
  congr 1
  funext ℓ a
  match ℓ, a with
  | ⟨0, _⟩, (t, s) =>
    show Cert.Kernel.cc0_body _ _ _ _ _ _ _ _ _ _ _ _ _ _ _ _ _ = _
    rw [body_same]
  | ⟨_ + 1, h⟩, _ => exact absurd h (Nat.not_lt.2 (Nat.le_add_left _ _))

/-- The two programs' tables agree. -/
theorem defs_same : Cert.Kernel.defs (F := Bits) = Cert.KernelIdeal.defs (F := Bits) := by
  unfold Cert.Kernel.defs Cert.KernelIdeal.defs
  rw [defs₀_same]
  rfl

end Cert.AllGather

end
-- ==== Proof.Mesh.lean ====
/-
# Mesh: who talks to whom among the sixteen devices

The devices form four planes of four: device `c` lies in plane `z = c / 4` at place `q = c % 4`. Slot `s` of a device's
gather buffer is for the block of device `s`. This module names, in plain numbers and for every device,

* the planes in the order in which a device works through them (`pl`, which of the seven candidates exist `vld`, and how
  many existed before `rk`),
* the slot of a plane that arrives by each of the four ways (`slot`),
* the thirty-two remote copies in program order: whether it happens (`sv`), which slot it carries (`ss`), to whom (`st`),
* the semaphore on which a slot lands (`rsem`), counted in the order of the kernel's own semaphores, and the device that
  sends it (`pred`),

and proves by running through the mesh the facts that the protocol rests on.
-/
module

public import Mathlib.Data.Fintype.Basic
public import Mathlib.Data.Finset.Image
public import Mathlib.Tactic.FinCases
public import Mathlib.Algebra.BigOperators.Fin

@[expose] public section

namespace Cert.AllGather

/-- The plane of a device. -/
def zz (c : Fin 16) : ℕ := c.val / 4
/-- Its place in the plane. -/
def qq (c : Fin 16) : ℕ := c.val % 4

/-- The place across the first direction. -/
def qx (q : ℕ) : ℕ := match q with | 0 => 1 | 1 => 0 | 2 => 3 | _ => 2
/-- The place across the second direction. -/
def qy (q : ℕ) : ℕ := 3 - q
/-- The place across both. -/
def qd (q : ℕ) : ℕ := match q with | 0 => 2 | 1 => 3 | 2 => 0 | _ => 1

/-- A number as a device or a slot. -/
def dv (n : ℕ) : Fin 16 := ⟨n % 16, Nat.mod_lt _ (by decide)⟩

/-- The neighbour in the first direction. -/
def xn (c : Fin 16) : Fin 16 := dv (4 * zz c + qx (qq c))
/-- The neighbour in the second direction. -/
def yn (c : Fin 16) : Fin 16 := dv (4 * zz c + qy (qq c))
/-- The device of plane `p` at the same place. -/
def col (c : Fin 16) (p : ℕ) : Fin 16 := dv (4 * p + qq c)

/-- The seven candidate planes in order: the own one, then one below, one above, two below, … -/
def vldB (c : Fin 16) (i : ℕ) : Bool :=
  match i with
  | 0 => true
  | 1 => decide (1 ≤ zz c)
  | 2 => decide (zz c + 1 ≤ 3)
  | 3 => decide (2 ≤ zz c)
  | 4 => decide (zz c + 2 ≤ 3)
  | 5 => decide (3 ≤ zz c)
  | 6 => decide (zz c + 3 ≤ 3)
  | _ => false

/-- The candidate exists. -/
abbrev vld (c : Fin 16) (i : ℕ) : Prop := vldB c i = true

/-- The plane of a candidate. -/
def pl (c : Fin 16) (i : ℕ) : ℕ :=
  match i with
  | 0 => zz c
  | 1 => zz c - 1
  | 2 => min 3 (zz c + 1)
  | 3 => zz c - 2
  | 4 => min 3 (zz c + 2)
  | 5 => zz c - 3
  | _ => min 3 (zz c + 3)

/-- How many candidates before it exist. -/
def rk (c : Fin 16) (i : ℕ) : ℕ := ((List.range i).filter fun j => vldB c j).length

/-- Even rank. -/
def evB (c : Fin 16) (i : ℕ) : Bool := rk c i % 2 == 0

/-- The candidate exists and has even rank: its far corner comes in the second direction. -/
abbrev vev (c : Fin 16) (i : ℕ) : Prop := (vldB c i && evB c i) = true
/-- The candidate exists and has odd rank: its far corner comes in the first direction. -/
abbrev vod (c : Fin 16) (i : ℕ) : Prop := (vldB c i && !evB c i) = true

/-- The slot of candidate `i` that arrives in way `k`: down the column (0), in the first direction (1), in the second (2),
    through the far corner (3). -/
def slot (c : Fin 16) (i k : ℕ) : Fin 16 :=
  dv (4 * pl c i + match k with | 0 => qq c | 1 => qx (qq c) | 2 => qy (qq c) | _ => qd (qq c))

/-- Copy `j` happens. -/
def svB (c : Fin 16) (j : ℕ) : Bool :=
  if j < 4 then decide (j ≠ zz c)
  else if j < 18 then vldB c ((j - 4) / 2)
  else if j % 2 = 0 then vldB c ((j - 18) / 2) && evB c ((j - 18) / 2)
  else vldB c ((j - 18) / 2) && !evB c ((j - 18) / 2)

/-- Copy `j` happens. -/
abbrev sv (c : Fin 16) (j : ℕ) : Prop := svB c j = true

/-- Its slot is one the device has: the copy's share of it exists even where the copy doesn't happen. -/
def pvB (c : Fin 16) (j : ℕ) : Bool :=
  if j < 4 then true else if j < 18 then vldB c ((j - 4) / 2) else vldB c ((j - 18) / 2)

/-- The same as a statement. -/
abbrev pv (c : Fin 16) (j : ℕ) : Prop := pvB c j = true

/-- The slot that copy `j` carries. -/
def ss (c : Fin 16) (j : ℕ) : Fin 16 :=
  if j < 4 then c
  else if j < 18 then slot c ((j - 4) / 2) 0
  else if j % 2 = 0 then slot c ((j - 18) / 2) 1
  else slot c ((j - 18) / 2) 2

/-- The device that copy `j` goes to. -/
def st (c : Fin 16) (j : ℕ) : Fin 16 :=
  if j < 4 then col c j
  else if j < 18 then (if j % 2 = 0 then xn c else yn c)
  else if j % 2 = 0 then yn c else xn c

/-- The order in which a device takes a plane. -/
def rkp (c : Fin 16) (p : ℕ) : ℕ :=
  ((List.range 7).filter fun i => vldB c i && pl c i == p).foldl (fun _ i => rk c i) 0

/-- The semaphore on which slot `s` lands at device `c`, counted within the kernel's own. -/
def rsem (c s : Fin 16) : ℕ :=
  let p := zz s
  if qq s = qq c then (if p = zz c then 48 else 32 + p)
  else if qq s = qx (qq c) then 36 + p
  else if qq s = qy (qq c) then 40 + p
  else if rkp c p % 2 = 0 then 46 + rkp c p / 2 else 44 + rkp c p / 2

/-- The device that sends slot `s` to device `c` (itself for its own). -/
def pred (c s : Fin 16) : Fin 16 :=
  if qq s = qq c then s
  else if qq s = qx (qq c) then xn c
  else if qq s = qy (qq c) then yn c
  else if rkp c (zz s) % 2 = 0 then yn c else xn c

/-- The six devices that a device tells it's ready. -/
def nbr (c : Fin 16) (k : ℕ) : Fin 16 := match k with | 0 => xn c | 1 => yn c | n + 2 => col c n

/-- The devices that tell device `c`, which are those it tells. -/
def tells (c : Fin 16) : Finset (Fin 16) := Finset.univ.filter fun d => ∃ k : Fin 6, nbr d k = c

/-! ## Facts of the mesh -/

theorem rsem_lt : ∀ c s : Fin 16, 32 ≤ rsem c s ∧ rsem c s < 49 := by decide +kernel

theorem rsem_inj : ∀ c s s' : Fin 16, rsem c s = rsem c s' → s = s' := by decide +kernel

/-- A copy lands where its receiver waits, from the device it expects. -/
theorem pred_st : ∀ (c : Fin 16) (j : Fin 32), sv c j → pred (st c j) (ss c j) = c ∧ ss c j ≠ st c j := by decide +kernel

/-- No slot is sent to the same device twice by one device. -/
theorem st_inj : ∀ (c : Fin 16) (j j' : Fin 32), sv c j → sv c j' → st c j = st c j' → ss c j = ss c j' → j = j' := by
  decide +kernel

/-- Every slot but the own one comes by one copy of the device expected. -/
theorem exists_send : ∀ c s : Fin 16, s ≠ c → ∃ j : Fin 32, sv (pred c s) j ∧ st (pred c s) j = c ∧ ss (pred c s) j = s := by
  decide +kernel

theorem pred_self : ∀ c : Fin 16, pred c c = c ∧ rsem c c = 48 := by decide +kernel

/-- The target of a copy is one of the devices told. -/
theorem st_tells : ∀ (c : Fin 16) (j : Fin 32), sv c j → c ∈ tells (st c j) ∧ st c j ∈ tells c := by decide +kernel

theorem nbr_inj : ∀ (c : Fin 16) (k k' : Fin 6), nbr c k = nbr c k' → k = k' := by decide +kernel

theorem nbr_tells : ∀ (c : Fin 16) (k : Fin 6), c ∈ tells (nbr c k) := by decide +kernel

theorem tells_card : ∀ c : Fin 16, (tells c).card = 6 := by decide +kernel

theorem tells_symm : ∀ c d : Fin 16, c ∈ tells d → ∃ k : Fin 6, nbr c k = d := by decide +kernel

/-- Each slot is one of exactly one candidate plane and way. -/
theorem slot_cover : ∀ c s : Fin 16, ∃ i : Fin 7, ∃ k : Fin 4, vld c i ∧ slot c i k = s := by decide +kernel

theorem slot_inj : ∀ (c : Fin 16) (i i' : Fin 7) (k k' : Fin 4), vld c i → vld c i' → slot c i k = slot c i' k' → i = i' ∧ k = k' := by
  decide +kernel

/-- The slots of a plane. -/
theorem slot_zz : ∀ (c : Fin 16) (i : Fin 7) (k : Fin 4), zz (slot c i k) = pl c i := by decide +kernel

/-- The planes are taken once each. -/
theorem pl_inj : ∀ (c : Fin 16) (i i' : Fin 7), vld c i → vld c i' → pl c i = pl c i' → i = i' := by decide +kernel

theorem pl_cover : ∀ (c : Fin 16) (p : Fin 4), ∃ i : Fin 7, vld c i ∧ pl c i = p := by decide +kernel

theorem pl_lt : ∀ (c : Fin 16) (i : Fin 7), pl c i < 4 := by decide +kernel

/-- Where the four ways land. -/
theorem rsem_slot : ∀ (c : Fin 16) (i : Fin 7), vld c i →
    rsem c (slot c i 0) = (if i.val = 0 then 48 else 32 + pl c i) ∧ rsem c (slot c i 1) = 36 + pl c i ∧ rsem c (slot c i 2) = 40 + pl c i
      ∧ rsem c (slot c i 3) = (if evB c i then 46 + rk c i / 2 else 44 + rk c i / 2) := by
  decide +kernel

end Cert.AllGather

end
-- ==== Proof.Sched.lean ====
/-
# Sched: buffers, contents, cells and the protocol

The contents are one function for all devices: the gather buffer, once full, holds in slot `s` the block of device `s`
(`gath X`, where `X s` is that block). Each device has fifty cells: thirty-two on which its own copies leave, sixteen on
which slots arrive, one for the copy of its own block and the barrier cell. Everything happens in one round:

* barrier cell of `t`: each of the six devices that tell `t` pays one unit, and with it hands over those of its own slots
  that `t` will write;
* cell on which slot `s` arrives: one copy pays, and hands over the slot holding the block of device `s`;
* cell on which copy `j` leaves: the copy pays, and hands back the share of the slot it read.
-/
module

public import proofs.«01_k».proof.Proof.Mesh
public import proofs.«01_k».proof.Proof.Gen.KernelIdeal
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, duties named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and views -/

abbrev xM : Memref sig .tc .vmem S64x1024 .bf16 := Memref.whole cc0_stg0_0
abbrev wM : Memref sig .tc .vmem S1024x64 .bf16 := Memref.whole cc0_stg1_0
abbrev oM : Memref sig .tc .vmem S1024x64 .f32 := Memref.whole cc0_stg2_0
abbrev gM : Memref sig .tc .vmem S16x64x1024 .bf16 := Memref.whole cc0_scratch0
abbrev sM : Memref sig .tc .vmem S64x1024 .bf16 := Memref.whole cc0_scratch1

/-- The contents of the gather buffer. -/
abbrev GBuf (F : FTy → Type) : Type := (cc0_scratch0 : Ref sig .tc).ty.Contents (Elt F)
/-- The contents of a block of `x`. -/
abbrev XBuf (F : FTy → Type) : Type := (cc0_stg0_0 : Ref sig .tc).ty.Contents (Elt F)

/-- One slot of the gather buffer, at any offsets: the view through which the program copies. -/
abbrev slotAt (off : Fin 3 → ℕ) (inb : ∀ a, off a + S1x64x1024.size a ≤ S16x64x1024.size a) : Memref sig .tc .vmem S64x1024 .bf16 :=
  ((gM : Memref sig .tc .vmem S16x64x1024 .bf16).slice (Rect.unit (s := S16x64x1024) off S1x64x1024.size inb) (fun _ => rfl)).squeeze S64x1024
    squeezes_S1x64x1024_S64x1024

theorem slot_inb (s : Fin 16) : ∀ a, (![s.val, 0, 0] : Fin 3 → ℕ) a + S1x64x1024.size a ≤ S16x64x1024.size a := by revert s; decide

/-- Slot `s`. -/
abbrev slotV (s : Fin 16) : Memref sig .tc .vmem S64x1024 .bf16 := slotAt ![s.val, 0, 0] (slot_inb s)

/-- Its elements. -/
def slotSet (s : Fin 16) : Finset (cc0_scratch0 : Ref sig .tc).ty.Idx := (slotV s).view.set

theorem slotSet_eq (s : Fin 16) : slotSet s = (Rect.unit (s := S16x64x1024) ![s.val, 0, 0] S1x64x1024.size (slot_inb s)).set := by
  unfold slotSet
  refine (View.set_reshape _ _).trans ?_
  exact View.set_slice_whole cc0_scratch0 _

theorem mem_slotSet (s : Fin 16) (i : S16x64x1024.Idx) : i ∈ slotSet s ↔ (i 0).val = s.val := by
  rw [slotSet_eq, Rect.mem_set_unit]
  constructor
  · intro h; have := h 0; simp at this; omega
  · intro h a
    have h1 := (i 1).isLt; have h2 := (i 2).isLt
    fin_cases a
    · exact ⟨le_of_eq h.symm, by show (i 0).val < s.val + 1; omega⟩
    · exact ⟨Nat.zero_le _, by show (i 1).val < 0 + 64; simpa using h1⟩
    · exact ⟨Nat.zero_le _, by show (i 2).val < 0 + 1024; simpa using h2⟩

theorem slotSet_disjoint {s s' : Fin 16} (h : s ≠ s') : Disjoint (slotSet s) (slotSet s') := by
  rw [Finset.disjoint_left]
  intro i hi hi'
  exact h (Fin.ext (((mem_slotSet s i).mp hi).symm.trans ((mem_slotSet s' i).mp hi')))

/-! ## Contents -/

variable (X : Fin 16 → XBuf F)

/-- The gathered buffer: slot `s` is the block of device `s`. -/
def gath : GBuf F := fun (i : S16x64x1024.Idx) => X (i 0) (fun a : Fin 2 => match a with | ⟨0, _⟩ => i 1 | ⟨1, _⟩ => i 2 : S64x1024.Idx)

omit [FloatOps F] in
theorem slot_read (s : Fin 16) : (slotV s).view.read (Elt F) (gath X) = X s := by
  funext y
  have hy : Shape.reshapeEquiv (squeezes_S1x64x1024_S64x1024).numel_eq y = (Fin.cons ⟨0, Nat.one_pos⟩ y : S1x64x1024.Idx) :=
    Shape.reshapeEquiv_cons_one (n := 2) (d := ![64, 1024]) _ y
  show gath X ((Rect.unit (s := S16x64x1024) ![s.val, 0, 0] S1x64x1024.size (slot_inb s)).emb
    (Shape.reshapeEquiv (squeezes_S1x64x1024_S64x1024).numel_eq y)) = X s y
  rw [hy]
  unfold gath
  have h0 : ((Rect.unit (s := S16x64x1024) ![s.val, 0, 0] S1x64x1024.size (slot_inb s)).emb (Fin.cons ⟨0, Nat.one_pos⟩ y)) 0 = s :=
    Fin.ext (by show s.val + 1 * 0 = s.val; omega)
  rw [h0]
  congr 1
  funext a
  fin_cases a
  · exact Fin.ext (by show 0 + 1 * (y 0).val = (y 0).val; omega)
  · exact Fin.ext (by show 0 + 1 * (y 1).val = (y 1).val; omega)

/-! ## Ownership -/

/-- Slot `s` of device `c`'s gather buffer at share `q`. -/
def slotPts (c : Dev nD) (s : Fin 16) (q : PosShare TreeShare) (f : GBuf F) : sProp 𝕄 :=
  ((c : Thread nD τ).loc cc0_scratch0) ↦[slotSet s]{q} f

/-- The second scratch buffer of device `c`. -/
def srcPts (c : Dev nD) (f : (cc0_scratch1 : Ref sig .tc).ty.Contents (Elt F)) : sProp 𝕄 :=
  ((c : Thread nD τ).loc cc0_scratch1) ↦{fullShare} f

omit [FloatOps F] in
theorem slotPts_congr (c : Dev nD) (s : Fin 16) (q : PosShare TreeShare) {f g : GBuf F} (h : ∀ i ∈ slotSet s, f i = g i) :
    slotPts c s q f = (slotPts c s q g : sProp 𝕄) := pointsTo_congr h

omit [FloatOps F] in
/-- A landed copy: what was in the slot before doesn't matter. -/
theorem slot_written (c : Dev nD) (s : Fin 16) (q : PosShare TreeShare) (f : GBuf F) :
    slotPts c s q ((slotV s).view.write (Elt F) f (X s) Finset.univ) = (slotPts c s q (gath X) : sProp 𝕄) := by
  refine slotPts_congr c s q fun i hi => ?_
  rw [← slot_read X s, View.write_read_eq_piecewise]
  exact Finset.piecewise_eq_of_mem _ _ _ hi

omit [FloatOps F] in
theorem slotPts_left_right (c : Dev nD) (s : Fin 16) (q : PosShare TreeShare) (f : GBuf F) :
    (slotPts c s q f : sProp 𝕄) ⊣⊢ iprop(slotPts c s q.left f ∗ slotPts c s q.right f) :=
  pointsTo_share (PosShare.mem_left_op_right q)

/-- The share that copy `j` reads with. -/
def psh (j : ℕ) : PosShare TreeShare :=
  if j < 4 then (match j with
    | 0 => fullShare.right.right.left.left | 1 => fullShare.right.right.left.right
    | 2 => fullShare.right.right.right.left | _ => fullShare.right.right.right.right)
  else if j < 18 then (if j % 2 = 0 then fullShare.left.left else fullShare.left.right)
  else fullShare.left

/-- The share of the slot that copy `j` carries, where the slot exists. -/
def piece (c : Dev nD) (j : ℕ) : sProp 𝕄 := if pv c j then slotPts c (ss c j) (psh j) (gath X) else iprop(emp)

/-! ## Cells -/

/-- The barrier semaphore. -/
abbrev barS : Sem sig := (SemArray.scalar (sig.barrier 0 rfl) : Sems sig S_).sem
/-- The `k`-th of the kernel's own copy semaphores. -/
def dsem (k : ℕ) : DmaSem sig := ⟨(3 + k) % 52, Nat.mod_lt _ (by decide)⟩

theorem dsem_val {k : ℕ} (h : k < 49) : (dsem k).val = 3 + k := Nat.mod_eq_of_lt (by omega)

/-- The cell of it on device `c`. -/
abbrev dcell (c : Dev nD) (k : ℕ) : GSem nD τ sig := ((c : Thread nD τ), .dma (dsem k))
/-- The barrier cell of device `c`. -/
abbrev bcell (c : Dev nD) : GSem nD τ sig := ((c : Thread nD τ), .reg barS)

/-- The fifty semaphores of a device. -/
def csem (k : Fin 50) : SemLoc sig := if k.val < 49 then .dma (dsem k) else .reg barS
abbrev kcell (ck : Dev nD × Fin 50) : GSem nD τ sig := ((ck.1 : Thread nD τ), csem ck.2)

/-- The units of one slot's copy. -/
abbrev N : ℕ := (slotV 0).view.dmaCredit
theorem N_pos : 0 < N := View.dmaCredit_pos _ (by decide)

/-! ## The schedule -/

/-- Who pays on copy semaphore `n` of device `c`. -/
def dutiesAt (c : Dev nD) (n : ℕ) : Finset (Dev nD) :=
  if n < 3 then ∅ else if n < 35 then (if sv c (n - 3) then {c} else ∅)
  else (Finset.univ.filter fun s => rsem c s = n - 3).image (pred c)

/-- What is handed over there. -/
def payAt (c : Dev nD) (n : ℕ) : sProp 𝕄 :=
  if n < 35 then slotPts c (ss c (n - 3)) (psh (n - 3)) (gath X)
  else iprop((bigSep (Finset.univ.filter fun s => rsem c s = n - 3) fun s => slotPts c s fullShare (gath X))
    ∗ (if n = 51 then iprop(∃ f, srcPts c f) else iprop(emp)))

/-- Leave to write slot `ss t j` of device `d`, where copy `j` of device `t` goes there. -/
def leave (t d : Dev nD) (j : Fin 32) : sProp 𝕄 :=
  if sv t j ∧ st t j = d then iprop(∃ f : GBuf F, slotPts d (ss t j) fullShare f) else iprop(emp)

/-- What device `d` hands to device `t` with its unit on the barrier. -/
def barPay (t d : Dev nD) : sProp 𝕄 := bigSep Finset.univ fun j : Fin 32 => leave (F := F) t d j

def Rd : Rounds.Schedule (GSem nD τ sig) (Dev nD) 𝕄 where
  duties g r := if r = 0 then (match g.2 with | .reg _ => tells g.1.1 | .dma q => dutiesAt g.1.1 q.val) else ∅
  unitless _ := False
  amount g _ _ := match g.2 with | .reg _ => 1 | .dma _ => N
  payload g _ d := match g.2 with | .reg _ => barPay g.1.1 d | .dma q => payAt X g.1.1 q.val
  amount_pos g _ _ _ := by
    rcases g with ⟨t, s | q⟩
    · exact Nat.one_pos
    · exact N_pos

instance slotPts_storable (c : Dev nD) (s) (q) (f) : BI.Storable (upEmb : UEmb _ 𝕄) (slotPts (F := F) c s q f) := by unfold slotPts; infer_instance
instance srcPts_storable (c : Dev nD) (f) : BI.Storable (upEmb : UEmb _ 𝕄) (srcPts (F := F) c f) := by unfold srcPts; infer_instance
instance leave_storable (t d : Dev nD) (j) : BI.Storable (upEmb : UEmb _ 𝕄) (leave (F := F) t d j) := by
  unfold leave; split <;> infer_instance
instance payAt_storable (c : Dev nD) (n) : BI.Storable (upEmb : UEmb _ 𝕄) (payAt (F := F) X c n) := by
  unfold payAt; (repeat' split) <;> infer_instance
instance barPay_storable (t d : Dev nD) : BI.Storable (upEmb : UEmb _ 𝕄) (barPay (F := F) t d) := by
  unfold barPay; infer_instance
instance Rd_payload_storable (g : GSem nD τ sig) (r : ℕ) (d : Dev nD) : BI.Storable (upEmb : UEmb _ 𝕄) ((Rd (F := F) X).payload g r d) := by
  rcases g with ⟨t, s | q⟩
  · exact barPay_storable t.1 d
  · exact payAt_storable X t.1 q.val

section
variable (c : Dev nD)

omit [FloatOps F] in
theorem duties_bar : (Rd (F := F) X).duties (bcell c) 0 = tells c := rfl
omit [FloatOps F] in
theorem duties_later (g : GSem nD τ sig) : ∀ r, 1 ≤ r → (Rd (F := F) X).duties g r = ∅ := fun r hr => if_neg (by omega)

omit [FloatOps F] in
theorem duties_send {j : ℕ} (hj : j < 32) (h : sv c j) : (Rd (F := F) X).duties (dcell c j) 0 = {c} := by
  show dutiesAt c (dsem j).val = {c}
  rw [dsem_val (by omega)]
  unfold dutiesAt
  rw [if_neg (by omega), if_pos (by omega), show 3 + j - 3 = j by omega, if_pos h]

theorem recv_filter (s : Fin 16) : (Finset.univ.filter fun s' => rsem c s' = rsem c s) = {s} := by
  ext s'
  simp only [Finset.mem_filter, Finset.mem_univ, true_and, Finset.mem_singleton]
  exact ⟨rsem_inj c s' s, fun h => h ▸ rfl⟩

omit [FloatOps F] in
theorem duties_recv (s : Fin 16) : (Rd (F := F) X).duties (dcell c (rsem c s)) 0 = {pred c s} := by
  have h := rsem_lt c s
  show dutiesAt c (dsem (rsem c s)).val = _
  rw [dsem_val (by omega)]
  unfold dutiesAt
  rw [if_neg (by omega), if_neg (by omega), show 3 + rsem c s - 3 = rsem c s by omega, recv_filter, Finset.image_singleton]

omit [FloatOps F] in
theorem payload_send {j : ℕ} (hj : j < 32) (d : Dev nD) : (Rd (F := F) X).payload (dcell c j) 0 d = slotPts c (ss c j) (psh j) (gath X) := by
  show payAt X c (dsem j).val = _
  rw [dsem_val (by omega)]
  unfold payAt
  rw [if_pos (by omega), show 3 + j - 3 = j by omega]

/-- The landing of slot `s`: the slot, and for the own block the buffer it was copied from. -/
def landing (s : Fin 16) : sProp 𝕄 :=
  iprop(slotPts c s fullShare (gath X) ∗ (if rsem c s = 48 then iprop(∃ f, srcPts c f) else iprop(emp)))

omit [FloatOps F] in
theorem payload_recv (s : Fin 16) (d : Dev nD) : (Rd (F := F) X).payload (dcell c (rsem c s)) 0 d = landing X c s := by
  have h := rsem_lt c s
  show payAt X c (dsem (rsem c s)).val = _
  rw [dsem_val (by omega)]
  unfold payAt landing
  rw [if_neg (by omega), show 3 + rsem c s - 3 = rsem c s by omega, recv_filter, bigSep_singleton]
  congr 1
  by_cases h8 : rsem c s = 48
  · rw [if_pos (by omega), if_pos h8]
  · rw [if_neg (by omega), if_neg h8]

omit [FloatOps F] in
theorem expect_send {j : ℕ} (hj : j < 32) (h : sv c j) : (Rd (F := F) X).expect (dcell c j) 0 = N := by
  unfold Schedule.expect Schedule.amountOf; rw [duties_send X c hj h, Finset.sum_singleton]; rfl
omit [FloatOps F] in
theorem expect_recv (s : Fin 16) : (Rd (F := F) X).expect (dcell c (rsem c s)) 0 = N := by
  unfold Schedule.expect Schedule.amountOf; rw [duties_recv X c s, Finset.sum_singleton]; rfl
omit [FloatOps F] in
theorem expect_bar : (Rd (F := F) X).expect (bcell c) 0 = 6 := by
  unfold Schedule.expect Schedule.amountOf
  rw [duties_bar]
  show ∑ d ∈ tells c, 1 = 6
  rw [Finset.sum_const, tells_card]; rfl

omit [FloatOps F] in
theorem rest_send {j : ℕ} (hj : j < 32) (h : sv c j) :
    bigSep ((Rd (F := F) X).duties (dcell c j) 0 \ ∅) (fun d => (Rd (F := F) X).payload (dcell c j) 0 d) = slotPts c (ss c j) (psh j) (gath X) := by
  rw [Finset.sdiff_empty, duties_send X c hj h, bigSep_singleton, payload_send X c hj]
omit [FloatOps F] in
theorem rest_recv (s : Fin 16) :
    bigSep ((Rd (F := F) X).duties (dcell c (rsem c s)) 0 \ ∅) (fun d => (Rd (F := F) X).payload (dcell c (rsem c s)) 0 d) = landing X c s := by
  rw [Finset.sdiff_empty, duties_recv X c s, bigSep_singleton, payload_recv X c s]

omit [FloatOps F] in
theorem bigSep_swap {α β : Type} [DecidableEq α] [Fintype β] (S : Finset α) (Φ : α → β → sProp 𝕄) :
    (bigSep S fun a => bigSep Finset.univ fun b => Φ a b) = bigSep Finset.univ fun b => bigSep S fun a => Φ a b := by
  induction S using Finset.induction_on with
  | empty => simp only [bigSep_empty, bigSep_emp_const]
  | insert a S ha ih =>
    rw [bigSep_insert ha, ih, ← bigSep_sep]
    exact bigSep_congr fun b _ => (bigSep_insert (Φ := fun a => Φ a b) ha).symm

omit [FloatOps F] in
/-- All six barrier units in: leave for every copy of the device. -/
theorem rest_bar : bigSep ((Rd (F := F) X).duties (bcell c) 0 \ ∅) (fun d => (Rd (F := F) X).payload (bcell c) 0 d)
    ⊢ bigSep Finset.univ fun j : Fin 32 => if sv c j then iprop(∃ f : GBuf F, slotPts (st c j) (ss c j) fullShare f) else (iprop(emp) : sProp 𝕄) := by
  rw [Finset.sdiff_empty, duties_bar]
  show bigSep (tells c) (fun d => barPay (F := F) c d) ⊢ _
  unfold barPay
  rw [bigSep_swap]
  refine bigSep_mono fun j _ => ?_
  by_cases h : sv c j
  · rw [if_pos h]
    refine (bigSep_elim (i := st c j) (st_tells c j h).2).trans ?_
    unfold leave
    rw [if_pos ⟨h, rfl⟩]
    exact fun _ h => h
  · rw [if_neg h]
    exact fun _ _ => trivial

end

end Cert.AllGather

end
-- ==== Proof.State.lean ====
/-
# State: what a device holds between two operations

Throughout its run a device is in a state `ST` told by three counters and one set: how many of its copies it has come to
(`a`), how many of those it has waited for again (`d`), how many row blocks of the result are done (`o`), and which
arrivals it has waited for (`G`). Arrivals are numbered: `4 i + k` is way `k` of candidate plane `i`, where the far corner
(`k = 3`) counts here only where it comes in the second direction; `28 + i` is the far corner coming in the first.

A slot that has arrived is split at once: a share that stays (`kept`), and the shares that the copies out of it will read
with (`piece`).
-/
module

public import proofs.«01_k».proof.Proof.Sched
public import Mathlib.Algebra.BigOperators.Intervals

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Levels and what is owed -/

/-- A wait lies below everything the waiter still owes: the staging and leaving copies at the bottom, then the barrier, then
    the column, the first hop within a plane, the second hop. -/
def lvn (n : ℕ) : ℕ := if n < 35 then 0 else if n < 39 then 2 else if n < 47 then 3 else if n < 51 then 4 else 0

def lvs : SemLoc sig → ℕ
  | .reg _ => 1
  | .dma q => lvn q.val

def lv (g : GSem nD τ sig) (_ : Unit) : ℕ := lvs g.2
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- What copy `j` owes. -/
def owedBy (c : Dev nD) (j : ℕ) : CellTallies nD τ sig Unit :=
  if sv c j then tallyAt (dcell (st c j) (rsem (st c j) (ss c j))) () N else 0

/-- What is owed with copies `a` and later still to come. -/
def owedFrom (c : Dev nD) (a : ℕ) : CellTallies nD τ sig Unit := ∑ j ∈ Finset.Ico a 32, owedBy c j

theorem owedFrom_succ (c : Dev nD) {a : ℕ} (h : a < 32) : owedFrom c a = owedFrom c (a + 1) + owedBy c a := by
  unfold owedFrom
  rw [Finset.sum_eq_sum_Ico_succ_bot h, add_comm]

theorem owedFrom_end (c : Dev nD) : owedFrom c 32 = 0 := by unfold owedFrom; rw [Finset.Ico_self, Finset.sum_empty]

theorem owedFrom_pos {c : Dev nD} {a : ℕ} {g : GSem nD τ sig} {u : Unit} (h : 0 < owedFrom c a g u) :
    ∃ j, a ≤ j ∧ j < 32 ∧ sv c j ∧ g = dcell (st c j) (rsem (st c j) (ss c j)) := by
  obtain ⟨j, hj, hp⟩ := Pipeline.sum_pos_exists h
  rw [Finset.mem_Ico] at hj
  unfold owedBy at hp
  by_cases hs : sv c j
  · rw [if_pos hs, tallyAt_apply] at hp
    refine ⟨j, hj.1, hj.2, hs, ?_⟩
    by_contra hg
    rw [if_neg fun h' => hg h'.1] at hp
    exact Nat.lt_irrefl 0 hp
  · rw [if_neg hs] at hp
    exact absurd hp (Nat.lt_irrefl 0)

omit [FloatOps F] in
/-- A wait below every landing still owed. -/
theorem mayWait_from (c : Dev nD) (s : SemLoc sig) (a : ℕ)
    (h : ∀ j, a ≤ j → j < 32 → sv c j → lvs s < lvn (3 + rsem (st c j) (ss c j))) :
    (levAts L lv : sProp 𝕄) ⊢ MayWait (c : Thread nD τ) s () (owedFrom c a) :=
  Pipeline.mayWait_of_levAts (by rw [L_tc]; exact Finset.mem_singleton_self _) fun g i hg => by
    obtain ⟨j, h1, h2, h3, rfl⟩ := owedFrom_pos hg
    refine ⟨by rw [L_tc]; exact Finset.mem_singleton_self _, ?_⟩
    have hr := rsem_lt (st c j) (ss c j)
    show lvs s < lvn (dsem _).val
    rw [dsem_val (by omega)]
    exact h j h1 h2 h3

/-! ## Arrivals -/

/-- Arrival `n` happens. -/
def gvB (c : Fin 16) (n : ℕ) : Bool :=
  if n < 28 then (if n % 4 = 3 then vldB c (n / 4) && evB c (n / 4) else vldB c (n / 4)) else vldB c (n - 28) && !evB c (n - 28)
/-- The same as a statement. -/
abbrev gv (c : Fin 16) (n : ℕ) : Prop := gvB c n = true

/-- The slot that it brings. -/
def sl (c : Fin 16) (n : ℕ) : Fin 16 := if n < 28 then slot c (n / 4) (n % 4) else slot c (n - 28) 3

/-- The arrival whose slot copy `j` carries on. -/
def srcOf (j : ℕ) : ℕ := if j < 4 then 0 else if j < 18 then 4 * ((j - 4) / 2) else 4 * ((j - 18) / 2) + (if j % 2 = 0 then 1 else 2)

theorem sl_src : ∀ (c : Fin 16) (j : Fin 32), sl c (srcOf j) = ss c j := by decide +kernel
theorem pv_src : ∀ (c : Fin 16) (j : Fin 32), pvB c j = gvB c (srcOf j) := by decide +kernel
theorem pv_of_sv : ∀ (c : Fin 16) (j : Fin 32), sv c j → pv c j := by decide +kernel
theorem sl_inj : ∀ (c : Fin 16) (n n' : Fin 35), gv c n → gv c n' → sl c n = sl c n' → n = n' := by decide +kernel
theorem sl_surj : ∀ (c s : Fin 16), ∃ n : Fin 35, gv c n ∧ sl c n = s := by decide +kernel

variable (X : Fin 16 → XBuf F)

/-- The share of an arrived slot that stays. -/
def kept (c : Dev nD) (n : ℕ) : sProp 𝕄 :=
  iprop(slotPts c (sl c n) fullShare.right.left (gath X)
    ∗ (if n = 0 then iprop(emp) else slotPts c (sl c n) fullShare.right.right (gath X))
    ∗ (if n % 4 = 3 ∨ 28 ≤ n then slotPts c (sl c n) fullShare.left (gath X) else iprop(emp)))

/-- The copies that carry arrival `n` on. -/
def outOf (n : ℕ) : Finset ℕ := (Finset.range 32).filter fun j => srcOf j = n

theorem outOf_zero : outOf 0 = {0, 1, 2, 3, 4, 5} := by decide +kernel
theorem outOf_first : ∀ n : Fin 35, n.val ≠ 0 → n.val % 4 = 0 → n.val < 28 → outOf n = {4 + n.val / 2, 4 + n.val / 2 + 1} := by decide +kernel
theorem outOf_mid : ∀ n : Fin 35, n.val % 4 ≠ 0 → ¬ (n.val % 4 = 3 ∨ 28 ≤ n.val) → ∃ j, outOf n = {j} ∧ 18 ≤ j := by
  have h : ∀ n : Fin 35, n.val % 4 ≠ 0 → ¬ (n.val % 4 = 3 ∨ 28 ≤ n.val) → outOf n = {17 + 2 * (n.val / 4) + n.val % 4} := by decide +kernel
  exact fun n h1 h2 => ⟨_, h n h1 h2, by omega⟩
theorem outOf_last : ∀ n : Fin 35, (n.val % 4 = 3 ∨ 28 ≤ n.val) → outOf n = ∅ := by decide +kernel

theorem psh_even (j : ℕ) (h1 : 4 ≤ j) (h2 : j < 18) (h3 : j % 2 = 0) : psh j = fullShare.left.left := by
  unfold psh; rw [if_neg (by omega), if_pos h2, if_pos h3]
theorem psh_odd (j : ℕ) (h1 : 4 ≤ j) (h2 : j < 18) (h3 : j % 2 ≠ 0) : psh j = fullShare.left.right := by
  unfold psh; rw [if_neg (by omega), if_pos h2, if_neg h3]
theorem psh_late (j : ℕ) (h1 : 18 ≤ j) : psh j = fullShare.left := by
  unfold psh; rw [if_neg (by omega), if_neg (by omega)]

omit [FloatOps F] in
theorem sep_eq₀ (A B C D E J K : sProp 𝕄) : iprop((A ∗ B) ∗ C ∗ (D ∗ E) ∗ J ∗ K) = (iprop((C ∗ emp ∗ emp) ∗ D ∗ E ∗ J ∗ K ∗ A ∗ B) : sProp 𝕄) := by
  refine BI.Entails.antisymm (show iprop((A ∗ B) ∗ C ∗ (D ∗ E) ∗ J ∗ K) ⊢ (iprop((C ∗ emp ∗ emp) ∗ D ∗ E ∗ J ∗ K ∗ A ∗ B) : sProp 𝕄) from ?_) (show iprop((C ∗ emp ∗ emp) ∗ D ∗ E ∗ J ∗ K ∗ A ∗ B) ⊢ (iprop((A ∗ B) ∗ C ∗ (D ∗ E) ∗ J ∗ K) : sProp 𝕄) from ?_)
  · iintro ⟨⟨HA, HB⟩, HC, ⟨HD, HE⟩, HJ, HK⟩
    isplitl [HC]
    · isplitl [HC]
      · iexact HC
      isplitl []
      · iempintro
      iempintro
    isplitl [HD]
    · iexact HD
    isplitl [HE]
    · iexact HE
    isplitl [HJ]
    · iexact HJ
    isplitl [HK]
    · iexact HK
    isplitl [HA]
    · iexact HA
    iexact HB
  · iintro ⟨⟨HC, -, -⟩, HD, HE, HJ, HK, HA, HB⟩
    isplitl [HA HB]
    · isplitl [HA]
      · iexact HA
      iexact HB
    isplitl [HC]
    · iexact HC
    isplitl [HD HE]
    · isplitl [HD]
      · iexact HD
      iexact HE
    isplitl [HJ]
    · iexact HJ
    iexact HK
omit [FloatOps F] in
theorem sep_eq₃ (A B C : sProp 𝕄) : iprop(A ∗ B ∗ C) = (iprop((B ∗ C ∗ A) ∗ emp) : sProp 𝕄) := by
  refine BI.Entails.antisymm (show iprop(A ∗ B ∗ C) ⊢ (iprop((B ∗ C ∗ A) ∗ emp) : sProp 𝕄) from ?_) (show iprop((B ∗ C ∗ A) ∗ emp) ⊢ (iprop(A ∗ B ∗ C) : sProp 𝕄) from ?_)
  · iintro ⟨HA, HB, HC⟩
    isplitl [HB HC HA]
    · isplitl [HB]
      · iexact HB
      isplitl [HC]
      · iexact HC
      iexact HA
    iempintro
  · iintro ⟨⟨HB, HC, HA⟩, -⟩
    isplitl [HA]
    · iexact HA
    isplitl [HB]
    · iexact HB
    iexact HC
omit [FloatOps F] in
theorem sep_eq₁ (A B C D : sProp 𝕄) : iprop((A ∗ B) ∗ C ∗ D) = (iprop((C ∗ D ∗ emp) ∗ A ∗ B) : sProp 𝕄) := by
  refine BI.Entails.antisymm (show iprop((A ∗ B) ∗ C ∗ D) ⊢ (iprop((C ∗ D ∗ emp) ∗ A ∗ B) : sProp 𝕄) from ?_) (show iprop((C ∗ D ∗ emp) ∗ A ∗ B) ⊢ (iprop((A ∗ B) ∗ C ∗ D) : sProp 𝕄) from ?_)
  · iintro ⟨⟨HA, HB⟩, HC, HD⟩
    isplitl [HC HD]
    · isplitl [HC]
      · iexact HC
      isplitl [HD]
      · iexact HD
      iempintro
    isplitl [HA]
    · iexact HA
    iexact HB
  · iintro ⟨⟨HC, HD, -⟩, HA, HB⟩
    isplitl [HA HB]
    · isplitl [HA]
      · iexact HA
      iexact HB
    isplitl [HC]
    · iexact HC
    iexact HD
omit [FloatOps F] in
theorem sep_eq₂ (A B C : sProp 𝕄) : iprop(A ∗ B ∗ C) = (iprop((B ∗ C ∗ emp) ∗ A) : sProp 𝕄) := by
  refine BI.Entails.antisymm (show iprop(A ∗ B ∗ C) ⊢ (iprop((B ∗ C ∗ emp) ∗ A) : sProp 𝕄) from ?_) (show iprop((B ∗ C ∗ emp) ∗ A) ⊢ (iprop(A ∗ B ∗ C) : sProp 𝕄) from ?_)
  · iintro ⟨HA, HB, HC⟩
    isplitl [HB HC]
    · isplitl [HB]
      · iexact HB
      isplitl [HC]
      · iexact HC
      iempintro
    iexact HA
  · iintro ⟨⟨HB, HC, -⟩, HA⟩
    isplitl [HA]
    · iexact HA
    isplitl [HB]
    · iexact HB
    iexact HC

omit [FloatOps F] in
/-- An arrived slot is the share that stays and those of the copies out of it. -/
theorem slot_split (c : Dev nD) {n : ℕ} (hn : n < 35) (h : gv c n) :
    (slotPts c (sl c n) fullShare (gath X) : sProp 𝕄) = iprop(kept X c n ∗ bigSep (outOf n) (piece X c)) := by
  have e (s : Fin 16) (q : PosShare TreeShare) : (slotPts c s q (gath X) : sProp 𝕄) = iprop(slotPts c s q.left (gath X) ∗ slotPts c s q.right (gath X)) :=
    (slotPts_left_right c s q (gath X)).1.antisymm (slotPts_left_right c s q (gath X)).2
  have hp (j : ℕ) (hj : j < 32) (hs : srcOf j = n) : (piece X c j : sProp 𝕄) = slotPts c (sl c n) (psh j) (gath X) := by
    have h1 := pv_src c ⟨j, hj⟩; have h2 := sl_src c ⟨j, hj⟩
    simp only [hs] at h1 h2
    unfold piece
    rw [if_pos (show pv c j from h1.trans h), ← h2]
  have hps : (bigSep (outOf n) (piece X c) : sProp 𝕄) = bigSep (outOf n) fun j => slotPts c (sl c n) (psh j) (gath X) :=
    bigSep_congr fun j hj => by
      unfold outOf at hj
      rw [Finset.mem_filter, Finset.mem_range] at hj
      exact hp j hj.1 hj.2
  rw [hps]
  unfold kept
  generalize sl c n = s at *
  by_cases h0 : n = 0
  · subst h0
    rw [outOf_zero, if_pos rfl, if_neg (by decide), bigSep_insert (by decide), bigSep_insert (by decide), bigSep_insert (by decide),
      bigSep_insert (by decide), bigSep_insert (by decide), bigSep_singleton]
    rw [e s fullShare, e s fullShare.left, e s fullShare.right, e s fullShare.right.right, e s fullShare.right.right.left, e s fullShare.right.right.right]
    exact sep_eq₀ _ _ _ _ _ _ _
  rw [if_neg h0]
  by_cases h3 : n % 4 = 3 ∨ 28 ≤ n
  · rw [if_pos h3, outOf_last ⟨n, hn⟩ h3, bigSep_empty, e s fullShare, e s fullShare.right]
    exact sep_eq₃ _ _ _
  rw [if_neg h3]
  by_cases h4 : n % 4 = 0
  · rw [outOf_first ⟨n, hn⟩ h0 h4 (by show n < 28; omega), bigSep_insert (by simp), bigSep_singleton,
      psh_even _ (by omega) (by show 4 + n / 2 < 18; omega) (by show (4 + n / 2) % 2 = 0; omega),
      psh_odd _ (by omega) (by show 4 + n / 2 + 1 < 18; omega) (by show (4 + n / 2 + 1) % 2 ≠ 0; omega), e s fullShare, e s fullShare.right, e s fullShare.left]
    exact sep_eq₁ _ _ _ _
  · obtain ⟨j, ho, hj⟩ := outOf_mid ⟨n, hn⟩ h4 h3
    rw [ho, bigSep_singleton, psh_late _ hj, e s fullShare, e s fullShare.right]
    exact sep_eq₂ _ _ _

/-! ## The state -/

/-- What copy `j` needs before it starts, but for the share that it reads with. -/
def todo (c : Dev nD) (j : ℕ) : sProp 𝕄 :=
  if sv c j then iprop(dutyTok ER (dcell c j) 0 c ∗ dutyTok ER (dcell (st c j) (rsem (st c j) (ss c j))) 0 c ∗ atPos ER (dcell c j) 0 ∅ 0
    ∗ ∃ f : GBuf F, slotPts (st c j) (ss c j) fullShare f) else iprop(emp)

/-- What is left of it on the way. -/
def flight (c : Dev nD) (j : ℕ) : sProp 𝕄 :=
  if sv c j then iprop(cred (tallyAt (dcell c j) () N) ∗ atPos ER (dcell c j) 0 ∅ 0) else piece X c j

/-- What is left of it once its source is free again. -/
def finished (c : Dev nD) (j : ℕ) : sProp 𝕄 :=
  iprop((if sv c j then atPos ER (dcell c j) 1 ∅ 0 else iprop(emp)) ∗ piece X c j)

/-- Copy `j` in the state. -/
def sendSt (c : Dev nD) (a d : ℕ) (G : Finset ℕ) (j : ℕ) : sProp 𝕄 :=
  if j < d then finished X c j else if j < a then flight X c j
  else iprop(todo c j ∗ (if srcOf j ∈ G then piece X c j else iprop(emp)))

/-- The right to wait for arrival `n`. -/
def rtodo (c : Dev nD) (n : ℕ) : sProp 𝕄 :=
  if gv c n then iprop(cred (tallyAt (dcell c (rsem c (sl c n))) () N) ∗ atPos ER (dcell c (rsem c (sl c n))) 0 ∅ 0) else iprop(emp)

/-- What stays of it. -/
def arrived (c : Dev nD) (n : ℕ) : sProp 𝕄 :=
  if gv c n then iprop(atPos ER (dcell c (rsem c (sl c n))) 1 ∅ 0 ∗ kept X c n) else iprop(emp)

/-- Arrival `n` in the state. -/
def recvSt (c : Dev nD) (G : Finset ℕ) (n : ℕ) : sProp 𝕄 := if n ∈ G then arrived X c n else rtodo c n

/-! The result is written in blocks of 256 rows, one for each plane. -/

theorem rows_inb (p : Fin 4) : ∀ a, (![256 * p.val, 0] : Fin 2 → ℕ) a + S256x64.size a ≤ S1024x64.size a := by revert p; decide
theorem plane_inb (p : Fin 4) : ∀ a, (![4 * p.val, 0, 0] : Fin 3 → ℕ) a + S4x64x1024.size a ≤ S16x64x1024.size a := by revert p; decide

/-- A number as a plane. -/
def pf (n : ℕ) : Fin 4 := ⟨n % 4, Nat.mod_lt _ (by decide)⟩

/-- The rows of plane `p`. -/
abbrev rowsRect (p : Fin 4) : Rect S1024x64 := Rect.unit (s := S1024x64) ![256 * p.val, 0] S256x64.size (rows_inb p)
/-- The slots of plane `p`. -/
abbrev planeRect (p : Fin 4) : Rect S16x64x1024 := Rect.unit (s := S16x64x1024) ![4 * p.val, 0, 0] S4x64x1024.size (plane_inb p)

/-- The contents of the result's block. -/
abbrev OBuf (F : FTy → Type) : Type := (cc0_stg2_0 : Ref sig .tc).ty.Contents (Elt F)

def rowSet (p : Fin 4) : Finset (cc0_stg2_0 : Ref sig .tc).ty.Idx := ((oM : Memref sig .tc .vmem S1024x64 .f32).access (rowsRect p)).set

def rowPts (c : Dev nD) (p : Fin 4) (f : OBuf F) : sProp 𝕄 := ((c : Thread nD τ).loc cc0_stg2_0) ↦[rowSet p]{fullShare} f

/-- The product of one plane, from the four slots read at once. -/
abbrev Prod (F : FTy → Type) : Type := (Fin 3 → ℕ) → (S4x64x1024.Idx → Elt F .bf16) → (S256x64.Idx → Elt F .f32)

variable (OUT : OBuf F)

/-- Row block of candidate `i` in the state. -/
def outSt (c : Dev nD) (o i : ℕ) : sProp 𝕄 :=
  if vld c i then (if i < o then rowPts c (pf (pl c i)) OUT else iprop(∃ f : OBuf F, rowPts c (pf (pl c i)) f)) else iprop(emp)

/-- The invariants of all cells, that round 0 has begun on each, and the levels. -/
def Recs (κ : Dev nD × Fin 50 → ℕ) : sProp 𝕄 :=
  iprop((bigSep Finset.univ fun ck : Dev nD × Fin 50 => cellInv ER (Rd X) (κ ck) (kcell ck))
    ∗ (bigSep Finset.univ fun ck : Dev nD × Fin 50 => reached ER (kcell ck) 0) ∗ levAts L lv)

instance Recs_persistent (κ : Dev nD × Fin 50 → ℕ) : BI.Persistent (Recs X κ) := by unfold Recs; infer_instance

/-- What a device owes. -/
def owesN (c : Dev nD) (a : ℕ) : sProp 𝕄 := iprop(∃ W, owes (c : Thread nD τ) (owedFrom c a) W)

/-- The state, beside anything else (`R`). -/
def ST (κ : Dev nD × Fin 50 → ℕ) (R : sProp 𝕄) (c : Dev nD) (a d o : ℕ) (G : Finset ℕ) : sProp 𝕄 :=
  iprop(Recs X κ ∗ R ∗ owesN c a ∗ bigSep (Finset.range 32) (sendSt X c a d G) ∗ bigSep (Finset.range 35) (recvSt X c G)
    ∗ bigSep (Finset.range 7) (outSt OUT c o))

section
variable (κ : Dev nD × Fin 50 → ℕ)

omit [FloatOps F] in
theorem Recs_at (ck : Dev nD × Fin 50) : Recs X κ ⊢ iprop(cellInv ER (Rd X) (κ ck) (kcell ck) ∗ reached ER (kcell ck) 0) := by
  have h1 : (bigSep Finset.univ fun ck : Dev nD × Fin 50 => cellInv ER (Rd X) (κ ck) (kcell ck)) ⊢ cellInv ER (Rd X) (κ ck) (kcell ck) :=
    bigSep_elim (Φ := fun ck : Dev nD × Fin 50 => cellInv ER (Rd X) (κ ck) (kcell ck)) (Finset.mem_univ ck)
  have h2 : (bigSep Finset.univ fun ck : Dev nD × Fin 50 => (reached ER (kcell ck) 0 : sProp 𝕄)) ⊢ reached ER (kcell ck) 0 :=
    bigSep_elim (Φ := fun ck : Dev nD × Fin 50 => (reached ER (kcell ck) 0 : sProp 𝕄)) (Finset.mem_univ ck)
  unfold Recs
  iintro ⟨H1, H2, H3⟩
  isplitl [H1]
  · iapply h1 $$ H1
  · iapply h2 $$ H2

/-- The name of a copy cell's invariant. -/
abbrev kn (c : Dev nD) (k : ℕ) : ℕ := κ (c, ⟨k % 50, Nat.mod_lt _ (by decide)⟩)

omit [FloatOps F] in
theorem Recs_d (c : Dev nD) {k : ℕ} (hk : k < 49) : Recs X κ ⊢ iprop(cellInv ER (Rd X) (kn κ c k) (dcell c k) ∗ reached ER (dcell c k) 0) := by
  have h := Recs_at X κ (c, ⟨k % 50, Nat.mod_lt _ (by decide)⟩)
  have e : kcell (c, ⟨k % 50, Nat.mod_lt _ (by decide)⟩) = dcell c k := by
    have : k % 50 = k := Nat.mod_eq_of_lt (by omega)
    show ((c : Thread nD τ), csem _) = _
    unfold csem
    simp only [this, hk, if_true]
  rwa [e] at h

omit [FloatOps F] in
theorem Recs_b (c : Dev nD) : Recs X κ ⊢ iprop(cellInv ER (Rd X) (kn κ c 49) (bcell c) ∗ reached ER (bcell c) 0) := Recs_at X κ (c, 49)

omit [FloatOps F] in
theorem Recs_wait (c : Dev nD) (s : SemLoc sig) (a : ℕ)
    (h : ∀ j, a ≤ j → j < 32 → sv c j → lvs s < lvn (3 + rsem (st c j) (ss c j))) :
    Recs X κ ⊢ MayWait (c : Thread nD τ) s () (owedFrom c a) := by
  have hm := mayWait_from (F := F) c s a h
  unfold Recs
  iintro ⟨-, -, H⟩
  iapply hm; iexact H
end

/-! ## Changing one member of a family -/

omit [FloatOps F] in
theorem fam_step {S : Finset ℕ} {Φ Ψ : ℕ → sProp 𝕄} {j : ℕ} (hj : j ∈ S) (h : ∀ i ∈ S, i ≠ j → Φ i = Ψ i) :
    bigSep S Φ ⊢ iprop(Φ j ∗ (Ψ j -∗ bigSep S Ψ)) := by
  have e : bigSep S Φ = iprop(Φ j ∗ bigSep (S.erase j) Ψ) := by
    rw [bigSep_erase hj,
      bigSep_congr (s := S.erase j) (Φ := Φ) (Ψ := Ψ) fun i hi => h i (Finset.mem_of_mem_erase hi) (Finset.ne_of_mem_erase hi)]
    rfl
  have e' : bigSep S Ψ = iprop(Ψ j ∗ bigSep (S.erase j) Ψ) := bigSep_erase hj
  rw [e, e']
  iintro ⟨H, HR⟩
  isplitl [H]; · iexact H
  iintro H'
  isplitl [H'] <;> iassumption

end Cert.AllGather

end
-- ==== Proof.Steps.lean ====
/-
# Steps: one operation of the kernel at a time

Each step takes the state before an operation to the state after it, whatever runs next. The guarded operations come as the
program has them, in the branch of a condition; the condition says exactly whether the copy (the arrival, the plane) exists
on this device, and where it doesn't the state changes in name only.
-/
module

public import proofs.«01_k».proof.Proof.State

@[expose] public section

set_option maxRecDepth 4000

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable {Λ : Labels} (df : Defs nD τ sig (Elt F) Λ)

/-- The weakest precondition of a piece of device `c`'s program. -/
abbrev WP (c : Dev nD) {α : Type} (p : Prog (TpuEff nD τ sig (Elt F) Λ .tc) α) (Q : α → sProp 𝕄) : sProp 𝕄 :=
  wp frame (wpE df 𝒱₀ (c : Thread nD τ) none) Set.univ p Q

variable (X : Fin 16 → XBuf F) (OUT : OBuf F) (κ : Dev nD × Fin 50 → ℕ)

section
variable {α : Type}

theorem amount_slot (off : Fin 3 → ℕ) (inb : ∀ a, off a + S1x64x1024.size a ≤ S16x64x1024.size a) (s : DmaSem sig) :
    (slotAt off inb).view.amount (.dma s) = N := rfl
theorem credit_slot (off : Fin 3 → ℕ) (inb : ∀ a, off a + S1x64x1024.size a ≤ S16x64x1024.size a) :
    (slotAt off inb).view.dmaCredit = N := rfl
omit [FloatOps F] in
theorem amount_dma (t : Thread nD τ) (s : DmaSem sig) (d : Dev nD) : (Rd (F := F) X).amount (t, .dma s) 0 d = N := rfl

theorem owedFrom_sv (c : Dev nD) {j : ℕ} (hj : j < 32) (hs : sv c j) :
    owedFrom c j = owedFrom c (j + 1) + tallyAt (dcell (st c j) (rsem (st c j) (ss c j))) () N := by
  rw [owedFrom_succ c hj]; unfold owedBy; rw [if_pos hs]

omit [FloatOps F] in
/-- What a landed slot hands over. -/
theorem land_pay (c t : Dev nD) (s : Fin 16) (h : s ≠ t) (f : GBuf F) :
    ((slotV s).view.loc (t : Thread nD τ) ↦[(slotV s).view.set]{fullShare} ((slotV s).view.write (Elt F) f ((slotV s).view.read (Elt F) (gath X)) Finset.univ))
      ⊢ (Rd X).payload (dcell t (rsem t s)) 0 c := by
  rw [payload_recv X t s, slot_read]
  have h8 : rsem t s ≠ 48 := fun h' => h (rsem_inj t s t (h'.trans (pred_self t).2.symm))
  unfold landing
  rw [if_neg h8]
  show slotPts t s fullShare _ ⊢ _
  rw [slot_written]
  exact (sep_emp (PROP := sProp 𝕄)).2

/-! ## A remote copy -/

/-- Copy `j` starts: it pays the receiver's landing and its own cell. -/
theorem send_core (c : Dev nD) {j : ℕ} (hj : j < 32) (hs : sv c j) {off : Fin 3 → ℕ}
    {inb : ∀ a, off a + S1x64x1024.size a ≤ S16x64x1024.size a} (hoff : off = ![(ss c j).val, 0, 0])
    {n : Dev nD} (hn : n = st c j) {s1 s2 : DmaSem sig} (hs1 : s1 = dsem j) (hs2 : s2 = dsem (rsem (st c j) (ss c j)))
    {hsc : (slotAt off inb).view.ref.isScScratch = false} {hsrc hdst : (slotAt off inb).view.WordExact}
    {hsem : DmaTarget.Typed .vmem (.dma s2) (.remote (Dev.tc n : Thread nD τ) (slotAt off inb) (.dma s1) hsc)}
    {k : PUnit → Prog (TpuEff nD τ sig (Elt F) Λ .tc) α} {Q : α → sProp 𝕄} :
    iprop(Recs X κ ∗ owesN c j ∗ todo c j ∗ piece X c j)
      ⊢ iprop(((owesN c (j + 1) ∗ flight X c j) -∗ WP df c (k ⟨⟩) Q)
        -∗ WP df c (.op (.enqueueDma (slotAt off inb) (.remote (Dev.tc n : Thread nD τ) (slotAt off inb) (.dma s1) hsc) (.dma s2) hsrc hdst hsem) k) Q) := by
  subst hoff hn hs1 hs2
  have hr := rsem_lt (st c j) (ss c j)
  have hpd := pred_st c ⟨j, hj⟩ hs
  have hpv : pv c j := pv_of_sv c ⟨j, hj⟩ hs
  unfold owesN todo flight piece
  rw [if_pos hs, if_pos hs, if_pos hpv]
  iintro ⟨#HR, ⟨%W, HO⟩, ⟨Ht1, Ht2, Hat, ⟨%f, Hd⟩⟩, Hp⟩ Hk
  ihave H1 := (Recs_d X κ c (k := j) (by omega)) $$ HR
  icases H1 with ⟨#HI1, #Hr1⟩
  ihave H2 := (Recs_d X κ (st c j) (k := rsem (st c j) (ss c j)) (by omega)) $$ HR
  icases H2 with ⟨#HI2, #Hr2⟩
  unfold slotPts
  iapply (Rounds.wp_send_pointsTo 𝒱₀ ER (Rd X) (c : Thread nD τ) none (κ₁ := kn κ c j) (κ₂ := kn κ (st c j) (rsem (st c j) (ss c j)))
    (c' := (Dev.tc (st c j) : Thread nD τ)) (src := slotV (ss c j)) (dst := slotV (ss c j))
    (r₁ := 0) (r₂ := 0) (d₁ := c) (d₂ := c) (fd := f)
    (by rw [duties_send X c hj hs]; exact Finset.mem_singleton_self _)
    (by rw [duties_recv X (st c j) (ss c j), hpd.1]; exact Finset.mem_singleton_self _)
    () () N (amount_slot _ _ _) (amount_dma X _ _ _) (amount_dma X _ _ _) (owedFrom c (j + 1)) (owedFrom_sv c hj hs) (W := W)
    (by rw [payload_send X c hj]; exact BI.Entails.refl _)
    (land_pay X c (st c j) (ss c j) hpd.2 f)) $$ [Hp Hd HO Ht1 Ht2]
  · isplitr; · iexact HI1
    isplitr; · iexact HI2
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc] <;> iassumption

omit [FloatOps F] in
/-- One copy's place in the state, before and after it starts. -/
theorem send_fam (c : Dev nD) {j d : ℕ} {G : Finset ℕ} (hj : j < 32) (hd : d ≤ j) (hG : srcOf j ∈ G) :
    bigSep (Finset.range 32) (sendSt X c j d G)
      ⊢ iprop((todo c j ∗ piece X c j) ∗ (flight X c j -∗ bigSep (Finset.range 32) (sendSt X c (j + 1) d G))) := by
  have h := fam_step (Φ := sendSt X c j d G) (Ψ := sendSt X c (j + 1) d G) (Finset.mem_range.mpr hj) fun i _ hi => by
    unfold sendSt
    by_cases h1 : i < d
    · rw [if_pos h1, if_pos h1]
    · rw [if_neg h1, if_neg h1]
      by_cases h2 : i < j
      · rw [if_pos h2, if_pos (by omega)]
      · rw [if_neg h2, if_neg (show ¬ i < j + 1 by omega)]
  have e1 : sendSt X c j d G j = iprop(todo c j ∗ piece X c j) := by
    unfold sendSt; rw [if_neg (by omega), if_neg (by omega), if_pos hG]
  have e2 : sendSt X c (j + 1) d G j = flight X c j := by unfold sendSt; rw [if_neg (by omega), if_pos (by omega)]
  rwa [e1, e2] at h

/-- Copy `j` in the state. -/
theorem step_send {R : sProp 𝕄} (c : Dev nD) {j d o : ℕ} {G : Finset ℕ} (hj : j < 32) (hd : d ≤ j) (hG : srcOf j ∈ G) (hs : sv c j) {off : Fin 3 → ℕ}
    {inb : ∀ a, off a + S1x64x1024.size a ≤ S16x64x1024.size a} (hoff : off = ![(ss c j).val, 0, 0])
    {n : Dev nD} (hn : n = st c j) {s1 s2 : DmaSem sig} (hs1 : s1 = dsem j) (hs2 : s2 = dsem (rsem (st c j) (ss c j)))
    {hsc : (slotAt off inb).view.ref.isScScratch = false} {hsrc hdst : (slotAt off inb).view.WordExact}
    {hsem : DmaTarget.Typed .vmem (.dma s2) (.remote (Dev.tc n : Thread nD τ) (slotAt off inb) (.dma s1) hsc)}
    {K : Prog (TpuEff nD τ sig (Elt F) Λ .tc) α} {Q : α → sProp 𝕄}
    (hK : ST X OUT κ R c (j + 1) d o G ⊢ WP df c K Q) :
    ST X OUT κ R c j d o G ⊢ WP df c
      (Prog.lift (.enqueueDma (slotAt off inb) (.remote (Dev.tc n : Thread nD τ) (slotAt off inb) (.dma s1) hsc) (.dma s2) hsrc hdst hsem) >>= fun _ => K) Q := by
  refine BIBase.Entails.trans ?_ (Entails.of_eq rfl : WP df c (.op (.enqueueDma (slotAt off inb) (.remote (Dev.tc n : Thread nD τ) (slotAt off inb) (.dma s1) hsc) (.dma s2) hsrc hdst hsem) fun _ => K) Q ⊢ _)
  unfold ST at hK ⊢
  iintro ⟨#HR, HF, HO, HS, HV, HP⟩
  ihave H := (send_fam X c hj hd hG) $$ HS
  icases H with ⟨⟨Ht, Hp⟩, Hback⟩
  iapply (send_core df X κ c hj hs hoff hn hs1 hs2) $$ [HO Ht Hp]
  · isplitr; · iexact HR
    isplitl [HO]; · iexact HO
    isplitl [Ht] <;> iassumption
  iintro ⟨HO, Hf⟩
  iapply hK
  isplitr; · iexact HR
  isplitl [HF]; · iexact HF
  isplitl [HO]; · iexact HO
  isplitl [Hf Hback]; · iapply Hback; iexact Hf
  isplitl [HV] <;> iassumption

omit [FloatOps F] in
/-- A copy that doesn't happen. -/
theorem skip_send {R : sProp 𝕄} (c : Dev nD) {j d o : ℕ} {G : Finset ℕ} (hj : j < 32) (hd : d ≤ j) (hG : srcOf j ∈ G) (hs : ¬ sv c j) :
    ST X OUT κ R c j d o G ⊢ ST X OUT κ R c (j + 1) d o G := by
  unfold ST
  iintro ⟨#HR, HF, HO, HS, HV, HP⟩
  ihave H := (send_fam X c hj hd hG) $$ HS
  icases H with ⟨⟨-, Hp⟩, Hback⟩
  isplitr; · iexact HR
  isplitl [HF]; · iexact HF
  isplitl [HO]
  · unfold owesN; rw [owedFrom_succ c hj]; unfold owedBy; rw [if_neg hs, add_zero]; iexact HO
  isplitl [Hp Hback]
  · iapply Hback; unfold flight; rw [if_neg hs]; iexact Hp
  isplitl [HV] <;> iassumption

/-- Copy `j` under its condition. -/
theorem gsend {R : sProp 𝕄} (c : Dev nD) (j : ℕ) {d o : ℕ} {G : Finset ℕ} (hj : j < 32) (hd : d ≤ j) (hG : srcOf j ∈ G) {cnd : BitVec 1} (hc : cnd = 1#1 ↔ sv c j)
    {off : Fin 3 → ℕ} {inb : cnd = 1#1 → ∀ a, off a + S1x64x1024.size a ≤ S16x64x1024.size a} (hoff : cnd = 1#1 → off = ![(ss c j).val, 0, 0])
    {n : cnd = 1#1 → Dev nD} (hn : ∀ h, n h = st c j) {s1 s2 : cnd = 1#1 → DmaSem sig} (hs1 : ∀ h, s1 h = dsem j)
    (hs2 : ∀ h, s2 h = dsem (rsem (st c j) (ss c j)))
    {hsc : ∀ h, (slotAt off (inb h)).view.ref.isScScratch = false} {hsrc hdst : ∀ h, (slotAt off (inb h)).view.WordExact}
    {hsem : ∀ h, DmaTarget.Typed .vmem (.dma (s2 h)) (.remote (Dev.tc (n h) : Thread nD τ) (slotAt off (inb h)) (.dma (s1 h)) (hsc h))}
    {K : Prog (TpuEff nD τ sig (Elt F) Λ .tc) α} {Q : α → sProp 𝕄}
    (hK : ST X OUT κ R c (j + 1) d o G ⊢ WP df c K Q) :
    ST X OUT κ R c j d o G ⊢ WP df c
      (if h : cnd = 1#1 then
        (Prog.lift (.enqueueDma (slotAt off (inb h)) (.remote (Dev.tc (n h) : Thread nD τ) (slotAt off (inb h)) (.dma (s1 h)) (hsc h)) (.dma (s2 h))
          (hsrc h) (hdst h) (hsem h)) >>= fun _ => K) else K) Q := by
  by_cases h : cnd = 1#1
  · rw [dif_pos h]
    exact step_send df X OUT κ c hj hd hG (hc.mp h) (hoff h) (hn h) (hs1 h) (hs2 h) hK
  · rw [dif_neg h]
    exact (skip_send X OUT κ c hj hd hG fun hs => h (hc.mpr hs)).trans hK

/-! ## Waiting for an arrival -/

omit [FloatOps F] in
/-- An arrival is waited for: its place in the state, and what the copies out of it get. -/
theorem recv_fam (c : Dev nD) {n a d : ℕ} {G : Finset ℕ} (hn : n < 35) (hG : n ∉ G) :
    iprop(bigSep (Finset.range 32) (sendSt X c a d G) ∗ bigSep (Finset.range 35) (recvSt X c G))
      ⊢ iprop(rtodo c n ∗ ((arrived X c n ∗ bigSep (outOf n) (piece X c)) -∗
        (bigSep (Finset.range 32) (sendSt X c a d (insert n G)) ∗ bigSep (Finset.range 35) (recvSt X c (insert n G))))) := by
  have h := fam_step (Φ := recvSt X c G) (Ψ := recvSt X c (insert n G)) (Finset.mem_range.mpr hn) fun i _ hi => by
    unfold recvSt
    by_cases h1 : i ∈ G
    · rw [if_pos h1, if_pos (Finset.mem_insert_of_mem h1)]
    · rw [if_neg h1, if_neg (by rw [Finset.mem_insert]; exact fun h => h.elim hi h1)]
  have e1 : recvSt X c G n = rtodo c n := by unfold recvSt; rw [if_neg hG]
  have e2 : recvSt X c (insert n G) n = arrived X c n := by unfold recvSt; rw [if_pos (Finset.mem_insert_self _ _)]
  rw [e1, e2] at h
  have hS : iprop(bigSep (Finset.range 32) (sendSt X c a d G) ∗ bigSep (outOf n) (piece X c)) ⊢ bigSep (Finset.range 32) (sendSt X c a d (insert n G)) := by
    unfold outOf
    rw [bigSep_filter]
    refine BIBase.Entails.trans (Entails.of_eq (bigSep_sep (Finset.range 32) (sendSt X c a d G) fun j => if srcOf j = n then piece X c j else BI.emp).symm) (bigSep_mono fun j _ => ?_)
    show iprop(sendSt X c a d G j ∗ (if srcOf j = n then piece X c j else iprop(emp))) ⊢ sendSt X c a d (insert n G) j
    unfold sendSt
    by_cases h1 : j < d
    · rw [if_pos h1, if_pos h1]; iintro ⟨H, -⟩; iexact H
    rw [if_neg h1, if_neg h1]
    by_cases h2 : j < a
    · rw [if_pos h2, if_pos h2]; iintro ⟨H, -⟩; iexact H
    rw [if_neg h2, if_neg h2]
    by_cases h3 : srcOf j = n
    · rw [if_pos h3, if_neg (h3 ▸ hG), if_pos (h3 ▸ Finset.mem_insert_self _ _)]
      iintro ⟨⟨H, -⟩, H'⟩; isplitl [H] <;> iassumption
    · rw [if_neg h3]
      by_cases h4 : srcOf j ∈ G
      · rw [if_pos h4, if_pos (Finset.mem_insert_of_mem h4)]; iintro ⟨H, -⟩; iexact H
      · rw [if_neg h4, if_neg (by rw [Finset.mem_insert]; exact fun h => h.elim h3 h4)]; iintro ⟨H, -⟩; iexact H
  iintro ⟨HS, HV⟩
  ihave H := h $$ HV
  icases H with ⟨Ht, Hback⟩
  isplitl [Ht]; · iexact Ht
  iintro ⟨Ha, Hp⟩
  isplitl [HS Hp]
  · iapply hS; isplitl [HS] <;> iassumption
  iapply Hback; iexact Ha

/-- The wait itself. -/
theorem recv_core (c : Dev nD) {n a : ℕ} (hn : n < 35) (hg : gv c n) (hne : n ≠ 0)
    (hlev : ∀ j, a ≤ j → j < 32 → sv c j → lvn (3 + rsem c (sl c n)) < lvn (3 + rsem (st c j) (ss c j)))
    {off : Fin 3 → ℕ} {inb : ∀ a, off a + S1x64x1024.size a ≤ S16x64x1024.size a}
    {s : DmaSem sig} (hs : s = dsem (rsem c (sl c n)))
    {src : Memref sig .tc .vmem S64x1024 .bf16} {hsrc : src.view.WordExact} {hdst : (slotAt off inb).view.WordExact}
    {k : PUnit → Prog (TpuEff nD τ sig (Elt F) Λ .tc) α} {Q : α → sProp 𝕄} :
    iprop(Recs X κ ∗ owesN c a ∗ rtodo c n)
      ⊢ iprop(((owesN c a ∗ arrived X c n ∗ bigSep (outOf n) (piece X c)) -∗ WP df c (k ⟨⟩) Q)
        -∗ WP df c (.op (.waitDma2 s src (slotAt off inb) hsrc hdst) k) Q) := by
  subst hs
  have hr := rsem_lt c (sl c n)
  have et : (rtodo c n : sProp 𝕄) = iprop(cred (tallyAt (dcell c (rsem c (sl c n))) () N) ∗ atPos ER (dcell c (rsem c (sl c n))) 0 ∅ 0) := if_pos hg
  have ea : arrived X c n = iprop(atPos ER (dcell c (rsem c (sl c n))) 1 ∅ 0 ∗ kept X c n) := if_pos hg
  have hm : Recs X κ ⊢ MayWait (c : Thread nD τ) (.dma (dsem (rsem c (sl c n)))) () (owedFrom c a) :=
    Recs_wait X κ c (.dma (dsem (rsem c (sl c n)))) a (by
      intro j h1 h2 h3
      show lvn (dsem _).val < _
      rw [dsem_val (by omega)]
      exact hlev j h1 h2 h3)
  rw [et, ea]
  unfold owesN
  iintro ⟨#HR, ⟨%W, HO⟩, ⟨Hc, Hat⟩⟩ Hk
  ihave H1 := (Recs_d X κ c (k := rsem c (sl c n)) (by omega)) $$ HR
  icases H1 with ⟨#HI1, #Hr1⟩
  have hx : 0 + (slotAt off inb).view.dmaCredit = (Rd (F := F) X).expect ((c : Thread nD τ), .dma (dsem (rsem c (sl c n)))) 0 :=
    (Nat.zero_add _).trans ((credit_slot off inb).trans (expect_recv X c (sl c n)).symm)
  iapply (Rounds.wp_wait_rest_token 𝒱₀ ER (Rd X) (c : Thread nD τ) none (κ := kn κ c (rsem c (sl c n)))
      (wpE_waitDma2_eq 𝒱₀ (c : Thread nD τ) none Set.univ) (Set.mem_univ _) () (O := owedFrom c a) (W := W) (R := 0) (m := 0) (T := ∅)
      hx) $$ [Hc HO Hat]
  · isplitr; · iexact HI1
    isplitl [Hc]; · iexact Hc
    isplitl [HO]; · iexact HO
    isplitr; · iapply hm; iexact HR
    iexact Hat
  iintro ⟨HO, Hat, -, Hpay⟩
  ihave Hp := (Entails.of_eq (rest_recv X c (sl c n))) $$ Hpay
  unfold landing
  icases Hp with ⟨Hp, -⟩
  ihave Hp := (Entails.of_eq (slot_split X c hn hg)) $$ Hp
  icases Hp with ⟨Hkp, Hps⟩
  iapply Hk
  isplitl [HO]; · iexists _; iexact HO
  isplitl [Hat Hkp]
  · isplitl [Hat] <;> iassumption
  iexact Hps

/-- The wait for arrival `n` under its condition. -/
theorem grecv {R : sProp 𝕄} (c : Dev nD) (n : ℕ) {a d o : ℕ} {G : Finset ℕ} (hn : n < 35) (hG : n ∉ G) (hne : n ≠ 0) {cnd : BitVec 1} (hc : cnd = 1#1 ↔ gv c n)
    (hlev : gv c n → ∀ j, a ≤ j → j < 32 → sv c j → lvn (3 + rsem c (sl c n)) < lvn (3 + rsem (st c j) (ss c j)))
    {off : Fin 3 → ℕ} {inb : cnd = 1#1 → ∀ a, off a + S1x64x1024.size a ≤ S16x64x1024.size a}
    {s : cnd = 1#1 → DmaSem sig} (hs : ∀ h, s h = dsem (rsem c (sl c n)))
    {src : cnd = 1#1 → Memref sig .tc .vmem S64x1024 .bf16} {hsrc : ∀ h, (src h).view.WordExact} {hdst : ∀ h, (slotAt off (inb h)).view.WordExact}
    {K : Prog (TpuEff nD τ sig (Elt F) Λ .tc) α} {Q : α → sProp 𝕄}
    (hK : ST X OUT κ R c a d o (insert n G) ⊢ WP df c K Q) :
    ST X OUT κ R c a d o G ⊢ WP df c
      (if h : cnd = 1#1 then
        (Prog.lift (.waitDma2 (s h) (src h) (slotAt off (inb h)) (hsrc h) (hdst h)) >>= fun _ => K) else K) Q := by
  by_cases h : cnd = 1#1
  · rw [dif_pos h]
    have hg := hc.mp h
    refine BIBase.Entails.trans ?_ (Entails.of_eq rfl : WP df c (.op (.waitDma2 (s h) (src h) (slotAt off (inb h)) (hsrc h) (hdst h)) fun _ => K) Q ⊢ _)
    unfold ST at hK ⊢
    iintro ⟨#HR, HF, HO, HS, HV, HP⟩
    ihave H := (recv_fam X c (a := a) (d := d) hn hG) $$ [HS HV]
    · isplitl [HS] <;> iassumption
    icases H with ⟨Ht, Hback⟩
    iapply (recv_core df X κ c hn hg hne (hlev hg) (hs h)) $$ [HO Ht]
    · isplitr; · iexact HR
      isplitl [HO] <;> iassumption
    iintro ⟨HO, Ha⟩
    ihave H := Hback $$ Ha
    icases H with ⟨HS, HV⟩
    iapply hK
    isplitr; · iexact HR
    isplitl [HF]; · iexact HF
    isplitl [HO]; · iexact HO
    isplitl [HS]; · iexact HS
    isplitl [HV] <;> iassumption
  · rw [dif_neg h]
    have hg : ¬ gv c n := fun hg => h (hc.mpr hg)
    refine BIBase.Entails.trans ?_ hK
    unfold ST
    iintro ⟨#HR, HF, HO, HS, HV, HP⟩
    ihave H := (recv_fam X c (a := a) (d := d) hn hG) $$ [HS HV]
    · isplitl [HS] <;> iassumption
    icases H with ⟨-, Hback⟩
    ihave H := Hback $$ []
    · isplitr
      · unfold arrived; rw [if_neg hg]; iempintro
      · rw [bigSep_congr (s := outOf n) (Φ := piece X c) (Ψ := fun _ => BI.emp) (fun j hj => by
          unfold outOf at hj
          rw [Finset.mem_filter, Finset.mem_range] at hj
          have := pv_src c ⟨j, hj.1⟩
          unfold piece
          rw [if_neg (fun hp => hg (by rw [← hj.2]; exact this.symm.trans hp))]; rfl), bigSep_emp_const]
        iempintro
    icases H with ⟨HS, HV⟩
    isplitr; · iexact HR
    isplitl [HF]; · iexact HF
    isplitl [HO]; · iexact HO
    isplitl [HS]; · iexact HS
    isplitl [HV] <;> iassumption

/-! ## Waiting for an own copy to have left -/

omit [FloatOps F] in
theorem done_fam (c : Dev nD) {j a : ℕ} {G : Finset ℕ} (hj : j < 32) (ha : j < a) :
    bigSep (Finset.range 32) (sendSt X c a j G)
      ⊢ iprop(flight X c j ∗ (finished X c j -∗ bigSep (Finset.range 32) (sendSt X c a (j + 1) G))) := by
  have h := fam_step (Φ := sendSt X c a j G) (Ψ := sendSt X c a (j + 1) G) (Finset.mem_range.mpr hj) fun i _ hi => by
    unfold sendSt
    by_cases h1 : i < j
    · rw [if_pos h1, if_pos (by omega)]
    · rw [if_neg h1, if_neg (show ¬ i < j + 1 by omega)]
  have e1 : sendSt X c a j G j = flight X c j := by unfold sendSt; rw [if_neg (by omega), if_pos ha]
  have e2 : sendSt X c a (j + 1) G j = finished X c j := by unfold sendSt; rw [if_pos (by omega)]
  rwa [e1, e2] at h

/-- The wait for copy `j`'s source. -/
theorem step_done {R : sProp 𝕄} (c : Dev nD) {j o : ℕ} {G : Finset ℕ} (hj : j < 32) (hsv : sv c j)
    {off : Fin 3 → ℕ} {inb : ∀ a, off a + S1x64x1024.size a ≤ S16x64x1024.size a}
    {s : DmaSem sig} (hs : s = dsem j)
    {src : Memref sig .tc .vmem S64x1024 .bf16} {hsrc : src.view.WordExact} {hdst : (slotAt off inb).view.WordExact}
    {K : Prog (TpuEff nD τ sig (Elt F) Λ .tc) α} {Q : α → sProp 𝕄}
    (hK : ST X OUT κ R c 32 (j + 1) o G ⊢ WP df c K Q) :
    ST X OUT κ R c 32 j o G ⊢ WP df c (Prog.lift (.waitDma2 s src (slotAt off inb) hsrc hdst) >>= fun _ => K) Q := by
  subst hs
  refine BIBase.Entails.trans ?_ (Entails.of_eq rfl : WP df c (.op (.waitDma2 (dsem j) src (slotAt off inb) hsrc hdst) fun _ => K) Q ⊢ _)
  have hfam := done_fam X c (G := G) hj hj
  unfold flight finished at hfam
  rw [if_pos hsv, if_pos hsv] at hfam
  unfold ST at hK ⊢
  iintro ⟨#HR, HF, HO, HS, HV, HP⟩
  ihave H := hfam $$ HS
  icases H with ⟨Hf, Hback⟩
  icases Hf with ⟨Hc, Hat⟩
  unfold owesN
  icases HO with ⟨%W, HO⟩
  ihave H1 := (Recs_d X κ c (k := j) (by omega)) $$ HR
  icases H1 with ⟨#HI1, #Hr1⟩
  iapply (Rounds.wp_wait_rest_token 𝒱₀ ER (Rd X) (c : Thread nD τ) none (κ := kn κ c j)
      (wpE_waitDma2_eq 𝒱₀ (c : Thread nD τ) none Set.univ) (Set.mem_univ _) () (O := owedFrom c 32) (W := W) (R := 0) (m := 0) (T := ∅)
      ((Nat.zero_add _).trans ((credit_slot off inb).trans (expect_send X c hj hsv).symm))) $$ [Hc HO Hat]
  · isplitr; · iexact HI1
    isplitl [Hc]; · iexact Hc
    isplitl [HO]; · iexact HO
    isplitr; · rw [owedFrom_end, MayWait_zero]; iempintro
    iexact Hat
  iintro ⟨HO, Hat, -, Hpay⟩
  ihave Hp := (Entails.of_eq (rest_send X c hj hsv)) $$ Hpay
  iapply hK
  isplitr; · iexact HR
  isplitl [HF]; · iexact HF
  isplitl [HO]; · unfold owesN; iexists _; iexact HO
  isplitl [Hat Hp Hback]
  · iapply Hback
    isplitl [Hat]; · iexact Hat
    unfold piece
    rw [if_pos (show pv c j from pv_of_sv c ⟨j, hj⟩ hsv)]; iexact Hp
  isplitl [HV] <;> iassumption

/-- The wait for copy `j`'s source under the copy's condition. -/
theorem gdone {R : sProp 𝕄} (c : Dev nD) (j : ℕ) {o : ℕ} {G : Finset ℕ} (hj : j < 32) {cnd : BitVec 1} (hc : cnd = 1#1 ↔ sv c j)
    {off : Fin 3 → ℕ} {inb : cnd = 1#1 → ∀ a, off a + S1x64x1024.size a ≤ S16x64x1024.size a}
    {s : cnd = 1#1 → DmaSem sig} (hs : ∀ h, s h = dsem j)
    {src : cnd = 1#1 → Memref sig .tc .vmem S64x1024 .bf16} {hsrc : ∀ h, (src h).view.WordExact} {hdst : ∀ h, (slotAt off (inb h)).view.WordExact}
    {K : Prog (TpuEff nD τ sig (Elt F) Λ .tc) α} {Q : α → sProp 𝕄}
    (hK : ST X OUT κ R c 32 (j + 1) o G ⊢ WP df c K Q) :
    ST X OUT κ R c 32 j o G ⊢ WP df c
      (if h : cnd = 1#1 then
        (Prog.lift (.waitDma2 (s h) (src h) (slotAt off (inb h)) (hsrc h) (hdst h)) >>= fun _ => K) else K) Q := by
  by_cases h : cnd = 1#1
  · rw [dif_pos h]
    exact step_done df X OUT κ c hj (hc.mp h) (hs h) hK
  · rw [dif_neg h]
    have hsv : ¬ sv c j := fun hs => h (hc.mpr hs)
    refine BIBase.Entails.trans ?_ hK
    have hfam := done_fam X c (G := G) hj hj
    unfold flight finished at hfam
    rw [if_neg hsv, if_neg hsv] at hfam
    unfold ST
    iintro ⟨#HR, HF, HO, HS, HV, HP⟩
    ihave H := hfam $$ HS
    icases H with ⟨Hf, Hback⟩
    isplitr; · iexact HR
    isplitl [HF]; · iexact HF
    isplitl [HO]; · iexact HO
    isplitl [Hf Hback]
    · iapply Hback
      isplitr; · iempintro
      iexact Hf
    isplitl [HV] <;> iassumption

end

end Cert.AllGather

end
-- ==== Proof.Product.lean ====
/-
# Product: the block of the result that one plane gives

Once the four slots of a plane have arrived, the kernel reads them in one piece, through the shares that stay, and writes
the plane's rows of the result. What it writes is told by `OUT`, the contents the result is to have.
-/
module

public import proofs.«01_k».proof.Proof.Steps

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The arrival that brings the far corner of candidate `i`. -/
def far (c : Fin 16) (i : ℕ) : ℕ := if evB c i then 4 * i + 3 else 28 + i

theorem plane_gv : ∀ (c : Fin 16) (i : Fin 7), vld c i →
    gv c (4 * i.val) ∧ gv c (4 * i.val + 1) ∧ gv c (4 * i.val + 2) ∧ gv c (far c i) := by decide +kernel
theorem far_lt : ∀ (c : Fin 16) (i : Fin 7), far c i < 35 ∧ (far c i = 4 * i.val + 3 ∨ far c i = 28 + i.val) := by decide +kernel
theorem plane_ne : ∀ (c : Fin 16) (i : Fin 7), vld c i →
    (sl c (4 * i.val) ≠ sl c (4 * i.val + 1) ∧ sl c (4 * i.val) ≠ sl c (4 * i.val + 2) ∧ sl c (4 * i.val) ≠ sl c (far c i))
      ∧ (sl c (4 * i.val + 1) ≠ sl c (4 * i.val + 2) ∧ sl c (4 * i.val + 1) ≠ sl c (far c i)) ∧ sl c (4 * i.val + 2) ≠ sl c (far c i) := by
  decide +kernel
theorem plane_cover : ∀ (c : Fin 16) (i : Fin 7), vld c i → ∀ s : Fin 16, 4 * (pf (pl c i)).val ≤ s.val → s.val < 4 * (pf (pl c i)).val + 4 →
    s = sl c (4 * i.val) ∨ s = sl c (4 * i.val + 1) ∨ s = sl c (4 * i.val + 2) ∨ s = sl c (far c i) := by decide +kernel

/-- The elements of the four slots of candidate `i`. -/
def plSet (c : Dev nD) (i : ℕ) : Finset (cc0_scratch0 : Ref sig .tc).ty.Idx :=
  slotSet (sl c (4 * i)) ∪ (slotSet (sl c (4 * i + 1)) ∪ (slotSet (sl c (4 * i + 2)) ∪ slotSet (sl c (far c i))))

theorem plane_sub (c : Dev nD) {i : ℕ} (hi : i < 7) (hv : vld c i) :
    (gM : Memref sig .tc .vmem S16x64x1024 .bf16).view.setOn (planeRect (pf (pl c i))).toLoadRect.set ⊆ plSet c i := by
  intro x hx
  have hx' : x ∈ (planeRect (pf (pl c i))).set := by
    have h := hx
    rw [View.setOn, Finset.mem_map] at h
    obtain ⟨y, hy, rfl⟩ := h
    exact hy
  rw [Rect.mem_set_unit] at hx'
  have h0 := hx' 0
  have h1 : 4 * (pf (pl c i)).val ≤ (x 0).val := h0.1
  have h2 : (x 0).val < 4 * (pf (pl c i)).val + 4 := h0.2
  have hc := plane_cover c ⟨i, hi⟩ hv (x 0) h1 h2
  unfold plSet
  rw [Finset.mem_union, Finset.mem_union, Finset.mem_union]
  rcases hc with h | h | h | h
  · exact .inl ((mem_slotSet _ _).mpr (congrArg Fin.val h))
  · exact .inr (.inl ((mem_slotSet _ _).mpr (congrArg Fin.val h)))
  · exact .inr (.inr (.inl ((mem_slotSet _ _).mpr (congrArg Fin.val h))))
  · exact .inr (.inr (.inr ((mem_slotSet _ _).mpr (congrArg Fin.val h))))

variable (X : Fin 16 → XBuf F) (OUT : OBuf F) (κ : Dev nD × Fin 50 → ℕ)

/-- The four slots of a candidate, at the share that stays. -/
def plPts (c : Dev nD) (i : ℕ) : sProp 𝕄 := ((c : Thread nD τ).loc cc0_scratch0) ↦[plSet c i]{fullShare.right.left} (gath X)

omit [FloatOps F] in
theorem plPts_eq (c : Dev nD) {i : ℕ} (hi : i < 7) (hv : vld c i) :
    (plPts X c i : sProp 𝕄) = iprop(slotPts c (sl c (4 * i)) fullShare.right.left (gath X) ∗ slotPts c (sl c (4 * i + 1)) fullShare.right.left (gath X)
      ∗ slotPts c (sl c (4 * i + 2)) fullShare.right.left (gath X) ∗ slotPts c (sl c (far c i)) fullShare.right.left (gath X)) := by
  obtain ⟨⟨h1, h2, h3⟩, ⟨h4, h5⟩, h6⟩ := plane_ne c ⟨i, hi⟩ hv
  have u {A B : Finset (cc0_scratch0 : Ref sig .tc).ty.Idx} (h : Disjoint A B) :
      (((c : Thread nD τ).loc cc0_scratch0) ↦[A ∪ B]{fullShare.right.left} (gath X) : sProp 𝕄)
        = iprop((((c : Thread nD τ).loc cc0_scratch0) ↦[A]{fullShare.right.left} (gath X)) ∗ ((c : Thread nD τ).loc cc0_scratch0) ↦[B]{fullShare.right.left} (gath X)) :=
    (pointsTo_union h).1.antisymm (pointsTo_union h).2
  unfold plPts plSet slotPts
  rw [u (by rw [Finset.disjoint_union_right, Finset.disjoint_union_right]; exact ⟨slotSet_disjoint h1, slotSet_disjoint h2, slotSet_disjoint h3⟩),
    u (by rw [Finset.disjoint_union_right]; exact ⟨slotSet_disjoint h4, slotSet_disjoint h5⟩), u (slotSet_disjoint h6)]

omit [FloatOps F] in
/-- An arrival that has been waited for holds the share that stays. -/
theorem recv_split (c : Dev nD) {n : ℕ} {G : Finset ℕ} (hG : n ∈ G) (hg : gv c n) :
    ∃ P : sProp 𝕄, recvSt X c G n = iprop(slotPts c (sl c n) fullShare.right.left (gath X) ∗ P) := by
  have e (A B C : sProp 𝕄) : iprop(A ∗ B ∗ C) = (iprop(B ∗ A ∗ C) : sProp 𝕄) := by
    refine BI.Entails.antisymm (show iprop(A ∗ B ∗ C) ⊢ (iprop(B ∗ A ∗ C) : sProp 𝕄) from ?_) (show iprop(B ∗ A ∗ C) ⊢ (iprop(A ∗ B ∗ C) : sProp 𝕄) from ?_)
    all_goals
      iintro ⟨HA, HB, HC⟩
      isplitl [HB]
      · iexact HB
      isplitl [HA] <;> iassumption
  refine ⟨iprop(atPos ER (dcell c (rsem c (sl c n))) 1 ∅ 0 ∗ ((if n = 0 then iprop(emp) else slotPts c (sl c n) fullShare.right.right (gath X))
    ∗ (if n % 4 = 3 ∨ 28 ≤ n then slotPts c (sl c n) fullShare.left (gath X) else iprop(emp)))), ?_⟩
  unfold recvSt arrived
  rw [if_pos hG, if_pos hg]
  unfold kept
  exact e _ _ _

omit [FloatOps F] in
/-- The four slots of a candidate, out of the state and back. -/
theorem take_plane (c : Dev nD) {i : ℕ} {G : Finset ℕ} (hi : i < 7) (hv : vld c i)
    (hG : 4 * i ∈ G ∧ 4 * i + 1 ∈ G ∧ 4 * i + 2 ∈ G ∧ 4 * i + 3 ∈ G ∧ 28 + i ∈ G) :
    bigSep (Finset.range 35) (recvSt X c G)
      ⊢ iprop(plPts X c i ∗ (plPts X c i -∗ bigSep (Finset.range 35) (recvSt X c G))) := by
  obtain ⟨g0, g1, g2, g3⟩ := plane_gv c ⟨i, hi⟩ hv
  obtain ⟨f1, f2⟩ := far_lt c ⟨i, hi⟩
  have f1 : far c i < 35 := f1
  have f2 : far c i = 4 * i + 3 ∨ far c i = 28 + i := f2
  obtain ⟨G0, G1, G2, G3, G4⟩ := hG
  have G3' : far c i ∈ G := by rcases f2 with h | h <;> rw [h] <;> assumption
  obtain ⟨P0, e0⟩ := recv_split X c G0 g0
  obtain ⟨P1, e1⟩ := recv_split X c G1 g1
  obtain ⟨P2, e2⟩ := recv_split X c G2 g2
  obtain ⟨P3, e3⟩ := recv_split X c G3' g3
  have h : bigSep (Finset.range 35) (recvSt X c G) = iprop(recvSt X c G (4 * i) ∗ recvSt X c G (4 * i + 1) ∗ recvSt X c G (4 * i + 2) ∗ recvSt X c G (far c i)
      ∗ bigSep ((((Finset.range 35).erase (4 * i)).erase (4 * i + 1)).erase (4 * i + 2) |>.erase (far c i)) (recvSt X c G)) := by
    rw [bigSep_erase (i := 4 * i) (by rw [Finset.mem_range]; omega), bigSep_erase (i := 4 * i + 1) (by rw [Finset.mem_erase, Finset.mem_range]; omega),
      bigSep_erase (i := 4 * i + 2) (by rw [Finset.mem_erase, Finset.mem_erase, Finset.mem_range]; omega),
      bigSep_erase (i := far c i) (by rw [Finset.mem_erase, Finset.mem_erase, Finset.mem_erase, Finset.mem_range]; omega)]
    rfl
  rw [h, e0, e1, e2, e3, plPts_eq X c hi hv]
  iintro ⟨⟨H0, HP0⟩, ⟨H1, HP1⟩, ⟨H2, HP2⟩, ⟨H3, HP3⟩, HR⟩
  isplitl [H0 H1 H2 H3]
  · isplitl [H0]; · iexact H0
    isplitl [H1]; · iexact H1
    isplitl [H2] <;> iassumption
  iintro ⟨H0, H1, H2, H3⟩
  isplitl [H0 HP0]; · isplitl [H0] <;> iassumption
  isplitl [H1 HP1]; · isplitl [H1] <;> iassumption
  isplitl [H2 HP2]; · isplitl [H2] <;> iassumption
  isplitl [H3 HP3]; · isplitl [H3] <;> iassumption
  iexact HR

omit [FloatOps F] in
theorem out_fam (c : Dev nD) {i : ℕ} (hi : i < 7) :
    bigSep (Finset.range 7) (outSt OUT c i) ⊢ iprop(outSt OUT c i i ∗ (outSt OUT c (i + 1) i -∗ bigSep (Finset.range 7) (outSt OUT c (i + 1)))) :=
  fam_step (Φ := outSt OUT c i) (Ψ := outSt OUT c (i + 1)) (Finset.mem_range.mpr hi) fun k _ hk => by
    unfold outSt
    by_cases h1 : vld c k
    · rw [if_pos h1, if_pos h1]
      by_cases h2 : k < i
      · rw [if_pos h2, if_pos (by omega)]
      · rw [if_neg h2, if_neg (show ¬ k < i + 1 by omega)]
    · rw [if_neg h1, if_neg h1]

section
variable {Λ : Labels} (df : Defs nD τ sig (Elt F) Λ) {α : Type}

/-- The product of candidate plane `i` under its condition. -/
theorem gprod {R : sProp 𝕄} (c : Dev nD) (i : ℕ) {a d : ℕ} {G : Finset ℕ} (hi : i < 7)
    (hG : 4 * i ∈ G ∧ 4 * i + 1 ∈ G ∧ 4 * i + 2 ∈ G ∧ 4 * i + 3 ∈ G ∧ 28 + i ∈ G) {cnd : BitVec 1} (hc : cnd = 1#1 ↔ vld c i)
    {o1 : Fin 3 → ℕ} {inb1 : cnd = 1#1 → ∀ a, o1 a + S4x64x1024.size a ≤ S16x64x1024.size a} (ho1 : o1 = ![4 * (pf (pl c i)).val, 0, 0])
    {o2 : Fin 2 → ℕ} {inb2 inb3 : cnd = 1#1 → ∀ a, o2 a + S256x64.size a ≤ S1024x64.size a} (ho2 : o2 = ![256 * (pf (pl c i)).val, 0])
    {hl1 : ∀ h, (gM : Memref sig .tc .vmem S16x64x1024 .bf16).view.LoadsAt (Rect.unit (s := S16x64x1024) o1 S4x64x1024.size (inb1 h)).toLoadRect}
    {hl2 : ∀ h, (oM : Memref sig .tc .vmem S1024x64 .f32).view.LoadsAt (Rect.unit (s := S1024x64) o2 S256x64.size (inb2 h)).toLoadRect}
    {hst : ∀ h, ((oM : Memref sig .tc .vmem S1024x64 .f32).access (Rect.unit (s := S1024x64) o2 S256x64.size (inb3 h))).Stores Finset.univ}
    {hm : ∀ h, (Finset.univ : Finset (Rect.unit (s := S1024x64) o2 S256x64.size (inb3 h)).shape.Idx) = Finset.univ ∨ ∀ a, (Rect.unit (s := S1024x64) o2 S256x64.size (inb3 h)).stride a = 1}
    (pay : (S4x64x1024.Idx → Elt F .bf16) → (S256x64.Idx → Elt F .f32))
    (hpay : ∀ f : OBuf F, ∀ x ∈ rowSet (pf (pl c i)), ((oM : Memref sig .tc .vmem S1024x64 .f32).access (rowsRect (pf (pl c i)))).write (Elt F) f
      (pay ((gM : Memref sig .tc .vmem S16x64x1024 .bf16).view.readAt (Elt F) (planeRect (pf (pl c i))).toLoadRect (gath X))) Finset.univ x = OUT x)
    {K : Prog (TpuEff nD τ sig (Elt F) Λ .tc) α} {Q : α → sProp 𝕄}
    (hK : ST X OUT κ R c a d (i + 1) G ⊢ WP df c K Q) :
    ST X OUT κ R c a d i G ⊢ WP df c
      (if h : cnd = 1#1 then
        (Prog.lift (.load gM (Rect.unit (s := S16x64x1024) o1 S4x64x1024.size (inb1 h)).toLoadRect (hl1 h)) >>= fun v =>
          Prog.lift (.load oM (Rect.unit (s := S1024x64) o2 S256x64.size (inb2 h)).toLoadRect (hl2 h)) >>= fun _ =>
            Prog.lift (.store oM (Rect.unit (s := S1024x64) o2 S256x64.size (inb3 h)) (pay v) Finset.univ (hst h) (hm h)) >>= fun _ => K) else K) Q := by
  have hfam := out_fam OUT c hi
  by_cases h : cnd = 1#1
  · rw [dif_pos h]
    have hv := hc.mp h
    subst ho1 ho2
    refine BIBase.Entails.trans ?_ (Entails.of_eq rfl : WP df c (.op (.load gM (planeRect (pf (pl c i))).toLoadRect (hl1 h)) fun v =>
      .op (.load oM (rowsRect (pf (pl c i))).toLoadRect (hl2 h)) fun _ => .op (.store oM (rowsRect (pf (pl c i))) (pay v) Finset.univ (hst h) (hm h)) fun _ => K) Q ⊢ _)
    have hpl := take_plane X c hi hv hG
    have eo1 : outSt OUT c i i = iprop(∃ f : OBuf F, rowPts c (pf (pl c i)) f) := by unfold outSt; rw [if_pos hv, if_neg (lt_irrefl _)]
    have eo2 : outSt OUT c (i + 1) i = rowPts c (pf (pl c i)) OUT := by unfold outSt; rw [if_pos hv, if_pos (Nat.lt_succ_self _)]
    rw [eo1, eo2] at hfam
    unfold ST at hK ⊢
    iintro ⟨#HR, HF, HO, HS, HV, HP⟩
    ihave H := hpl $$ HV
    icases H with ⟨Hpl, HVb⟩
    ihave H := hfam $$ HP
    icases H with ⟨⟨%f, Hrow⟩, HPb⟩
    unfold plPts
    iapply (wp_load 𝒱₀ (c : Thread nD τ) none Set.univ (m := gM) (plane_sub c hi hv)) $$ Hpl
    iintro Hpl
    ihave HV := HVb $$ Hpl
    unfold rowPts
    iapply (wp_load 𝒱₀ (c : Thread nD τ) none Set.univ (m := oM) (S := rowSet (pf (pl c i))) (by
      unfold rowSet; rw [View.set_slice]; exact Finset.Subset.refl _)) $$ Hrow
    iintro Hrow
    iapply (wp_store 𝒱₀ (c : Thread nD τ) none Set.univ (m := oM) (r := rowsRect (pf (pl c i))) (Mk := Finset.univ) (S := rowSet (pf (pl c i))) (by
      unfold rowSet; exact Finset.Subset.refl _)) $$ Hrow
    iintro Hrow
    iapply hK
    isplitr; · iexact HR
    isplitl [HF]; · iexact HF
    isplitl [HO]; · iexact HO
    isplitl [HS]; · iexact HS
    isplitl [HV]; · iexact HV
    iapply HPb
    iapply (Entails.of_eq (pointsTo_congr (hpay f))) $$ Hrow
  · rw [dif_neg h]
    have hv : ¬ vld c i := fun hv => h (hc.mpr hv)
    refine BIBase.Entails.trans ?_ hK
    have eo1 : outSt OUT c i i = iprop(emp) := by unfold outSt; rw [if_neg hv]
    have eo2 : outSt OUT c (i + 1) i = iprop(emp) := by unfold outSt; rw [if_neg hv]
    rw [eo1, eo2] at hfam
    unfold ST
    iintro ⟨#HR, HF, HO, HS, HV, HP⟩
    ihave H := hfam $$ HP
    icases H with ⟨-, Hback⟩
    isplitr; · iexact HR
    isplitl [HF]; · iexact HF
    isplitl [HO]; · iexact HO
    isplitl [HS]; · iexact HS
    isplitl [HV]; · iexact HV
    iapply Hback; iempintro

end

end Cert.AllGather

end
-- ==== Proof.Closed.lean ====
/-
# Closed: the words the kernel computes, in plain numbers

Every condition, offset, target and semaphore index of the kernel, as the mesh's own numbers: run through the sixteen
devices. Names: `s<j>` copy `j`, `r<n>` the wait for arrival `n`, `e<j>` the wait until copy `j` has left, `p<i>` the
product of candidate plane `i`; then `_c` its condition, `_o` the offsets of its slot, `_d` its target, `_m` its semaphore
of arrival, `_l` its level.
-/
module

public import proofs.«01_k».proof.Proof.State

@[expose] public section

noncomputable section

namespace Cert.AllGather

open Cert.KernelIdeal Cert.KernelIdeal.Gen
open Idealize.ShloMosaic
open Idealize.ShloMosaic.TcCoe

/-- One semaphore of an array laid out from `base` on. -/
theorem sem_at {n : ℕ} (base : ℕ) (h : base + (⟨1, ![n]⟩ : Shape).numel ≤ 52) (off : Fin 1 → ℕ)
    (inb : ∀ a, off a + S1.size a ≤ (⟨1, ![n]⟩ : Shape).size a) {k : ℕ} (hk : base + off 0 = 3 + k) :
    (((SemArray.consecutive base (⟨1, ![n]⟩ : Shape) h : SemArray (Fin 52) _).slice (Rect.unit (s := ⟨1, ![n]⟩) off S1.size inb)).squeeze S_ squeezes_S1_S_).sem
      = dsem k := by
  have h0 := inb 0
  refine Fin.ext ?_
  have hn : (⟨1, ![n]⟩ : Shape).numel = n := by simp [Shape.numel]
  show base + ((⟨1, ![n]⟩ : Shape).rowMajor ((Rect.unit (s := ⟨1, ![n]⟩) off S1.size inb).emb
    (Shape.reshapeEquiv (squeezes_S1_S_).numel_eq fun i => i.elim0))).val = (3 + k) % 52
  rw [Shape.rowMajor_val_one]
  have e : (((Rect.unit (s := ⟨1, ![n]⟩) off S1.size inb).emb (Shape.reshapeEquiv (squeezes_S1_S_).numel_eq fun i => i.elim0)) 0).val
      = off 0 + 1 * ((Shape.reshapeEquiv (squeezes_S1_S_).numel_eq fun i => i.elim0 : S1.Idx) 0).val := rfl
  have e1 : ((Shape.reshapeEquiv (squeezes_S1_S_).numel_eq fun i => i.elim0 : S1.Idx) 0).val = 0 :=
    Nat.lt_one_iff.mp ((Shape.reshapeEquiv (squeezes_S1_S_).numel_eq fun i => i.elim0 : S1.Idx) 0).isLt
  rw [e, e1]
  have h1 : off 0 + 1 ≤ n := h0
  rw [hn] at h
  rw [Nat.mod_eq_of_lt (by omega)]
  omega

theorem s0_c : ∀ c : Dev nD, k0_cond1 c = 1#1 ↔ sv c 0 := by decide +kernel
theorem s0_o : ∀ c : Dev nD, k0_cond1 c = 1#1 → k0_off3 c = ![(ss c 0).val, 0, 0] := by decide +kernel
theorem s0_dv : ∀ c : Dev nD, k0_cond1 c = 1#1 → k0_dev7 c = (st c 0).val := by decide +kernel
theorem s0_d : ∀ (c : Dev nD) (h : k0_cond1 c = 1#1), (⟨k0_dev7 c, k0_dev7_lt c h⟩ : Dev nD) = st c 0 := fun c h => Fin.ext (s0_dv c h)
theorem s0_m : ∀ c : Dev nD, k0_cond1 c = 1#1 → 35 + k0_off2 c 0 = 3 + rsem (st c 0) (ss c 0) := by decide +kernel
theorem s1_c : ∀ c : Dev nD, k0_cond2 c = 1#1 ↔ sv c 1 := by decide +kernel
theorem s1_o : ∀ c : Dev nD, k0_cond2 c = 1#1 → k0_off5 c = ![(ss c 1).val, 0, 0] := by decide +kernel
theorem s1_dv : ∀ c : Dev nD, k0_cond2 c = 1#1 → k0_dev8 c = (st c 1).val := by decide +kernel
theorem s1_d : ∀ (c : Dev nD) (h : k0_cond2 c = 1#1), (⟨k0_dev8 c, k0_dev8_lt c h⟩ : Dev nD) = st c 1 := fun c h => Fin.ext (s1_dv c h)
theorem s1_m : ∀ c : Dev nD, k0_cond2 c = 1#1 → 35 + k0_off4 c 0 = 3 + rsem (st c 1) (ss c 1) := by decide +kernel
theorem s2_c : ∀ c : Dev nD, k0_cond3 c = 1#1 ↔ sv c 2 := by decide +kernel
theorem s2_o : ∀ c : Dev nD, k0_cond3 c = 1#1 → k0_off7 c = ![(ss c 2).val, 0, 0] := by decide +kernel
theorem s2_dv : ∀ c : Dev nD, k0_cond3 c = 1#1 → k0_dev9 c = (st c 2).val := by decide +kernel
theorem s2_d : ∀ (c : Dev nD) (h : k0_cond3 c = 1#1), (⟨k0_dev9 c, k0_dev9_lt c h⟩ : Dev nD) = st c 2 := fun c h => Fin.ext (s2_dv c h)
theorem s2_m : ∀ c : Dev nD, k0_cond3 c = 1#1 → 35 + k0_off6 c 0 = 3 + rsem (st c 2) (ss c 2) := by decide +kernel
theorem s3_c : ∀ c : Dev nD, k0_cond4 c = 1#1 ↔ sv c 3 := by decide +kernel
theorem s3_o : ∀ c : Dev nD, k0_cond4 c = 1#1 → k0_off9 c = ![(ss c 3).val, 0, 0] := by decide +kernel
theorem s3_dv : ∀ c : Dev nD, k0_cond4 c = 1#1 → k0_dev10 c = (st c 3).val := by decide +kernel
theorem s3_d : ∀ (c : Dev nD) (h : k0_cond4 c = 1#1), (⟨k0_dev10 c, k0_dev10_lt c h⟩ : Dev nD) = st c 3 := fun c h => Fin.ext (s3_dv c h)
theorem s3_m : ∀ c : Dev nD, k0_cond4 c = 1#1 → 35 + k0_off8 c 0 = 3 + rsem (st c 3) (ss c 3) := by decide +kernel
theorem s4_c : ∀ c : Dev nD, sv c 4 := by decide +kernel
theorem s4_o : ∀ c : Dev nD, k0_off1 c = ![(ss c 4).val, 0, 0] := by decide +kernel
theorem s4_dv : ∀ c : Dev nD, k0_dev11 c = (st c 4).val := by decide +kernel
theorem s4_d : ∀ c : Dev nD, (⟨k0_dev11 c, k0_dev11_lt c⟩ : Dev nD) = st c 4 := fun c => Fin.ext (s4_dv c)
theorem s4_m : ∀ c : Dev nD, 39 + k0_off10 c 0 = 3 + rsem (st c 4) (ss c 4) := by decide +kernel
theorem s5_c : ∀ c : Dev nD, sv c 5 := by decide +kernel
theorem s5_o : ∀ c : Dev nD, k0_off1 c = ![(ss c 5).val, 0, 0] := by decide +kernel
theorem s5_dv : ∀ c : Dev nD, k0_dev12 c = (st c 5).val := by decide +kernel
theorem s5_d : ∀ c : Dev nD, (⟨k0_dev12 c, k0_dev12_lt c⟩ : Dev nD) = st c 5 := fun c => Fin.ext (s5_dv c)
theorem s5_m : ∀ c : Dev nD, 43 + k0_off10 c 0 = 3 + rsem (st c 5) (ss c 5) := by decide +kernel
theorem r4_c : ∀ c : Dev nD, k0_cond5 c = 1#1 ↔ gv c 4 := by decide +kernel
theorem r4_m : ∀ c : Dev nD, k0_cond5 c = 1#1 → 35 + k0_off11 c 0 = 3 + rsem c (sl c 4) := by decide +kernel
theorem r4_lv : ∀ (c : Fin 16) (j : Fin 32), gv c 4 → 6 ≤ j.val → sv c j → lvn (3 + rsem c (sl c 4)) < lvn (3 + rsem (st c j) (ss c j)) := by decide +kernel
theorem r4_l : ∀ c : Dev nD, gv c 4 → ∀ j, 6 ≤ j → j < 32 → sv c j → lvn (3 + rsem c (sl c 4)) < lvn (3 + rsem (st c j) (ss c j)) := fun c h j h1 h2 h3 => r4_lv c ⟨j, h2⟩ h h1 h3
theorem s6_c : ∀ c : Dev nD, k0_cond6 c = 1#1 ↔ sv c 6 := by decide +kernel
theorem s6_o : ∀ c : Dev nD, k0_cond6 c = 1#1 → k0_off14 c = ![(ss c 6).val, 0, 0] := by decide +kernel
theorem s6_dv : ∀ c : Dev nD, k0_cond6 c = 1#1 → k0_dev13 c = (st c 6).val := by decide +kernel
theorem s6_d : ∀ (c : Dev nD) (h : k0_cond6 c = 1#1), (⟨k0_dev13 c, k0_dev13_lt c h⟩ : Dev nD) = st c 6 := fun c h => Fin.ext (s6_dv c h)
theorem s6_m : ∀ c : Dev nD, k0_cond6 c = 1#1 → 39 + k0_off13 c 0 = 3 + rsem (st c 6) (ss c 6) := by decide +kernel
theorem s7_c : ∀ c : Dev nD, k0_cond7 c = 1#1 ↔ sv c 7 := by decide +kernel
theorem s7_o : ∀ c : Dev nD, k0_cond7 c = 1#1 → k0_off16 c = ![(ss c 7).val, 0, 0] := by decide +kernel
theorem s7_dv : ∀ c : Dev nD, k0_cond7 c = 1#1 → k0_dev14 c = (st c 7).val := by decide +kernel
theorem s7_d : ∀ (c : Dev nD) (h : k0_cond7 c = 1#1), (⟨k0_dev14 c, k0_dev14_lt c h⟩ : Dev nD) = st c 7 := fun c h => Fin.ext (s7_dv c h)
theorem s7_m : ∀ c : Dev nD, k0_cond7 c = 1#1 → 43 + k0_off15 c 0 = 3 + rsem (st c 7) (ss c 7) := by decide +kernel
theorem r8_c : ∀ c : Dev nD, k0_cond8 c = 1#1 ↔ gv c 8 := by decide +kernel
theorem r8_m : ∀ c : Dev nD, k0_cond8 c = 1#1 → 35 + k0_off17 c 0 = 3 + rsem c (sl c 8) := by decide +kernel
theorem r8_lv : ∀ (c : Fin 16) (j : Fin 32), gv c 8 → 8 ≤ j.val → sv c j → lvn (3 + rsem c (sl c 8)) < lvn (3 + rsem (st c j) (ss c j)) := by decide +kernel
theorem r8_l : ∀ c : Dev nD, gv c 8 → ∀ j, 8 ≤ j → j < 32 → sv c j → lvn (3 + rsem c (sl c 8)) < lvn (3 + rsem (st c j) (ss c j)) := fun c h j h1 h2 h3 => r8_lv c ⟨j, h2⟩ h h1 h3
theorem s8_c : ∀ c : Dev nD, k0_cond9 c = 1#1 ↔ sv c 8 := by decide +kernel
theorem s8_o : ∀ c : Dev nD, k0_cond9 c = 1#1 → k0_off20 c = ![(ss c 8).val, 0, 0] := by decide +kernel
theorem s8_dv : ∀ c : Dev nD, k0_cond9 c = 1#1 → k0_dev15 c = (st c 8).val := by decide +kernel
theorem s8_d : ∀ (c : Dev nD) (h : k0_cond9 c = 1#1), (⟨k0_dev15 c, k0_dev15_lt c h⟩ : Dev nD) = st c 8 := fun c h => Fin.ext (s8_dv c h)
theorem s8_m : ∀ c : Dev nD, k0_cond9 c = 1#1 → 39 + k0_off19 c 0 = 3 + rsem (st c 8) (ss c 8) := by decide +kernel
theorem s9_c : ∀ c : Dev nD, k0_cond10 c = 1#1 ↔ sv c 9 := by decide +kernel
theorem s9_o : ∀ c : Dev nD, k0_cond10 c = 1#1 → k0_off22 c = ![(ss c 9).val, 0, 0] := by decide +kernel
theorem s9_dv : ∀ c : Dev nD, k0_cond10 c = 1#1 → k0_dev16 c = (st c 9).val := by decide +kernel
theorem s9_d : ∀ (c : Dev nD) (h : k0_cond10 c = 1#1), (⟨k0_dev16 c, k0_dev16_lt c h⟩ : Dev nD) = st c 9 := fun c h => Fin.ext (s9_dv c h)
theorem s9_m : ∀ c : Dev nD, k0_cond10 c = 1#1 → 43 + k0_off21 c 0 = 3 + rsem (st c 9) (ss c 9) := by decide +kernel
theorem r12_c : ∀ c : Dev nD, k0_cond11 c = 1#1 ↔ gv c 12 := by decide +kernel
theorem r12_m : ∀ c : Dev nD, k0_cond11 c = 1#1 → 35 + k0_off23 c 0 = 3 + rsem c (sl c 12) := by decide +kernel
theorem r12_lv : ∀ (c : Fin 16) (j : Fin 32), gv c 12 → 10 ≤ j.val → sv c j → lvn (3 + rsem c (sl c 12)) < lvn (3 + rsem (st c j) (ss c j)) := by decide +kernel
theorem r12_l : ∀ c : Dev nD, gv c 12 → ∀ j, 10 ≤ j → j < 32 → sv c j → lvn (3 + rsem c (sl c 12)) < lvn (3 + rsem (st c j) (ss c j)) := fun c h j h1 h2 h3 => r12_lv c ⟨j, h2⟩ h h1 h3
theorem s10_c : ∀ c : Dev nD, k0_cond12 c = 1#1 ↔ sv c 10 := by decide +kernel
theorem s10_o : ∀ c : Dev nD, k0_cond12 c = 1#1 → k0_off26 c = ![(ss c 10).val, 0, 0] := by decide +kernel
theorem s10_dv : ∀ c : Dev nD, k0_cond12 c = 1#1 → k0_dev17 c = (st c 10).val := by decide +kernel
theorem s10_d : ∀ (c : Dev nD) (h : k0_cond12 c = 1#1), (⟨k0_dev17 c, k0_dev17_lt c h⟩ : Dev nD) = st c 10 := fun c h => Fin.ext (s10_dv c h)
theorem s10_m : ∀ c : Dev nD, k0_cond12 c = 1#1 → 39 + k0_off25 c 0 = 3 + rsem (st c 10) (ss c 10) := by decide +kernel
theorem s11_c : ∀ c : Dev nD, k0_cond13 c = 1#1 ↔ sv c 11 := by decide +kernel
theorem s11_o : ∀ c : Dev nD, k0_cond13 c = 1#1 → k0_off28 c = ![(ss c 11).val, 0, 0] := by decide +kernel
theorem s11_dv : ∀ c : Dev nD, k0_cond13 c = 1#1 → k0_dev18 c = (st c 11).val := by decide +kernel
theorem s11_d : ∀ (c : Dev nD) (h : k0_cond13 c = 1#1), (⟨k0_dev18 c, k0_dev18_lt c h⟩ : Dev nD) = st c 11 := fun c h => Fin.ext (s11_dv c h)
theorem s11_m : ∀ c : Dev nD, k0_cond13 c = 1#1 → 43 + k0_off27 c 0 = 3 + rsem (st c 11) (ss c 11) := by decide +kernel
theorem r16_c : ∀ c : Dev nD, k0_cond14 c = 1#1 ↔ gv c 16 := by decide +kernel
theorem r16_m : ∀ c : Dev nD, k0_cond14 c = 1#1 → 35 + k0_off29 c 0 = 3 + rsem c (sl c 16) := by decide +kernel
theorem r16_lv : ∀ (c : Fin 16) (j : Fin 32), gv c 16 → 12 ≤ j.val → sv c j → lvn (3 + rsem c (sl c 16)) < lvn (3 + rsem (st c j) (ss c j)) := by decide +kernel
theorem r16_l : ∀ c : Dev nD, gv c 16 → ∀ j, 12 ≤ j → j < 32 → sv c j → lvn (3 + rsem c (sl c 16)) < lvn (3 + rsem (st c j) (ss c j)) := fun c h j h1 h2 h3 => r16_lv c ⟨j, h2⟩ h h1 h3
theorem s12_c : ∀ c : Dev nD, k0_cond15 c = 1#1 ↔ sv c 12 := by decide +kernel
theorem s12_o : ∀ c : Dev nD, k0_cond15 c = 1#1 → k0_off32 c = ![(ss c 12).val, 0, 0] := by decide +kernel
theorem s12_dv : ∀ c : Dev nD, k0_cond15 c = 1#1 → k0_dev19 c = (st c 12).val := by decide +kernel
theorem s12_d : ∀ (c : Dev nD) (h : k0_cond15 c = 1#1), (⟨k0_dev19 c, k0_dev19_lt c h⟩ : Dev nD) = st c 12 := fun c h => Fin.ext (s12_dv c h)
theorem s12_m : ∀ c : Dev nD, k0_cond15 c = 1#1 → 39 + k0_off31 c 0 = 3 + rsem (st c 12) (ss c 12) := by decide +kernel
theorem s13_c : ∀ c : Dev nD, k0_cond16 c = 1#1 ↔ sv c 13 := by decide +kernel
theorem s13_o : ∀ c : Dev nD, k0_cond16 c = 1#1 → k0_off34 c = ![(ss c 13).val, 0, 0] := by decide +kernel
theorem s13_dv : ∀ c : Dev nD, k0_cond16 c = 1#1 → k0_dev20 c = (st c 13).val := by decide +kernel
theorem s13_d : ∀ (c : Dev nD) (h : k0_cond16 c = 1#1), (⟨k0_dev20 c, k0_dev20_lt c h⟩ : Dev nD) = st c 13 := fun c h => Fin.ext (s13_dv c h)
theorem s13_m : ∀ c : Dev nD, k0_cond16 c = 1#1 → 43 + k0_off33 c 0 = 3 + rsem (st c 13) (ss c 13) := by decide +kernel
theorem r20_c : ∀ c : Dev nD, k0_cond17 c = 1#1 ↔ gv c 20 := by decide +kernel
theorem r20_m : ∀ c : Dev nD, k0_cond17 c = 1#1 → 35 + k0_off35 c 0 = 3 + rsem c (sl c 20) := by decide +kernel
theorem r20_lv : ∀ (c : Fin 16) (j : Fin 32), gv c 20 → 14 ≤ j.val → sv c j → lvn (3 + rsem c (sl c 20)) < lvn (3 + rsem (st c j) (ss c j)) := by decide +kernel
theorem r20_l : ∀ c : Dev nD, gv c 20 → ∀ j, 14 ≤ j → j < 32 → sv c j → lvn (3 + rsem c (sl c 20)) < lvn (3 + rsem (st c j) (ss c j)) := fun c h j h1 h2 h3 => r20_lv c ⟨j, h2⟩ h h1 h3
theorem s14_c : ∀ c : Dev nD, k0_cond18 c = 1#1 ↔ sv c 14 := by decide +kernel
theorem s14_o : ∀ c : Dev nD, k0_cond18 c = 1#1 → k0_off38 c = ![(ss c 14).val, 0, 0] := by decide +kernel
theorem s14_dv : ∀ c : Dev nD, k0_cond18 c = 1#1 → k0_dev21 c = (st c 14).val := by decide +kernel
theorem s14_d : ∀ (c : Dev nD) (h : k0_cond18 c = 1#1), (⟨k0_dev21 c, k0_dev21_lt c h⟩ : Dev nD) = st c 14 := fun c h => Fin.ext (s14_dv c h)
theorem s14_m : ∀ c : Dev nD, k0_cond18 c = 1#1 → 39 + k0_off37 c 0 = 3 + rsem (st c 14) (ss c 14) := by decide +kernel
theorem s15_c : ∀ c : Dev nD, k0_cond19 c = 1#1 ↔ sv c 15 := by decide +kernel
theorem s15_o : ∀ c : Dev nD, k0_cond19 c = 1#1 → k0_off40 c = ![(ss c 15).val, 0, 0] := by decide +kernel
theorem s15_dv : ∀ c : Dev nD, k0_cond19 c = 1#1 → k0_dev22 c = (st c 15).val := by decide +kernel
theorem s15_d : ∀ (c : Dev nD) (h : k0_cond19 c = 1#1), (⟨k0_dev22 c, k0_dev22_lt c h⟩ : Dev nD) = st c 15 := fun c h => Fin.ext (s15_dv c h)
theorem s15_m : ∀ c : Dev nD, k0_cond19 c = 1#1 → 43 + k0_off39 c 0 = 3 + rsem (st c 15) (ss c 15) := by decide +kernel
theorem r24_c : ∀ c : Dev nD, k0_cond20 c = 1#1 ↔ gv c 24 := by decide +kernel
theorem r24_m : ∀ c : Dev nD, k0_cond20 c = 1#1 → 35 + k0_off41 c 0 = 3 + rsem c (sl c 24) := by decide +kernel
theorem r24_lv : ∀ (c : Fin 16) (j : Fin 32), gv c 24 → 16 ≤ j.val → sv c j → lvn (3 + rsem c (sl c 24)) < lvn (3 + rsem (st c j) (ss c j)) := by decide +kernel
theorem r24_l : ∀ c : Dev nD, gv c 24 → ∀ j, 16 ≤ j → j < 32 → sv c j → lvn (3 + rsem c (sl c 24)) < lvn (3 + rsem (st c j) (ss c j)) := fun c h j h1 h2 h3 => r24_lv c ⟨j, h2⟩ h h1 h3
theorem s16_c : ∀ c : Dev nD, k0_cond21 c = 1#1 ↔ sv c 16 := by decide +kernel
theorem s16_o : ∀ c : Dev nD, k0_cond21 c = 1#1 → k0_off44 c = ![(ss c 16).val, 0, 0] := by decide +kernel
theorem s16_dv : ∀ c : Dev nD, k0_cond21 c = 1#1 → k0_dev23 c = (st c 16).val := by decide +kernel
theorem s16_d : ∀ (c : Dev nD) (h : k0_cond21 c = 1#1), (⟨k0_dev23 c, k0_dev23_lt c h⟩ : Dev nD) = st c 16 := fun c h => Fin.ext (s16_dv c h)
theorem s16_m : ∀ c : Dev nD, k0_cond21 c = 1#1 → 39 + k0_off43 c 0 = 3 + rsem (st c 16) (ss c 16) := by decide +kernel
theorem s17_c : ∀ c : Dev nD, k0_cond22 c = 1#1 ↔ sv c 17 := by decide +kernel
theorem s17_o : ∀ c : Dev nD, k0_cond22 c = 1#1 → k0_off46 c = ![(ss c 17).val, 0, 0] := by decide +kernel
theorem s17_dv : ∀ c : Dev nD, k0_cond22 c = 1#1 → k0_dev24 c = (st c 17).val := by decide +kernel
theorem s17_d : ∀ (c : Dev nD) (h : k0_cond22 c = 1#1), (⟨k0_dev24 c, k0_dev24_lt c h⟩ : Dev nD) = st c 17 := fun c h => Fin.ext (s17_dv c h)
theorem s17_m : ∀ c : Dev nD, k0_cond22 c = 1#1 → 43 + k0_off45 c 0 = 3 + rsem (st c 17) (ss c 17) := by decide +kernel
theorem r1_c : ∀ c : Dev nD, k0_cond23 c = 1#1 ↔ gv c 1 := by decide +kernel
theorem r1_m : ∀ c : Dev nD, k0_cond23 c = 1#1 → 39 + k0_off47 c 0 = 3 + rsem c (sl c 1) := by decide +kernel
theorem r1_lv : ∀ (c : Fin 16) (j : Fin 32), gv c 1 → 18 ≤ j.val → sv c j → lvn (3 + rsem c (sl c 1)) < lvn (3 + rsem (st c j) (ss c j)) := by decide +kernel
theorem r1_l : ∀ c : Dev nD, gv c 1 → ∀ j, 18 ≤ j → j < 32 → sv c j → lvn (3 + rsem c (sl c 1)) < lvn (3 + rsem (st c j) (ss c j)) := fun c h j h1 h2 h3 => r1_lv c ⟨j, h2⟩ h h1 h3
theorem s18_c : ∀ c : Dev nD, k0_cond24 c = 1#1 ↔ sv c 18 := by decide +kernel
theorem s18_o : ∀ c : Dev nD, k0_cond24 c = 1#1 → k0_off50 c = ![(ss c 18).val, 0, 0] := by decide +kernel
theorem s18_dv : ∀ c : Dev nD, k0_cond24 c = 1#1 → k0_dev25 c = (st c 18).val := by decide +kernel
theorem s18_d : ∀ (c : Dev nD) (h : k0_cond24 c = 1#1), (⟨k0_dev25 c, k0_dev25_lt c h⟩ : Dev nD) = st c 18 := fun c h => Fin.ext (s18_dv c h)
theorem s18_m : ∀ c : Dev nD, k0_cond24 c = 1#1 → 49 + k0_off49 c 0 = 3 + rsem (st c 18) (ss c 18) := by decide +kernel
theorem r2_c : ∀ c : Dev nD, k0_cond25 c = 1#1 ↔ gv c 2 := by decide +kernel
theorem r2_m : ∀ c : Dev nD, k0_cond25 c = 1#1 → 43 + k0_off51 c 0 = 3 + rsem c (sl c 2) := by decide +kernel
theorem r2_lv : ∀ (c : Fin 16) (j : Fin 32), gv c 2 → 19 ≤ j.val → sv c j → lvn (3 + rsem c (sl c 2)) < lvn (3 + rsem (st c j) (ss c j)) := by decide +kernel
theorem r2_l : ∀ c : Dev nD, gv c 2 → ∀ j, 19 ≤ j → j < 32 → sv c j → lvn (3 + rsem c (sl c 2)) < lvn (3 + rsem (st c j) (ss c j)) := fun c h j h1 h2 h3 => r2_lv c ⟨j, h2⟩ h h1 h3
theorem s19_c : ∀ c : Dev nD, k0_cond26 c = 1#1 ↔ sv c 19 := by decide +kernel
theorem s19_o : ∀ c : Dev nD, k0_cond26 c = 1#1 → k0_off54 c = ![(ss c 19).val, 0, 0] := by decide +kernel
theorem s19_dv : ∀ c : Dev nD, k0_cond26 c = 1#1 → k0_dev26 c = (st c 19).val := by decide +kernel
theorem s19_d : ∀ (c : Dev nD) (h : k0_cond26 c = 1#1), (⟨k0_dev26 c, k0_dev26_lt c h⟩ : Dev nD) = st c 19 := fun c h => Fin.ext (s19_dv c h)
theorem s19_m : ∀ c : Dev nD, k0_cond26 c = 1#1 → 47 + k0_off53 c 0 = 3 + rsem (st c 19) (ss c 19) := by decide +kernel
theorem r5_c : ∀ c : Dev nD, k0_cond27 c = 1#1 ↔ gv c 5 := by decide +kernel
theorem r5_m : ∀ c : Dev nD, k0_cond27 c = 1#1 → 39 + k0_off55 c 0 = 3 + rsem c (sl c 5) := by decide +kernel
theorem r5_lv : ∀ (c : Fin 16) (j : Fin 32), gv c 5 → 20 ≤ j.val → sv c j → lvn (3 + rsem c (sl c 5)) < lvn (3 + rsem (st c j) (ss c j)) := by decide +kernel
theorem r5_l : ∀ c : Dev nD, gv c 5 → ∀ j, 20 ≤ j → j < 32 → sv c j → lvn (3 + rsem c (sl c 5)) < lvn (3 + rsem (st c j) (ss c j)) := fun c h j h1 h2 h3 => r5_lv c ⟨j, h2⟩ h h1 h3
theorem s20_c : ∀ c : Dev nD, k0_cond28 c = 1#1 ↔ sv c 20 := by decide +kernel
theorem s20_o : ∀ c : Dev nD, k0_cond28 c = 1#1 → k0_off58 c = ![(ss c 20).val, 0, 0] := by decide +kernel
theorem s20_dv : ∀ c : Dev nD, k0_cond28 c = 1#1 → k0_dev27 c = (st c 20).val := by decide +kernel
theorem s20_d : ∀ (c : Dev nD) (h : k0_cond28 c = 1#1), (⟨k0_dev27 c, k0_dev27_lt c h⟩ : Dev nD) = st c 20 := fun c h => Fin.ext (s20_dv c h)
theorem s20_m : ∀ c : Dev nD, k0_cond28 c = 1#1 → 49 + k0_off57 c 0 = 3 + rsem (st c 20) (ss c 20) := by decide +kernel
theorem r6_c : ∀ c : Dev nD, k0_cond29 c = 1#1 ↔ gv c 6 := by decide +kernel
theorem r6_m : ∀ c : Dev nD, k0_cond29 c = 1#1 → 43 + k0_off59 c 0 = 3 + rsem c (sl c 6) := by decide +kernel
theorem r6_lv : ∀ (c : Fin 16) (j : Fin 32), gv c 6 → 21 ≤ j.val → sv c j → lvn (3 + rsem c (sl c 6)) < lvn (3 + rsem (st c j) (ss c j)) := by decide +kernel
theorem r6_l : ∀ c : Dev nD, gv c 6 → ∀ j, 21 ≤ j → j < 32 → sv c j → lvn (3 + rsem c (sl c 6)) < lvn (3 + rsem (st c j) (ss c j)) := fun c h j h1 h2 h3 => r6_lv c ⟨j, h2⟩ h h1 h3
theorem s21_c : ∀ c : Dev nD, k0_cond30 c = 1#1 ↔ sv c 21 := by decide +kernel
theorem s21_o : ∀ c : Dev nD, k0_cond30 c = 1#1 → k0_off62 c = ![(ss c 21).val, 0, 0] := by decide +kernel
theorem s21_dv : ∀ c : Dev nD, k0_cond30 c = 1#1 → k0_dev28 c = (st c 21).val := by decide +kernel
theorem s21_d : ∀ (c : Dev nD) (h : k0_cond30 c = 1#1), (⟨k0_dev28 c, k0_dev28_lt c h⟩ : Dev nD) = st c 21 := fun c h => Fin.ext (s21_dv c h)
theorem s21_m : ∀ c : Dev nD, k0_cond30 c = 1#1 → 47 + k0_off61 c 0 = 3 + rsem (st c 21) (ss c 21) := by decide +kernel
theorem r9_c : ∀ c : Dev nD, k0_cond31 c = 1#1 ↔ gv c 9 := by decide +kernel
theorem r9_m : ∀ c : Dev nD, k0_cond31 c = 1#1 → 39 + k0_off63 c 0 = 3 + rsem c (sl c 9) := by decide +kernel
theorem r9_lv : ∀ (c : Fin 16) (j : Fin 32), gv c 9 → 22 ≤ j.val → sv c j → lvn (3 + rsem c (sl c 9)) < lvn (3 + rsem (st c j) (ss c j)) := by decide +kernel
theorem r9_l : ∀ c : Dev nD, gv c 9 → ∀ j, 22 ≤ j → j < 32 → sv c j → lvn (3 + rsem c (sl c 9)) < lvn (3 + rsem (st c j) (ss c j)) := fun c h j h1 h2 h3 => r9_lv c ⟨j, h2⟩ h h1 h3
theorem s22_c : ∀ c : Dev nD, k0_cond32 c = 1#1 ↔ sv c 22 := by decide +kernel
theorem s22_o : ∀ c : Dev nD, k0_cond32 c = 1#1 → k0_off66 c = ![(ss c 22).val, 0, 0] := by decide +kernel
theorem s22_dv : ∀ c : Dev nD, k0_cond32 c = 1#1 → k0_dev29 c = (st c 22).val := by decide +kernel
theorem s22_d : ∀ (c : Dev nD) (h : k0_cond32 c = 1#1), (⟨k0_dev29 c, k0_dev29_lt c h⟩ : Dev nD) = st c 22 := fun c h => Fin.ext (s22_dv c h)
theorem s22_m : ∀ c : Dev nD, k0_cond32 c = 1#1 → 49 + k0_off65 c 0 = 3 + rsem (st c 22) (ss c 22) := by decide +kernel
theorem r10_c : ∀ c : Dev nD, k0_cond33 c = 1#1 ↔ gv c 10 := by decide +kernel
theorem r10_m : ∀ c : Dev nD, k0_cond33 c = 1#1 → 43 + k0_off67 c 0 = 3 + rsem c (sl c 10) := by decide +kernel
theorem r10_lv : ∀ (c : Fin 16) (j : Fin 32), gv c 10 → 23 ≤ j.val → sv c j → lvn (3 + rsem c (sl c 10)) < lvn (3 + rsem (st c j) (ss c j)) := by decide +kernel
theorem r10_l : ∀ c : Dev nD, gv c 10 → ∀ j, 23 ≤ j → j < 32 → sv c j → lvn (3 + rsem c (sl c 10)) < lvn (3 + rsem (st c j) (ss c j)) := fun c h j h1 h2 h3 => r10_lv c ⟨j, h2⟩ h h1 h3
theorem s23_c : ∀ c : Dev nD, k0_cond34 c = 1#1 ↔ sv c 23 := by decide +kernel
theorem s23_o : ∀ c : Dev nD, k0_cond34 c = 1#1 → k0_off70 c = ![(ss c 23).val, 0, 0] := by decide +kernel
theorem s23_dv : ∀ c : Dev nD, k0_cond34 c = 1#1 → k0_dev30 c = (st c 23).val := by decide +kernel
theorem s23_d : ∀ (c : Dev nD) (h : k0_cond34 c = 1#1), (⟨k0_dev30 c, k0_dev30_lt c h⟩ : Dev nD) = st c 23 := fun c h => Fin.ext (s23_dv c h)
theorem s23_m : ∀ c : Dev nD, k0_cond34 c = 1#1 → 47 + k0_off69 c 0 = 3 + rsem (st c 23) (ss c 23) := by decide +kernel
theorem r13_c : ∀ c : Dev nD, k0_cond35 c = 1#1 ↔ gv c 13 := by decide +kernel
theorem r13_m : ∀ c : Dev nD, k0_cond35 c = 1#1 → 39 + k0_off71 c 0 = 3 + rsem c (sl c 13) := by decide +kernel
theorem r13_lv : ∀ (c : Fin 16) (j : Fin 32), gv c 13 → 24 ≤ j.val → sv c j → lvn (3 + rsem c (sl c 13)) < lvn (3 + rsem (st c j) (ss c j)) := by decide +kernel
theorem r13_l : ∀ c : Dev nD, gv c 13 → ∀ j, 24 ≤ j → j < 32 → sv c j → lvn (3 + rsem c (sl c 13)) < lvn (3 + rsem (st c j) (ss c j)) := fun c h j h1 h2 h3 => r13_lv c ⟨j, h2⟩ h h1 h3
theorem s24_c : ∀ c : Dev nD, k0_cond36 c = 1#1 ↔ sv c 24 := by decide +kernel
theorem s24_o : ∀ c : Dev nD, k0_cond36 c = 1#1 → k0_off74 c = ![(ss c 24).val, 0, 0] := by decide +kernel
theorem s24_dv : ∀ c : Dev nD, k0_cond36 c = 1#1 → k0_dev31 c = (st c 24).val := by decide +kernel
theorem s24_d : ∀ (c : Dev nD) (h : k0_cond36 c = 1#1), (⟨k0_dev31 c, k0_dev31_lt c h⟩ : Dev nD) = st c 24 := fun c h => Fin.ext (s24_dv c h)
theorem s24_m : ∀ c : Dev nD, k0_cond36 c = 1#1 → 49 + k0_off73 c 0 = 3 + rsem (st c 24) (ss c 24) := by decide +kernel
theorem r14_c : ∀ c : Dev nD, k0_cond37 c = 1#1 ↔ gv c 14 := by decide +kernel
theorem r14_m : ∀ c : Dev nD, k0_cond37 c = 1#1 → 43 + k0_off75 c 0 = 3 + rsem c (sl c 14) := by decide +kernel
theorem r14_lv : ∀ (c : Fin 16) (j : Fin 32), gv c 14 → 25 ≤ j.val → sv c j → lvn (3 + rsem c (sl c 14)) < lvn (3 + rsem (st c j) (ss c j)) := by decide +kernel
theorem r14_l : ∀ c : Dev nD, gv c 14 → ∀ j, 25 ≤ j → j < 32 → sv c j → lvn (3 + rsem c (sl c 14)) < lvn (3 + rsem (st c j) (ss c j)) := fun c h j h1 h2 h3 => r14_lv c ⟨j, h2⟩ h h1 h3
theorem s25_c : ∀ c : Dev nD, k0_cond38 c = 1#1 ↔ sv c 25 := by decide +kernel
theorem s25_o : ∀ c : Dev nD, k0_cond38 c = 1#1 → k0_off78 c = ![(ss c 25).val, 0, 0] := by decide +kernel
theorem s25_dv : ∀ c : Dev nD, k0_cond38 c = 1#1 → k0_dev32 c = (st c 25).val := by decide +kernel
theorem s25_d : ∀ (c : Dev nD) (h : k0_cond38 c = 1#1), (⟨k0_dev32 c, k0_dev32_lt c h⟩ : Dev nD) = st c 25 := fun c h => Fin.ext (s25_dv c h)
theorem s25_m : ∀ c : Dev nD, k0_cond38 c = 1#1 → 47 + k0_off77 c 0 = 3 + rsem (st c 25) (ss c 25) := by decide +kernel
theorem r17_c : ∀ c : Dev nD, k0_cond39 c = 1#1 ↔ gv c 17 := by decide +kernel
theorem r17_m : ∀ c : Dev nD, k0_cond39 c = 1#1 → 39 + k0_off79 c 0 = 3 + rsem c (sl c 17) := by decide +kernel
theorem r17_lv : ∀ (c : Fin 16) (j : Fin 32), gv c 17 → 26 ≤ j.val → sv c j → lvn (3 + rsem c (sl c 17)) < lvn (3 + rsem (st c j) (ss c j)) := by decide +kernel
theorem r17_l : ∀ c : Dev nD, gv c 17 → ∀ j, 26 ≤ j → j < 32 → sv c j → lvn (3 + rsem c (sl c 17)) < lvn (3 + rsem (st c j) (ss c j)) := fun c h j h1 h2 h3 => r17_lv c ⟨j, h2⟩ h h1 h3
theorem s26_c : ∀ c : Dev nD, k0_cond40 c = 1#1 ↔ sv c 26 := by decide +kernel
theorem s26_o : ∀ c : Dev nD, k0_cond40 c = 1#1 → k0_off82 c = ![(ss c 26).val, 0, 0] := by decide +kernel
theorem s26_dv : ∀ c : Dev nD, k0_cond40 c = 1#1 → k0_dev33 c = (st c 26).val := by decide +kernel
theorem s26_d : ∀ (c : Dev nD) (h : k0_cond40 c = 1#1), (⟨k0_dev33 c, k0_dev33_lt c h⟩ : Dev nD) = st c 26 := fun c h => Fin.ext (s26_dv c h)
theorem s26_m : ∀ c : Dev nD, k0_cond40 c = 1#1 → 49 + k0_off81 c 0 = 3 + rsem (st c 26) (ss c 26) := by decide +kernel
theorem r18_c : ∀ c : Dev nD, k0_cond41 c = 1#1 ↔ gv c 18 := by decide +kernel
theorem r18_m : ∀ c : Dev nD, k0_cond41 c = 1#1 → 43 + k0_off83 c 0 = 3 + rsem c (sl c 18) := by decide +kernel
theorem r18_lv : ∀ (c : Fin 16) (j : Fin 32), gv c 18 → 27 ≤ j.val → sv c j → lvn (3 + rsem c (sl c 18)) < lvn (3 + rsem (st c j) (ss c j)) := by decide +kernel
theorem r18_l : ∀ c : Dev nD, gv c 18 → ∀ j, 27 ≤ j → j < 32 → sv c j → lvn (3 + rsem c (sl c 18)) < lvn (3 + rsem (st c j) (ss c j)) := fun c h j h1 h2 h3 => r18_lv c ⟨j, h2⟩ h h1 h3
theorem s27_c : ∀ c : Dev nD, k0_cond42 c = 1#1 ↔ sv c 27 := by decide +kernel
theorem s27_o : ∀ c : Dev nD, k0_cond42 c = 1#1 → k0_off86 c = ![(ss c 27).val, 0, 0] := by decide +kernel
theorem s27_dv : ∀ c : Dev nD, k0_cond42 c = 1#1 → k0_dev34 c = (st c 27).val := by decide +kernel
theorem s27_d : ∀ (c : Dev nD) (h : k0_cond42 c = 1#1), (⟨k0_dev34 c, k0_dev34_lt c h⟩ : Dev nD) = st c 27 := fun c h => Fin.ext (s27_dv c h)
theorem s27_m : ∀ c : Dev nD, k0_cond42 c = 1#1 → 47 + k0_off85 c 0 = 3 + rsem (st c 27) (ss c 27) := by decide +kernel
theorem r21_c : ∀ c : Dev nD, k0_cond43 c = 1#1 ↔ gv c 21 := by decide +kernel
theorem r21_m : ∀ c : Dev nD, k0_cond43 c = 1#1 → 39 + k0_off87 c 0 = 3 + rsem c (sl c 21) := by decide +kernel
theorem r21_lv : ∀ (c : Fin 16) (j : Fin 32), gv c 21 → 28 ≤ j.val → sv c j → lvn (3 + rsem c (sl c 21)) < lvn (3 + rsem (st c j) (ss c j)) := by decide +kernel
theorem r21_l : ∀ c : Dev nD, gv c 21 → ∀ j, 28 ≤ j → j < 32 → sv c j → lvn (3 + rsem c (sl c 21)) < lvn (3 + rsem (st c j) (ss c j)) := fun c h j h1 h2 h3 => r21_lv c ⟨j, h2⟩ h h1 h3
theorem s28_c : ∀ c : Dev nD, k0_cond44 c = 1#1 ↔ sv c 28 := by decide +kernel
theorem s28_o : ∀ c : Dev nD, k0_cond44 c = 1#1 → k0_off90 c = ![(ss c 28).val, 0, 0] := by decide +kernel
theorem s28_dv : ∀ c : Dev nD, k0_cond44 c = 1#1 → k0_dev35 c = (st c 28).val := by decide +kernel
theorem s28_d : ∀ (c : Dev nD) (h : k0_cond44 c = 1#1), (⟨k0_dev35 c, k0_dev35_lt c h⟩ : Dev nD) = st c 28 := fun c h => Fin.ext (s28_dv c h)
theorem s28_m : ∀ c : Dev nD, k0_cond44 c = 1#1 → 49 + k0_off89 c 0 = 3 + rsem (st c 28) (ss c 28) := by decide +kernel
theorem r22_c : ∀ c : Dev nD, k0_cond45 c = 1#1 ↔ gv c 22 := by decide +kernel
theorem r22_m : ∀ c : Dev nD, k0_cond45 c = 1#1 → 43 + k0_off91 c 0 = 3 + rsem c (sl c 22) := by decide +kernel
theorem r22_lv : ∀ (c : Fin 16) (j : Fin 32), gv c 22 → 29 ≤ j.val → sv c j → lvn (3 + rsem c (sl c 22)) < lvn (3 + rsem (st c j) (ss c j)) := by decide +kernel
theorem r22_l : ∀ c : Dev nD, gv c 22 → ∀ j, 29 ≤ j → j < 32 → sv c j → lvn (3 + rsem c (sl c 22)) < lvn (3 + rsem (st c j) (ss c j)) := fun c h j h1 h2 h3 => r22_lv c ⟨j, h2⟩ h h1 h3
theorem s29_c : ∀ c : Dev nD, k0_cond46 c = 1#1 ↔ sv c 29 := by decide +kernel
theorem s29_o : ∀ c : Dev nD, k0_cond46 c = 1#1 → k0_off94 c = ![(ss c 29).val, 0, 0] := by decide +kernel
theorem s29_dv : ∀ c : Dev nD, k0_cond46 c = 1#1 → k0_dev36 c = (st c 29).val := by decide +kernel
theorem s29_d : ∀ (c : Dev nD) (h : k0_cond46 c = 1#1), (⟨k0_dev36 c, k0_dev36_lt c h⟩ : Dev nD) = st c 29 := fun c h => Fin.ext (s29_dv c h)
theorem s29_m : ∀ c : Dev nD, k0_cond46 c = 1#1 → 47 + k0_off93 c 0 = 3 + rsem (st c 29) (ss c 29) := by decide +kernel
theorem r25_c : ∀ c : Dev nD, k0_cond47 c = 1#1 ↔ gv c 25 := by decide +kernel
theorem r25_m : ∀ c : Dev nD, k0_cond47 c = 1#1 → 39 + k0_off95 c 0 = 3 + rsem c (sl c 25) := by decide +kernel
theorem r25_lv : ∀ (c : Fin 16) (j : Fin 32), gv c 25 → 30 ≤ j.val → sv c j → lvn (3 + rsem c (sl c 25)) < lvn (3 + rsem (st c j) (ss c j)) := by decide +kernel
theorem r25_l : ∀ c : Dev nD, gv c 25 → ∀ j, 30 ≤ j → j < 32 → sv c j → lvn (3 + rsem c (sl c 25)) < lvn (3 + rsem (st c j) (ss c j)) := fun c h j h1 h2 h3 => r25_lv c ⟨j, h2⟩ h h1 h3
theorem s30_c : ∀ c : Dev nD, k0_cond48 c = 1#1 ↔ sv c 30 := by decide +kernel
theorem s30_o : ∀ c : Dev nD, k0_cond48 c = 1#1 → k0_off98 c = ![(ss c 30).val, 0, 0] := by decide +kernel
theorem s30_dv : ∀ c : Dev nD, k0_cond48 c = 1#1 → k0_dev37 c = (st c 30).val := by decide +kernel
theorem s30_d : ∀ (c : Dev nD) (h : k0_cond48 c = 1#1), (⟨k0_dev37 c, k0_dev37_lt c h⟩ : Dev nD) = st c 30 := fun c h => Fin.ext (s30_dv c h)
theorem s30_m : ∀ c : Dev nD, k0_cond48 c = 1#1 → 49 + k0_off97 c 0 = 3 + rsem (st c 30) (ss c 30) := by decide +kernel
theorem r26_c : ∀ c : Dev nD, k0_cond49 c = 1#1 ↔ gv c 26 := by decide +kernel
theorem r26_m : ∀ c : Dev nD, k0_cond49 c = 1#1 → 43 + k0_off99 c 0 = 3 + rsem c (sl c 26) := by decide +kernel
theorem r26_lv : ∀ (c : Fin 16) (j : Fin 32), gv c 26 → 31 ≤ j.val → sv c j → lvn (3 + rsem c (sl c 26)) < lvn (3 + rsem (st c j) (ss c j)) := by decide +kernel
theorem r26_l : ∀ c : Dev nD, gv c 26 → ∀ j, 31 ≤ j → j < 32 → sv c j → lvn (3 + rsem c (sl c 26)) < lvn (3 + rsem (st c j) (ss c j)) := fun c h j h1 h2 h3 => r26_lv c ⟨j, h2⟩ h h1 h3
theorem s31_c : ∀ c : Dev nD, k0_cond50 c = 1#1 ↔ sv c 31 := by decide +kernel
theorem s31_o : ∀ c : Dev nD, k0_cond50 c = 1#1 → k0_off102 c = ![(ss c 31).val, 0, 0] := by decide +kernel
theorem s31_dv : ∀ c : Dev nD, k0_cond50 c = 1#1 → k0_dev38 c = (st c 31).val := by decide +kernel
theorem s31_d : ∀ (c : Dev nD) (h : k0_cond50 c = 1#1), (⟨k0_dev38 c, k0_dev38_lt c h⟩ : Dev nD) = st c 31 := fun c h => Fin.ext (s31_dv c h)
theorem s31_m : ∀ c : Dev nD, k0_cond50 c = 1#1 → 47 + k0_off101 c 0 = 3 + rsem (st c 31) (ss c 31) := by decide +kernel
theorem r3_c : ∀ c : Dev nD, k0_cond51 c = 1#1 ↔ gv c 3 := by decide +kernel
theorem r3_m : ∀ c : Dev nD, k0_cond51 c = 1#1 → 49 + k0_off103 c 0 = 3 + rsem c (sl c 3) := by decide +kernel
theorem r28_c : ∀ c : Dev nD, k0_cond52 c = 1#1 ↔ gv c 28 := by decide +kernel
theorem r28_m : ∀ c : Dev nD, k0_cond52 c = 1#1 → 47 + k0_off105 c 0 = 3 + rsem c (sl c 28) := by decide +kernel
theorem p0_c : ∀ c : Dev nD, k0_cond53 c = 1#1 ↔ vld c 0 := by decide +kernel
theorem p0_o : ∀ c : Dev nD, k0_off107 c = ![4 * (pf (pl c 0)).val, 0, 0] := by decide +kernel
theorem p0_r : ∀ c : Dev nD, k0_off108 c = ![256 * (pf (pl c 0)).val, 0] := by decide +kernel
theorem r7_c : ∀ c : Dev nD, k0_cond54 c = 1#1 ↔ gv c 7 := by decide +kernel
theorem r7_m : ∀ c : Dev nD, k0_cond54 c = 1#1 → 49 + k0_off109 c 0 = 3 + rsem c (sl c 7) := by decide +kernel
theorem r29_c : ∀ c : Dev nD, k0_cond55 c = 1#1 ↔ gv c 29 := by decide +kernel
theorem r29_m : ∀ c : Dev nD, k0_cond55 c = 1#1 → 47 + k0_off111 c 0 = 3 + rsem c (sl c 29) := by decide +kernel
theorem p1_c : ∀ c : Dev nD, k0_cond56 c = 1#1 ↔ vld c 1 := by decide +kernel
theorem p1_o : ∀ c : Dev nD, k0_off113 c = ![4 * (pf (pl c 1)).val, 0, 0] := by decide +kernel
theorem p1_r : ∀ c : Dev nD, k0_off114 c = ![256 * (pf (pl c 1)).val, 0] := by decide +kernel
theorem r11_c : ∀ c : Dev nD, k0_cond57 c = 1#1 ↔ gv c 11 := by decide +kernel
theorem r11_m : ∀ c : Dev nD, k0_cond57 c = 1#1 → 49 + k0_off115 c 0 = 3 + rsem c (sl c 11) := by decide +kernel
theorem r30_c : ∀ c : Dev nD, k0_cond58 c = 1#1 ↔ gv c 30 := by decide +kernel
theorem r30_m : ∀ c : Dev nD, k0_cond58 c = 1#1 → 47 + k0_off117 c 0 = 3 + rsem c (sl c 30) := by decide +kernel
theorem p2_c : ∀ c : Dev nD, k0_cond59 c = 1#1 ↔ vld c 2 := by decide +kernel
theorem p2_o : ∀ c : Dev nD, k0_off119 c = ![4 * (pf (pl c 2)).val, 0, 0] := by decide +kernel
theorem p2_r : ∀ c : Dev nD, k0_off120 c = ![256 * (pf (pl c 2)).val, 0] := by decide +kernel
theorem r15_c : ∀ c : Dev nD, k0_cond60 c = 1#1 ↔ gv c 15 := by decide +kernel
theorem r15_m : ∀ c : Dev nD, k0_cond60 c = 1#1 → 49 + k0_off121 c 0 = 3 + rsem c (sl c 15) := by decide +kernel
theorem r31_c : ∀ c : Dev nD, k0_cond61 c = 1#1 ↔ gv c 31 := by decide +kernel
theorem r31_m : ∀ c : Dev nD, k0_cond61 c = 1#1 → 47 + k0_off123 c 0 = 3 + rsem c (sl c 31) := by decide +kernel
theorem p3_c : ∀ c : Dev nD, k0_cond62 c = 1#1 ↔ vld c 3 := by decide +kernel
theorem p3_o : ∀ c : Dev nD, k0_off125 c = ![4 * (pf (pl c 3)).val, 0, 0] := by decide +kernel
theorem p3_r : ∀ c : Dev nD, k0_off126 c = ![256 * (pf (pl c 3)).val, 0] := by decide +kernel
theorem r19_c : ∀ c : Dev nD, k0_cond63 c = 1#1 ↔ gv c 19 := by decide +kernel
theorem r19_m : ∀ c : Dev nD, k0_cond63 c = 1#1 → 49 + k0_off127 c 0 = 3 + rsem c (sl c 19) := by decide +kernel
theorem r32_c : ∀ c : Dev nD, k0_cond64 c = 1#1 ↔ gv c 32 := by decide +kernel
theorem r32_m : ∀ c : Dev nD, k0_cond64 c = 1#1 → 47 + k0_off129 c 0 = 3 + rsem c (sl c 32) := by decide +kernel
theorem p4_c : ∀ c : Dev nD, k0_cond65 c = 1#1 ↔ vld c 4 := by decide +kernel
theorem p4_o : ∀ c : Dev nD, k0_off131 c = ![4 * (pf (pl c 4)).val, 0, 0] := by decide +kernel
theorem p4_r : ∀ c : Dev nD, k0_off132 c = ![256 * (pf (pl c 4)).val, 0] := by decide +kernel
theorem r23_c : ∀ c : Dev nD, k0_cond66 c = 1#1 ↔ gv c 23 := by decide +kernel
theorem r23_m : ∀ c : Dev nD, k0_cond66 c = 1#1 → 49 + k0_off133 c 0 = 3 + rsem c (sl c 23) := by decide +kernel
theorem r33_c : ∀ c : Dev nD, k0_cond67 c = 1#1 ↔ gv c 33 := by decide +kernel
theorem r33_m : ∀ c : Dev nD, k0_cond67 c = 1#1 → 47 + k0_off135 c 0 = 3 + rsem c (sl c 33) := by decide +kernel
theorem p5_c : ∀ c : Dev nD, k0_cond68 c = 1#1 ↔ vld c 5 := by decide +kernel
theorem p5_o : ∀ c : Dev nD, k0_off137 c = ![4 * (pf (pl c 5)).val, 0, 0] := by decide +kernel
theorem p5_r : ∀ c : Dev nD, k0_off138 c = ![256 * (pf (pl c 5)).val, 0] := by decide +kernel
theorem r27_c : ∀ c : Dev nD, k0_cond69 c = 1#1 ↔ gv c 27 := by decide +kernel
theorem r27_m : ∀ c : Dev nD, k0_cond69 c = 1#1 → 49 + k0_off139 c 0 = 3 + rsem c (sl c 27) := by decide +kernel
theorem r34_c : ∀ c : Dev nD, k0_cond70 c = 1#1 ↔ gv c 34 := by decide +kernel
theorem r34_m : ∀ c : Dev nD, k0_cond70 c = 1#1 → 47 + k0_off141 c 0 = 3 + rsem c (sl c 34) := by decide +kernel
theorem p6_c : ∀ c : Dev nD, k0_cond71 c = 1#1 ↔ vld c 6 := by decide +kernel
theorem p6_o : ∀ c : Dev nD, k0_off143 c = ![4 * (pf (pl c 6)).val, 0, 0] := by decide +kernel
theorem p6_r : ∀ c : Dev nD, k0_off144 c = ![256 * (pf (pl c 6)).val, 0] := by decide +kernel
theorem e0_c : ∀ c : Dev nD, k0_cond72 c = 1#1 ↔ sv c 0 := by decide +kernel
theorem e1_c : ∀ c : Dev nD, k0_cond73 c = 1#1 ↔ sv c 1 := by decide +kernel
theorem e2_c : ∀ c : Dev nD, k0_cond74 c = 1#1 ↔ sv c 2 := by decide +kernel
theorem e3_c : ∀ c : Dev nD, k0_cond75 c = 1#1 ↔ sv c 3 := by decide +kernel
theorem e6_c : ∀ c : Dev nD, k0_cond76 c = 1#1 ↔ sv c 6 := by decide +kernel
theorem e7_c : ∀ c : Dev nD, k0_cond77 c = 1#1 ↔ sv c 7 := by decide +kernel
theorem e8_c : ∀ c : Dev nD, k0_cond78 c = 1#1 ↔ sv c 8 := by decide +kernel
theorem e9_c : ∀ c : Dev nD, k0_cond79 c = 1#1 ↔ sv c 9 := by decide +kernel
theorem e10_c : ∀ c : Dev nD, k0_cond80 c = 1#1 ↔ sv c 10 := by decide +kernel
theorem e11_c : ∀ c : Dev nD, k0_cond81 c = 1#1 ↔ sv c 11 := by decide +kernel
theorem e12_c : ∀ c : Dev nD, k0_cond82 c = 1#1 ↔ sv c 12 := by decide +kernel
theorem e13_c : ∀ c : Dev nD, k0_cond83 c = 1#1 ↔ sv c 13 := by decide +kernel
theorem e14_c : ∀ c : Dev nD, k0_cond84 c = 1#1 ↔ sv c 14 := by decide +kernel
theorem e15_c : ∀ c : Dev nD, k0_cond85 c = 1#1 ↔ sv c 15 := by decide +kernel
theorem e16_c : ∀ c : Dev nD, k0_cond86 c = 1#1 ↔ sv c 16 := by decide +kernel
theorem e17_c : ∀ c : Dev nD, k0_cond87 c = 1#1 ↔ sv c 17 := by decide +kernel
theorem e18_c : ∀ c : Dev nD, k0_cond88 c = 1#1 ↔ sv c 18 := by decide +kernel
theorem e19_c : ∀ c : Dev nD, k0_cond89 c = 1#1 ↔ sv c 19 := by decide +kernel
theorem e20_c : ∀ c : Dev nD, k0_cond90 c = 1#1 ↔ sv c 20 := by decide +kernel
theorem e21_c : ∀ c : Dev nD, k0_cond91 c = 1#1 ↔ sv c 21 := by decide +kernel
theorem e22_c : ∀ c : Dev nD, k0_cond92 c = 1#1 ↔ sv c 22 := by decide +kernel
theorem e23_c : ∀ c : Dev nD, k0_cond93 c = 1#1 ↔ sv c 23 := by decide +kernel
theorem e24_c : ∀ c : Dev nD, k0_cond94 c = 1#1 ↔ sv c 24 := by decide +kernel
theorem e25_c : ∀ c : Dev nD, k0_cond95 c = 1#1 ↔ sv c 25 := by decide +kernel
theorem e26_c : ∀ c : Dev nD, k0_cond96 c = 1#1 ↔ sv c 26 := by decide +kernel
theorem e27_c : ∀ c : Dev nD, k0_cond97 c = 1#1 ↔ sv c 27 := by decide +kernel
theorem e28_c : ∀ c : Dev nD, k0_cond98 c = 1#1 ↔ sv c 28 := by decide +kernel
theorem e29_c : ∀ c : Dev nD, k0_cond99 c = 1#1 ↔ sv c 29 := by decide +kernel
theorem e30_c : ∀ c : Dev nD, k0_cond100 c = 1#1 ↔ sv c 30 := by decide +kernel
theorem e31_c : ∀ c : Dev nD, k0_cond101 c = 1#1 ↔ sv c 31 := by decide +kernel
theorem n1_v : ∀ c : Dev nD, k0_dev1 c = (nbr c 0).val := by decide +kernel
theorem n1_d : ∀ c : Dev nD, (⟨k0_dev1 c, k0_dev1_lt c⟩ : Dev nD) = nbr c 0 := fun c => Fin.ext (n1_v c)
theorem n2_v : ∀ c : Dev nD, k0_dev2 c = (nbr c 1).val := by decide +kernel
theorem n2_d : ∀ c : Dev nD, (⟨k0_dev2 c, k0_dev2_lt c⟩ : Dev nD) = nbr c 1 := fun c => Fin.ext (n2_v c)
theorem n3_v : ∀ c : Dev nD, k0_dev3 c = (nbr c 2).val := by decide +kernel
theorem n3_d : ∀ c : Dev nD, (⟨k0_dev3 c, k0_dev3_lt c⟩ : Dev nD) = nbr c 2 := fun c => Fin.ext (n3_v c)
theorem n4_v : ∀ c : Dev nD, k0_dev4 c = (nbr c 3).val := by decide +kernel
theorem n4_d : ∀ c : Dev nD, (⟨k0_dev4 c, k0_dev4_lt c⟩ : Dev nD) = nbr c 3 := fun c => Fin.ext (n4_v c)
theorem n5_v : ∀ c : Dev nD, k0_dev5 c = (nbr c 4).val := by decide +kernel
theorem n5_d : ∀ c : Dev nD, (⟨k0_dev5 c, k0_dev5_lt c⟩ : Dev nD) = nbr c 4 := fun c => Fin.ext (n5_v c)
theorem n6_v : ∀ c : Dev nD, k0_dev6 c = (nbr c 5).val := by decide +kernel
theorem n6_d : ∀ c : Dev nD, (⟨k0_dev6 c, k0_dev6_lt c⟩ : Dev nD) = nbr c 5 := fun c => Fin.ext (n6_v c)

end Cert.AllGather

end
-- ==== Proof.Run.lean ====
/-
# Run: what the runs of the kernel's parts share
-/
module

public import proofs.«01_k».proof.Proof.Product
public import proofs.«01_k».proof.Proof.Closed
public import proofs.«01_k».proof.Proof.Gen.KernelIdeal.Skeleton

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A run that is over. -/
theorem ret_intro {Λ : Labels} (df : Defs nD τ sig (Elt F) Λ) {α : Type} (c : Dev nD) (r : α) (Q : α → sProp 𝕄) : Q r ⊢ WP df c (pure r) Q :=
  show Q r ⊢ iprop(|={Set.univ}[frame]=> Q r) from by iintro H; imodintro; iexact H

/-- The result's contents are, in the rows of each plane, the product of the plane's slots with the weights `w`. -/
def PayOk (X : Fin 16 → XBuf F) (OUT : OBuf F) (w : FVec F S1024x64 .bf16) : Prop :=
  ∀ (p : Fin 4) (f : OBuf F), ∀ x ∈ rowSet p, ((oM : Memref sig .tc .vmem S1024x64 .f32).access (rowsRect p)).write (Elt F) f
    (k0_pay4 w ((gM : Memref sig .tc .vmem S16x64x1024 .bf16).view.readAt (Elt F) (planeRect p).toLoadRect (gath X))) Finset.univ x = OUT x

end Cert.AllGather

end
-- ==== Proof.Families.lean ====
/-
# Families: what a device holds, sorted by what it is for

At the launch a device gets its fifty positions, all the tokens of duties that it pays, the credit of its arrivals and its
two scratch buffers. Here these are sorted into the copies, arrivals and barrier units they are for; and at the end back.
-/
module

public import proofs.«01_k».proof.Proof.State

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families along a map -/

omit [FloatOps F] in
theorem fam_img {α β : Type} [DecidableEq β] {S : Finset α} {f : α → β} (hf : ∀ a ∈ S, ∀ b ∈ S, f a = f b → a = b) (Φ : β → sProp 𝕄) :
    bigSep (S.image f) Φ = bigSep S fun a => Φ (f a) := by
  classical
  exact Finset.fold_image hf

omit [FloatOps F] in
theorem fam_ite {α : Type} (S : Finset α) (p : α → Prop) [DecidablePred p] (Φ : α → sProp 𝕄) :
    (bigSep S fun i => if p i then Φ i else iprop(emp)) = bigSep (S.filter p) Φ := (bigSep_filter S p Φ).symm

omit [FloatOps F] in
/-- Some members of a family, named by another index. -/
theorem fam_sub {α β : Type} [DecidableEq β] {S : Finset α} {T : Finset β} {f : α → β} (hf : ∀ a ∈ S, ∀ b ∈ S, f a = f b → a = b)
    (hT : ∀ a ∈ S, f a ∈ T) (Φ : β → sProp 𝕄) : bigSep T Φ ⊢ bigSep S fun a => Φ (f a) := by
  have h : bigSep T Φ ⊢ bigSep (S.image f) Φ := bigSep_subset (Finset.image_subset_iff.mpr hT)
  rwa [fam_img hf] at h

omit [FloatOps F] in
/-- All members of a family, named by another index. -/
theorem fam_all {α β : Type} [DecidableEq β] {S : Finset α} {T : Finset β} {f : α → β} (hf : ∀ a ∈ S, ∀ b ∈ S, f a = f b → a = b)
    (hT : ∀ a ∈ S, f a ∈ T) (hs : ∀ b ∈ T, ∃ a ∈ S, f a = b) (Φ : β → sProp 𝕄) : bigSep T Φ = bigSep S fun a => Φ (f a) := by
  rw [← fam_img hf]
  congr 1
  ext b
  rw [Finset.mem_image]
  exact ⟨hs b, fun ⟨a, ha, h⟩ => h ▸ hT a ha⟩

omit [FloatOps F] in
theorem fam_fin {n : ℕ} (Φ : ℕ → sProp 𝕄) : bigSep (Finset.range n) Φ = bigSep Finset.univ fun j : Fin n => Φ j.val :=
  fam_all (f := fun j : Fin n => j.val) (fun a _ b _ h => Fin.ext h) (fun a _ => Finset.mem_range.mpr a.isLt)
    (fun b hb => ⟨⟨b, Finset.mem_range.mp hb⟩, Finset.mem_univ _, rfl⟩) Φ

omit [FloatOps F] in
/-- Two disjoint parts of a family. -/
theorem fam_two {β : Type} [DecidableEq β] {T A B : Finset β} (hA : A ⊆ T) (hB : B ⊆ T) (h : Disjoint A B) (Φ : β → sProp 𝕄) :
    bigSep T Φ ⊢ iprop(bigSep A Φ ∗ bigSep B Φ) := by
  have h1 : bigSep T Φ ⊢ bigSep (A ∪ B) Φ := bigSep_subset (Finset.union_subset hA hB)
  have h2 : bigSep (A ∪ B) Φ = iprop(bigSep A Φ ∗ bigSep B Φ) := bigSep_union h
  rwa [h2] at h1

/-! ## Slots, planes, shares -/

omit [FloatOps F] in
/-- Every slot is that of one arrival. -/
theorem by_slot (c : Dev nD) (Φ : Fin 16 → sProp 𝕄) :
    (bigSep (Finset.range 35) fun n => if gv c n then Φ (sl c n) else iprop(emp)) = bigSep Finset.univ Φ := by
  rw [fam_ite]
  refine (fam_all (f := fun n => sl c n) (fun a ha b hb h => ?_) (fun _ _ => Finset.mem_univ _) (fun s _ => ?_) Φ).symm
  · rw [Finset.mem_filter, Finset.mem_range] at ha hb
    exact congrArg Fin.val (sl_inj c ⟨a, ha.1⟩ ⟨b, hb.1⟩ ha.2 hb.2 h)
  · obtain ⟨n, h1, h2⟩ := sl_surj c s
    exact ⟨n.val, by rw [Finset.mem_filter, Finset.mem_range]; exact ⟨n.isLt, h1⟩, h2⟩

theorem pf_pl : ∀ (c : Fin 16) (p : Fin 4), ∃ i : Fin 7, vld c i ∧ pf (pl c i) = p := by decide +kernel
theorem pf_inj : ∀ (c : Fin 16) (i i' : Fin 7), vld c i → vld c i' → pf (pl c i) = pf (pl c i') → i = i' := by decide +kernel

omit [FloatOps F] in
/-- Every plane is that of one candidate. -/
theorem by_plane (c : Dev nD) (Φ : Fin 4 → sProp 𝕄) :
    (bigSep (Finset.range 7) fun i => if vld c i then Φ (pf (pl c i)) else iprop(emp)) = bigSep Finset.univ Φ := by
  rw [fam_ite]
  refine (fam_all (f := fun n => pf (pl c n)) (fun a ha b hb h => ?_) (fun _ _ => Finset.mem_univ _) (fun s _ => ?_) Φ).symm
  · rw [Finset.mem_filter, Finset.mem_range] at ha hb
    exact congrArg Fin.val (pf_inj c ⟨a, ha.1⟩ ⟨b, hb.1⟩ ha.2 hb.2 h)
  · obtain ⟨n, h1, h2⟩ := pf_pl c s
    exact ⟨n.val, by rw [Finset.mem_filter, Finset.mem_range]; exact ⟨n.isLt, h1⟩, h2⟩

theorem srcOf_lt : ∀ j : Fin 32, srcOf j < 35 := by decide +kernel

omit [FloatOps F] in
/-- Every copy carries on one arrival. -/
theorem by_src (Φ : ℕ → sProp 𝕄) : bigSep (Finset.range 32) Φ ⊢ bigSep (Finset.range 35) fun n => bigSep (outOf n) Φ := by
  have key : ∀ k, (bigSep (Finset.range k) fun n => bigSep (outOf n) Φ) = bigSep ((Finset.range 32).filter fun j => srcOf j < k) Φ := by
    intro k
    induction k with
    | zero =>
      rw [Finset.filter_false_of_mem (s := Finset.range 32) (p := fun j => srcOf j < 0) (fun j _ => Nat.not_lt_zero _), Finset.range_zero, bigSep_empty, bigSep_empty]
    | succ k ih =>
      rw [Finset.range_add_one, bigSep_insert (Finset.notMem_range_self), ih]
      have hd : Disjoint (outOf k) ((Finset.range 32).filter fun j => srcOf j < k) := by
        rw [Finset.disjoint_left]
        intro j h1 h2
        unfold outOf at h1
        rw [Finset.mem_filter] at h1 h2
        omega
      rw [← bigSep_union hd]
      congr 1
      ext j
      unfold outOf
      rw [Finset.mem_union, Finset.mem_filter, Finset.mem_filter, Finset.mem_filter]
      constructor
      · rintro (⟨h1, h2⟩ | ⟨h1, h2⟩)
        · exact ⟨h1, by omega⟩
        · exact ⟨h1, by omega⟩
      · rintro ⟨h1, h2⟩
        by_cases h : srcOf j = k
        · exact .inl ⟨h1, h⟩
        · exact .inr ⟨h1, by omega⟩
  rw [key 35, Finset.filter_true_of_mem (s := Finset.range 32) (p := fun j => srcOf j < 35) (fun j hj => srcOf_lt ⟨j, Finset.mem_range.mp hj⟩)]

omit [FloatOps F] in
/-- A buffer is its parts, where these are disjoint and cover it. -/
theorem whole_parts {T : Type} [Fintype T] (ℓ : Loc nD τ sig) (K : T → Finset (Idx ℓ)) (hd : ∀ t t', t ≠ t' → Disjoint (K t) (K t'))
    (hc : ∀ i, ∃ t, i ∈ K t) (f : Buf (Elt F) ℓ) : (ℓ ↦{fullShare} f : sProp 𝕄) = bigSep Finset.univ fun t => ℓ ↦[K t]{fullShare} f := by
  rw [← pointsTo_biUnion Finset.univ K fun t _ t' _ h => hd t t' h]
  congr 1
  ext i
  obtain ⟨t, ht⟩ := hc i
  exact ⟨fun _ => Finset.mem_biUnion.mpr ⟨t, Finset.mem_univ _, ht⟩, fun _ => Finset.mem_univ _⟩

omit [FloatOps F] in
/-- The gather buffer is its slots. -/
theorem gather_slots (c : Dev nD) (f : GBuf F) :
    (((c : Thread nD τ).loc cc0_scratch0) ↦{fullShare} f : sProp 𝕄) = bigSep Finset.univ fun s : Fin 16 => slotPts c s fullShare f :=
  whole_parts ((c : Thread nD τ).loc cc0_scratch0) slotSet (fun _ _ h => slotSet_disjoint h)
    (fun (i : S16x64x1024.Idx) => ⟨i 0, (mem_slotSet _ i).mpr rfl⟩) f

theorem mem_rowSet (p : Fin 4) (i : S1024x64.Idx) : i ∈ rowSet p ↔ (i 0).val / 256 = p.val := by
  have e : rowSet p = (rowsRect p).set := by
    unfold rowSet
    exact View.set_slice_whole cc0_stg2_0 _
  rw [e, Rect.mem_set_unit]
  constructor
  · intro h
    have h0 := h 0
    have h1 : 256 * p.val ≤ (i 0).val := h0.1
    have h2 : (i 0).val < 256 * p.val + 256 := h0.2
    omega
  · intro h a
    have h1 := (i 0).isLt; have h2 := (i 1).isLt
    fin_cases a
    · exact ⟨by show 256 * p.val ≤ (i 0).val; omega, by show (i 0).val < 256 * p.val + 256; omega⟩
    · exact ⟨Nat.zero_le _, by show (i 1).val < 0 + 64; simpa using h2⟩

theorem rowSet_disjoint {p p' : Fin 4} (h : p ≠ p') : Disjoint (rowSet p) (rowSet p') := by
  rw [Finset.disjoint_left]
  intro i hi hi'
  exact h (Fin.ext (((mem_rowSet p i).mp hi).symm.trans ((mem_rowSet p' i).mp hi')))

omit [FloatOps F] in
/-- The result's buffer is its row blocks. -/
theorem out_rows (c : Dev nD) (f : OBuf F) :
    (((c : Thread nD τ).loc cc0_stg2_0) ↦{fullShare} f : sProp 𝕄) = bigSep Finset.univ fun p : Fin 4 => rowPts c p f :=
  whole_parts ((c : Thread nD τ).loc cc0_stg2_0) rowSet (fun _ _ h => rowSet_disjoint h)
    (fun (i : S1024x64.Idx) => by
      have h : (i 0).val < 1024 := (i 0).isLt
      exact ⟨⟨(i 0).val / 256, by omega⟩, (mem_rowSet _ i).mpr rfl⟩) f

/-! ## The fifty cells -/

/-- A number as one of the fifty. -/
def k50 (n : ℕ) : Fin 50 := ⟨n % 50, Nat.mod_lt _ (by decide)⟩

theorem k50_val {n : ℕ} (h : n < 50) : (k50 n).val = n := Nat.mod_eq_of_lt h

theorem kcell_d (c : Dev nD) {k : ℕ} (h : k < 49) : kcell (c, k50 k) = dcell c k := by
  have e : (k50 k).val = k := k50_val (by omega)
  show ((c : Thread nD τ), csem _) = _
  unfold csem
  simp only [e, h, if_true]
theorem kcell_b (c : Dev nD) : kcell (c, k50 49) = bcell c := rfl

/-- The cells that nothing uses on this device. -/
def spare (c : Fin 16) : Finset ℕ := (Finset.range 49).filter fun k => 32 ≤ k ∧ ∀ s : Fin 16, rsem c s ≠ k

omit [FloatOps F] in
/-- The fifty cells are those of the copies, of the arrivals, the spare ones and the barrier's. -/
theorem by_cell (c : Dev nD) (Φ : ℕ → sProp 𝕄) :
    bigSep Finset.univ (fun k : Fin 50 => Φ k.val) = iprop(bigSep (Finset.range 32) Φ
      ∗ bigSep (Finset.range 35) (fun n => if gv c n then Φ (rsem c (sl c n)) else iprop(emp)) ∗ bigSep (spare c) Φ ∗ Φ 49) := by
  rw [by_slot c fun s => Φ (rsem c s), ← fam_fin (n := 50) Φ]
  have e1 : Finset.range 50 = insert 49 (Finset.range 49) := Finset.range_add_one
  have e2 : Finset.range 49 = Finset.range 32 ∪ (Finset.univ.image (rsem c) ∪ spare c) := by
    ext k
    unfold spare
    rw [Finset.mem_union, Finset.mem_union, Finset.mem_image, Finset.mem_filter, Finset.mem_range, Finset.mem_range]
    constructor
    · intro h
      by_cases h1 : k < 32
      · exact .inl h1
      by_cases h2 : ∃ s, rsem c s = k
      · obtain ⟨s, h2⟩ := h2; exact .inr (.inl ⟨s, Finset.mem_univ _, h2⟩)
      · exact .inr (.inr ⟨h, by omega, fun s hs => h2 ⟨s, hs⟩⟩)
    · rintro (h | ⟨s, -, rfl⟩ | ⟨h, -⟩)
      · omega
      · exact (rsem_lt c s).2
      · exact h
  have d1 : Disjoint (Finset.range 32) (Finset.univ.image (rsem c) ∪ spare c) := by
    rw [Finset.disjoint_left]
    intro k h1 h2
    unfold spare at h2
    rw [Finset.mem_range] at h1
    rw [Finset.mem_union, Finset.mem_image, Finset.mem_filter] at h2
    rcases h2 with ⟨s, -, rfl⟩ | ⟨-, h, -⟩
    · have := (rsem_lt c s).1; omega
    · omega
  have d2 : Disjoint (Finset.univ.image (rsem c)) (spare c) := by
    rw [Finset.disjoint_left]
    intro k h1 h2
    unfold spare at h2
    rw [Finset.mem_image] at h1
    rw [Finset.mem_filter] at h2
    obtain ⟨s, -, h⟩ := h1
    exact h2.2.2 s h
  rw [e1, bigSep_insert Finset.notMem_range_self, e2, bigSep_union d1, bigSep_union d2, fam_img fun a _ b _ h => rsem_inj c a b h]
  generalize bigSep (Finset.range 32) Φ = A
  generalize bigSep (spare c) Φ = C
  generalize (bigSep Finset.univ fun a => Φ (rsem c a)) = B
  refine BI.Entails.antisymm (show iprop(Φ 49 ∗ A ∗ B ∗ C) ⊢ (iprop(A ∗ B ∗ C ∗ Φ 49) : sProp 𝕄) from ?_) (show iprop(A ∗ B ∗ C ∗ Φ 49) ⊢ (iprop(Φ 49 ∗ A ∗ B ∗ C) : sProp 𝕄) from ?_)
  · iintro ⟨HD, HA, HB, HC⟩
    isplitl [HA]; · iexact HA
    isplitl [HB]; · iexact HB
    isplitl [HC] <;> iassumption
  · iintro ⟨HA, HB, HC, HD⟩
    isplitl [HD]; · iexact HD
    isplitl [HA]; · iexact HA
    isplitl [HB] <;> iassumption

/-! ## The tokens of a device -/

/-- All tokens of duties that device `c` pays. -/
def tokens (c : Dev nD) : sProp 𝕄 := bigSep Finset.univ fun tk : Dev nD × Fin 50 => dutyTok ER (kcell tk) 0 c

/-- The two tokens of copy `j`. -/
def sendToks (c : Dev nD) (j : ℕ) : sProp 𝕄 :=
  if sv c j then iprop(dutyTok ER (dcell c j) 0 c ∗ dutyTok ER (dcell (st c j) (rsem (st c j) (ss c j))) 0 c) else iprop(emp)

omit [FloatOps F] in
/-- The tokens, sorted. -/
theorem tokens_split (c : Dev nD) : (tokens c : sProp 𝕄) ⊢ iprop(bigSep (Finset.range 32) (sendToks c)
    ∗ bigSep (Finset.range 6) (fun i => dutyTok ER (bcell (nbr c i)) 0 c) ∗ dutyTok ER (dcell c 48) 0 c) := by
  have hr (j : ℕ) (hj : j < 32) (hs : sv c j) : 32 ≤ rsem (st c j) (ss c j) ∧ rsem (st c j) (ss c j) < 48 := by
    have h := rsem_lt (st c j) (ss c j)
    have h2 := (pred_st c ⟨j, hj⟩ hs).2
    have h3 : rsem (st c j) (ss c j) ≠ 48 := fun h' => h2 (rsem_inj _ _ _ (h'.trans (pred_self (st c j)).2.symm))
    omega
  let S : Finset ℕ := (Finset.range 32).filter fun j => sv c j
  have hS {j : ℕ} (h : j ∈ S) : j < 32 ∧ sv c j := by
    have h : j ∈ (Finset.range 32).filter fun j => sv c j := h
    rw [Finset.mem_filter, Finset.mem_range] at h; exact h
  let fA : ℕ → Dev nD × Fin 50 := fun j => (c, k50 j)
  let fB : ℕ → Dev nD × Fin 50 := fun j => (st c j, k50 (rsem (st c j) (ss c j)))
  let fC : ℕ → Dev nD × Fin 50 := fun i => (nbr c i, k50 49)
  let Φ : Dev nD × Fin 50 → sProp 𝕄 := fun tk => dutyTok ER (kcell tk) 0 c
  have iA : ∀ a ∈ S, ∀ b ∈ S, fA a = fA b → a = b := by
    intro a ha b hb h
    have h2 : (k50 a).val = (k50 b).val := congrArg (fun x : Dev nD × Fin 50 => x.2.val) h
    have h3 := (hS ha).1; have h4 := (hS hb).1
    rwa [k50_val (by omega), k50_val (by omega)] at h2
  have iB : ∀ a ∈ S, ∀ b ∈ S, fB a = fB b → a = b := by
    intro a ha b hb h
    have h1 : st c a = st c b := congrArg (fun x : Dev nD × Fin 50 => x.1) h
    have h2 : (k50 (rsem (st c a) (ss c a))).val = (k50 (rsem (st c b) (ss c b))).val := congrArg (fun x : Dev nD × Fin 50 => x.2.val) h
    have ha' := hS ha; have hb' := hS hb
    have h3 := hr a ha'.1 ha'.2; have h4 := hr b hb'.1 hb'.2
    rw [k50_val (by omega), k50_val (by omega), h1] at h2
    exact congrArg Fin.val (st_inj c ⟨a, ha'.1⟩ ⟨b, hb'.1⟩ ha'.2 hb'.2 h1 (rsem_inj _ _ _ h2))
  have iC : ∀ a ∈ Finset.range 6, ∀ b ∈ Finset.range 6, fC a = fC b → a = b := by
    intro a ha b hb h
    have h1 : nbr c a = nbr c b := congrArg (fun x : Dev nD × Fin 50 => x.1) h
    rw [Finset.mem_range] at ha hb
    exact congrArg Fin.val (nbr_inj c ⟨a, ha⟩ ⟨b, hb⟩ h1)
  have vA {x} (h : x ∈ S.image fA) : x.2.val < 32 := by
    rw [Finset.mem_image] at h; obtain ⟨j, hj, rfl⟩ := h
    show (k50 j).val < 32
    have := (hS hj).1
    rw [k50_val (by omega)]; exact this
  have vB {x} (h : x ∈ S.image fB) : 32 ≤ x.2.val ∧ x.2.val < 48 := by
    rw [Finset.mem_image] at h; obtain ⟨j, hj, rfl⟩ := h
    show 32 ≤ (k50 (rsem (st c j) (ss c j))).val ∧ (k50 (rsem (st c j) (ss c j))).val < 48
    have h3 := hr j (hS hj).1 (hS hj).2
    rw [k50_val (by omega)]; exact h3
  have vC {x} (h : x ∈ (Finset.range 6).image fC) : x.2.val = 49 := by
    rw [Finset.mem_image] at h; obtain ⟨j, hj, rfl⟩ := h
    rfl
  have vD {x : Dev nD × Fin 50} (h : x ∈ ({(c, k50 48)} : Finset (Dev nD × Fin 50))) : x.2.val = 48 := by
    rw [Finset.mem_singleton] at h; subst h; rfl
  have h1 : (tokens c : sProp 𝕄) ⊢ iprop(bigSep (S.image fA) Φ ∗ bigSep (S.image fB ∪ ((Finset.range 6).image fC ∪ {(c, k50 48)})) Φ) :=
    fam_two (Finset.subset_univ _) (Finset.subset_univ _) (by
      rw [Finset.disjoint_left]
      intro x h h'
      have := vA h
      rw [Finset.mem_union, Finset.mem_union] at h'
      rcases h' with h' | h' | h'
      · have := vB h'; omega
      · have := vC h'; omega
      · have := vD h'; omega) Φ
  have h2 : bigSep (S.image fB ∪ ((Finset.range 6).image fC ∪ {(c, k50 48)})) Φ
      = iprop(bigSep (S.image fB) Φ ∗ bigSep ((Finset.range 6).image fC) Φ ∗ bigSep {(c, k50 48)} Φ) := by
    rw [bigSep_union (by
      rw [Finset.disjoint_left]
      intro x h h'
      have := vB h
      rw [Finset.mem_union] at h'
      rcases h' with h' | h'
      · have := vC h'; omega
      · have := vD h'; omega), bigSep_union (by
      rw [Finset.disjoint_left]
      intro x h h'
      have := vC h; have := vD h'; omega)]
    rfl
  have eA : bigSep (S.image fA) Φ = bigSep S fun j => dutyTok ER (dcell c j) 0 c := by
    rw [fam_img iA]
    exact bigSep_congr fun j hj => by
      show dutyTok ER (kcell (c, k50 j)) 0 c = _
      have := (hS hj).1
      rw [kcell_d c (by omega)]
  have eB : bigSep (S.image fB) Φ = bigSep S fun j => dutyTok ER (dcell (st c j) (rsem (st c j) (ss c j))) 0 c := by
    rw [fam_img iB]
    exact bigSep_congr fun j hj => by
      show dutyTok ER (kcell (st c j, k50 (rsem (st c j) (ss c j)))) 0 c = _
      have := hr j (hS hj).1 (hS hj).2
      rw [kcell_d _ (by omega)]
  have eC : bigSep ((Finset.range 6).image fC) Φ = bigSep (Finset.range 6) fun i => dutyTok ER (bcell (nbr c i)) 0 c := fam_img iC Φ
  have eD : bigSep {(c, k50 48)} Φ = dutyTok ER (dcell c 48) 0 c := by
    rw [bigSep_singleton]
    show dutyTok ER (kcell (c, k50 48)) 0 c = _
    rw [kcell_d c (by decide)]
  have eS : bigSep (Finset.range 32) (sendToks c : ℕ → sProp 𝕄)
      = iprop((bigSep S fun j => dutyTok ER (dcell c j) 0 c) ∗ bigSep S fun j => dutyTok ER (dcell (st c j) (rsem (st c j) (ss c j))) 0 c) := by
    unfold sendToks
    rw [fam_ite]
    exact bigSep_sep' _ _ _
  rw [h2, eA, eB, eC, eD] at h1
  rw [eS]
  refine BIBase.Entails.trans h1 ?_
  iintro ⟨HA, HB, HC, HD⟩
  isplitl [HA HB]
  · isplitl [HA] <;> iassumption
  isplitl [HC] <;> iassumption

/-! ## The slots handed out before the barrier -/

omit [FloatOps F] in
theorem pays_eq (c : Dev nD) : (bigSep (Finset.range 6) (fun i => barPay (F := F) (nbr c i) c) : sProp 𝕄)
    = bigSep (Finset.univ.filter fun kj : Fin 6 × Fin 32 => sv (nbr c kj.1) kj.2 ∧ st (nbr c kj.1) kj.2 = c)
        fun kj => iprop(∃ f : GBuf F, slotPts c (ss (nbr c kj.1) kj.2) fullShare f) := by
  rw [fam_fin (n := 6), ← fam_ite, bigSep_univ_prod]
  rfl

omit [FloatOps F] in
/-- A device's slots but its own, handed to those who will write them. -/
theorem pays_intro (c : Dev nD) :
    bigSep (Finset.univ.erase c) (fun s : Fin 16 => iprop(∃ f : GBuf F, slotPts c s fullShare f))
      ⊢ (bigSep (Finset.range 6) (fun i => barPay (F := F) (nbr c i) c) : sProp 𝕄) := by
  rw [pays_eq]
  refine fam_sub (f := fun kj : Fin 6 × Fin 32 => ss (nbr c kj.1) kj.2) (fun a ha b hb h => ?_) (fun a ha => ?_) fun s : Fin 16 => iprop(∃ f : GBuf F, slotPts c s fullShare f)
  · rw [Finset.mem_filter] at ha hb
    have h1 := (pred_st (nbr c a.1) a.2 ha.2.1).1; have h2 := (pred_st (nbr c b.1) b.2 hb.2.1).1
    rw [ha.2.2] at h1; rw [hb.2.2] at h2
    have h3 : nbr c a.1 = nbr c b.1 := by rw [← h1, ← h2]; exact congrArg _ h
    have h4 := nbr_inj c a.1 b.1 h3
    have hb' := hb.2
    have h' : ss (nbr c a.1) a.2 = ss (nbr c b.1) b.2 := h
    rw [← h3] at hb' h'
    exact Prod.ext h4 (st_inj (nbr c a.1) a.2 b.2 ha.2.1 hb'.1 (ha.2.2.trans hb'.2.symm) h')
  · rw [Finset.mem_filter] at ha
    have h1 := (pred_st (nbr c a.1) a.2 ha.2.1).2
    rw [ha.2.2] at h1
    exact Finset.mem_erase.mpr ⟨h1, Finset.mem_univ _⟩

end Cert.AllGather

end
-- ==== Proof.Start.lean ====
/-
# Start: what comes before the copies

A device tells its six neighbours that it is ready, handing each the slots it will write; it copies its own block into its own
slot and waits for its neighbours and for that copy.
-/
module

public import proofs.«01_k».proof.Proof.Run
public import proofs.«01_k».proof.Proof.Families

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ss4 : ∀ c : Fin 16, ss c 4 = c := by decide +kernel
theorem own_o (c : Dev nD) : k0_off1 c = ![c.val, 0, 0] := by rw [s4_o c, ss4 c]
theorem own_s : (cc0_scratch8 : DmaSems sig S_).sem = dsem 48 := rfl
theorem wait_bar : ∀ (c : Fin 16) (j : Fin 32), sv c j → 1 < lvn (3 + rsem (st c j) (ss c j)) := by decide +kernel
theorem wait_own : ∀ (c : Fin 16) (j : Fin 32), sv c j → lvn 51 < lvn (3 + rsem (st c j) (ss c j)) := by decide +kernel

omit [FloatOps F] in
theorem bar_pay (X : Fin 16 → XBuf F) (t d : Dev nD) : barPay (F := F) t d = (Rd (F := F) X).payload (bcell t) 0 d := rfl

omit [FloatOps F] in
theorem pay48 (X : Fin 16 → XBuf F) (c : Dev nD) : (Rd (F := F) X).payload (dcell c 48) 0 c = landing X c c := by
  have h := payload_recv X c c c
  rwa [(pred_self c).2] at h

omit [FloatOps F] in
theorem duty48 (X : Fin 16 → XBuf F) (c : Dev nD) : c ∈ (Rd (F := F) X).duties (dcell c 48) 0 := by
  have h := duties_recv X c c
  rw [(pred_self c).2, (pred_self c).1] at h
  rw [h]; exact Finset.mem_singleton_self _

omit [FloatOps F] in
theorem rest48 (X : Fin 16 → XBuf F) (c : Dev nD) :
    bigSep ((Rd (F := F) X).duties (dcell c 48) 0 \ ∅) (fun d => (Rd (F := F) X).payload (dcell c 48) 0 d) = landing X c c := by
  have h := rest_recv X c c
  rwa [(pred_self c).2] at h

/-! ## What is owed before the barrier -/

/-- What device `c` owes with barrier units `i` and later still to give. -/
def owedBar (c : Dev nD) (i : ℕ) : CellTallies nD τ sig Unit :=
  owedFrom c 0 + ∑ k ∈ Finset.Ico i 6, tallyAt (bcell (nbr c k)) () 1

theorem owedBar_succ (c : Dev nD) {i : ℕ} (h : i < 6) : owedBar c i = owedBar c (i + 1) + tallyAt (bcell (nbr c i)) () 1 := by
  unfold owedBar
  rw [Finset.sum_eq_sum_Ico_succ_bot h, add_assoc, add_comm (tallyAt (bcell (nbr c i)) () 1)]

theorem owedBar_end (c : Dev nD) : owedBar c 6 = owedFrom c 0 := by
  unfold owedBar; rw [Finset.Ico_self, Finset.sum_empty, add_zero]

/-- The contents of the weights' block. -/
abbrev WBuf (F : FTy → Type) : Type := (cc0_stg1_0 : Ref sig .tc).ty.Contents (Elt F)

/-- The block of `x` on device `c`. -/
def xPts (c : Dev nD) (f : XBuf F) : sProp 𝕄 := ((c : Thread nD τ).loc cc0_stg0_0) ↦{fullShare} f
/-- The block of the weights on device `c`. -/
def wPts (c : Dev nD) (f : WBuf F) : sProp 𝕄 := ((c : Thread nD τ).loc cc0_stg1_0) ↦{fullShare} f

variable (df : Defs nD τ sig (Elt F) Λ₀) (X : Fin 16 → XBuf F) (κ : Dev nD × Fin 50 → ℕ)

theorem pay12 (f : XBuf F) : k0_pay2 (k0_pay1 f) = f := by
  unfold k0_pay2 k0_pay1
  exact (shapeCast_self _ _).trans (shapeCast_self _ _)

/-- The first part: the block of `x` is read. -/
theorem part1 {P : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (f : XBuf F)
    {Q : (Σ' (d0 : Dev nD) (v2 : BitVec 32) (v19 : BitVec 32) (v29 : BitVec 32) (v32 : BitVec 32) (v35 : BitVec 32), FVec F S64x1024 .bf16) → sProp 𝕄}
    (hQ : ∀ v2 v19 v29 v32 v35, iprop(P ∗ xPts c f) ⊢ Q ⟨c, v2, v19, v29, v32, v35, k0_pay1 f⟩) :
    iprop(P ∗ xPts c f)
      ⊢ WP df c (k0_part1 xM h0 wM h1 oM h2 gM h3 sM h4 cc0_scratch2 cc0_scratch3 cc0_scratch4 cc0_scratch5 cc0_scratch6 cc0_scratch7 cc0_scratch8) Q := by
  rw [k0_part1_eq_skeleton]
  delta k0_part1_skel
  have hQ' : ∀ v2 v19 v29 v32 v35 g, g = f → iprop(P ∗ xPts c f) ⊢ Q ⟨c, v2, v19, v29, v32, v35, k0_pay1 g⟩ := by
    rintro v2 v19 v29 v32 v35 g rfl; exact hQ _ _ _ _ _
  unfold xPts at hQ' ⊢
  simp only [Prog.lift, Prog.bind_op, Prog.bind_ret, wp_deviceId]
  iintro ⟨HP, Hx⟩
  iapply (wp_load 𝒱₀ (c : Thread nD τ) none Set.univ (m := xM) (S := Finset.univ) (Finset.subset_univ _)) $$ Hx
  iintro Hx
  iapply (ret_intro df c _ Q)
  iapply (hQ' _ _ _ _ _ _ (Memref.readAt_unit_zero (Elt F) cc0_stg0_0 (by decide) _ f))
  isplitl [HP] <;> iassumption

/-- What a signal takes: its token, and leave for the one signalled. -/
def sigPay (c : Dev nD) (i : ℕ) : sProp 𝕄 := iprop(dutyTok ER (bcell (nbr c i)) 0 c ∗ barPay (F := F) (nbr c i) c)

/-- The state while it signals. -/
def SIG (R : sProp 𝕄) (c : Dev nD) (i : ℕ) : sProp 𝕄 :=
  iprop(Recs X κ ∗ R ∗ (∃ W, owes (c : Thread nD τ) (owedBar c i) W) ∗ bigSep (Finset.Ico i 6) (sigPay c))

theorem step_signal {R : sProp 𝕄} {α : Type} (c : Dev nD) {i : ℕ} (hi : i < 6) {n : Dev nD} (hn : n = nbr c i)
    {K : Prog (TpuEff nD τ sig (Elt F) Λ₀ .tc) α} {Q : α → sProp 𝕄}
    (hK : SIG X κ R c (i + 1) ⊢ WP df c K Q) :
    SIG X κ R c i ⊢ WP df c (semSignalWord n barS 1#32 >>= fun _ => K) Q := by
  subst hn
  refine BIBase.Entails.trans ?_ (Entails.of_eq rfl : WP df c (.op (.semSignal (nbr c i : Thread nD τ) barS ((1 : ℕ) : ℤ)) fun _ => K) Q ⊢ _)
  have hs : bigSep (Finset.Ico i 6) (sigPay c) = iprop(sigPay c i ∗ bigSep (Finset.Ico (i + 1) 6) (sigPay (F := F) c)) := by
    rw [← Finset.insert_Ico_add_one_left_eq_Ico hi, bigSep_insert (by simp)]; rfl
  unfold SIG at hK ⊢
  rw [hs]
  unfold sigPay
  iintro ⟨#HR, HF, ⟨%W, HO⟩, ⟨Ht, Hp⟩, HS⟩
  ihave H1 := (Recs_b X κ (nbr c i)) $$ HR
  icases H1 with ⟨#HI1, #Hr1⟩
  iapply (Rounds.wp_signal 𝒱₀ ER (Rd X) (c : Thread nD τ) none (dst := (nbr c i : Thread nD τ)) (κ := kn κ (nbr c i) 49)
      (d := c) (by rw [duties_bar]; exact nbr_tells c ⟨i, hi⟩) (k' := 1) rfl () (owedBar c (i + 1)) (owedBar_succ c hi)) $$ [HO Ht Hp]
  · isplitr; · iexact HI1
    isplitl [HO]; · iexact HO
    isplitl [Ht]; · iexact Ht
    isplitl [Hp]; · iapply (Entails.of_eq (bar_pay X (nbr c i) c)); iexact Hp
    iexact Hr1
  iintro HO
  iapply hK
  isplitr; · iexact HR
  isplitl [HF]; · iexact HF
  isplitl [HO]; · iexists W; iexact HO
  iexact HS

/-- The copy of the own block starts. -/
theorem step_own {R : sProp 𝕄} {α : Type} (c : Dev nD) {off : Fin 3 → ℕ} {inb : ∀ a, off a + S1x64x1024.size a ≤ S16x64x1024.size a}
    (hoff : off = ![c.val, 0, 0]) {s : DmaSem sig} (hs : s = dsem 48) (f : XBuf F) (hf : f = X c)
    {hsrc : (sM : Memref sig .tc .vmem S64x1024 .bf16).view.WordExact} {hdst : (slotAt off inb).view.WordExact}
    {hsem : DmaTarget.Typed (nD := nD) .vmem (.dma s) (DmaTarget.here (τ := τ) (p := Proc.tc) (slotAt off inb))}
    {K : Prog (TpuEff nD τ sig (Elt F) Λ₀ .tc) α} {Q : α → sProp 𝕄}
    (hK : iprop(Recs X κ ∗ R ∗ owesN c 0 ∗ cred (tallyAt (dcell c 48) () N)) ⊢ WP df c K Q) :
    SIG X κ iprop(R ∗ srcPts c f ∗ (∃ g : GBuf F, slotPts c c fullShare g) ∗ dutyTok ER (dcell c 48) 0 c) c 6
      ⊢ WP df c (Prog.lift (.enqueueDma sM (.here (slotAt off inb)) (.dma s) hsrc hdst hsem) >>= fun _ => K) Q := by
  subst hoff hs hf
  refine BIBase.Entails.trans ?_ (Entails.of_eq rfl : WP df c (.op (.enqueueDma sM (.here (slotAt _ inb)) (.dma (dsem 48)) hsrc hdst hsem) fun _ => K) Q ⊢ _)
  have h48 : rsem c c = 48 := (pred_self c).2
  have hset : (sM : Memref sig .tc .vmem S64x1024 .bf16).view.set = Finset.univ := View.set_whole cc0_scratch1
  unfold SIG srcPts slotPts
  rw [owedBar_end]
  iintro ⟨#HR, ⟨HF, Hs, ⟨%g, Hg⟩, Ht⟩, HO, -⟩
  ihave H1 := (Recs_d X κ c (k := 48) (by decide)) $$ HR
  icases H1 with ⟨#HI1, #Hr1⟩
  iapply (Rounds.wp_copy_pointsTo 𝒱₀ ER (Rd X) (c : Thread nD τ) none (κ := kn κ c 48) (src := sM) (dst := slotV c) (sem := .dma (dsem 48)) (hsem := hsem)
      (q := fullShare) (fs := X c) (fd := g) (r := 0) (d := c)
      (duty48 X c) () N (amount_slot _ _ _) rfl (by
        show _ ⊢ (Rd X).payload (dcell c 48) 0 c
        rw [pay48 X c]
        unfold landing
        rw [if_pos h48]
        iintro ⟨H1, H2⟩
        isplitl [H1]
        · iapply (Entails.of_eq (slot_written X c c fullShare g)); unfold slotPts; iexact H1
        · iexists (X c); unfold srcPts; iapply (Entails.of_eq (by rw [hset])) $$ H2)) $$ [Hs Hg Ht]
  · isplitr; · iexact HI1
    isplitl [Hs]; · iapply (Entails.of_eq (by rw [hset])) $$ Hs
    isplitl [Hg]; · iexact Hg
    isplitl [Ht]; · iexact Ht
    iexact Hr1
  iintro Hc
  iapply hK
  isplitr; · iexact HR
  isplitl [HF]; · iexact HF
  isplitl [HO]; · unfold owesN; iexact HO
  iexact Hc

/-- The second part. -/
theorem part2 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v29 v32 v35 : BitVec 32) (w : WBuf F) {Q : (Σ' (v42 : FVec F S1024x64 .bf16), Sems sig S_) → sProp 𝕄}
    (hQ : iprop(Recs X κ ∗ (R ∗ wPts c w) ∗ owesN c 0 ∗ cred (tallyAt (dcell c 48) () N)) ⊢ Q ⟨k0_pay3 w, SemArray.scalar (sig.barrier 0 rfl)⟩) :
    SIG X κ iprop(R ∗ wPts c w ∗ (∃ f : XBuf F, srcPts c f) ∗ (∃ g : GBuf F, slotPts c c fullShare g) ∗ dutyTok ER (dcell c 48) 0 c) c 0
      ⊢ WP df c (k0_part2 xM h0 wM h1 oM h2 gM h3 sM h4 cc0_scratch2 cc0_scratch3 cc0_scratch4 cc0_scratch5 cc0_scratch6 cc0_scratch7 cc0_scratch8 c v29 v32 v35 (k0_pay1 (X c))) Q := by
  rw [k0_part2_eq_skeleton]
  delta k0_part2_skel
  have hmain : ∀ (g : XBuf F) (hg : g = X c) (w' : WBuf F) (hw : w' = w), SIG X κ iprop((R ∗ wPts c w) ∗ srcPts c g ∗ (∃ g : GBuf F, slotPts c c fullShare g) ∗ dutyTok ER (dcell c 48) 0 c) c 0
      ⊢ WP df c (do
        semSignalWord (⟨k0_dev1 c, k0_dev1_lt c⟩ : Dev nD) barS 1#32
        semSignalWord (⟨k0_dev2 c, k0_dev2_lt c⟩ : Dev nD) barS 1#32
        semSignalWord (⟨k0_dev3 c, k0_dev3_lt c⟩ : Dev nD) barS 1#32
        semSignalWord (⟨k0_dev4 c, k0_dev4_lt c⟩ : Dev nD) barS 1#32
        semSignalWord (⟨k0_dev5 c, k0_dev5_lt c⟩ : Dev nD) barS 1#32
        semSignalWord (⟨k0_dev6 c, k0_dev6_lt c⟩ : Dev nD) barS 1#32
        Prog.lift (.enqueueDma sM (.here (slotAt (k0_off1 c) (k0_off1_inb c))) (.dma cc0_scratch8.sem) h4.wordExact
          ((h3.wordExact_slice rfl _ (k0_off1_wordsbf16 c)).reshape _ _) ⟨Or.inl rfl, trivial⟩)
        pure ⟨k0_pay3 w', SemArray.scalar (sig.barrier 0 rfl)⟩) Q := by
    rintro g hg w' rfl
    refine step_signal df X κ c (by decide) (n1_d c) ?_
    refine step_signal df X κ c (by decide) (n2_d c) ?_
    refine step_signal df X κ c (by decide) (n3_d c) ?_
    refine step_signal df X κ c (by decide) (n4_d c) ?_
    refine step_signal df X κ c (by decide) (n5_d c) ?_
    refine step_signal df X κ c (by decide) (n6_d c) ?_
    refine step_own df X κ c (own_o c) own_s g hg ?_
    exact hQ.trans (ret_intro df c _ Q)
  refine BIBase.Entails.trans ?_ (Entails.of_eq rfl : WP df c (.op (.load sM (Rect.unit (s := S64x1024) ![0, 0] S64x1024.size inb_S64x1024_S64x1024_0_0).toLoadRect (View.loadsAt_vmem h_S64x1024)) fun _ =>
    .op (.store sM (Rect.unit (s := S64x1024) ![0, 0] S64x1024.size inb_S64x1024_S64x1024_0_0) (k0_pay2 (k0_pay1 (X c))) Finset.univ (View.stores_vmem h_S64x1024 (h4.storeExact_slice rfl _ packedbf16_S64x1024_S64x1024_0_0) (fun _ => rfl)) (.inl rfl)) fun _ =>
    .op (.load wM (Rect.unit (s := S1024x64) ![0, 0] S1024x64.size inb_S1024x64_S1024x64_0_0).toLoadRect (View.loadsAt_vmem h_S1024x64)) fun v41 => do
        semSignalWord (⟨k0_dev1 c, k0_dev1_lt c⟩ : Dev nD) barS 1#32
        semSignalWord (⟨k0_dev2 c, k0_dev2_lt c⟩ : Dev nD) barS 1#32
        semSignalWord (⟨k0_dev3 c, k0_dev3_lt c⟩ : Dev nD) barS 1#32
        semSignalWord (⟨k0_dev4 c, k0_dev4_lt c⟩ : Dev nD) barS 1#32
        semSignalWord (⟨k0_dev5 c, k0_dev5_lt c⟩ : Dev nD) barS 1#32
        semSignalWord (⟨k0_dev6 c, k0_dev6_lt c⟩ : Dev nD) barS 1#32
        Prog.lift (.enqueueDma sM (.here (slotAt (k0_off1 c) (k0_off1_inb c))) (.dma cc0_scratch8.sem) h4.wordExact
          ((h3.wordExact_slice rfl _ (k0_off1_wordsbf16 c)).reshape _ _) ⟨Or.inl rfl, trivial⟩)
        pure ⟨k0_pay3 v41, SemArray.scalar (sig.barrier 0 rfl)⟩) Q ⊢ _)
  have hwr : ∀ f : XBuf F, ((sM : Memref sig .tc .vmem S64x1024 .bf16).access (Rect.unit (s := S64x1024) ![0, 0] S64x1024.size inb_S64x1024_S64x1024_0_0)).write (Elt F) f
      (k0_pay2 (k0_pay1 (X c))) Finset.univ = X c := fun f =>
    (Memref.write_access_unit_zero_univ (Elt F) cc0_scratch1 (off := ![0, 0]) (by decide) inb_S64x1024_S64x1024_0_0 f _).trans (pay12 (X c))
  unfold SIG at hmain ⊢
  iintro ⟨#HR, ⟨HF, Hw, ⟨%f, Hs⟩, Hg, Ht⟩, HO, HS⟩
  unfold srcPts wPts at hmain ⊢
  iapply (wp_load 𝒱₀ (c : Thread nD τ) none Set.univ (m := sM) (S := Finset.univ) (Finset.subset_univ _)) $$ Hs
  iintro Hs
  iapply (wp_store 𝒱₀ (c : Thread nD τ) none Set.univ (m := sM) (r := Rect.unit (s := S64x1024) ![0, 0] S64x1024.size inb_S64x1024_S64x1024_0_0) (Mk := Finset.univ) (S := Finset.univ) (Finset.subset_univ _)) $$ Hs
  iintro Hs
  iapply (wp_load 𝒱₀ (c : Thread nD τ) none Set.univ (m := wM) (S := Finset.univ) (Finset.subset_univ _)) $$ Hw
  iintro Hw
  iapply (hmain _ (hwr f) _ (Memref.readAt_unit_zero (Elt F) cc0_stg1_0 (off := ![0, 0]) (by decide) _ w))
  isplitr; · iexact HR
  isplitl [HF Hw Hs Hg Ht]
  · isplitl [HF Hw]; · isplitl [HF] <;> iassumption
    isplitl [Hs]; · iexact Hs
    isplitl [Hg] <;> iassumption
  isplitl [HO] <;> iassumption

/-- The third part: the barrier, and the own block in its slot. -/
theorem part3 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v19 : BitVec 32) {Q : (Σ' (v67 : BitVec 1) (v69 : BitVec 32) (v73 : BitVec 1) (v75 : BitVec 32) (v79 : BitVec 1) (v81 : BitVec 32) (v85 : BitVec 1) (v87 : BitVec 32) (v91 : BitVec 1) (v93 : BitVec 32) (v95 : BitVec 1), BitVec 1) → sProp 𝕄}
    (hQ : ∀ r, iprop(Recs X κ ∗ R ∗ owesN c 0 ∗ atPos ER (bcell c) 1 ∅ 0
      ∗ (bigSep Finset.univ fun j : Fin 32 => if sv c j then iprop(∃ f : GBuf F, slotPts (st c j) (ss c j) fullShare f) else (iprop(emp) : sProp 𝕄))
      ∗ atPos ER (dcell c 48) 1 ∅ 0 ∗ landing X c c) ⊢ Q r) :
    iprop(Recs X κ ∗ R ∗ owesN c 0 ∗ (cred (tallyAt (bcell c) () 6) ∗ atPos ER (bcell c) 0 ∅ 0) ∗ cred (tallyAt (dcell c 48) () N) ∗ atPos ER (dcell c 48) 0 ∅ 0)
      ⊢ WP df c (k0_part3 xM h0 wM h1 oM h2 gM h3 sM h4 cc0_scratch2 cc0_scratch3 cc0_scratch4 cc0_scratch5 cc0_scratch6 cc0_scratch7 cc0_scratch8 c v19 (SemArray.scalar (sig.barrier 0 rfl))) Q := by
  rw [k0_part3_eq_skeleton]
  delta k0_part3_skel
  have e8 : (cc0_scratch8 : DmaSems sig S_).sem = dsem 48 := own_s
  have h48 : rsem c c = 48 := (pred_self c).2
  have hm1 : Recs X κ ⊢ MayWait (c : Thread nD τ) (.reg barS) () (owedFrom c 0) :=
    Recs_wait X κ c (.reg barS) 0 fun j _ h1 h2 => wait_bar c ⟨j, h1⟩ h2
  have hm2 : Recs X κ ⊢ MayWait (c : Thread nD τ) (.dma (dsem 48)) () (owedFrom c 0) :=
    Recs_wait X κ c (.dma (dsem 48)) 0 fun j _ h1 h2 => wait_own c ⟨j, h1⟩ h2
  refine BIBase.Entails.trans ?_ (Entails.of_eq rfl : WP df c (.op (.semWait barS ((6 : ℕ) : ℤ)) fun _ =>
    .op (.waitDma2 (cc0_scratch8 : DmaSems sig S_).sem sM (slotAt (k0_off1 c) (k0_off1_inb c)) h4.wordExact ((h3.wordExact_slice rfl _ (k0_off1_wordsbf16 c)).reshape _ _)) fun _ => pure _) Q ⊢ _)
  rw [e8]
  unfold owesN at hQ ⊢
  iintro ⟨#HR, HF, ⟨%W, HO⟩, ⟨HcB, HatB⟩, HcD, HatD⟩
  ihave H1 := (Recs_b X κ c) $$ HR
  icases H1 with ⟨#HI1, #Hr1⟩
  ihave H2 := (Recs_d X κ c (k := 48) (by decide)) $$ HR
  icases H2 with ⟨#HI2, #Hr2⟩
  iapply (Rounds.wp_wait_rest_token 𝒱₀ ER (Rd X) (c : Thread nD τ) none (κ := kn κ c 49)
      (wpE_semWait_eq 𝒱₀ (c : Thread nD τ) none Set.univ) (Set.mem_univ _) () (O := owedFrom c 0) (W := W) (R := 0) (m := 0) (T := ∅)
      (by rw [expect_bar])) $$ [HcB HO HatB]
  · isplitr; · iexact HI1
    isplitl [HcB]; · iexact HcB
    isplitl [HO]; · iexact HO
    isplitr; · iapply hm1; iexact HR
    iexact HatB
  iintro ⟨HO, HatB, -, Hpay⟩
  ihave Hl := (rest_bar X c) $$ Hpay
  iapply (Rounds.wp_wait_rest_token 𝒱₀ ER (Rd X) (c : Thread nD τ) none (κ := kn κ c 48)
      (wpE_waitDma2_eq 𝒱₀ (c : Thread nD τ) none Set.univ) (Set.mem_univ _) () (O := owedFrom c 0) (R := 0) (m := 0) (T := ∅)
      (((Nat.zero_add _).trans ((credit_slot (k0_off1 c) (k0_off1_inb c)).trans (expect_recv X c c).symm)).trans (by rw [h48]))) $$ [HcD HO HatD]
  · isplitr; · iexact HI2
    isplitl [HcD]; · iexact HcD
    isplitl [HO]; · iexact HO
    isplitr; · iapply hm2; iexact HR
    iexact HatD
  iintro ⟨HO, HatD, -, Hpay⟩
  ihave Hp := (Entails.of_eq (rest48 X c)) $$ Hpay
  iapply (ret_intro df c _ Q)
  iapply (hQ _)
  isplitr; · iexact HR
  isplitl [HF]; · iexact HF
  isplitl [HO]; · iexists _; iexact HO
  isplitl [HatB]; · iexact HatB
  isplitl [Hl]; · iexact Hl
  isplitl [HatD] <;> iassumption

end Cert.AllGather

end
-- ==== Proof.PartsA.lean ====
/-
# Parts: the column

Each part of the kernel is a sequence of the steps: here the copies up and down the column, with those of the first hop that follow
each arrival.
-/
module

public import proofs.«01_k».proof.Proof.Run

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (df : Defs nD τ sig (Elt F) Λ₀) (X : Fin 16 → XBuf F) (OUT : OBuf F) (κ : Dev nD × Fin 50 → ℕ)

theorem part4 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v19 : BitVec 32) (v29 : BitVec 32) (v32 : BitVec 32) (v93 : BitVec 32) (v95 : BitVec 1) (v96 : BitVec 1) {Q : ((Σ' (v97 : BitVec 1) (v99 : BitVec 32) (v103 : BitVec 1) (v105 : BitVec 32) (v107 : BitVec 1) (v111 : BitVec 1) (v115 : BitVec 1), BitVec 1)) → sProp 𝕄}
    (hQ : ∀ r, ST X OUT κ R c 4 0 0 ({0}) ⊢ Q r) :
    ST X OUT κ R c 0 0 0 ({0})
      ⊢ WP df c (k0_part4 xM h0 wM h1 oM h2 gM h3 sM h4 cc0_scratch2 cc0_scratch3 cc0_scratch4 cc0_scratch5 cc0_scratch6 cc0_scratch7 cc0_scratch8 c v19 v29 v32 v93 v95 v96) Q := by
  rw [k0_part4_eq_skeleton]
  delta k0_part4_skel
  refine gsend df X OUT κ c 0 (by decide) (by decide) (by decide) (s0_c c) (s0_o c) (s0_d c) (fun _ => sem_at 3 _ _ _ rfl) (fun h => sem_at 35 _ _ _ (s0_m c h)) ?_
  refine gsend df X OUT κ c 1 (by decide) (by decide) (by decide) (s1_c c) (s1_o c) (s1_d c) (fun _ => sem_at 3 _ _ _ rfl) (fun h => sem_at 35 _ _ _ (s1_m c h)) ?_
  refine gsend df X OUT κ c 2 (by decide) (by decide) (by decide) (s2_c c) (s2_o c) (s2_d c) (fun _ => sem_at 3 _ _ _ rfl) (fun h => sem_at 35 _ _ _ (s2_m c h)) ?_
  refine gsend df X OUT κ c 3 (by decide) (by decide) (by decide) (s3_c c) (s3_o c) (s3_d c) (fun _ => sem_at 3 _ _ _ rfl) (fun h => sem_at 35 _ _ _ (s3_m c h)) ?_
  exact (hQ _).trans (ret_intro df c _ Q)

theorem part5 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v73 : BitVec 1) (v79 : BitVec 1) {Q : ((Σ' (v158 : BitVec 32), BitVec 32)) → sProp 𝕄}
    (hQ : ∀ r, ST X OUT κ R c 8 0 0 (insert 4 ({0})) ⊢ Q r) :
    ST X OUT κ R c 4 0 0 ({0})
      ⊢ WP df c (k0_part5 xM h0 wM h1 oM h2 gM h3 sM h4 cc0_scratch2 cc0_scratch3 cc0_scratch4 cc0_scratch5 cc0_scratch6 cc0_scratch7 cc0_scratch8 c v2 v19 v29 v32 v35 v73 v79) Q := by
  rw [k0_part5_eq_skeleton]
  delta k0_part5_skel
  refine step_send df X OUT κ c (by decide) (by decide) (by decide) (s4_c c) (s4_o c) (s4_d c) (sem_at 3 _ _ _ rfl) (sem_at 39 _ _ _ (s4_m c)) ?_
  refine step_send df X OUT κ c (by decide) (by decide) (by decide) (s5_c c) (s5_o c) (s5_d c) (sem_at 3 _ _ _ rfl) (sem_at 43 _ _ _ (s5_m c)) ?_
  refine grecv df X OUT κ c 4 (by decide) (by decide) (by decide) (r4_c c) (r4_l c) (fun h => sem_at 35 _ _ _ (r4_m c h)) ?_
  refine gsend df X OUT κ c 6 (by decide) (by decide) (by decide) (s6_c c) (s6_o c) (s6_d c) (fun _ => sem_at 3 _ _ _ rfl) (fun h => sem_at 39 _ _ _ (s6_m c h)) ?_
  refine gsend df X OUT κ c 7 (by decide) (by decide) (by decide) (s7_c c) (s7_o c) (s7_d c) (fun _ => sem_at 3 _ _ _ rfl) (fun h => sem_at 43 _ _ _ (s7_m c h)) ?_
  exact (hQ _).trans (ret_intro df c _ Q)

theorem part6 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v79 : BitVec 1) (v85 : BitVec 1) (v91 : BitVec 1) (v158 : BitVec 32) (c0_i32_106 : BitVec 32) {Q : ((PUnit)) → sProp 𝕄}
    (hQ : ∀ r, ST X OUT κ R c 14 0 0 (insert 16 (insert 12 (insert 8 (insert 4 ({0}))))) ⊢ Q r) :
    ST X OUT κ R c 8 0 0 (insert 4 ({0}))
      ⊢ WP df c (k0_part6 xM h0 wM h1 oM h2 gM h3 sM h4 cc0_scratch2 cc0_scratch3 cc0_scratch4 cc0_scratch5 cc0_scratch6 cc0_scratch7 cc0_scratch8 c v2 v19 v29 v32 v35 v79 v85 v91 v158 c0_i32_106) Q := by
  rw [k0_part6_eq_skeleton]
  delta k0_part6_skel
  refine grecv df X OUT κ c 8 (by decide) (by decide) (by decide) (r8_c c) (r8_l c) (fun h => sem_at 35 _ _ _ (r8_m c h)) ?_
  refine gsend df X OUT κ c 8 (by decide) (by decide) (by decide) (s8_c c) (s8_o c) (s8_d c) (fun _ => sem_at 3 _ _ _ rfl) (fun h => sem_at 39 _ _ _ (s8_m c h)) ?_
  refine gsend df X OUT κ c 9 (by decide) (by decide) (by decide) (s9_c c) (s9_o c) (s9_d c) (fun _ => sem_at 3 _ _ _ rfl) (fun h => sem_at 43 _ _ _ (s9_m c h)) ?_
  refine grecv df X OUT κ c 12 (by decide) (by decide) (by decide) (r12_c c) (r12_l c) (fun h => sem_at 35 _ _ _ (r12_m c h)) ?_
  refine gsend df X OUT κ c 10 (by decide) (by decide) (by decide) (s10_c c) (s10_o c) (s10_d c) (fun _ => sem_at 3 _ _ _ rfl) (fun h => sem_at 39 _ _ _ (s10_m c h)) ?_
  refine gsend df X OUT κ c 11 (by decide) (by decide) (by decide) (s11_c c) (s11_o c) (s11_d c) (fun _ => sem_at 3 _ _ _ rfl) (fun h => sem_at 43 _ _ _ (s11_m c h)) ?_
  refine grecv df X OUT κ c 16 (by decide) (by decide) (by decide) (r16_c c) (r16_l c) (fun h => sem_at 35 _ _ _ (r16_m c h)) ?_
  refine gsend df X OUT κ c 12 (by decide) (by decide) (by decide) (s12_c c) (s12_o c) (s12_d c) (fun _ => sem_at 3 _ _ _ rfl) (fun h => sem_at 39 _ _ _ (s12_m c h)) ?_
  refine gsend df X OUT κ c 13 (by decide) (by decide) (by decide) (s13_c c) (s13_o c) (s13_d c) (fun _ => sem_at 3 _ _ _ rfl) (fun h => sem_at 43 _ _ _ (s13_m c h)) ?_
  exact (hQ _).trans (ret_intro df c _ Q)

theorem part7 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v69 : BitVec 32) (v97 : BitVec 1) (v103 : BitVec 1) {Q : ((Σ' (v209 : BitVec 32) (v211 : BitVec 32) (v212 : BitVec 32), BitVec 1)) → sProp 𝕄}
    (hQ : ∀ r, ST X OUT κ R c 18 0 0 (insert 24 (insert 20 (insert 16 (insert 12 (insert 8 (insert 4 ({0}))))))) ⊢ Q r) :
    ST X OUT κ R c 14 0 0 (insert 16 (insert 12 (insert 8 (insert 4 ({0})))))
      ⊢ WP df c (k0_part7 xM h0 wM h1 oM h2 gM h3 sM h4 cc0_scratch2 cc0_scratch3 cc0_scratch4 cc0_scratch5 cc0_scratch6 cc0_scratch7 cc0_scratch8 c v2 v19 v29 v32 v35 v69 v97 v103) Q := by
  rw [k0_part7_eq_skeleton]
  delta k0_part7_skel
  refine grecv df X OUT κ c 20 (by decide) (by decide) (by decide) (r20_c c) (r20_l c) (fun h => sem_at 35 _ _ _ (r20_m c h)) ?_
  refine gsend df X OUT κ c 14 (by decide) (by decide) (by decide) (s14_c c) (s14_o c) (s14_d c) (fun _ => sem_at 3 _ _ _ rfl) (fun h => sem_at 39 _ _ _ (s14_m c h)) ?_
  refine gsend df X OUT κ c 15 (by decide) (by decide) (by decide) (s15_c c) (s15_o c) (s15_d c) (fun _ => sem_at 3 _ _ _ rfl) (fun h => sem_at 43 _ _ _ (s15_m c h)) ?_
  refine grecv df X OUT κ c 24 (by decide) (by decide) (by decide) (r24_c c) (r24_l c) (fun h => sem_at 35 _ _ _ (r24_m c h)) ?_
  refine gsend df X OUT κ c 16 (by decide) (by decide) (by decide) (s16_c c) (s16_o c) (s16_d c) (fun _ => sem_at 3 _ _ _ rfl) (fun h => sem_at 39 _ _ _ (s16_m c h)) ?_
  refine gsend df X OUT κ c 17 (by decide) (by decide) (by decide) (s17_c c) (s17_o c) (s17_d c) (fun _ => sem_at 3 _ _ _ rfl) (fun h => sem_at 43 _ _ _ (s17_m c h)) ?_
  exact (hQ _).trans (ret_intro df c _ Q)

end Cert.AllGather

end
-- ==== Proof.PartsB.lean ====
/-
# Parts: the second hop

Here the arrivals of the first hop within each plane, each followed by the copy to the far corner.
-/
module

public import proofs.«01_k».proof.Proof.Run

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (df : Defs nD τ sig (Elt F) Λ₀) (X : Fin 16 → XBuf F) (OUT : OBuf F) (κ : Dev nD × Fin 50 → ℕ)

theorem part8 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v35 : BitVec 32) (v67 : BitVec 1) (v209 : BitVec 32) (v211 : BitVec 32) (v212 : BitVec 32) (v213 : BitVec 1) {Q : ((Σ' (v220 : BitVec 1) (v242 : BitVec 32), BitVec 1)) → sProp 𝕄}
    (hQ : ∀ r, ST X OUT κ R c 19 0 0 (insert 1 (insert 24 (insert 20 (insert 16 (insert 12 (insert 8 (insert 4 ({0})))))))) ⊢ Q r) :
    ST X OUT κ R c 18 0 0 (insert 24 (insert 20 (insert 16 (insert 12 (insert 8 (insert 4 ({0})))))))
      ⊢ WP df c (k0_part8 xM h0 wM h1 oM h2 gM h3 sM h4 cc0_scratch2 cc0_scratch3 cc0_scratch4 cc0_scratch5 cc0_scratch6 cc0_scratch7 cc0_scratch8 c v2 v19 v29 v35 v67 v209 v211 v212 v213) Q := by
  rw [k0_part8_eq_skeleton]
  delta k0_part8_skel
  refine grecv df X OUT κ c 1 (by decide) (by decide) (by decide) (r1_c c) (r1_l c) (fun h => sem_at 39 _ _ _ (r1_m c h)) ?_
  refine gsend df X OUT κ c 18 (by decide) (by decide) (by decide) (s18_c c) (s18_o c) (s18_d c) (fun _ => sem_at 3 _ _ _ rfl) (fun h => sem_at 49 _ _ _ (s18_m c h)) ?_
  exact (hQ _).trans (ret_intro df c _ Q)

theorem part9 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v29 : BitVec 32) (v32 : BitVec 32) (v67 : BitVec 1) (v75 : BitVec 32) (v220 : BitVec 1) (v242 : BitVec 32) {Q : ((Σ' (v257 : BitVec 1) (v272 : BitVec 1) (v273 : BitVec 32) (v284 : BitVec 1), BitVec 1)) → sProp 𝕄}
    (hQ : ∀ r, ST X OUT κ R c 20 0 0 (insert 2 (insert 1 (insert 24 (insert 20 (insert 16 (insert 12 (insert 8 (insert 4 ({0}))))))))) ⊢ Q r) :
    ST X OUT κ R c 19 0 0 (insert 1 (insert 24 (insert 20 (insert 16 (insert 12 (insert 8 (insert 4 ({0}))))))))
      ⊢ WP df c (k0_part9 xM h0 wM h1 oM h2 gM h3 sM h4 cc0_scratch2 cc0_scratch3 cc0_scratch4 cc0_scratch5 cc0_scratch6 cc0_scratch7 cc0_scratch8 c v2 v29 v32 v67 v75 v220 v242) Q := by
  rw [k0_part9_eq_skeleton]
  delta k0_part9_skel
  refine grecv df X OUT κ c 2 (by decide) (by decide) (by decide) (r2_c c) (r2_l c) (fun h => sem_at 43 _ _ _ (r2_m c h)) ?_
  refine gsend df X OUT κ c 19 (by decide) (by decide) (by decide) (s19_c c) (s19_o c) (s19_d c) (fun _ => sem_at 3 _ _ _ rfl) (fun h => sem_at 47 _ _ _ (s19_m c h)) ?_
  exact (hQ _).trans (ret_intro df c _ Q)

theorem part10 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v73 : BitVec 1) (v81 : BitVec 32) (v272 : BitVec 1) (v273 : BitVec 32) (v284 : BitVec 1) (v286 : BitVec 1) {Q : ((Σ' (v300 : BitVec 1) (v309 : BitVec 1) (v313 : BitVec 32) (v315 : BitVec 32) (v316 : BitVec 32), BitVec 1)) → sProp 𝕄}
    (hQ : ∀ r, ST X OUT κ R c 22 0 0 (insert 6 (insert 5 (insert 2 (insert 1 (insert 24 (insert 20 (insert 16 (insert 12 (insert 8 (insert 4 ({0}))))))))))) ⊢ Q r) :
    ST X OUT κ R c 20 0 0 (insert 2 (insert 1 (insert 24 (insert 20 (insert 16 (insert 12 (insert 8 (insert 4 ({0})))))))))
      ⊢ WP df c (k0_part10 xM h0 wM h1 oM h2 gM h3 sM h4 cc0_scratch2 cc0_scratch3 cc0_scratch4 cc0_scratch5 cc0_scratch6 cc0_scratch7 cc0_scratch8 c v2 v19 v29 v32 v35 v73 v81 v272 v273 v284 v286) Q := by
  rw [k0_part10_eq_skeleton]
  delta k0_part10_skel
  refine grecv df X OUT κ c 5 (by decide) (by decide) (by decide) (r5_c c) (r5_l c) (fun h => sem_at 39 _ _ _ (r5_m c h)) ?_
  refine gsend df X OUT κ c 20 (by decide) (by decide) (by decide) (s20_c c) (s20_o c) (s20_d c) (fun _ => sem_at 3 _ _ _ rfl) (fun h => sem_at 49 _ _ _ (s20_m c h)) ?_
  refine grecv df X OUT κ c 6 (by decide) (by decide) (by decide) (r6_c c) (r6_l c) (fun h => sem_at 43 _ _ _ (r6_m c h)) ?_
  refine gsend df X OUT κ c 21 (by decide) (by decide) (by decide) (s21_c c) (s21_o c) (s21_d c) (fun _ => sem_at 3 _ _ _ rfl) (fun h => sem_at 47 _ _ _ (s21_m c h)) ?_
  exact (hQ _).trans (ret_intro df c _ Q)

theorem part11 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v35 : BitVec 32) (v79 : BitVec 1) (v313 : BitVec 32) (v315 : BitVec 32) (v316 : BitVec 32) (v317 : BitVec 1) {Q : ((Σ' (v324 : BitVec 1) (v346 : BitVec 32), BitVec 1)) → sProp 𝕄}
    (hQ : ∀ r, ST X OUT κ R c 23 0 0 (insert 9 (insert 6 (insert 5 (insert 2 (insert 1 (insert 24 (insert 20 (insert 16 (insert 12 (insert 8 (insert 4 ({0})))))))))))) ⊢ Q r) :
    ST X OUT κ R c 22 0 0 (insert 6 (insert 5 (insert 2 (insert 1 (insert 24 (insert 20 (insert 16 (insert 12 (insert 8 (insert 4 ({0})))))))))))
      ⊢ WP df c (k0_part11 xM h0 wM h1 oM h2 gM h3 sM h4 cc0_scratch2 cc0_scratch3 cc0_scratch4 cc0_scratch5 cc0_scratch6 cc0_scratch7 cc0_scratch8 c v2 v19 v29 v35 v79 v313 v315 v316 v317) Q := by
  rw [k0_part11_eq_skeleton]
  delta k0_part11_skel
  refine grecv df X OUT κ c 9 (by decide) (by decide) (by decide) (r9_c c) (r9_l c) (fun h => sem_at 39 _ _ _ (r9_m c h)) ?_
  refine gsend df X OUT κ c 22 (by decide) (by decide) (by decide) (s22_c c) (s22_o c) (s22_d c) (fun _ => sem_at 3 _ _ _ rfl) (fun h => sem_at 49 _ _ _ (s22_m c h)) ?_
  exact (hQ _).trans (ret_intro df c _ Q)

theorem part12 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v29 : BitVec 32) (v32 : BitVec 32) (v79 : BitVec 1) (v87 : BitVec 32) (v324 : BitVec 1) (v346 : BitVec 32) {Q : ((Σ' (v361 : BitVec 1) (v376 : BitVec 1) (v377 : BitVec 32) (v388 : BitVec 1), BitVec 1)) → sProp 𝕄}
    (hQ : ∀ r, ST X OUT κ R c 24 0 0 (insert 10 (insert 9 (insert 6 (insert 5 (insert 2 (insert 1 (insert 24 (insert 20 (insert 16 (insert 12 (insert 8 (insert 4 ({0}))))))))))))) ⊢ Q r) :
    ST X OUT κ R c 23 0 0 (insert 9 (insert 6 (insert 5 (insert 2 (insert 1 (insert 24 (insert 20 (insert 16 (insert 12 (insert 8 (insert 4 ({0}))))))))))))
      ⊢ WP df c (k0_part12 xM h0 wM h1 oM h2 gM h3 sM h4 cc0_scratch2 cc0_scratch3 cc0_scratch4 cc0_scratch5 cc0_scratch6 cc0_scratch7 cc0_scratch8 c v2 v29 v32 v79 v87 v324 v346) Q := by
  rw [k0_part12_eq_skeleton]
  delta k0_part12_skel
  refine grecv df X OUT κ c 10 (by decide) (by decide) (by decide) (r10_c c) (r10_l c) (fun h => sem_at 43 _ _ _ (r10_m c h)) ?_
  refine gsend df X OUT κ c 23 (by decide) (by decide) (by decide) (s23_c c) (s23_o c) (s23_d c) (fun _ => sem_at 3 _ _ _ rfl) (fun h => sem_at 47 _ _ _ (s23_m c h)) ?_
  exact (hQ _).trans (ret_intro df c _ Q)

theorem part13 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v85 : BitVec 1) (v93 : BitVec 32) (v376 : BitVec 1) (v377 : BitVec 32) (v388 : BitVec 1) (v390 : BitVec 1) {Q : ((Σ' (v404 : BitVec 1) (v413 : BitVec 1) (v417 : BitVec 32) (v419 : BitVec 32) (v420 : BitVec 32), BitVec 1)) → sProp 𝕄}
    (hQ : ∀ r, ST X OUT κ R c 26 0 0 (insert 14 (insert 13 (insert 10 (insert 9 (insert 6 (insert 5 (insert 2 (insert 1 (insert 24 (insert 20 (insert 16 (insert 12 (insert 8 (insert 4 ({0}))))))))))))))) ⊢ Q r) :
    ST X OUT κ R c 24 0 0 (insert 10 (insert 9 (insert 6 (insert 5 (insert 2 (insert 1 (insert 24 (insert 20 (insert 16 (insert 12 (insert 8 (insert 4 ({0})))))))))))))
      ⊢ WP df c (k0_part13 xM h0 wM h1 oM h2 gM h3 sM h4 cc0_scratch2 cc0_scratch3 cc0_scratch4 cc0_scratch5 cc0_scratch6 cc0_scratch7 cc0_scratch8 c v2 v19 v29 v32 v35 v85 v93 v376 v377 v388 v390) Q := by
  rw [k0_part13_eq_skeleton]
  delta k0_part13_skel
  refine grecv df X OUT κ c 13 (by decide) (by decide) (by decide) (r13_c c) (r13_l c) (fun h => sem_at 39 _ _ _ (r13_m c h)) ?_
  refine gsend df X OUT κ c 24 (by decide) (by decide) (by decide) (s24_c c) (s24_o c) (s24_d c) (fun _ => sem_at 3 _ _ _ rfl) (fun h => sem_at 49 _ _ _ (s24_m c h)) ?_
  refine grecv df X OUT κ c 14 (by decide) (by decide) (by decide) (r14_c c) (r14_l c) (fun h => sem_at 43 _ _ _ (r14_m c h)) ?_
  refine gsend df X OUT κ c 25 (by decide) (by decide) (by decide) (s25_c c) (s25_o c) (s25_d c) (fun _ => sem_at 3 _ _ _ rfl) (fun h => sem_at 47 _ _ _ (s25_m c h)) ?_
  exact (hQ _).trans (ret_intro df c _ Q)

theorem part14 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v35 : BitVec 32) (v91 : BitVec 1) (v417 : BitVec 32) (v419 : BitVec 32) (v420 : BitVec 32) (v421 : BitVec 1) {Q : ((Σ' (v428 : BitVec 1) (v450 : BitVec 32), BitVec 1)) → sProp 𝕄}
    (hQ : ∀ r, ST X OUT κ R c 27 0 0 (insert 17 (insert 14 (insert 13 (insert 10 (insert 9 (insert 6 (insert 5 (insert 2 (insert 1 (insert 24 (insert 20 (insert 16 (insert 12 (insert 8 (insert 4 ({0})))))))))))))))) ⊢ Q r) :
    ST X OUT κ R c 26 0 0 (insert 14 (insert 13 (insert 10 (insert 9 (insert 6 (insert 5 (insert 2 (insert 1 (insert 24 (insert 20 (insert 16 (insert 12 (insert 8 (insert 4 ({0})))))))))))))))
      ⊢ WP df c (k0_part14 xM h0 wM h1 oM h2 gM h3 sM h4 cc0_scratch2 cc0_scratch3 cc0_scratch4 cc0_scratch5 cc0_scratch6 cc0_scratch7 cc0_scratch8 c v2 v19 v29 v35 v91 v417 v419 v420 v421) Q := by
  rw [k0_part14_eq_skeleton]
  delta k0_part14_skel
  refine grecv df X OUT κ c 17 (by decide) (by decide) (by decide) (r17_c c) (r17_l c) (fun h => sem_at 39 _ _ _ (r17_m c h)) ?_
  refine gsend df X OUT κ c 26 (by decide) (by decide) (by decide) (s26_c c) (s26_o c) (s26_d c) (fun _ => sem_at 3 _ _ _ rfl) (fun h => sem_at 49 _ _ _ (s26_m c h)) ?_
  exact (hQ _).trans (ret_intro df c _ Q)

theorem part15 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v29 : BitVec 32) (v32 : BitVec 32) (v91 : BitVec 1) (v99 : BitVec 32) (v428 : BitVec 1) (v450 : BitVec 32) {Q : ((Σ' (v465 : BitVec 1) (v480 : BitVec 1) (v481 : BitVec 32) (v492 : BitVec 1), BitVec 1)) → sProp 𝕄}
    (hQ : ∀ r, ST X OUT κ R c 28 0 0 (insert 18 (insert 17 (insert 14 (insert 13 (insert 10 (insert 9 (insert 6 (insert 5 (insert 2 (insert 1 (insert 24 (insert 20 (insert 16 (insert 12 (insert 8 (insert 4 ({0}))))))))))))))))) ⊢ Q r) :
    ST X OUT κ R c 27 0 0 (insert 17 (insert 14 (insert 13 (insert 10 (insert 9 (insert 6 (insert 5 (insert 2 (insert 1 (insert 24 (insert 20 (insert 16 (insert 12 (insert 8 (insert 4 ({0}))))))))))))))))
      ⊢ WP df c (k0_part15 xM h0 wM h1 oM h2 gM h3 sM h4 cc0_scratch2 cc0_scratch3 cc0_scratch4 cc0_scratch5 cc0_scratch6 cc0_scratch7 cc0_scratch8 c v2 v29 v32 v91 v99 v428 v450) Q := by
  rw [k0_part15_eq_skeleton]
  delta k0_part15_skel
  refine grecv df X OUT κ c 18 (by decide) (by decide) (by decide) (r18_c c) (r18_l c) (fun h => sem_at 43 _ _ _ (r18_m c h)) ?_
  refine gsend df X OUT κ c 27 (by decide) (by decide) (by decide) (s27_c c) (s27_o c) (s27_d c) (fun _ => sem_at 3 _ _ _ rfl) (fun h => sem_at 47 _ _ _ (s27_m c h)) ?_
  exact (hQ _).trans (ret_intro df c _ Q)

theorem part16 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v32 : BitVec 32) (v35 : BitVec 32) (v97 : BitVec 1) (v105 : BitVec 32) (v480 : BitVec 1) (v481 : BitVec 32) (v492 : BitVec 1) (v494 : BitVec 1) {Q : ((Σ' (v508 : BitVec 1) (v517 : BitVec 1) (v521 : BitVec 32) (v523 : BitVec 32) (v524 : BitVec 32), BitVec 1)) → sProp 𝕄}
    (hQ : ∀ r, ST X OUT κ R c 30 0 0 (insert 22 (insert 21 (insert 18 (insert 17 (insert 14 (insert 13 (insert 10 (insert 9 (insert 6 (insert 5 (insert 2 (insert 1 (insert 24 (insert 20 (insert 16 (insert 12 (insert 8 (insert 4 ({0}))))))))))))))))))) ⊢ Q r) :
    ST X OUT κ R c 28 0 0 (insert 18 (insert 17 (insert 14 (insert 13 (insert 10 (insert 9 (insert 6 (insert 5 (insert 2 (insert 1 (insert 24 (insert 20 (insert 16 (insert 12 (insert 8 (insert 4 ({0})))))))))))))))))
      ⊢ WP df c (k0_part16 xM h0 wM h1 oM h2 gM h3 sM h4 cc0_scratch2 cc0_scratch3 cc0_scratch4 cc0_scratch5 cc0_scratch6 cc0_scratch7 cc0_scratch8 c v2 v19 v29 v32 v35 v97 v105 v480 v481 v492 v494) Q := by
  rw [k0_part16_eq_skeleton]
  delta k0_part16_skel
  refine grecv df X OUT κ c 21 (by decide) (by decide) (by decide) (r21_c c) (r21_l c) (fun h => sem_at 39 _ _ _ (r21_m c h)) ?_
  refine gsend df X OUT κ c 28 (by decide) (by decide) (by decide) (s28_c c) (s28_o c) (s28_d c) (fun _ => sem_at 3 _ _ _ rfl) (fun h => sem_at 49 _ _ _ (s28_m c h)) ?_
  refine grecv df X OUT κ c 22 (by decide) (by decide) (by decide) (r22_c c) (r22_l c) (fun h => sem_at 43 _ _ _ (r22_m c h)) ?_
  refine gsend df X OUT κ c 29 (by decide) (by decide) (by decide) (s29_c c) (s29_o c) (s29_d c) (fun _ => sem_at 3 _ _ _ rfl) (fun h => sem_at 47 _ _ _ (s29_m c h)) ?_
  exact (hQ _).trans (ret_intro df c _ Q)

theorem part17 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v35 : BitVec 32) (v103 : BitVec 1) (v521 : BitVec 32) (v523 : BitVec 32) (v524 : BitVec 32) (v525 : BitVec 1) {Q : ((Σ' (v532 : BitVec 1) (v554 : BitVec 32), BitVec 1)) → sProp 𝕄}
    (hQ : ∀ r, ST X OUT κ R c 31 0 0 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))) ⊢ Q r) :
    ST X OUT κ R c 30 0 0 (insert 22 (insert 21 (insert 18 (insert 17 (insert 14 (insert 13 (insert 10 (insert 9 (insert 6 (insert 5 (insert 2 (insert 1 (insert 24 (insert 20 (insert 16 (insert 12 (insert 8 (insert 4 ({0})))))))))))))))))))
      ⊢ WP df c (k0_part17 xM h0 wM h1 oM h2 gM h3 sM h4 cc0_scratch2 cc0_scratch3 cc0_scratch4 cc0_scratch5 cc0_scratch6 cc0_scratch7 cc0_scratch8 c v2 v19 v29 v35 v103 v521 v523 v524 v525) Q := by
  rw [k0_part17_eq_skeleton]
  delta k0_part17_skel
  refine grecv df X OUT κ c 25 (by decide) (by decide) (by decide) (r25_c c) (r25_l c) (fun h => sem_at 39 _ _ _ (r25_m c h)) ?_
  refine gsend df X OUT κ c 30 (by decide) (by decide) (by decide) (s30_c c) (s30_o c) (s30_d c) (fun _ => sem_at 3 _ _ _ rfl) (fun h => sem_at 49 _ _ _ (s30_m c h)) ?_
  exact (hQ _).trans (ret_intro df c _ Q)

theorem part18 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v29 : BitVec 32) (v32 : BitVec 32) (v69 : BitVec 32) (v103 : BitVec 1) (v532 : BitVec 1) (v554 : BitVec 32) {Q : ((Σ' (v569 : BitVec 1) (v584 : BitVec 1) (v585 : BitVec 32) (v596 : BitVec 1), BitVec 1)) → sProp 𝕄}
    (hQ : ∀ r, ST X OUT κ R c 32 0 0 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))) ⊢ Q r) :
    ST X OUT κ R c 31 0 0 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))
      ⊢ WP df c (k0_part18 xM h0 wM h1 oM h2 gM h3 sM h4 cc0_scratch2 cc0_scratch3 cc0_scratch4 cc0_scratch5 cc0_scratch6 cc0_scratch7 cc0_scratch8 c v2 v29 v32 v69 v103 v532 v554) Q := by
  rw [k0_part18_eq_skeleton]
  delta k0_part18_skel
  refine grecv df X OUT κ c 26 (by decide) (by decide) (by decide) (r26_c c) (r26_l c) (fun h => sem_at 43 _ _ _ (r26_m c h)) ?_
  refine gsend df X OUT κ c 31 (by decide) (by decide) (by decide) (s31_c c) (s31_o c) (s31_d c) (fun _ => sem_at 3 _ _ _ rfl) (fun h => sem_at 47 _ _ _ (s31_m c h)) ?_
  exact (hQ _).trans (ret_intro df c _ Q)

end Cert.AllGather

end
-- ==== Proof.PartsC.lean ====
/-
# Parts: the products and the end

Here the arrivals of the far corners, the product of each plane, and the waits for the copies' sources.
-/
module

public import proofs.«01_k».proof.Proof.Run

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (df : Defs nD τ sig (Elt F) Λ₀) (X : Fin 16 → XBuf F) (OUT : OBuf F) (κ : Dev nD × Fin 50 → ℕ)

theorem part19 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v42 : FVec F S1024x64 .bf16) (v67 : BitVec 1) (v75 : BitVec 32) (v584 : BitVec 1) (v585 : BitVec 32) (v596 : BitVec 1) (v598 : BitVec 1)
    (hpay : PayOk X OUT v42) {Q : ((Σ' (v620 : BitVec 32) (v631 : BitVec 1), BitVec 32)) → sProp 𝕄}
    (hQ : ∀ r, ST X OUT κ R c 32 0 1 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))) ⊢ Q r) :
    ST X OUT κ R c 32 0 0 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))
      ⊢ WP df c (k0_part19 xM h0 wM h1 oM h2 gM h3 sM h4 cc0_scratch2 cc0_scratch3 cc0_scratch4 cc0_scratch5 cc0_scratch6 cc0_scratch7 cc0_scratch8 c v2 v19 v29 v42 v67 v75 v584 v585 v596 v598) Q := by
  rw [k0_part19_eq_skeleton]
  delta k0_part19_skel
  refine grecv df X OUT κ c 3 (by decide) (by decide) (by decide) (r3_c c) (fun _ j h1 h2 => absurd h2 (Nat.not_lt.mpr h1)) (fun h => sem_at 49 _ _ _ (r3_m c h)) ?_
  refine grecv df X OUT κ c 28 (by decide) (by decide) (by decide) (r28_c c) (fun _ j h1 h2 => absurd h2 (Nat.not_lt.mpr h1)) (fun h => sem_at 47 _ _ _ (r28_m c h)) ?_
  refine gprod X OUT κ df c 0 (by decide) (by decide) (p0_c c) (p0_o c) (p0_r c) (k0_pay4 v42) (hpay _) ?_
  exact (hQ _).trans (ret_intro df c _ Q)

theorem part20 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v42 : FVec F S1024x64 .bf16) (v73 : BitVec 1) (v81 : BitVec 32) (v620 : BitVec 32) (v631 : BitVec 1) (c2_i32_406 : BitVec 32)
    (hpay : PayOk X OUT v42) {Q : ((BitVec 32)) → sProp 𝕄}
    (hQ : ∀ r, ST X OUT κ R c 32 0 2 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))) ⊢ Q r) :
    ST X OUT κ R c 32 0 1 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))
      ⊢ WP df c (k0_part20 xM h0 wM h1 oM h2 gM h3 sM h4 cc0_scratch2 cc0_scratch3 cc0_scratch4 cc0_scratch5 cc0_scratch6 cc0_scratch7 cc0_scratch8 c v2 v19 v29 v42 v73 v81 v620 v631 c2_i32_406) Q := by
  rw [k0_part20_eq_skeleton]
  delta k0_part20_skel
  refine grecv df X OUT κ c 7 (by decide) (by decide) (by decide) (r7_c c) (fun _ j h1 h2 => absurd h2 (Nat.not_lt.mpr h1)) (fun h => sem_at 49 _ _ _ (r7_m c h)) ?_
  refine grecv df X OUT κ c 29 (by decide) (by decide) (by decide) (r29_c c) (fun _ j h1 h2 => absurd h2 (Nat.not_lt.mpr h1)) (fun h => sem_at 47 _ _ _ (r29_m c h)) ?_
  refine gprod X OUT κ df c 1 (by decide) (by decide) (p1_c c) (p1_o c) (p1_r c) (k0_pay5 v42) (hpay _) ?_
  exact (hQ _).trans (ret_intro df c _ Q)

theorem part21 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v19 : BitVec 32) (v29 : BitVec 32) (v79 : BitVec 1) (v667 : BitVec 32) {Q : ((Σ' (v678 : BitVec 1) (v700 : BitVec 32), BitVec 32)) → sProp 𝕄}
    (hQ : ∀ r, ST X OUT κ R c 32 0 2 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))) ⊢ Q r) :
    ST X OUT κ R c 32 0 2 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))
      ⊢ WP df c (k0_part21 xM h0 wM h1 oM h2 gM h3 sM h4 cc0_scratch2 cc0_scratch3 cc0_scratch4 cc0_scratch5 cc0_scratch6 cc0_scratch7 cc0_scratch8 v19 v29 v79 v667) Q := by
  rw [k0_part21_eq_skeleton]
  delta k0_part21_skel
  exact (hQ _).trans (ret_intro df c _ Q)

theorem part22 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v42 : FVec F S1024x64 .bf16) (v79 : BitVec 1) (v87 : BitVec 32) (v678 : BitVec 1) (v700 : BitVec 32) (v705 : BitVec 32)
    (hpay : PayOk X OUT v42) {Q : ((Σ' (v725 : BitVec 1) (v726 : BitVec 32) (v740 : BitVec 1), BitVec 32)) → sProp 𝕄}
    (hQ : ∀ r, ST X OUT κ R c 32 0 3 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))) ⊢ Q r) :
    ST X OUT κ R c 32 0 2 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))
      ⊢ WP df c (k0_part22 xM h0 wM h1 oM h2 gM h3 sM h4 cc0_scratch2 cc0_scratch3 cc0_scratch4 cc0_scratch5 cc0_scratch6 cc0_scratch7 cc0_scratch8 c v2 v42 v79 v87 v678 v700 v705) Q := by
  rw [k0_part22_eq_skeleton]
  delta k0_part22_skel
  refine grecv df X OUT κ c 11 (by decide) (by decide) (by decide) (r11_c c) (fun _ j h1 h2 => absurd h2 (Nat.not_lt.mpr h1)) (fun h => sem_at 49 _ _ _ (r11_m c h)) ?_
  refine grecv df X OUT κ c 30 (by decide) (by decide) (by decide) (r30_c c) (fun _ j h1 h2 => absurd h2 (Nat.not_lt.mpr h1)) (fun h => sem_at 47 _ _ _ (r30_m c h)) ?_
  refine gprod X OUT κ df c 2 (by decide) (by decide) (p2_c c) (p2_o c) (p2_r c) (k0_pay6 v42) (hpay _) ?_
  exact (hQ _).trans (ret_intro df c _ Q)

theorem part23 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v42 : FVec F S1024x64 .bf16) (v85 : BitVec 1) (v93 : BitVec 32) (v725 : BitVec 1) (v726 : BitVec 32) (v740 : BitVec 1) (v741 : BitVec 32)
    (hpay : PayOk X OUT v42) {Q : ((Σ' (v761 : BitVec 32) (v772 : BitVec 1) (c2_i32_493 : BitVec 32) (v773 : BitVec 32), BitVec 1)) → sProp 𝕄}
    (hQ : ∀ r, ST X OUT κ R c 32 0 4 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))) ⊢ Q r) :
    ST X OUT κ R c 32 0 3 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))
      ⊢ WP df c (k0_part23 xM h0 wM h1 oM h2 gM h3 sM h4 cc0_scratch2 cc0_scratch3 cc0_scratch4 cc0_scratch5 cc0_scratch6 cc0_scratch7 cc0_scratch8 c v2 v19 v29 v42 v85 v93 v725 v726 v740 v741) Q := by
  rw [k0_part23_eq_skeleton]
  delta k0_part23_skel
  refine grecv df X OUT κ c 15 (by decide) (by decide) (by decide) (r15_c c) (fun _ j h1 h2 => absurd h2 (Nat.not_lt.mpr h1)) (fun h => sem_at 49 _ _ _ (r15_m c h)) ?_
  refine grecv df X OUT κ c 31 (by decide) (by decide) (by decide) (r31_c c) (fun _ j h1 h2 => absurd h2 (Nat.not_lt.mpr h1)) (fun h => sem_at 47 _ _ _ (r31_m c h)) ?_
  refine gprod X OUT κ df c 3 (by decide) (by decide) (p3_c c) (p3_o c) (p3_r c) (k0_pay7 v42) (hpay _) ?_
  exact (hQ _).trans (ret_intro df c _ Q)

theorem part24 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v42 : FVec F S1024x64 .bf16) (v91 : BitVec 1) (v99 : BitVec 32) (v761 : BitVec 32) (v772 : BitVec 1) (c2_i32_493 : BitVec 32) (v773 : BitVec 32) (v774 : BitVec 1)
    (hpay : PayOk X OUT v42) {Q : ((Σ' (v808 : BitVec 32) (c2_i32_515 : BitVec 32), BitVec 1)) → sProp 𝕄}
    (hQ : ∀ r, ST X OUT κ R c 32 0 5 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))) ⊢ Q r) :
    ST X OUT κ R c 32 0 4 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))
      ⊢ WP df c (k0_part24 xM h0 wM h1 oM h2 gM h3 sM h4 cc0_scratch2 cc0_scratch3 cc0_scratch4 cc0_scratch5 cc0_scratch6 cc0_scratch7 cc0_scratch8 c v2 v19 v29 v42 v91 v99 v761 v772 c2_i32_493 v773 v774) Q := by
  rw [k0_part24_eq_skeleton]
  delta k0_part24_skel
  refine grecv df X OUT κ c 19 (by decide) (by decide) (by decide) (r19_c c) (fun _ j h1 h2 => absurd h2 (Nat.not_lt.mpr h1)) (fun h => sem_at 49 _ _ _ (r19_m c h)) ?_
  refine grecv df X OUT κ c 32 (by decide) (by decide) (by decide) (r32_c c) (fun _ j h1 h2 => absurd h2 (Nat.not_lt.mpr h1)) (fun h => sem_at 47 _ _ _ (r32_m c h)) ?_
  refine gprod X OUT κ df c 4 (by decide) (by decide) (p4_c c) (p4_o c) (p4_r c) (k0_pay8 v42) (hpay _) ?_
  exact (hQ _).trans (ret_intro df c _ Q)

theorem part25 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v97 : BitVec 1) (v808 : BitVec 32) (c2_i32_515 : BitVec 32) (v809 : BitVec 1) {Q : ((Σ' (v819 : BitVec 1), BitVec 32)) → sProp 𝕄}
    (hQ : ∀ r, ST X OUT κ R c 32 0 5 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))) ⊢ Q r) :
    ST X OUT κ R c 32 0 5 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))
      ⊢ WP df c (k0_part25 xM h0 wM h1 oM h2 gM h3 sM h4 cc0_scratch2 cc0_scratch3 cc0_scratch4 cc0_scratch5 cc0_scratch6 cc0_scratch7 cc0_scratch8 c v2 v19 v29 v97 v808 c2_i32_515 v809) Q := by
  rw [k0_part25_eq_skeleton]
  delta k0_part25_skel
  refine grecv df X OUT κ c 23 (by decide) (by decide) (by decide) (r23_c c) (fun _ j h1 h2 => absurd h2 (Nat.not_lt.mpr h1)) (fun h => sem_at 49 _ _ _ (r23_m c h)) ?_
  exact (hQ _).trans (ret_intro df c _ Q)

theorem part26 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v42 : FVec F S1024x64 .bf16) (v97 : BitVec 1) (v105 : BitVec 32) (v819 : BitVec 1) (v841 : BitVec 32)
    (hpay : PayOk X OUT v42) {Q : ((Σ' (v866 : BitVec 1) (v883 : BitVec 32) (c0_i32_558 : BitVec 32), BitVec 32)) → sProp 𝕄}
    (hQ : ∀ r, ST X OUT κ R c 32 0 6 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))))) ⊢ Q r) :
    ST X OUT κ R c 32 0 5 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))))
      ⊢ WP df c (k0_part26 xM h0 wM h1 oM h2 gM h3 sM h4 cc0_scratch2 cc0_scratch3 cc0_scratch4 cc0_scratch5 cc0_scratch6 cc0_scratch7 cc0_scratch8 c v2 v42 v97 v105 v819 v841) Q := by
  rw [k0_part26_eq_skeleton]
  delta k0_part26_skel
  refine grecv df X OUT κ c 33 (by decide) (by decide) (by decide) (r33_c c) (fun _ j h1 h2 => absurd h2 (Nat.not_lt.mpr h1)) (fun h => sem_at 47 _ _ _ (r33_m c h)) ?_
  refine gprod X OUT κ df c 5 (by decide) (by decide) (p5_c c) (p5_o c) (p5_r c) (k0_pay9 v42) (hpay _) ?_
  exact (hQ _).trans (ret_intro df c _ Q)

theorem part27 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v2 : BitVec 32) (v19 : BitVec 32) (v29 : BitVec 32) (v42 : FVec F S1024x64 .bf16) (v103 : BitVec 1) (v107 : BitVec 1) (v111 : BitVec 1) (v115 : BitVec 1) (v119 : BitVec 1) (v866 : BitVec 1) (v883 : BitVec 32) (c0_i32_558 : BitVec 32) (c1_i32_559 : BitVec 32)
    (hpay : PayOk X OUT v42) {Q : ((PUnit)) → sProp 𝕄}
    (hQ : ∀ r, ST X OUT κ R c 32 4 7 (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))))))) ⊢ Q r) :
    ST X OUT κ R c 32 0 6 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))))
      ⊢ WP df c (k0_part27 xM h0 wM h1 oM h2 gM h3 sM h4 cc0_scratch2 cc0_scratch3 cc0_scratch4 cc0_scratch5 cc0_scratch6 cc0_scratch7 cc0_scratch8 c v2 v19 v29 v42 v103 v107 v111 v115 v119 v866 v883 c0_i32_558 c1_i32_559) Q := by
  rw [k0_part27_eq_skeleton]
  delta k0_part27_skel
  refine grecv df X OUT κ c 27 (by decide) (by decide) (by decide) (r27_c c) (fun _ j h1 h2 => absurd h2 (Nat.not_lt.mpr h1)) (fun h => sem_at 49 _ _ _ (r27_m c h)) ?_
  refine grecv df X OUT κ c 34 (by decide) (by decide) (by decide) (r34_c c) (fun _ j h1 h2 => absurd h2 (Nat.not_lt.mpr h1)) (fun h => sem_at 47 _ _ _ (r34_m c h)) ?_
  refine gprod X OUT κ df c 6 (by decide) (by decide) (p6_c c) (p6_o c) (p6_r c) (k0_pay10 v42) (hpay _) ?_
  refine gdone df X OUT κ c 0 (by decide) (e0_c c) (fun _ => sem_at 3 _ _ _ rfl) ?_
  refine gdone df X OUT κ c 1 (by decide) (e1_c c) (fun _ => sem_at 3 _ _ _ rfl) ?_
  refine gdone df X OUT κ c 2 (by decide) (e2_c c) (fun _ => sem_at 3 _ _ _ rfl) ?_
  refine gdone df X OUT κ c 3 (by decide) (e3_c c) (fun _ => sem_at 3 _ _ _ rfl) ?_
  exact (hQ _).trans (ret_intro df c _ Q)

theorem part28 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v73 : BitVec 1) (v79 : BitVec 1) (v85 : BitVec 1) (v91 : BitVec 1) (v97 : BitVec 1) {Q : ((Σ' (v937 : BitVec 32), BitVec 32)) → sProp 𝕄}
    (hQ : ∀ r, ST X OUT κ R c 32 14 7 (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))))))) ⊢ Q r) :
    ST X OUT κ R c 32 4 7 (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))))))
      ⊢ WP df c (k0_part28 xM h0 wM h1 oM h2 gM h3 sM h4 cc0_scratch2 cc0_scratch3 cc0_scratch4 cc0_scratch5 cc0_scratch6 cc0_scratch7 cc0_scratch8 c v73 v79 v85 v91 v97) Q := by
  rw [k0_part28_eq_skeleton]
  delta k0_part28_skel
  refine step_done df X OUT κ c (by decide) (s4_c c) (sem_at 3 _ _ _ rfl) ?_
  refine step_done df X OUT κ c (by decide) (s5_c c) (sem_at 3 _ _ _ rfl) ?_
  refine gdone df X OUT κ c 6 (by decide) (e6_c c) (fun _ => sem_at 3 _ _ _ rfl) ?_
  refine gdone df X OUT κ c 7 (by decide) (e7_c c) (fun _ => sem_at 3 _ _ _ rfl) ?_
  refine gdone df X OUT κ c 8 (by decide) (e8_c c) (fun _ => sem_at 3 _ _ _ rfl) ?_
  refine gdone df X OUT κ c 9 (by decide) (e9_c c) (fun _ => sem_at 3 _ _ _ rfl) ?_
  refine gdone df X OUT κ c 10 (by decide) (e10_c c) (fun _ => sem_at 3 _ _ _ rfl) ?_
  refine gdone df X OUT κ c 11 (by decide) (e11_c c) (fun _ => sem_at 3 _ _ _ rfl) ?_
  refine gdone df X OUT κ c 12 (by decide) (e12_c c) (fun _ => sem_at 3 _ _ _ rfl) ?_
  refine gdone df X OUT κ c 13 (by decide) (e13_c c) (fun _ => sem_at 3 _ _ _ rfl) ?_
  exact (hQ _).trans (ret_intro df c _ Q)

theorem part29 {R : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (v97 : BitVec 1) (v103 : BitVec 1) (v248 : BitVec 1) (v257 : BitVec 1) (v300 : BitVec 1) (v309 : BitVec 1) (v352 : BitVec 1) (v361 : BitVec 1) (v404 : BitVec 1) (v413 : BitVec 1) (v456 : BitVec 1) (v937 : BitVec 32) (c0_i32_608 : BitVec 32) {Q : ((Σ' (v961 : BitVec 32), BitVec 32)) → sProp 𝕄}
    (hQ : ∀ r, ST X OUT κ R c 32 26 7 (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0}))))))))))))))))))))))))))))))))))) ⊢ Q r) :
    ST X OUT κ R c 32 14 7 (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))))))
      ⊢ WP df c (k0_part29 xM h0 wM h1 oM h2 gM h3 sM h4 cc0_scratch2 cc0_scratch3 cc0_scratch4 cc0_scratch5 cc0_scratch6 cc0_scratch7 cc0_scratch8 c v97 v103 v248 v257 v300 v309 v352 v361 v404 v413 v456 v937 c0_i32_608) Q := by
  rw [k0_part29_eq_skeleton]
  delta k0_part29_skel
  refine gdone df X OUT κ c 14 (by decide) (e14_c c) (fun _ => sem_at 3 _ _ _ rfl) ?_
  refine gdone df X OUT κ c 15 (by decide) (e15_c c) (fun _ => sem_at 3 _ _ _ rfl) ?_
  refine gdone df X OUT κ c 16 (by decide) (e16_c c) (fun _ => sem_at 3 _ _ _ rfl) ?_
  refine gdone df X OUT κ c 17 (by decide) (e17_c c) (fun _ => sem_at 3 _ _ _ rfl) ?_
  refine gdone df X OUT κ c 18 (by decide) (e18_c c) (fun _ => sem_at 3 _ _ _ rfl) ?_
  refine gdone df X OUT κ c 19 (by decide) (e19_c c) (fun _ => sem_at 3 _ _ _ rfl) ?_
  refine gdone df X OUT κ c 20 (by decide) (e20_c c) (fun _ => sem_at 3 _ _ _ rfl) ?_
  refine gdone df X OUT κ c 21 (by decide) (e21_c c) (fun _ => sem_at 3 _ _ _ rfl) ?_
  refine gdone df X OUT κ c 22 (by decide) (e22_c c) (fun _ => sem_at 3 _ _ _ rfl) ?_
  refine gdone df X OUT κ c 23 (by decide) (e23_c c) (fun _ => sem_at 3 _ _ _ rfl) ?_
  refine gdone df X OUT κ c 24 (by decide) (e24_c c) (fun _ => sem_at 3 _ _ _ rfl) ?_
  refine gdone df X OUT κ c 25 (by decide) (e25_c c) (fun _ => sem_at 3 _ _ _ rfl) ?_
  exact (hQ _).trans (ret_intro df c _ Q)

end Cert.AllGather

end
-- ==== Proof.Body.lean ====
/-
# Body: the parts in a row
-/
module

public import proofs.«01_k».proof.Proof.Start
public import proofs.«01_k».proof.Proof.PartsA
public import proofs.«01_k».proof.Proof.PartsB
public import proofs.«01_k».proof.Proof.PartsC

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (df : Defs nD τ sig (Elt F) Λ₀) (X : Fin 16 → XBuf F) (OUT : OBuf F) (κ : Dev nD × Fin 50 → ℕ)

theorem bind_intro {α β : Type} (c : Dev nD) {p : Prog (TpuEff nD τ sig (Elt F) Λ₀ .tc) α} {k : α → Prog (TpuEff nD τ sig (Elt F) Λ₀ .tc) β}
    {P : sProp 𝕄} {Q : β → sProp 𝕄} (h : P ⊢ WP df c p fun r => WP df c (k r) Q) : P ⊢ WP df c (p >>= k) Q := by
  unfold WP
  rw [wp_bind]; exact h

/-- All arrivals. -/
def allG : Finset ℕ := (insert 34 (insert 27 (insert 33 (insert 23 (insert 32 (insert 19 (insert 31 (insert 15 (insert 30 (insert 11 (insert 29 (insert 7 (insert 28 (insert 3 (insert 26 (insert 25 (insert 22 (insert 21 (insert 18 (insert 17 (insert 14 (insert 13 (insert 10 (insert 9 (insert 6 (insert 5 (insert 2 (insert 1 (insert 24 (insert 20 (insert 16 (insert 12 (insert 8 (insert 4 ({0})))))))))))))))))))))))))))))))))))

/-- The kernel on device `c`: from what it has before the signals to the state with every copy finished and the result written. -/
theorem body_run {P R R1 R' : sProp 𝕄} (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (w : WBuf F) (hpay : PayOk X OUT (k0_pay3 w)) {Q : PUnit → sProp 𝕄}
    (hP : iprop(P ∗ xPts c (X c)) ⊢ SIG X κ iprop(R ∗ wPts c w ∗ (∃ f : XBuf F, srcPts c f) ∗ (∃ g : GBuf F, slotPts c c fullShare g) ∗ dutyTok ER (dcell c 48) 0 c) c 0)
    (hB : iprop(Recs X κ ∗ (R ∗ wPts c w) ∗ owesN c 0 ∗ cred (tallyAt (dcell c 48) () N))
      ⊢ iprop(Recs X κ ∗ R1 ∗ owesN c 0 ∗ (cred (tallyAt (bcell c) () 6) ∗ atPos ER (bcell c) 0 ∅ 0) ∗ cred (tallyAt (dcell c 48) () N) ∗ atPos ER (dcell c 48) 0 ∅ 0))
    (hS : iprop(Recs X κ ∗ R1 ∗ owesN c 0 ∗ atPos ER (bcell c) 1 ∅ 0
      ∗ (bigSep Finset.univ fun j : Fin 32 => if sv c j then iprop(∃ f : GBuf F, slotPts (st c j) (ss c j) fullShare f) else (iprop(emp) : sProp 𝕄))
      ∗ atPos ER (dcell c 48) 1 ∅ 0 ∗ landing X c c) ⊢ ST X OUT κ R' c 0 0 0 ({0}))
    (hE : ST X OUT κ R' c 32 32 7 allG ⊢ Q ⟨⟩) :
    iprop(P ∗ xPts c (X c))
      ⊢ WP df c (cc0_body xM h0 wM h1 oM h2 gM h3 sM h4 cc0_scratch2 cc0_scratch3 cc0_scratch4 cc0_scratch5 cc0_scratch6 cc0_scratch7 cc0_scratch8) Q := by
  rw [cc0_body_eq_skeleton]
  delta cc0_body_skel
  refine bind_intro df c (part1 df c h0 h1 h2 h3 h4 (X c) fun v2 v19 v29 v32 v35 => hP.trans ?_)
  refine bind_intro df c (part2 df X κ c h0 h1 h2 h3 h4 v29 v32 v35 w (hB.trans ?_))
  refine bind_intro df c (part3 df X κ c h0 h1 h2 h3 h4 v19 fun r => hS.trans ?_)
  obtain ⟨v67, v69, v73, v75, v79, v81, v85, v87, v91, v93, v95, v96⟩ := r
  refine bind_intro df c (part4 df X OUT κ c h0 h1 h2 h3 h4 v19 v29 v32 v93 v95 v96 fun r => ?_)
  obtain ⟨v97, v99, v103, v105, v107, v111, v115, v119⟩ := r
  refine bind_intro df c (part5 df X OUT κ c h0 h1 h2 h3 h4 v2 v19 v29 v32 v35 v73 v79 fun r => ?_)
  obtain ⟨v158, c0_i32_106⟩ := r
  refine bind_intro df c (part6 df X OUT κ c h0 h1 h2 h3 h4 v2 v19 v29 v32 v35 v79 v85 v91 v158 c0_i32_106 fun _ => ?_)
  refine bind_intro df c (part7 df X OUT κ c h0 h1 h2 h3 h4 v2 v19 v29 v32 v35 v69 v97 v103 fun r => ?_)
  obtain ⟨v209, v211, v212, v213⟩ := r
  refine bind_intro df c (part8 df X OUT κ c h0 h1 h2 h3 h4 v2 v19 v29 v35 v67 v209 v211 v212 v213 fun r => ?_)
  obtain ⟨v220, v242, v248⟩ := r
  refine bind_intro df c (part9 df X OUT κ c h0 h1 h2 h3 h4 v2 v29 v32 v67 v75 v220 v242 fun r => ?_)
  obtain ⟨v257, v272, v273, v284, v286⟩ := r
  refine bind_intro df c (part10 df X OUT κ c h0 h1 h2 h3 h4 v2 v19 v29 v32 v35 v73 v81 v272 v273 v284 v286 fun r => ?_)
  obtain ⟨v300, v309, v313, v315, v316, v317⟩ := r
  refine bind_intro df c (part11 df X OUT κ c h0 h1 h2 h3 h4 v2 v19 v29 v35 v79 v313 v315 v316 v317 fun r => ?_)
  obtain ⟨v324, v346, v352⟩ := r
  refine bind_intro df c (part12 df X OUT κ c h0 h1 h2 h3 h4 v2 v29 v32 v79 v87 v324 v346 fun r => ?_)
  obtain ⟨v361, v376, v377, v388, v390⟩ := r
  refine bind_intro df c (part13 df X OUT κ c h0 h1 h2 h3 h4 v2 v19 v29 v32 v35 v85 v93 v376 v377 v388 v390 fun r => ?_)
  obtain ⟨v404, v413, v417, v419, v420, v421⟩ := r
  refine bind_intro df c (part14 df X OUT κ c h0 h1 h2 h3 h4 v2 v19 v29 v35 v91 v417 v419 v420 v421 fun r => ?_)
  obtain ⟨v428, v450, v456⟩ := r
  refine bind_intro df c (part15 df X OUT κ c h0 h1 h2 h3 h4 v2 v29 v32 v91 v99 v428 v450 fun r => ?_)
  obtain ⟨v465, v480, v481, v492, v494⟩ := r
  refine bind_intro df c (part16 df X OUT κ c h0 h1 h2 h3 h4 v2 v19 v29 v32 v35 v97 v105 v480 v481 v492 v494 fun r => ?_)
  obtain ⟨v508, v517, v521, v523, v524, v525⟩ := r
  refine bind_intro df c (part17 df X OUT κ c h0 h1 h2 h3 h4 v2 v19 v29 v35 v103 v521 v523 v524 v525 fun r => ?_)
  obtain ⟨v532, v554, v560⟩ := r
  refine bind_intro df c (part18 df X OUT κ c h0 h1 h2 h3 h4 v2 v29 v32 v69 v103 v532 v554 fun r => ?_)
  obtain ⟨v569, v584, v585, v596, v598⟩ := r
  refine bind_intro df c (part19 df X OUT κ c h0 h1 h2 h3 h4 v2 v19 v29 (k0_pay3 w) v67 v75 v584 v585 v596 v598 hpay fun r => ?_)
  obtain ⟨v620, v631, c2_i32_406⟩ := r
  refine bind_intro df c (part20 df X OUT κ c h0 h1 h2 h3 h4 v2 v19 v29 (k0_pay3 w) v73 v81 v620 v631 c2_i32_406 hpay fun v667 => ?_)
  refine bind_intro df c (part21 df X OUT κ c h0 h1 h2 h3 h4 v19 v29 v79 v667 fun r => ?_)
  obtain ⟨v678, v700, v705⟩ := r
  refine bind_intro df c (part22 df X OUT κ c h0 h1 h2 h3 h4 v2 (k0_pay3 w) v79 v87 v678 v700 v705 hpay fun r => ?_)
  obtain ⟨v725, v726, v740, v741⟩ := r
  refine bind_intro df c (part23 df X OUT κ c h0 h1 h2 h3 h4 v2 v19 v29 (k0_pay3 w) v85 v93 v725 v726 v740 v741 hpay fun r => ?_)
  obtain ⟨v761, v772, c2_i32_493, v773, v774⟩ := r
  refine bind_intro df c (part24 df X OUT κ c h0 h1 h2 h3 h4 v2 v19 v29 (k0_pay3 w) v91 v99 v761 v772 c2_i32_493 v773 v774 hpay fun r => ?_)
  obtain ⟨v808, c2_i32_515, v809⟩ := r
  refine bind_intro df c (part25 df X OUT κ c h0 h1 h2 h3 h4 v2 v19 v29 v97 v808 c2_i32_515 v809 fun r => ?_)
  obtain ⟨v819, v841⟩ := r
  refine bind_intro df c (part26 df X OUT κ c h0 h1 h2 h3 h4 v2 (k0_pay3 w) v97 v105 v819 v841 hpay fun r => ?_)
  obtain ⟨v866, v883, c0_i32_558, c1_i32_559⟩ := r
  refine bind_intro df c (part27 df X OUT κ c h0 h1 h2 h3 h4 v2 v19 v29 (k0_pay3 w) v103 v107 v111 v115 v119 v866 v883 c0_i32_558 c1_i32_559 hpay fun _ => ?_)
  refine bind_intro df c (part28 df X OUT κ c h0 h1 h2 h3 h4 v73 v79 v85 v91 v97 fun r => ?_)
  obtain ⟨v937, c0_i32_608⟩ := r
  refine bind_intro df c (part29 df X OUT κ c h0 h1 h2 h3 h4 v97 v103 v248 v257 v300 v309 v352 v361 v404 v413 v456 v937 c0_i32_608 fun r => ?_)
  obtain ⟨v961, c0_i32_632⟩ := r
  refine gdone df X OUT κ c 26 (by decide) (e26_c c) (fun _ => sem_at 3 _ _ _ rfl) ?_
  refine gdone df X OUT κ c 27 (by decide) (e27_c c) (fun _ => sem_at 3 _ _ _ rfl) ?_
  refine gdone df X OUT κ c 28 (by decide) (e28_c c) (fun _ => sem_at 3 _ _ _ rfl) ?_
  refine gdone df X OUT κ c 29 (by decide) (e29_c c) (fun _ => sem_at 3 _ _ _ rfl) ?_
  refine gdone df X OUT κ c 30 (by decide) (e30_c c) (fun _ => sem_at 3 _ _ _ rfl) ?_
  refine gdone df X OUT κ c 31 (by decide) (e31_c c) (fun _ => sem_at 3 _ _ _ rfl) ?_
  exact hE.trans (ret_intro df c _ Q)

end Cert.AllGather

end
-- ==== Proof.Ends.lean ====
/-
# Ends: from the launch to the first copy, and from the last wait to the end
-/
module

public import proofs.«01_k».proof.Proof.Body

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's cells, in kinds -/

omit [FloatOps F] in
/-- A fact for each of the fifty cells. -/
theorem by_kind (c : Dev nD) (Φ : GSem nD τ sig → sProp 𝕄) :
    (bigSep Finset.univ fun k : Fin 50 => Φ (kcell (c, k))) = iprop((bigSep (Finset.range 32) fun j => Φ (dcell c j))
      ∗ (bigSep (Finset.range 35) fun n => if gv c n then Φ (dcell c (rsem c (sl c n))) else iprop(emp))
      ∗ (bigSep (spare c) fun k => Φ (dcell c k)) ∗ Φ (bcell c)) := by
  have h := by_cell c fun k => Φ (kcell (c, k50 k))
  have e0 : (bigSep Finset.univ fun k : Fin 50 => Φ (kcell (c, k50 k.val))) = bigSep Finset.univ fun k : Fin 50 => Φ (kcell (c, k)) :=
    bigSep_congr fun k _ => by rw [show k50 k.val = k from Fin.ext (k50_val k.isLt)]
  have e1 : (bigSep (Finset.range 32) fun k => Φ (kcell (c, k50 k))) = bigSep (Finset.range 32) fun k => Φ (dcell c k) :=
    bigSep_congr fun k hk => by rw [kcell_d c (by have := Finset.mem_range.mp hk; omega)]
  have e2 : (bigSep (Finset.range 35) fun n => if gv c n then Φ (kcell (c, k50 (rsem c (sl c n)))) else iprop(emp))
      = bigSep (Finset.range 35) fun n => if gv c n then Φ (dcell c (rsem c (sl c n))) else iprop(emp) :=
    bigSep_congr fun n _ => by rw [kcell_d c (rsem_lt c (sl c n)).2]
  have e3 : (bigSep (spare c) fun k => Φ (kcell (c, k50 k))) = bigSep (spare c) fun k => Φ (dcell c k) :=
    bigSep_congr fun k hk => by
      unfold spare at hk
      rw [Finset.mem_filter, Finset.mem_range] at hk
      rw [kcell_d c hk.1]
  rw [e0, e1, e2, e3] at h
  exact h

theorem gv_zero : ∀ c : Fin 16, gv c 0 ∧ sl c 0 = c := by decide +kernel
theorem allG_all : ∀ n : Fin 35, n.val ∈ allG := by decide +kernel

omit [FloatOps F] in
/-- The first arrival and the others. -/
theorem fam_first (Φ : ℕ → sProp 𝕄) : bigSep (Finset.range 35) Φ = iprop(Φ 0 ∗ bigSep ((Finset.range 35).erase 0) Φ) :=
  bigSep_erase (Finset.mem_range.mpr (by decide))

omit [FloatOps F] in
theorem fam_mono {I : Type} {S : Finset I} {Φ Ψ : I → sProp 𝕄} (h : ∀ i ∈ S, Φ i ⊢ Ψ i) : bigSep S Φ ⊢ bigSep S Ψ := bigSep_mono h

omit [FloatOps F] in
theorem fam_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (df : Defs nD τ sig (Elt F) Λ₀) (X : Fin 16 → XBuf F) (OUT : OBuf F) (κ : Dev nD × Fin 50 → ℕ)

/-! ## What a device starts with -/

/-- The credits of the slots still to come. -/
def slotCreds (c : Dev nD) : sProp 𝕄 := bigSep (Finset.univ.erase c) fun s : Fin 16 => cred (tallyAt (dcell c (rsem c s)) () N)

/-- The result's buffer at some contents. -/
def outAny (c : Dev nD) : sProp 𝕄 := iprop(∃ f : OBuf F, ((c : Thread nD τ).loc cc0_stg2_0) ↦{fullShare} f)

/-- Its share of the protocol's records. -/
def ghost (c : Dev nD) : sProp 𝕄 :=
  iprop(Recs X κ ∗ (bigSep Finset.univ fun k : Fin 50 => atPos ER (kcell (c, k)) 0 ∅ 0) ∗ tokens c)

/-- All but the block of `x`. -/
def before (c : Dev nD) (w : WBuf F) : sProp 𝕄 :=
  iprop(ghost X κ c ∗ cred (tallyAt (bcell c) () 6) ∗ slotCreds c
    ∗ (∃ f : GBuf F, ((c : Thread nD τ).loc cc0_scratch0) ↦{fullShare} f) ∗ (∃ f : XBuf F, srcPts c f)
    ∗ wPts c w ∗ outAny c ∗ ∃ W, owes (c : Thread nD τ) (owedBar c 0) W)

/-- What stays aside during the signals. -/
def aside (c : Dev nD) : sProp 𝕄 :=
  iprop(xPts c (X c) ∗ (bigSep Finset.univ fun k : Fin 50 => atPos ER (kcell (c, k)) 0 ∅ 0) ∗ bigSep (Finset.range 32) (sendToks c)
    ∗ cred (tallyAt (bcell c) () 6) ∗ slotCreds c ∗ outAny c)

omit [FloatOps F] in
/-- The gather buffer: the own slot, and leave for the six told to write the others. -/
theorem slots_intro (c : Dev nD) : iprop(∃ f : GBuf F, ((c : Thread nD τ).loc cc0_scratch0) ↦{fullShare} f)
    ⊢ (iprop((∃ g : GBuf F, slotPts c c fullShare g) ∗ bigSep (Finset.range 6) (fun i => barPay (F := F) (nbr c i) c)) : sProp 𝕄) := by
  have h1 (f : GBuf F) : (((c : Thread nD τ).loc cc0_scratch0) ↦{fullShare} f : sProp 𝕄)
      = iprop(slotPts c c fullShare f ∗ bigSep (Finset.univ.erase c) fun s : Fin 16 => slotPts c s fullShare f) := by
    rw [gather_slots, bigSep_erase (Finset.mem_univ (c : Fin 16))]; rfl
  have h2 (f : GBuf F) : (bigSep (Finset.univ.erase c) fun s : Fin 16 => (slotPts c s fullShare f : sProp 𝕄))
      ⊢ bigSep (Finset.univ.erase c) fun s : Fin 16 => iprop(∃ f : GBuf F, slotPts c s fullShare f) :=
    bigSep_mono fun s _ => by
      show slotPts c s fullShare f ⊢ iprop(∃ f : GBuf F, slotPts c s fullShare f)
      iintro H; iexists f; iexact H
  have h3 := pays_intro (F := F) c
  iintro ⟨%f, H⟩
  ihave H := (Entails.of_eq (h1 f)) $$ H
  icases H with ⟨H0, H⟩
  isplitl [H0]
  · iexists f; iexact H0
  · iapply h3
    iapply (h2 f); iexact H

omit [FloatOps F] in
theorem sig_pays (c : Dev nD) : iprop(bigSep (Finset.range 6) (fun i => dutyTok ER (bcell (nbr c i)) 0 c) ∗ bigSep (Finset.range 6) (fun i => barPay (F := F) (nbr c i) c))
    ⊢ bigSep (Finset.Ico 0 6) (sigPay (F := F) c) := by
  have h : iprop(bigSep (Finset.range 6) (fun i => dutyTok ER (bcell (nbr c i)) 0 c) ∗ bigSep (Finset.range 6) (fun i => barPay (F := F) (nbr c i) c))
      = bigSep (Finset.Ico 0 6) (sigPay (F := F) c) := by
    rw [← bigSep_sep', Nat.Ico_zero_eq_range]; rfl
  exact Entails.of_eq h

omit [FloatOps F] in
theorem start_signals (c : Dev nD) (w : WBuf F) :
    iprop(before X κ c w ∗ xPts c (X c))
      ⊢ SIG X κ iprop(aside X c ∗ wPts c w ∗ (∃ f : XBuf F, srcPts c f) ∗ (∃ g : GBuf F, slotPts c c fullShare g) ∗ dutyTok ER (dcell c 48) 0 c) c 0 := by
  have h1 := tokens_split (F := F) c
  have h2 := slots_intro (F := F) c
  have h3 := sig_pays (F := F) c
  unfold before ghost SIG aside
  iintro ⟨⟨⟨#HR, Hp, Ht⟩, Hb, Hc, Hg, Hs, Hw, Ho, HO⟩, Hx⟩
  ihave Ht := h1 $$ Ht
  icases Ht with ⟨Ht1, Ht2, Ht3⟩
  ihave Hg := h2 $$ Hg
  icases Hg with ⟨Hg0, Hg1⟩
  isplitr; · iexact HR
  isplitl [Hx Hp Ht1 Hb Hc Ho Hw Hs Hg0 Ht3]
  · isplitl [Hx Hp Ht1 Hb Hc Ho]
    · isplitl [Hx]; · iexact Hx
      isplitl [Hp]; · iexact Hp
      isplitl [Ht1]; · iexact Ht1
      isplitl [Hb]; · iexact Hb
      isplitl [Hc] <;> iassumption
    isplitl [Hw]; · iexact Hw
    isplitl [Hs]; · iexact Hs
    isplitl [Hg0] <;> iassumption
  isplitl [HO]; · iexact HO
  iapply h3
  isplitl [Ht2] <;> iassumption

/-- What stays aside while it waits on the barrier. -/
def aside' (c : Dev nD) (w : WBuf F) : sProp 𝕄 :=
  iprop(xPts c (X c) ∗ wPts c w ∗ (bigSep (Finset.range 32) fun j => atPos ER (dcell c j) 0 ∅ 0)
    ∗ (bigSep ((Finset.range 35).erase 0) fun n => if gv c n then atPos ER (dcell c (rsem c (sl c n))) 0 ∅ 0 else iprop(emp))
    ∗ (bigSep (spare c) fun k => atPos ER (dcell c k) 0 ∅ 0) ∗ bigSep (Finset.range 32) (sendToks c) ∗ slotCreds c ∗ outAny c)

omit [FloatOps F] in
theorem start_barrier (c : Dev nD) (w : WBuf F) :
    iprop(Recs X κ ∗ (aside X c ∗ wPts c w) ∗ owesN c 0 ∗ cred (tallyAt (dcell c 48) () N))
      ⊢ iprop(Recs X κ ∗ aside' X c w ∗ owesN c 0 ∗ (cred (tallyAt (bcell c) () 6) ∗ atPos ER (bcell c) 0 ∅ 0)
          ∗ cred (tallyAt (dcell c 48) () N) ∗ atPos ER (dcell c 48) 0 ∅ 0) := by
  have hk := by_kind (F := F) c fun g => atPos ER g 0 ∅ 0
  rw [fam_first (fun n => if gv c n then (atPos ER (dcell c (rsem c (sl c n))) 0 ∅ 0 : sProp 𝕄) else iprop(emp)), if_pos (gv_zero c).1, (gv_zero c).2, (pred_self c).2] at hk
  unfold aside aside'
  rw [hk]
  iintro ⟨#HR, ⟨⟨Hx, ⟨Hp1, ⟨Hp48, Hp2⟩, Hp3, Hpb⟩, Ht, Hb, Hc, Ho⟩, Hw⟩, HO, Hc48⟩
  isplitr; · iexact HR
  isplitl [Hx Hw Hp1 Hp2 Hp3 Ht Hc Ho]
  · isplitl [Hx]; · iexact Hx
    isplitl [Hw]; · iexact Hw
    isplitl [Hp1]; · iexact Hp1
    isplitl [Hp2]; · iexact Hp2
    isplitl [Hp3]; · iexact Hp3
    isplitl [Ht]; · iexact Ht
    isplitl [Hc] <;> iassumption
  isplitl [HO]; · iexact HO
  isplitl [Hb Hpb]
  · isplitl [Hb] <;> iassumption
  isplitl [Hc48] <;> iassumption

/-- What stays aside from there on: besides the inputs, the positions on the cells that see nothing. -/
def rest (c : Dev nD) (w : WBuf F) : sProp 𝕄 :=
  iprop(xPts c (X c) ∗ wPts c w ∗ (bigSep (Finset.range 32) fun j => if sv c j then iprop(emp) else atPos ER (dcell c j) 0 ∅ 0)
    ∗ (bigSep (spare c) fun k => atPos ER (dcell c k) 0 ∅ 0) ∗ atPos ER (bcell c) 1 ∅ 0 ∗ (∃ f : XBuf F, srcPts c f))

omit [FloatOps F] in
/-- The copies to come, sorted. -/
theorem sends_intro (c : Dev nD) :
    iprop((bigSep (Finset.range 32) fun j => atPos ER (dcell c j) 0 ∅ 0) ∗ bigSep (Finset.range 32) (sendToks c)
        ∗ (bigSep Finset.univ fun j : Fin 32 => if sv c j then iprop(∃ f : GBuf F, slotPts (st c j) (ss c j) fullShare f) else (iprop(emp) : sProp 𝕄))
        ∗ bigSep (outOf 0) (piece X c))
      ⊢ iprop((bigSep (Finset.range 32) fun j => if sv c j then iprop(emp) else atPos ER (dcell c j) 0 ∅ 0)
          ∗ bigSep (Finset.range 32) (sendSt X c 0 0 {0})) := by
  have e1 : (bigSep Finset.univ fun j : Fin 32 => if sv c j then iprop(∃ f : GBuf F, slotPts (st c j) (ss c j) fullShare f) else (iprop(emp) : sProp 𝕄))
      = bigSep (Finset.range 32) fun j => if sv c j then iprop(∃ f : GBuf F, slotPts (st c j) (ss c j) fullShare f) else (iprop(emp) : sProp 𝕄) :=
    (fam_fin (n := 32) fun j => if sv c j then iprop(∃ f : GBuf F, slotPts (st c j) (ss c j) fullShare f) else (iprop(emp) : sProp 𝕄)).symm
  have e2 : bigSep (outOf 0) (piece X c) = bigSep (Finset.range 32) fun j => if srcOf j = 0 then piece X c j else iprop(emp) :=
    (fam_ite (Finset.range 32) (fun j => srcOf j = 0) (piece X c)).symm
  rw [e1, e2, ← bigSep_sep', ← bigSep_sep', ← bigSep_sep', ← bigSep_sep']
  refine fam_mono fun j _ => ?_
  unfold sendSt todo sendToks
  rw [if_neg (Nat.not_lt_zero _), if_neg (Nat.not_lt_zero _)]
  simp only [Finset.mem_singleton]
  by_cases h : sv c j
  · rw [if_pos h, if_pos h, if_pos h, if_pos h]
    iintro ⟨Hp, ⟨Ht1, Ht2⟩, Hl, Hq⟩
    isplitl []; · iempintro
    isplitl [Hp Ht1 Ht2 Hl]
    · isplitl [Ht1]; · iexact Ht1
      isplitl [Ht2]; · iexact Ht2
      isplitl [Hp] <;> iassumption
    iexact Hq
  · rw [if_neg h, if_neg h, if_neg h, if_neg h]
    iintro ⟨Hp, -, -, Hq⟩
    isplitl [Hp]; · iexact Hp
    isplitl []; · iempintro
    iexact Hq

omit [FloatOps F] in
/-- The arrivals to come. -/
theorem arrivals_intro (c : Dev nD) :
    iprop((bigSep ((Finset.range 35).erase 0) fun n => if gv c n then atPos ER (dcell c (rsem c (sl c n))) 0 ∅ 0 else iprop(emp)) ∗ slotCreds c)
      ⊢ (bigSep ((Finset.range 35).erase 0) (recvSt X c {0}) : sProp 𝕄) := by
  let Φ : Fin 16 → sProp 𝕄 := fun s => if s = c then iprop(emp) else cred (tallyAt (dcell c (rsem c s)) () N)
  have e : (slotCreds c : sProp 𝕄) ⊢ bigSep ((Finset.range 35).erase 0) fun n => if gv c n then Φ (sl c n) else iprop(emp) := by
    have e1 : (slotCreds c : sProp 𝕄) = bigSep (Finset.univ.erase c) Φ :=
      bigSep_congr fun s hs => (if_neg (Finset.ne_of_mem_erase hs)).symm
    have e2 : bigSep Finset.univ Φ = iprop(Φ c ∗ bigSep (Finset.univ.erase c) Φ) := bigSep_erase (Finset.mem_univ (c : Fin 16))
    have e3 : Φ c = iprop(emp) := if_pos rfl
    have e4 : bigSep (Finset.range 35) (fun n => if gv c n then Φ (sl c n) else iprop(emp))
        ⊢ bigSep ((Finset.range 35).erase 0) fun n => if gv c n then Φ (sl c n) else iprop(emp) := bigSep_subset (Finset.erase_subset _ _)
    rw [by_slot c Φ, e2, e3, ← e1] at e4
    refine BIBase.Entails.trans ?_ e4
    iintro H
    isplitl []; · iempintro
    iexact H
  have e5 : iprop((bigSep ((Finset.range 35).erase 0) fun n => if gv c n then atPos ER (dcell c (rsem c (sl c n))) 0 ∅ 0 else iprop(emp))
        ∗ bigSep ((Finset.range 35).erase 0) fun n => if gv c n then Φ (sl c n) else iprop(emp))
      ⊢ (bigSep ((Finset.range 35).erase 0) (recvSt X c {0}) : sProp 𝕄) := by
    rw [← bigSep_sep']
    refine fam_mono fun n hn => ?_
    have h0 := Finset.ne_of_mem_erase hn
    have h1 := Finset.mem_range.mp (Finset.mem_of_mem_erase hn)
    unfold recvSt rtodo
    rw [if_neg (show ¬ n ∈ ({0} : Finset ℕ) from fun h => h0 (Finset.mem_singleton.mp h))]
    by_cases h : gv c n
    · have hs : sl c n ≠ c := fun hs => h0 (congrArg Fin.val (sl_inj c ⟨n, h1⟩ ⟨0, by decide⟩ h (gv_zero c).1 (hs.trans (gv_zero c).2.symm)))
      have hΦ : Φ (sl c n) = cred (tallyAt (dcell c (rsem c (sl c n))) () N) := if_neg hs
      rw [if_pos h, if_pos h, if_pos h, hΦ]
      iintro ⟨H1, H2⟩
      isplitl [H2] <;> iassumption
    · rw [if_neg h, if_neg h, if_neg h]
      iintro -
      iempintro
  exact BIBase.Entails.trans (sep_mono_right e) e5

omit [FloatOps F] in
/-- The result's rows, none done. -/
theorem rows_intro (c : Dev nD) : (outAny c : sProp 𝕄) ⊢ bigSep (Finset.range 7) (outSt OUT c 0) := by
  have e1 := by_plane (F := F) c fun p => iprop(∃ f : OBuf F, rowPts c p f)
  have e2 : bigSep (Finset.range 7) (outSt OUT c 0)
      = bigSep (Finset.range 7) fun i => if vld c i then iprop(∃ f : OBuf F, rowPts c (pf (pl c i)) f) else (iprop(emp) : sProp 𝕄) :=
    bigSep_congr fun i _ => by
      unfold outSt
      rw [if_neg (Nat.not_lt_zero i)]
  have e3 (f : OBuf F) : (bigSep Finset.univ fun p : Fin 4 => (rowPts c p f : sProp 𝕄)) ⊢ bigSep Finset.univ fun p : Fin 4 => iprop(∃ f : OBuf F, rowPts c p f) :=
    bigSep_mono fun p _ => by
      show rowPts c p f ⊢ iprop(∃ f : OBuf F, rowPts c p f)
      iintro H; iexists f; iexact H
  rw [e2, e1]
  unfold outAny
  iintro ⟨%f, H⟩
  iapply (e3 f)
  iapply (Entails.of_eq (out_rows c f)); iexact H

omit [FloatOps F] in
/-- The own slot, filled. -/
theorem own_intro (c : Dev nD) : iprop(atPos ER (dcell c 48) 1 ∅ 0 ∗ landing X c c)
    ⊢ (iprop(arrived X c 0 ∗ bigSep (outOf 0) (piece X c) ∗ (∃ f : XBuf F, srcPts c f)) : sProp 𝕄) := by
  have hs := slot_split X c (n := 0) (by decide) (gv_zero c).1
  rw [(gv_zero c).2] at hs
  unfold arrived landing
  rw [if_pos (gv_zero c).1, (gv_zero c).2, (pred_self c).2, if_pos rfl, hs]
  iintro ⟨Ha, ⟨Hk, Hp⟩, Hs⟩
  isplitl [Ha Hk]
  · isplitl [Ha] <;> iassumption
  isplitl [Hp] <;> iassumption

omit [FloatOps F] in
theorem start_copies (c : Dev nD) (w : WBuf F) :
    iprop(Recs X κ ∗ aside' X c w ∗ owesN c 0 ∗ atPos ER (bcell c) 1 ∅ 0
      ∗ (bigSep Finset.univ fun j : Fin 32 => if sv c j then iprop(∃ f : GBuf F, slotPts (st c j) (ss c j) fullShare f) else (iprop(emp) : sProp 𝕄))
      ∗ atPos ER (dcell c 48) 1 ∅ 0 ∗ landing X c c) ⊢ ST X OUT κ (rest X c w) c 0 0 0 ({0}) := by
  have h1 := own_intro (F := F) X c
  have h2 := sends_intro (F := F) X c
  have h3 := arrivals_intro (F := F) X c
  have h4 := rows_intro (F := F) OUT c
  have h5 := fam_first (F := F) (recvSt X c {0})
  have h6 : recvSt X c {0} 0 = arrived X c 0 := if_pos (Finset.mem_singleton_self 0)
  rw [h6] at h5
  unfold ST aside' rest
  rw [h5]
  iintro ⟨#HR, ⟨Hx, Hw, Hp1, Hp2, Hp3, Ht, Hc, Ho⟩, HO, Hb, Hl, H48⟩
  ihave H48 := h1 $$ H48
  icases H48 with ⟨Ha, Hq, Hs⟩
  ihave Hsend := h2 $$ [Hp1 Ht Hl Hq]
  · isplitl [Hp1]; · iexact Hp1
    isplitl [Ht]; · iexact Ht
    isplitl [Hl] <;> iassumption
  icases Hsend with ⟨Hu, Hsend⟩
  ihave Hrecv := h3 $$ [Hp2 Hc]
  · isplitl [Hp2] <;> iassumption
  ihave Hout := h4 $$ Ho
  isplitr; · iexact HR
  isplitl [Hx Hw Hu Hp3 Hb Hs]
  · isplitl [Hx]; · iexact Hx
    isplitl [Hw]; · iexact Hw
    isplitl [Hu]; · iexact Hu
    isplitl [Hp3]; · iexact Hp3
    isplitl [Hb] <;> iassumption
  isplitl [HO]; · iexact HO
  isplitl [Hsend]; · iexact Hsend
  isplitl [Ha Hrecv]
  · isplitl [Ha] <;> iassumption
  iexact Hout

/-! ## The end -/

/-- What a device ends with. -/
def done (c : Dev nD) (w : WBuf F) : sProp 𝕄 :=
  iprop(xPts c (X c) ∗ wPts c w ∗ (((c : Thread nD τ).loc cc0_stg2_0) ↦{fullShare} OUT)
    ∗ (∃ f : GBuf F, ((c : Thread nD τ).loc cc0_scratch0) ↦{fullShare} f) ∗ (∃ f : XBuf F, srcPts c f)
    ∗ (bigSep Finset.univ fun k : Fin 50 => semVal (kcell (c, k)) 0) ∗ ∃ W, owes (c : Thread nD τ) 0 W)

omit [FloatOps F] in
/-- A cell that sees nothing more is closed. -/
theorem close_d (c : Dev nD) {k : ℕ} (hk : k < 49) (r : ℕ) (hr : ∀ r', r ≤ r' → (Rd (F := F) X).duties (dcell c k) r' = ∅) :
    iprop(Recs X κ ∗ atPos ER (dcell c k) r ∅ 0) ⊢ iprop(|={Set.univ}=> semVal (dcell c k) 0) := by
  have h := Recs_d X κ c hk
  iintro ⟨HR, Ha⟩
  ihave HR := h $$ HR
  icases HR with ⟨HI, -⟩
  iapply (Rounds.cell_close ER (Rd X) (Set.mem_univ (kn κ c k)) (fun h => h) (R := r) hr)
  isplitl [HI] <;> iassumption

omit [FloatOps F] in
theorem close_b (c : Dev nD) : iprop(Recs X κ ∗ atPos ER (bcell c) 1 ∅ 0) ⊢ iprop(|={Set.univ}=> semVal (bcell c) 0) := by
  have h := Recs_b X κ c
  iintro ⟨HR, Ha⟩
  ihave HR := h $$ HR
  icases HR with ⟨HI, -⟩
  iapply (Rounds.cell_close ER (Rd X) (Set.mem_univ (kn κ c 49)) (fun h => h) (R := 1) (duties_later X _))
  isplitl [HI] <;> iassumption

omit [FloatOps F] in
/-- A cell of a copy that doesn't happen sees nothing at all. -/
theorem duties_none (c : Dev nD) {j : ℕ} (hj : j < 32) (h : ¬ sv c j) : ∀ r, 0 ≤ r → (Rd (F := F) X).duties (dcell c j) r = ∅ := by
  intro r _
  by_cases h0 : r = 0
  · subst h0
    show dutiesAt c (dsem j).val = ∅
    rw [dsem_val (by omega)]
    unfold dutiesAt
    rw [if_neg (by omega), if_pos (by omega), show 3 + j - 3 = j by omega, if_neg h]
  · exact duties_later X _ r (by omega)

omit [FloatOps F] in
/-- A spare cell sees nothing at all. -/
theorem duties_spare (c : Dev nD) {k : ℕ} (hk : k ∈ spare c) : ∀ r, 0 ≤ r → (Rd (F := F) X).duties (dcell c k) r = ∅ := by
  intro r _
  unfold spare at hk
  rw [Finset.mem_filter, Finset.mem_range] at hk
  by_cases h0 : r = 0
  · subst h0
    show dutiesAt c (dsem k).val = ∅
    rw [dsem_val hk.1]
    unfold dutiesAt
    rw [if_neg (by omega), if_neg (by omega), show 3 + k - 3 = k by omega, Finset.filter_false_of_mem (fun s _ => hk.2.2 s), Finset.image_empty]
  · exact duties_later X _ r (by omega)

omit [FloatOps F] in
theorem close_family {S : Finset ℕ} {Φ : ℕ → sProp 𝕄} {g : ℕ → sProp 𝕄}
    (h : ∀ i ∈ S, iprop(Recs X κ ∗ Φ i) ⊢ iprop(|={Set.univ}=> g i)) : iprop(Recs X κ ∗ bigSep S Φ) ⊢ iprop(|={Set.univ}=> bigSep S g) :=
  BIBase.Entails.trans (fam_persistent h) (bigSep_fupd _ _)

omit [FloatOps F] in
theorem close_sends (c : Dev nD) :
    iprop(Recs X κ ∗ bigSep (Finset.range 32) fun j => iprop((if sv c j then atPos ER (dcell c j) 1 ∅ 0 else iprop(emp))
        ∗ (if sv c j then iprop(emp) else atPos ER (dcell c j) 0 ∅ 0)))
      ⊢ iprop(|={Set.univ}=> bigSep (Finset.range 32) fun j => semVal (dcell c j) 0) := by
  refine close_family X κ fun j hj => ?_
  have hj := Finset.mem_range.mp hj
  by_cases h : sv c j
  · have hc := close_d X κ c (k := j) (by omega) 1 (duties_later X _)
    rw [if_pos h, if_pos h]
    iintro ⟨HR, Ha, -⟩
    iapply hc
    isplitl [HR] <;> iassumption
  · have hc := close_d X κ c (k := j) (by omega) 0 (duties_none X c hj h)
    rw [if_neg h, if_neg h]
    iintro ⟨HR, -, Ha⟩
    iapply hc
    isplitl [HR] <;> iassumption

omit [FloatOps F] in
theorem close_arrivals (c : Dev nD) :
    iprop(Recs X κ ∗ bigSep (Finset.range 35) fun n => if gv c n then atPos ER (dcell c (rsem c (sl c n))) 1 ∅ 0 else iprop(emp))
      ⊢ iprop(|={Set.univ}=> bigSep (Finset.range 35) fun n => if gv c n then semVal (dcell c (rsem c (sl c n))) 0 else iprop(emp)) := by
  refine close_family X κ fun n _ => ?_
  by_cases h : gv c n
  · have hc := close_d X κ c (k := rsem c (sl c n)) (rsem_lt c _).2 1 (duties_later X _)
    rw [if_pos h, if_pos h]
    exact hc
  · rw [if_neg h, if_neg h]
    iintro -
    imodintro
    iempintro

omit [FloatOps F] in
theorem close_spare (c : Dev nD) :
    iprop(Recs X κ ∗ bigSep (spare c) fun k => atPos ER (dcell c k) 0 ∅ 0) ⊢ iprop(|={Set.univ}=> bigSep (spare c) fun k => semVal (dcell c k) 0) := by
  refine close_family X κ fun k hk => ?_
  exact close_d X κ c (k := k) (by unfold spare at hk; rw [Finset.mem_filter, Finset.mem_range] at hk; exact hk.1) 0 (duties_spare X c hk)

omit [FloatOps F] in
/-- The slots, put together again. -/
theorem slots_close (c : Dev nD) :
    iprop((bigSep (Finset.range 35) fun n => if gv c n then kept X c n else iprop(emp)) ∗ bigSep (Finset.range 32) (piece X c))
      ⊢ (((c : Thread nD τ).loc cc0_scratch0) ↦{fullShare} (gath X) : sProp 𝕄) := by
  have h1 := by_src (F := F) (piece X c)
  have h2 : iprop((bigSep (Finset.range 35) fun n => if gv c n then kept X c n else iprop(emp)) ∗ bigSep (Finset.range 35) fun n => bigSep (outOf n) (piece X c))
      ⊢ bigSep (Finset.range 35) fun n => if gv c n then (slotPts c (sl c n) fullShare (gath X) : sProp 𝕄) else iprop(emp) := by
    rw [← bigSep_sep']
    refine fam_mono fun n hn => ?_
    by_cases h : gv c n
    · rw [if_pos h, if_pos h, slot_split X c (Finset.mem_range.mp hn) h]
    · rw [if_neg h, if_neg h]
      iintro -
      iempintro
  rw [by_slot c fun s => slotPts c s fullShare (gath X), ← gather_slots] at h2
  exact BIBase.Entails.trans (sep_mono_right h1) h2

omit [FloatOps F] in
/-- The result's rows, all done. -/
theorem rows_close (c : Dev nD) : bigSep (Finset.range 7) (outSt OUT c 7) ⊢ (((c : Thread nD τ).loc cc0_stg2_0) ↦{fullShare} OUT : sProp 𝕄) := by
  have e1 := by_plane (F := F) c fun p => rowPts c p OUT
  have e2 : bigSep (Finset.range 7) (outSt OUT c 7)
      = bigSep (Finset.range 7) fun i => if vld c i then rowPts c (pf (pl c i)) OUT else (iprop(emp) : sProp 𝕄) :=
    bigSep_congr fun i hi => by
      unfold outSt
      rw [if_pos (Finset.mem_range.mp hi)]
  rw [e2, e1, ← out_rows]

omit [FloatOps F] in
theorem finish (c : Dev nD) (w : WBuf F) : ST X OUT κ (rest X c w) c 32 32 7 allG ⊢ iprop(|={Set.univ}=> done X OUT c w) := by
  have es : bigSep (Finset.range 32) (sendSt X c 32 32 allG)
      = iprop((bigSep (Finset.range 32) fun j => if sv c j then atPos ER (dcell c j) 1 ∅ 0 else iprop(emp)) ∗ bigSep (Finset.range 32) (piece X c)) := by
    rw [← bigSep_sep']
    exact bigSep_congr fun j hj => by
      unfold sendSt finished
      rw [if_pos (Finset.mem_range.mp hj)]
  have er : bigSep (Finset.range 35) (recvSt X c allG)
      = iprop((bigSep (Finset.range 35) fun n => if gv c n then atPos ER (dcell c (rsem c (sl c n))) 1 ∅ 0 else iprop(emp))
          ∗ bigSep (Finset.range 35) fun n => if gv c n then kept X c n else iprop(emp)) := by
    rw [← bigSep_sep']
    exact bigSep_congr fun n hn => by
      unfold recvSt arrived
      rw [if_pos (allG_all ⟨n, Finset.mem_range.mp hn⟩)]
      by_cases h : gv c n
      · rw [if_pos h, if_pos h, if_pos h]
      · rw [if_neg h, if_neg h, if_neg h]
        exact (sep_emp_eq _).symm
  have ej : iprop((bigSep (Finset.range 32) fun j => if sv c j then atPos ER (dcell c j) 1 ∅ 0 else iprop(emp))
        ∗ (bigSep (Finset.range 32) fun j => if sv c j then iprop(emp) else atPos ER (dcell c j) 0 ∅ 0))
      = bigSep (Finset.range 32) fun j => iprop((if sv c j then atPos ER (dcell c j) 1 ∅ 0 else iprop(emp))
        ∗ (if sv c j then iprop(emp) else (atPos ER (dcell c j) 0 ∅ 0 : sProp 𝕄))) := (bigSep_sep' _ _ _).symm
  have h1 := close_sends X κ c
  have h2 := close_arrivals X κ c
  have h3 := close_spare X κ c
  have h4 := close_b X κ c
  have h5 := slots_close X c
  have h6 := rows_close OUT c
  have ek := by_kind (F := F) c fun g => semVal g 0
  have eo : owedFrom c 32 = 0 := owedFrom_end c
  unfold ST rest done owesN
  rw [es, er, ek, eo]
  iintro ⟨#HR, ⟨Hx, Hw, Hu, Hsp, Hb, Hs⟩, HO, ⟨Hsa, Hsp'⟩, ⟨Hra, Hrk⟩, Hout⟩
  imod h1 $$ [Hsa Hu] with HzS
  · isplitr; · iexact HR
    iapply (Entails.of_eq ej)
    isplitl [Hsa] <;> iassumption
  imod h2 $$ [Hra] with HzR
  · isplitr; · iexact HR
    iexact Hra
  imod h3 $$ [Hsp] with HzP
  · isplitr; · iexact HR
    iexact Hsp
  imod h4 $$ [Hb] with HzB
  · isplitr; · iexact HR
    iexact Hb
  ihave Hg := h5 $$ [Hrk Hsp']
  · isplitl [Hrk] <;> iassumption
  ihave Hout := h6 $$ Hout
  imodintro
  isplitl [Hx]; · iexact Hx
  isplitl [Hw]; · iexact Hw
  isplitl [Hout]; · iexact Hout
  isplitl [Hg]; · iexists _; iexact Hg
  isplitl [Hs]; · iexact Hs
  isplitl [HzS HzR HzP HzB]
  · isplitl [HzS]; · iexact HzS
    isplitl [HzR]; · iexact HzR
    isplitl [HzP] <;> iassumption
  iexact HO

/-- The whole kernel on one device. -/
theorem kernel_run (c : Dev nD) (h0 : (xM : Memref sig .tc .vmem S64x1024 .bf16).IsWhole) (h1 : (wM : Memref sig .tc .vmem S1024x64 .bf16).IsWhole)
    (h2 : (oM : Memref sig .tc .vmem S1024x64 .f32).IsWhole) (h3 : (gM : Memref sig .tc .vmem S16x64x1024 .bf16).IsWhole) (h4 : (sM : Memref sig .tc .vmem S64x1024 .bf16).IsWhole)
    (w : WBuf F) (hpay : PayOk X OUT (k0_pay3 w)) :
    iprop(before X κ c w ∗ xPts c (X c))
      ⊢ WP df c (cc0_body xM h0 wM h1 oM h2 gM h3 sM h4 cc0_scratch2 cc0_scratch3 cc0_scratch4 cc0_scratch5 cc0_scratch6 cc0_scratch7 cc0_scratch8)
          fun _ => done X OUT c w :=
  BIBase.Entails.trans
    (body_run df X OUT κ c h0 h1 h2 h3 h4 w hpay (Q := fun _ => iprop(|={Set.univ}=> done X OUT c w)) (start_signals X κ c w) (start_barrier X κ c w) (start_copies X OUT κ c w)
      (finish X OUT κ c w))
    (wp_fupd _ _ _ _ _)

end Cert.AllGather

end
-- ==== Proof.Out.lean ====
/-
# Out: the contents that the kernel leaves in the result's block
-/
module

public import proofs.«01_k».proof.Proof.Run
public import proofs.«01_k».proof.Proof.Families

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Row `i` of the result is row `i % 256` of the product of plane `i / 256`. -/
def rowIn (i : S1024x64.Idx) : S256x64.Idx := fun a => match a with
  | ⟨0, _⟩ => ⟨(i 0).val % 256, Nat.mod_lt _ (by decide)⟩
  | ⟨1, _⟩ => ⟨(i 1).val, (i 1).isLt⟩

/-- The four slots of a plane. -/
def planeOf (X : Fin 16 → XBuf F) (p : Fin 4) : FVec F S4x64x1024 .bf16 :=
  (gM : Memref sig .tc .vmem S16x64x1024 .bf16).view.readAt (Elt F) (planeRect p).toLoadRect (gath X)

/-- The result's block: plane by plane the product of its slots with the weights. -/
def outOfX (X : Fin 16 → XBuf F) (w : FVec F S1024x64 .bf16) : OBuf F :=
  fun (i : S1024x64.Idx) => k0_pay4 w (planeOf X (pf ((i 0).val / 256))) (rowIn i)

theorem rows_emb (p : Fin 4) (i : S1024x64.Idx) (h : (i 0).val / 256 = p.val) : (rowsRect p).emb (rowIn i) = i := by
  funext a
  fin_cases a
  · exact Fin.ext (by show 256 * p.val + 1 * ((i 0).val % 256) = (i 0).val; omega)
  · exact Fin.ext (by show 0 + 1 * (i 1).val = (i 1).val; omega)

theorem payOk (X : Fin 16 → XBuf F) (w : FVec F S1024x64 .bf16) : PayOk X (outOfX X w) w := by
  intro p f (x : S1024x64.Idx) hx
  have h := (mem_rowSet p x).mp hx
  have hp : pf ((x 0).val / 256) = p := Fin.ext (by show (x 0).val / 256 % 4 = p.val; rw [h]; exact Nat.mod_eq_of_lt p.isLt)
  have e := rows_emb p x h
  have hw := congrFun (View.read_write_univ (v := (oM : Memref sig .tc .vmem S1024x64 .f32).access (rowsRect p)) f (k0_pay4 w (planeOf X p))) (rowIn x)
  have hv : ((oM : Memref sig .tc .vmem S1024x64 .f32).access (rowsRect p)).write (Elt F) f (k0_pay4 w (planeOf X p)) Finset.univ ((rowsRect p).emb (rowIn x))
      = k0_pay4 w (planeOf X p) (rowIn x) := hw
  rw [e] at hv
  refine hv.trans ?_
  unfold outOfX
  rw [hp]

end Cert.AllGather

end
-- ==== Proof.Credit.lean ====
/-
# Credit: what the launch deals
-/
module

public import proofs.«01_k».proof.Proof.Ends
public import proofs.«01_k».proof.Proof.Out
public import proofs.«01_k».proof.Proof.Gen.KernelIdeal.Launch
public import proofs.«01_k».proof.Proof.Gen.KernelIdeal.Points

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## What all devices owe is what all devices are credited with -/

/-- What device `c` is credited with. -/
def credTo (c : Dev nD) : CellTallies nD τ sig Unit :=
  tallyAt (bcell c) () 6 + ∑ s ∈ Finset.univ.erase c, tallyAt (dcell c (rsem c s)) () N

theorem nbr_card : ∀ t : Fin 16, (Finset.univ.filter fun x : Fin 16 × Fin 6 => nbr x.1 x.2 = t).card = 6 := by decide +kernel

theorem nsmul_tally (g : GSem nD τ sig) (k : ℕ) : k • (tallyAt g () 1 : CellTallies nD τ sig Unit) = tallyAt g () k := by
  induction k with
  | zero => rw [zero_nsmul]; funext g'; exact Finsupp.ext fun u => by rw [tallyAt_apply]; simp
  | succ k ih => rw [succ_nsmul, ih, tallyAt_add]

theorem sum_units : (∑ d : Dev nD, ∑ k ∈ Finset.Ico 0 6, (tallyAt (bcell (nbr d k)) () 1 : CellTallies nD τ sig Unit)) = ∑ d : Dev nD, tallyAt (bcell d) () 6 := by
  have h1 : (∑ d : Dev nD, ∑ k ∈ Finset.Ico 0 6, (tallyAt (bcell (nbr d k)) () 1 : CellTallies nD τ sig Unit))
      = ∑ x : Fin 16 × Fin 6, tallyAt (bcell (nbr x.1 x.2)) () 1 := by
    rw [Fintype.sum_prod_type]
    refine Finset.sum_congr rfl fun d _ => ?_
    rw [Nat.Ico_zero_eq_range]
    exact Finset.sum_range fun k => (tallyAt (bcell (nbr d k)) () 1 : CellTallies nD τ sig Unit)
  rw [h1, ← Finset.sum_fiberwise' Finset.univ (fun x : Fin 16 × Fin 6 => nbr x.1 x.2) fun t => (tallyAt (bcell t) () 1 : CellTallies nD τ sig Unit)]
  refine Finset.sum_congr rfl fun t _ => ?_
  rw [Finset.sum_const, nbr_card t, nsmul_tally]

theorem sum_copies : (∑ d : Dev nD, owedFrom d 0) = ∑ d : Dev nD, ∑ s ∈ Finset.univ.erase d, (tallyAt (dcell d (rsem d s)) () N : CellTallies nD τ sig Unit) := by
  let f : Fin 16 × Fin 16 → CellTallies nD τ sig Unit := fun y => tallyAt (dcell y.1 (rsem y.1 y.2)) () N
  have h1 : (∑ d : Dev nD, owedFrom d 0) = ∑ x ∈ Finset.univ.filter (fun x : Fin 16 × Fin 32 => sv x.1 x.2), f (st x.1 x.2, ss x.1 x.2) := by
    rw [Finset.sum_filter, Fintype.sum_prod_type]
    refine Finset.sum_congr rfl fun d _ => ?_
    unfold owedFrom
    rw [Nat.Ico_zero_eq_range]
    exact Finset.sum_range fun j => owedBy d j
  have h2 : (∑ d : Dev nD, ∑ s ∈ Finset.univ.erase d, (tallyAt (dcell d (rsem d s)) () N : CellTallies nD τ sig Unit))
      = ∑ y ∈ Finset.univ.filter (fun y : Fin 16 × Fin 16 => y.2 ≠ y.1), f y := by
    rw [Finset.sum_filter, Fintype.sum_prod_type]
    refine Finset.sum_congr rfl fun d _ => ?_
    rw [← Finset.sum_filter]
    refine Finset.sum_congr ?_ fun _ _ => rfl
    ext s
    rw [Finset.mem_erase, Finset.mem_filter]
    exact ⟨fun h => ⟨h.2, h.1⟩, fun h => ⟨h.2, h.1⟩⟩
  rw [h1, h2]
  refine Finset.sum_nbij (fun x => (st x.1 x.2, ss x.1 x.2)) (fun x hx => ?_) (fun x hx y hy h => ?_) (fun y hy => ?_) fun _ _ => rfl
  · rw [Finset.mem_filter] at hx ⊢
    exact ⟨Finset.mem_univ _, (pred_st x.1 x.2 hx.2).2⟩
  · rw [Finset.mem_coe, Finset.mem_filter] at hx hy
    have e1 : st x.1 x.2 = st y.1 y.2 := congrArg Prod.fst h
    have e2 : ss x.1 x.2 = ss y.1 y.2 := congrArg Prod.snd h
    have e3 : x.1 = y.1 := by rw [← (pred_st x.1 x.2 hx.2).1, ← (pred_st y.1 y.2 hy.2).1, e1, e2]
    obtain ⟨d, j⟩ := x; obtain ⟨d', j'⟩ := y
    have e3 : d = d' := e3
    subst e3
    exact Prod.ext rfl (st_inj d j j' hx.2 hy.2 e1 e2)
  · rw [Finset.mem_coe, Finset.mem_filter] at hy
    obtain ⟨j, h1, h2, h3⟩ := exists_send y.1 y.2 hy.2
    refine ⟨(pred y.1 y.2, j), ?_, Prod.ext h2 h3⟩
    rw [Finset.mem_coe, Finset.mem_filter]
    exact ⟨Finset.mem_univ _, h1⟩

theorem sum_owed : (∑ d : Dev nD, owedBar d 0) = ∑ d : Dev nD, credTo d := by
  unfold owedBar credTo
  rw [Finset.sum_add_distrib, Finset.sum_add_distrib, sum_units, sum_copies, add_comm]

theorem credTo_at (d : Dev nD) (g : GSem nD τ sig) (h : credTo d g ≠ 0) : g.1 = (d.tc : Thread nD τ) := by
  by_contra hg
  refine h ?_
  unfold credTo
  rw [Pi.add_apply, Finset.sum_apply, tallyAt_ne_cell (fun h' => hg (congrArg Prod.fst h')), zero_add]
  exact Finset.sum_eq_zero fun s _ => tallyAt_ne_cell (fun h' => hg (congrArg Prod.fst h')) _ _

omit [FloatOps F] in
theorem creds (c : Dev nD) : (Pipeline.launchCred (fun d => owedBar d 0) c : sProp 𝕄) ⊢ iprop(cred (tallyAt (bcell c) () 6) ∗ slotCreds c) := by
  have h1 : (Pipeline.launchCred (fun d => owedBar d 0) c : sProp 𝕄) = cred (credTo c) :=
    Pipeline.launchCred_of_sum (fun d => owedBar d 0) credTo sum_owed credTo_at c
  have h2 := (cred_add (Ix := Unit) (Val := Elt F) (Name := ℕ) (U := UU) (Lvl := ℕ) (tallyAt (bcell c) () 6) (∑ s ∈ Finset.univ.erase c, tallyAt (dcell c (rsem c s)) () N)).1
  rw [Pipeline.cred_finsetSum] at h2
  rw [h1]
  exact h2

/-! ## The waits of the staging copies -/

theorem owedBar_pos {c : Dev nD} {g : GSem nD τ sig} {u : Unit} (h : 0 < owedBar c 0 g u) :
    (∃ j, j < 32 ∧ sv c j ∧ g = dcell (st c j) (rsem (st c j) (ss c j))) ∨ ∃ d, g = bcell d := by
  unfold owedBar at h
  rw [Pi.add_apply, Finsupp.add_apply] at h
  by_cases h1 : 0 < owedFrom c 0 g u
  · obtain ⟨j, -, h2, h3, h4⟩ := owedFrom_pos h1
    exact .inl ⟨j, h2, h3, h4⟩
  · have h2 : 0 < (∑ k ∈ Finset.Ico 0 6, tallyAt (bcell (nbr c k)) () 1 : CellTallies nD τ sig Unit) g u := by omega
    obtain ⟨k, hk, hp⟩ := Pipeline.sum_pos_exists h2
    refine .inr ⟨nbr c k, ?_⟩
    by_contra hg
    rw [tallyAt_apply, if_neg fun h' => hg h'.1] at hp
    exact Nat.lt_irrefl 0 hp

theorem lvn_sent : ∀ (c : Fin 16) (j : Fin 32), sv c j → 0 < lvn (3 + rsem (st c j) (ss c j)) := by decide +kernel

omit [FloatOps F] in
theorem mayWait_stage (c : Dev nD) (q : DmaSem sig) (hq : lvn q.val = 0) (O : CellTallies nD τ sig Unit) (hO : O = owedBar c 0 ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have hq' : lvs (.dma q : SemLoc sig) = 0 := hq
    rcases owedBar_pos hg with ⟨j, h1, h2, rfl⟩ | ⟨d, rfl⟩
    · refine ⟨by rw [L_tc]; exact Finset.mem_singleton_self _, ?_⟩
      have hr := rsem_lt (st c j) (ss c j)
      show lvs (.dma q : SemLoc sig) < lvn (dsem _).val
      rw [dsem_val (by omega), hq']
      exact lvn_sent c ⟨j, h1⟩ h2
    · refine ⟨by rw [L_tc]; exact Finset.mem_singleton_self _, ?_⟩
      show lvs (.dma q : SemLoc sig) < 1
      rw [hq']; decide
  · rw [MayWait_zero]; iintro -; iempintro

end Cert.AllGather

end
-- ==== Proof.Launch.lean ====
/-
# Launch: the body meets its obligation, and the sixteen devices run together
-/
module

public import proofs.«01_k».proof.Proof.Credit
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from. -/
def s₀ : MemSt nD τ sig (Elt F) := ⟨m, fun _ => 0, ρ⟩

/-- Device `c`'s block of `x`, as its window reads it. -/
def xstg (c : Dev nD) : XBuf F := (win0_0.blk (0 : Fin 1)).view.read (Elt F) ((s₀ m ρ).mem ((c : Thread nD τ).loc main_arg0))
/-- Device `c`'s block of the weights, as its window reads it. -/
def wstg (c : Dev nD) : WBuf F := (win0_1.blk (0 : Fin 1)).view.read (Elt F) ((s₀ m ρ).mem ((c : Thread nD τ).loc main_arg1))
/-- The result's block on device `c`. -/
def outAt (c : Dev nD) : OBuf F := outOfX (xstg m ρ) (k0_pay3 (wstg m ρ c))

/-- The kernel's own semaphores of copies. -/
def osem (k : Fin 49) : SemLoc sig := .dma (dsem k)

/-! ## What the pipeline is told -/

/-- What device `c` starts from besides its buffers. -/
def start (c : Dev nD) : sProp 𝕄 :=
  iprop((∃ κ, ghost (xstg m ρ) κ c) ∗ cred (tallyAt (bcell c) () 6) ∗ slotCreds c)

def Φ₀ (c : Dev nD) : sProp 𝕄 :=
  iprop(start m ρ c ∗ (∃ f : GBuf F, ((c : Thread nD τ).loc cc0_scratch0) ↦{fullShare} f) ∗ ∃ f : XBuf F, srcPts c f)
def Φ₁ (c : Dev nD) : sProp 𝕄 :=
  iprop((∃ f : GBuf F, ((c : Thread nD τ).loc cc0_scratch0) ↦{fullShare} f) ∗ (∃ f : XBuf F, srcPts c f)
    ∗ bigSep Finset.univ fun k : Fin 50 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedBar c 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (outAt m ρ c))

theorem before_0 (c : Dev nD) (d) : (dats m ρ 0 c).before (0 : Fin 3) t0_0 d = xstg m ρ c := by
  unfold Dat.before; rw [if_pos (fetch0_0 t0_0)]; rfl
theorem before_1 (c : Dev nD) (d) : (dats m ρ 0 c).before (1 : Fin 3) t0_0 d = wstg m ρ c := by
  unfold Dat.before; rw [if_pos (fetch0_1 t0_0)]; rfl

theorem pre_intro (c : Dev nD) : bodyPre m ρ c ⊢ ∃ κ, iprop(before (xstg m ρ) κ c (wstg m ρ c) ∗ xPts c (xstg m ρ c)) := by
  unfold bodyPre Φ₀ start Dat.owesAt Pipeline.owesWithin
  rw [show (dats m ρ 0 c).owed t0_0.castSucc = owedBar c 0 from rfl]
  iintro ⟨⟨⟨⟨%κ, Hg⟩, HcB, HcS⟩, Hg0, Hs0⟩, ⟨%W, %hW, HO⟩, ⟨%d0, %g0, %hg0, Hx⟩, ⟨%d1, %g1, %hg1, Hw⟩, ⟨%d2, %g2, %hg2, Ho⟩⟩
  have hx : g0 = xstg m ρ c := hg0.trans (before_0 m ρ c d0)
  have hw : g1 = wstg m ρ c := hg1.trans (before_1 m ρ c d1)
  subst hx
  subst hw
  iexists κ
  unfold before xPts wPts outAny
  isplitr [Hx]
  · isplitl [Hg]; · iexact Hg
    isplitl [HcB]; · iexact HcB
    isplitl [HcS]; · iexact HcS
    isplitl [Hg0]; · iexact Hg0
    isplitl [Hs0]; · iexact Hs0
    isplitl [Hw]; · iexact Hw
    isplitl [Ho]; · iexists g2; iexact Ho
    iexists W; iexact HO
  · iexact Hx

theorem post_intro (c : Dev nD) : done (xstg m ρ) (outAt m ρ c) c (wstg m ρ c) ⊢ bodyPost m ρ c := by
  unfold done bodyPost Φ₁ Dat.owesAt Pipeline.owesWithin xPts wPts
  rw [show (dats m ρ 0 c).owed t0_0.succ = 0 from rfl]
  iintro ⟨Hx, Hw, Ho, Hg0, Hs0, Hz, ⟨%W, HO⟩⟩
  isplitl [Hg0 Hs0 Hz]
  · isplitl [Hg0]; · iexact Hg0
    isplitl [Hs0]; · iexact Hs0
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_wp (c : Dev nD) : bodyPre m ρ c ⊢ WP (defs₀ (F := F)) c
    (cc0_body xM (Memref.isWhole_whole _) wM (Memref.isWhole_whole _) oM (Memref.isWhole_whole _)
      gM (Memref.isWhole_whole _) sM (Memref.isWhole_whole _) cc0_scratch2 cc0_scratch3 cc0_scratch4 cc0_scratch5 cc0_scratch6 cc0_scratch7 cc0_scratch8)
    fun _ => bodyPost m ρ c := by
  refine BIBase.Entails.trans (pre_intro m ρ c) ?_
  refine BIBase.Entails.trans ?_ (Idealize.SL.Sem.wp_mono _ _ _ (fun _ => post_intro m ρ c))
  iintro ⟨%κ, H⟩
  iapply (kernel_run (defs₀ (F := F)) (xstg m ρ) (outAt m ρ c) κ c _ _ _ _ _ (wstg m ρ c) (payOk _ _))
  iexact H

set_option maxRecDepth 4000 in
/-- The body meets what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_wp m ρ c

/-! ## The cells and tokens -/

theorem ownSemFacts : Pipeline.OwnSemFacts cfg0.spec osem := by decide +kernel

theorem share_eq (c : Dev nD) (w : Fin cfg0.W) : (dats m ρ 0 c).share w = fullShare := by unfold Dat.share; split <;> rfl

theorem csem_injective : ∀ k k' : Fin 50, csem k = csem k' → k = k' := by decide +kernel

theorem kcell_injective : Function.Injective (kcell : Dev nD × Fin 50 → GSem nD τ sig) := by
  rintro ⟨c, k⟩ ⟨c', k'⟩ h
  have h1 : c = c' := by have := congrArg (fun g : GSem nD τ sig => g.1.1) h; exact this
  subst h1
  exact Prod.ext rfl (csem_injective k k' (congrArg Prod.snd h))

def ringCells : Finset (GSem nD τ sig) := Finset.univ.map ⟨kcell, kcell_injective⟩

/-- The token with which device `x.1` pays cell `x.2`. -/
abbrev tokOf (x : Dev nD × (Dev nD × Fin 50)) : GSem nD τ sig × ℕ × Fin 16 := (kcell x.2, 0, x.1)
theorem tokOf_injective : Function.Injective tokOf := by
  rintro ⟨d, tk⟩ ⟨d', tk'⟩ h
  have h1 : d = d' := congrArg (fun x : GSem nD τ sig × ℕ × Fin 16 => x.2.2) h
  have h2 : kcell tk = kcell tk' := congrArg Prod.fst h
  exact Prod.ext h1 (kcell_injective h2)
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- What the launch deals device `c`. -/
def G (c : Dev nD) : sProp 𝕄 :=
  iprop((bigSep Finset.univ fun k : Fin 50 => roundState ER (Rd (xstg m ρ)) (kcell (c, k)) 0)
    ∗ ((bigSep Finset.univ fun k : Fin 50 => atPos ER (kcell (c, k)) 0 ∅ 0) ∗ bigSep Finset.univ fun k : Fin 50 => reached ER (kcell (c, k)) 0) ∗ tokens c)

def recs' (κ : Dev nD × Fin 50 → ℕ) : sProp 𝕄 :=
  iprop((bigSep Finset.univ fun ck : Dev nD × Fin 50 => cellInv ER (Rd (xstg m ρ)) (κ ck) (kcell ck))
    ∗ bigSep Finset.univ fun ck : Dev nD × Fin 50 => reached ER (kcell ck) 0)

instance recs'_persistent (κ : Dev nD × Fin 50 → ℕ) : BI.Persistent (recs' m ρ κ) := by unfold recs'; infer_instance

/-- What the devices make of it together. -/
def G' (c : Dev nD) : sProp 𝕄 :=
  iprop(∃ κ, recs' m ρ κ ∗ (bigSep Finset.univ fun k : Fin 50 => atPos ER (kcell (c, k)) 0 ∅ 0) ∗ tokens c)

omit [FloatOps F] in
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 50 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => tokens c := by
    unfold ringToks; rw [bigSep_map, bigSep_univ_prod]; rfl
  iintro HX
  imod (Rounds.fund ER (Rd (xstg m ρ)) ringCells ringToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscoped_eq (c : Dev nD) : (unscopedSems0 c : sProp 𝕄) = semVal (bcell c) 0 := by
  unfold unscopedSems0; rw [bigSep_eq_bigSepL_of_eq [SemLoc.reg barS] (by decide) (by decide)]; rfl

omit [FloatOps F] in
/-- A device's fifty counters are its own semaphores' and the barrier's. -/
theorem counters (c : Dev nD) : (bigSep Finset.univ fun k : Fin 50 => semVal (kcell (c, k)) 0 : sProp 𝕄)
    = iprop(unscopedSems0 c ∗ Pipeline.ownSems0 (Ix := Unit) (Name := ℕ) (U := UU) (Lvl := ℕ) (Val := Elt F) (τ := τ) osem c) := by
  have e1 : Finset.range 50 = insert 49 (Finset.range 49) := Finset.range_add_one
  have h := fam_fin (F := F) (n := 50) fun n => semVal (kcell (c, k50 n)) 0
  have h' : (bigSep Finset.univ fun k : Fin 50 => semVal (kcell (c, k50 k.val)) 0 : sProp 𝕄) = bigSep Finset.univ fun k : Fin 50 => semVal (kcell (c, k)) 0 :=
    bigSep_congr fun k _ => by rw [show k50 k.val = k from Fin.ext (k50_val k.isLt)]
  rw [← h', ← h, e1, bigSep_insert Finset.notMem_range_self, unscoped_eq, fam_fin]
  have h2 : (bigSep Finset.univ fun j : Fin 49 => semVal (kcell (c, k50 j.val)) 0 : sProp 𝕄)
      = Pipeline.ownSems0 (Ix := Unit) (Name := ℕ) (U := UU) (Lvl := ℕ) (Val := Elt F) (τ := τ) osem c := by
    unfold Pipeline.ownSems0
    exact bigSep_congr fun k _ => by rw [kcell_d c k.isLt]; rfl
  rw [h2]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xstg m ρ)) κ (kcell (c, k))))
          ∗ ((bigSep Finset.univ fun k : Fin 50 => atPos ER (kcell (c, k)) 0 ∅ 0) ∗ bigSep Finset.univ fun k : Fin 50 => reached ER (kcell (c, k)) 0) ∗ tokens c) := by
  unfold G
  iintro ⟨Hos, Hus, Hst, Hat, Htok⟩
  ihave Hv := (Entails.of_eq (counters (F := F) c).symm) $$ [Hos Hus]
  · isplitl [Hus] <;> iassumption
  imod (show iprop((bigSep Finset.univ fun k : Fin 50 => semVal (kcell (c, k)) 0) ∗ bigSep Finset.univ fun k : Fin 50 => roundState ER (Rd (xstg m ρ)) (kcell (c, k)) 0)
      ⊢ (|={Set.univ}=> bigSep Finset.univ fun k => iprop(∃ κ : ℕ, cellInv ER (Rd (xstg m ρ)) κ (kcell (c, k))) : sProp 𝕄) from by
        rw [← bigSep_sep']
        exact (bigSep_mono fun k _ => (Rounds.body_intro ER (Rd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem deal (κ : Dev nD × Fin 50 → ℕ) (c : Dev nD) :
    iprop(recs' m ρ κ ∗ ((bigSep Finset.univ fun k : Fin 50 => atPos ER (kcell (c, k)) 0 ∅ 0) ∗ tokens c)) ⊢ G' m ρ c := by
  unfold G'
  iintro H
  iexists κ
  iexact H

omit [FloatOps F] in
theorem regroup :
    (bigSep Finset.univ fun c : Dev nD => iprop((bigSep Finset.univ fun k => iprop(∃ κ : ℕ, cellInv ER (Rd (xstg m ρ)) κ (kcell (c, k))))
          ∗ ((bigSep Finset.univ fun k : Fin 50 => atPos ER (kcell (c, k)) 0 ∅ 0) ∗ bigSep Finset.univ fun k : Fin 50 => reached ER (kcell (c, k)) 0) ∗ tokens c) : sProp 𝕄)
      ⊢ bigSep Finset.univ (G' m ρ) := by
  rw [bigSep_sep', bigSep_sep', bigSep_sep', ← bigSep_univ_prod (fun ck : Dev nD × Fin 50 => iprop(∃ κ : ℕ, cellInv ER (Rd (xstg m ρ)) κ (kcell ck))),
    ← bigSep_univ_prod (fun ck : Dev nD × Fin 50 => (reached ER (kcell ck) 0 : sProp 𝕄))]
  iintro ⟨HI, ⟨Hat, #HR⟩, Htok⟩
  ihave HK := (BI.bigSep_exists_pi Finset.univ (fun (ck : Dev nD × Fin 50) (κ : ℕ) => (cellInv ER (Rd (xstg m ρ)) κ (kcell ck) : sProp 𝕄))) $$ HI
  icases HK with ⟨%κ, #HI⟩
  iapply (fam_persistent (R := recs' m ρ κ) fun c _ => deal m ρ κ c)
  isplitr
  · unfold recs'; isplitl; · iexact HI
    iexact HR
  · iapply (Entails.of_eq (bigSep_sep' Finset.univ (fun c : Dev nD => bigSep Finset.univ fun k : Fin 50 => (atPos ER (kcell (c, k)) 0 ∅ 0 : sProp 𝕄)) tokens).symm)
    isplitl [Hat]; · iexact Hat
    iexact Htok

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Into and out of the body -/

omit [FloatOps F] in
theorem start_intro (c : Dev nD) :
    iprop(Pipeline.unscopedRestP Pipeline.Prefetch.none cfg0.spec c (fun b => m ((c : Thread nD τ).loc b)) ∗ levAts L lv
        ∗ Pipeline.launchCred (fun d => owedBar d 0) c ∗ prngReg c (ρ c) ∗ G' m ρ c)
      ⊢ |={Set.univ}=> iprop(start m ρ c ∗ emp) := by
  unfold G' start recs' ghost Recs
  iintro ⟨-, Hlev, Hcr, -, ⟨%κ, ⟨HI, HR⟩, Hat, Htok⟩⟩
  ihave Hc := (creds (F := F) c) $$ Hcr
  icases Hc with ⟨H1, HN⟩
  imodintro
  isplitl
  · isplitl [Hlev HI HR Hat Htok]
    · iexists κ
      isplitl [Hlev HI HR]
      · isplitl [HI]; · iexact HI
        isplitl [HR]; · iexact HR
        iexact Hlev
      isplitl [Hat]; · iexact Hat
      iexact Htok
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ srcPts
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ srcPts
  rw [counters]
  iintro ⟨H0, H1, HB, HS⟩
  isplitl [HB]; · iexact HB
  isplitl [HS]; · iexact HS
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero the sixteen devices finish, each with the computed arrays and all counters
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedBar d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` is unchanged. -/
theorem finalA_x (c : Dev nD) : finalA m ρ c (0 : Fin 3) = (s₀ m ρ).mem (win0_0.arr.view.loc (c : Thread nD τ)) :=
  (dats (F := F) m ρ 0 c).arrAt_in (0 : Fin 3) rfl _
/-- The weights are unchanged. -/
theorem finalA_w (c : Dev nD) : finalA m ρ c (1 : Fin 3) = (s₀ m ρ).mem (win0_1.arr.view.loc (c : Thread nD τ)) :=
  (dats (F := F) m ρ 0 c).arrAt_in (1 : Fin 3) rfl _
/-- The result's array, read as its one block, is what the body left. -/
theorem finalA_o (c : Dev nD) : (win0_2.blk (0 : Fin 1)).view.read (Elt F) (finalA m ρ c (2 : Fin 3)) = outAt m ρ c := by
  have h := (dats m ρ 0 c).arrAt_succ (2 : Fin 3) t0_0
  rw [if_pos (flush0_2 t0_0)] at h
  have h' : finalA m ρ c (2 : Fin 3) = _ := h
  rw [h']
  exact View.read_write_univ _ _

end Cert.AllGather

end
-- ==== Proof.Values.lean ====
/-
# Values: what the kernel leaves is its block of the product

Over exact numbers row `i` of the result's block on device `c` is the sum over `k` of row `i` of the gathered `x` times
the columns of the weights that device `c` holds. The gathered `x` is the whole `x`, slot by slot; so the block is the
block of columns of the product that device `c` is to hold.
-/
module

public import proofs.«01_k».proof.Proof.Launch
public import proofs.«01_k».proof.Proof.Gen.ReferenceIdeal
public import Idealize.ShloMosaic.PureOps.Ideal.Laws
public import Idealize.ShloMosaic.Lib.MatmulPlain
public import Idealize.ShloMosaic.Lib.StackMember
public import Idealize.ShloMosaic.Lib.Pipeline.Value
public import Idealize.ShloMosaic.Lib.Layout

@[expose] public section

set_option maxRecDepth 65536

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators

/-- The slot and row of the gathered `x` that row `i` of the result is of. -/
def slotOf (i : S1024x64.Idx) : Fin 16 := ⟨(i 0).val / 64, by have h : (i 0).val < 1024 := (i 0).isLt; omega⟩
def rowOf (i : S1024x64.Idx) : Fin 64 := ⟨(i 0).val % 64, Nat.mod_lt _ (by decide)⟩
def colOf (i : S1024x64.Idx) : Fin 64 := ⟨(i 1).val, (i 1).isLt⟩

theorem rowIn_eq (i : S1024x64.Idx) : rowIn i = ix2 (⟨(i 0).val % 256, Nat.mod_lt _ (by decide)⟩ : Fin 256) (colOf i) := by
  funext a
  match a with
  | ⟨0, _⟩ => rfl
  | ⟨1, _⟩ => rfl

/-- A plane's element, out of the gathered blocks. -/
theorem plane_at (X : Fin 16 → XBuf Ideal) (p : Fin 4) (a : Fin 4) (b : Fin 64) (k : Fin 1024) (s : Fin 16) (h : s.val = 4 * p.val + a.val) :
    planeOf X p (ix3 a b k) = X s (ix2 b k) := by
  have e : planeOf X p (ix3 a b k) = gath X ((planeRect p).emb (ix3 a b k)) := rfl
  have e0 : (planeRect p).emb (ix3 a b k) = (ix3 s b k : S16x64x1024.Idx) := by
    funext d
    match d with
    | ⟨0, _⟩ => exact Fin.ext (by show 4 * p.val + 1 * a.val = s.val; omega)
    | ⟨1, _⟩ => exact Fin.ext (by show 0 + 1 * b.val = b.val; omega)
    | ⟨2, _⟩ => exact Fin.ext (by show 0 + 1 * k.val = k.val; omega)
  rw [e, e0]
  unfold gath
  refine congrArg (X s) (funext fun d => ?_)
  match d with
  | ⟨0, _⟩ => rfl
  | ⟨1, _⟩ => rfl

/-- The result's block over exact numbers. -/
theorem out_sum (X : Fin 16 → FVec Ideal S64x1024 .bf16) (w : FVec Ideal S1024x64 .bf16) (i : S1024x64.Idx) :
    (outOfX X w : FVec Ideal S1024x64 .f32) i = ∑ k : Fin 1024, X (slotOf i) (ix2 (rowOf i) k) * w (ix2 k (colOf i)) := by
  have hi : (i 0).val < 1024 := (i 0).isLt
  unfold outOfX k0_pay4
  rw [rowIn_eq]
  show FloatOps.matmul (DotDims.plain 256 1024 64) none _ w _ (ix2 _ (colOf i)) = _
  rw [Ideal.matmul_plain_apply]
  show Ideal.ofBits .f32 0x00000000#32 + _ = _
  rw [Ideal.ofBits_zero_f32, zero_add]
  refine Finset.sum_congr rfl fun k _ => ?_
  congr 1
  rw [shapeCast_apply _ _ _ (ix3 (⟨(i 0).val / 64 % 4, Nat.mod_lt _ (by decide)⟩ : Fin 4) (rowOf i) k) (by
    rw [Shape.rowMajor_val_three, Shape.rowMajor_val_two]
    show ((i 0).val / 64 % 4 * 64 + (i 0).val % 64) * 1024 + k.val = (i 0).val % 256 * 1024 + k.val
    omega)]
  exact plane_at X (pf ((i 0).val / 256)) ⟨(i 0).val / 64 % 4, Nat.mod_lt _ (by decide)⟩ (rowOf i) k (slotOf i) (by
    show (i 0).val / 64 = 4 * ((i 0).val / 256 % 4) + (i 0).val / 64 % 4
    omega)

/-- The product of the whole arrays. -/
abbrev whole (A B : FVec Ideal ⟨2, ![1024, 1024]⟩ .bf16) : FVec Ideal ⟨2, ![1024, 1024]⟩ .f32 :=
  Host.dotGeneral Cert.ReferenceIdeal.dot_S1024x1024_S1024x1024_S1024x1024_1_0_0_1_n_n none A B

/-- Device `c`'s block of it. -/
theorem whole_block (A B : FVec Ideal ⟨2, ![1024, 1024]⟩ .bf16) (c : Fin 16) (i : S1024x64.Idx) :
    Layout.block ⟨2, ![1024, 64]⟩ ⟨2, ![1024, 1024]⟩ 1 16 c (whole A B) (by decide) i
      = ∑ k : Fin 1024, Layout.block ⟨2, ![64, 1024]⟩ ⟨2, ![1024, 1024]⟩ 0 16 (slotOf i) A (by decide) (ix2 (rowOf i) k)
          * Layout.block ⟨2, ![1024, 64]⟩ ⟨2, ![1024, 1024]⟩ 1 16 c B (by decide) (ix2 k (colOf i)) := by
  have hi : (i 0).val < 1024 := (i 0).isLt
  have hj : (i 1).val < 64 := (i 1).isLt
  let r : Fin 1024 := ⟨(i 0).val, hi⟩
  let q : Fin 1024 := ⟨c.val * 64 + (i 1).val, by have := c.isLt; omega⟩
  have ht : Layout.Tiles ⟨2, ![1024, 64]⟩ ⟨2, ![1024, 1024]⟩ 1 16 := by decide
  have e : ht.idx c i = (ix2 r q : (⟨2, ![1024, 1024]⟩ : Shape).Idx) := by
    funext a
    match a with
    | ⟨0, _⟩ => rfl
    | ⟨1, _⟩ => rfl
  rw [Layout.block_apply, e]
  show Host.dotGeneral (DotDims.plain 1024 1024 1024) none A B (ix2 r q) = _
  rw [StackMember.dotGeneral_plain_apply]
  refine Finset.sum_congr rfl fun k _ => ?_
  rw [Layout.block_apply, Layout.block_apply]
  congr 1
  · refine congrArg A (funext fun a => ?_)
    match a with
    | ⟨0, _⟩ => exact Fin.ext (by show (i 0).val = (i 0).val / 64 * 64 + (i 0).val % 64; omega)
    | ⟨1, _⟩ => rfl
  · refine congrArg B (funext fun a => ?_)
    match a with
    | ⟨0, _⟩ => rfl
    | ⟨1, _⟩ => rfl

/-- What the devices leave is the product, block by block. -/
theorem out_block (A B : FVec Ideal ⟨2, ![1024, 1024]⟩ .bf16) (X : Fin 16 → XBuf Ideal) (w : WBuf Ideal) (c : Fin 16)
    (hX : ∀ s, X s = Layout.block ⟨2, ![64, 1024]⟩ ⟨2, ![1024, 1024]⟩ 0 16 s A (by decide))
    (hw : w = Layout.block ⟨2, ![1024, 64]⟩ ⟨2, ![1024, 1024]⟩ 1 16 c B (by decide)) :
    outOfX X (k0_pay3 w) = Layout.block ⟨2, ![1024, 64]⟩ ⟨2, ![1024, 1024]⟩ 1 16 c (whole A B) (by decide) := by
  funext (i : S1024x64.Idx)
  have e : k0_pay3 (F := Ideal) w = w := shapeCast_self _ _
  rw [e]
  refine (out_sum X w i).trans ?_
  rw [whole_block, hX, hw]

/-! ## The windows read whole arrays -/

variable {F : FTy → Type} [FloatOps F] (m : (ℓ : Loc nD τ sig) → Buf (Elt F) ℓ) (ρ : Dev nD → PrngReg)

omit [FloatOps F] in
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
omit [FloatOps F] in
theorem wstg_eq (c : Dev nD) : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem finalA_out (c : Dev nD) : finalA m ρ c (2 : Fin 3) = outAt m ρ c := by
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans (finalA_o m ρ c)

end Cert.AllGather

end
-- ==== Proof.lean ====
/-
# The claims, assembled

The run of the kernel is proved once, for any float values (`run_main` in Launch.lean), and read here three times: at the
bit-exact values and at the exact ones for the frames, and at the exact ones again for the values, which Values.lean
compares with the product of the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.SL.Sem Cert.AllGather

/-- The kernel as printed runs from any memory and ends with its arguments unchanged and every counter at zero. -/
theorem frame_kernel : Cert.quiescent_Kernel := fun m ρ _ => by
  rw [defs_same]
  exact (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

/-- So does its idealization. -/
theorem frame_ideal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- So does the reference, which has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device's result is its block of columns of the product. -/
theorem algebraic : Cert.algebraic_KernelIdeal_ReferenceIdeal := by
  intro m ρ m' ρ' _ hagree
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨(h.1 c (2 : Fin 3)).trans ?_, (h.1 c (0 : Fin 3)).trans (finalA_x m ρ c), (h.1 c (1 : Fin 3)).trans (finalA_w m ρ c)⟩)
      (run_main (F := Ideal) m ρ)
    refine (finalA_out m ρ c).trans ?_
    exact out_block _ _ (xstg m ρ) (wstg m ρ c) c (fun s => (xstg_eq m ρ s).trans (hagree s).1) ((wstg_eq m ρ c).trans (hagree c).2)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
